-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_v186) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x256x8x4x6x2 : Shape := ⟨6, ![3, 256, 8, 4, 6, 2]⟩
abbrev S3x256x8x4x6 : Shape := ⟨5, ![3, 256, 8, 4, 6]⟩
abbrev S3x256 : Shape := ⟨2, ![3, 256]⟩
abbrev S24x48x256 : Shape := ⟨3, ![24, 48, 256]⟩
abbrev S7077888 : Shape := ⟨1, ![7077888]⟩
abbrev S589824 : Shape := ⟨1, ![589824]⟩
abbrev S7077888x1 : Shape := ⟨2, ![7077888, 1]⟩
abbrev S4 : Shape := ⟨1, ![4]⟩
abbrev S_ : Shape := ⟨0, ![]⟩
abbrev S1x4 : Shape := ⟨2, ![1, 4]⟩
abbrev S7077888x4 : Shape := ⟨2, ![7077888, 4]⟩

class Facts : Prop where
  shapeCasts_S7077888_S7077888x1 : S7077888.ShapeCasts S7077888x1
  bcast_S_S4 : S_.BroadcastsInDim S4 (![] : Fin 0 → Fin S4.rank)
  bcast_S4_S1x4_1 : S4.BroadcastsInDim S1x4 (![1] : Fin 1 → Fin S1x4.rank)
  bcast_S7077888x1_S7077888x4_0_1 : S7077888x1.BroadcastsInDim S7077888x4 (![0, 1] : Fin 2 → Fin S7077888x4.rank)
  bcast_S1x4_S7077888x4_0_1 : S1x4.BroadcastsInDim S7077888x4 (![0, 1] : Fin 2 → Fin S7077888x4.rank)
  bcast_S_S3x256 : S_.BroadcastsInDim S3x256 (![] : Fin 0 → Fin S3x256.rank)
  bcast_S_S24x48x256 : S_.BroadcastsInDim S24x48x256 (![] : Fin 0 → Fin S24x48x256.rank)
  bcast_S_S589824 : S_.BroadcastsInDim S589824 (![] : Fin 0 → Fin S589824.rank)
  bcast_S_S7077888x4 : S_.BroadcastsInDim S7077888x4 (![] : Fin 0 → Fin S7077888x4.rank)

variable [Facts]

def fn_part1 {F : FTy → Type} [FloatOps F] (main_v7 : IVec S7077888x4 32) (main_v11 : IVec S3x256 1) (main_v14 : IVec S24x48x256 1) (main_v17 : IVec S589824 1) (main_v18 : IVec S7077888x4 32) : IVec S3x256 1 × IVec S24x48x256 1 × IVec S589824 1 × IVec S7077888x4 1 :=
  let main_v19 : IVec S7077888x4 32 := andi main_v7 main_v18
  let main_c_3 : IVec S_ 32 := constantI S_ 32 127#32
  let main_v20 : IVec S7077888x4 32 := broadcastInDim S7077888x4 ![] bcast_S_S7077888x4 main_c_3
  let main_v21 : IVec S7077888x4 1 := cmpi .ne main_v19 main_v20
  (main_v11, main_v14, main_v17, main_v21)

def fn {F : FTy → Type} [FloatOps F] (main_arg0 : FVec F S3x256x8x4x6x2 .f32) (main_arg1 : FVec F S3x256x8x4x6 .f32) (main_arg2 : FVec F S3x256 .f32) (main_arg3 : FVec F S24x48x256 .bf16) (main_arg4 : IVec S7077888 32) (main_arg5 : IVec S589824 32) : IVec S3x256 1 × IVec S24x48x256 1 × IVec S589824 1 × IVec S7077888x4 1 :=
  let main_v0 : IVec S7077888x1 32 := shapeCast S7077888x1 main_arg4 shapeCasts_S7077888_S7077888x1
  let main_v1 : IVec S4 32 := iotaInDim S4 32 0
  let main_c : IVec S_ 32 := constantI S_ 32 8#32
  let main_v2 : IVec S4 32 := broadcastInDim S4 ![] bcast_S_S4 main_c
  let main_v3 : IVec S4 32 := muli main_v2 main_v1
  let main_v4 : IVec S1x4 32 := broadcastInDim S1x4 ![1] bcast_S4_S1x4_1 main_v3
  let main_v5 : IVec S7077888x4 32 := broadcastInDim S7077888x4 ![0, 1] bcast_S7077888x1_S7077888x4_0_1 main_v0
  let main_v6 : IVec S7077888x4 32 := broadcastInDim S7077888x4 ![0, 1] bcast_S1x4_S7077888x4_0_1 main_v4
  let main_v7 : IVec S7077888x4 32 := Host.shrsi main_v5 main_v6
  let main_v8 : FVec F S589824 .f32 := bitcastToFloat .f32 main_arg5
  let main_v9 : FVec F S3x256 .f32 := Host.absf main_arg2
  let main_cst : FVec F S_ .f32 := constant S_ .f32 0x7F800000#32
  let main_v10 : FVec F S3x256 .f32 := broadcastInDim S3x256 ![] bcast_S_S3x256 main_cst
  let main_v11 : IVec S3x256 1 := cmpf .olt main_v9 main_v10
  let main_v12 : FVec F S24x48x256 .bf16 := Host.absf main_arg3
  let main_cst_0 : FVec F S_ .bf16 := constant S_ .bf16 0x7F80#16
  let main_v13 : FVec F S24x48x256 .bf16 := broadcastInDim S24x48x256 ![] bcast_S_S24x48x256 main_cst_0
  let main_v14 : IVec S24x48x256 1 := cmpf .olt main_v12 main_v13
  let main_v15 : FVec F S589824 .f32 := Host.absf main_v8
  let main_cst_1 : FVec F S_ .f32 := constant S_ .f32 0x7F800000#32
  let main_v16 : FVec F S589824 .f32 := broadcastInDim S589824 ![] bcast_S_S589824 main_cst_1
  let main_v17 : IVec S589824 1 := cmpf .olt main_v15 main_v16
  let main_c_2 : IVec S_ 32 := constantI S_ 32 127#32
  let main_v18 : IVec S7077888x4 32 := broadcastInDim S7077888x4 ![] bcast_S_S7077888x4 main_c_2
  fn_part1 (F := F) main_v7 main_v11 main_v14 main_v17 main_v18
-- ==== Kernel.lean ====
abbrev S3x256x8x4x6x2 : Shape := ⟨6, ![3, 256, 8, 4, 6, 2]⟩
abbrev S3x256x8x4x6 : Shape := ⟨5, ![3, 256, 8, 4, 6]⟩
abbrev S3x256 : Shape := ⟨2, ![3, 256]⟩
abbrev S24x48x256 : Shape := ⟨3, ![24, 48, 256]⟩
abbrev S7077888 : Shape := ⟨1, ![7077888]⟩
abbrev S589824 : Shape := ⟨1, ![589824]⟩
abbrev S3x8x4x6x2x256 : Shape := ⟨6, ![3, 8, 4, 6, 2, 256]⟩
abbrev S24x24x2x256 : Shape := ⟨4, ![24, 24, 2, 256]⟩
abbrev S3x8x6x4x256 : Shape := ⟨5, ![3, 8, 6, 4, 256]⟩
abbrev S24x6x4x256 : Shape := ⟨4, ![24, 6, 4, 256]⟩
abbrev S24x12x192x128 : Shape := ⟨4, ![24, 12, 192, 128]⟩
abbrev S24x192x128 : Shape := ⟨3, ![24, 192, 128]⟩
abbrev S2x24x2x256 : Shape := ⟨4, ![2, 24, 2, 256]⟩
abbrev S2x6x4x256 : Shape := ⟨4, ![2, 6, 4, 256]⟩
abbrev S2x48x256 : Shape := ⟨3, ![2, 48, 256]⟩
abbrev S2x12x192x128 : Shape := ⟨4, ![2, 12, 192, 128]⟩
abbrev S2x192x128 : Shape := ⟨3, ![2, 192, 128]⟩
abbrev S768x128 : Shape := ⟨2, ![768, 128]⟩
abbrev S192x128 : Shape := ⟨2, ![192, 128]⟩
abbrev S1x256 : Shape := ⟨2, ![1, 256]⟩
abbrev S1x128 : Shape := ⟨2, ![1, 128]⟩
abbrev S6x128 : Shape := ⟨2, ![6, 128]⟩
abbrev S48x128 : Shape := ⟨2, ![48, 128]⟩
abbrev S1x48x256 : Shape := ⟨3, ![1, 48, 256]⟩
abbrev S48x256 : Shape := ⟨2, ![48, 256]⟩
abbrev S4x128 : Shape := ⟨2, ![4, 128]⟩
abbrev S8x128 : Shape := ⟨2, ![8, 128]⟩
abbrev S1x1x24x128 : Shape := ⟨4, ![1, 1, 24, 128]⟩
abbrev S24x128 : Shape := ⟨2, ![24, 128]⟩
abbrev S96x128 : Shape := ⟨2, ![96, 128]⟩
abbrev S1x192x128 : Shape := ⟨3, ![1, 192, 128]⟩
abbrev S1x6x1x128 : Shape := ⟨4, ![1, 6, 1, 128]⟩
abbrev S12x128 : Shape := ⟨2, ![12, 128]⟩

abbrev nBuf : Space → Nat
  | .hbm => 14
  | .vmem => 17
  | .smem => 0
  | _ => 0

abbrev bufTy : (tb : Table) → Fin (tcTables nBuf tb) → BufTy
  | .hbm, ⟨0, _⟩ => ⟨S3x256x8x4x6x2, .f32⟩
  | .hbm, ⟨1, _⟩ => ⟨S3x256x8x4x6, .f32⟩
  | .hbm, ⟨2, _⟩ => ⟨S3x256, .f32⟩
  | .hbm, ⟨3, _⟩ => ⟨S24x48x256, .bf16⟩
  | .hbm, ⟨4, _⟩ => ⟨S7077888, .i32⟩
  | .hbm, ⟨5, _⟩ => ⟨S589824, .i32⟩
  | .hbm, ⟨6, _⟩ => ⟨S3x8x4x6x2x256, .f32⟩
  | .hbm, ⟨7, _⟩ => ⟨S24x24x2x256, .f32⟩
  | .hbm, ⟨8, _⟩ => ⟨S3x8x6x4x256, .f32⟩
  | .hbm, ⟨9, _⟩ => ⟨S24x6x4x256, .f32⟩
  | .hbm, ⟨10, _⟩ => ⟨S24x12x192x128, .i32⟩
  | .hbm, ⟨11, _⟩ => ⟨S24x192x128, .i32⟩
  | .hbm, ⟨12, _⟩ => ⟨S24x24x2x256, .f32⟩
  | .hbm, ⟨13, _⟩ => ⟨S24x6x4x256, .f32⟩
  | .local _ .vmem, ⟨0, _⟩ => ⟨S2x24x2x256, .f32⟩
  | .local _ .vmem, ⟨1, _⟩ => ⟨S2x24x2x256, .f32⟩
  | .local _ .vmem, ⟨2, _⟩ => ⟨S2x6x4x256, .f32⟩
  | .local _ .vmem, ⟨3, _⟩ => ⟨S2x6x4x256, .f32⟩
  | .local _ .vmem, ⟨4, _⟩ => ⟨S3x256, .f32⟩
  | .local _ .vmem, ⟨5, _⟩ => ⟨S2x48x256, .bf16⟩
  | .local _ .vmem, ⟨6, _⟩ => ⟨S2x48x256, .bf16⟩
  | .local _ .vmem, ⟨7, _⟩ => ⟨S2x12x192x128, .i32⟩
  | .local _ .vmem, ⟨8, _⟩ => ⟨S2x12x192x128, .i32⟩
  | .local _ .vmem, ⟨9, _⟩ => ⟨S2x192x128, .i32⟩
  | .local _ .vmem, ⟨10, _⟩ => ⟨S2x192x128, .i32⟩
  | .local _ .vmem, ⟨11, _⟩ => ⟨S2x24x2x256, .f32⟩
  | .local _ .vmem, ⟨12, _⟩ => ⟨S2x24x2x256, .f32⟩
  | .local _ .vmem, ⟨13, _⟩ => ⟨S2x6x4x256, .f32⟩
  | .local _ .vmem, ⟨14, _⟩ => ⟨S2x6x4x256, .f32⟩
  | .local _ .vmem, ⟨15, _⟩ => ⟨S768x128, .f32⟩
  | .local _ .vmem, ⟨16, _⟩ => ⟨S192x128, .f32⟩
  | _, _ => ⟨S3x256x8x4x6x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![12], ![false]⟩

def k0_off1 (i : grid0.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let v18 : Index := Scalar.indexCast v17
  let c0 : Index := 0#32
  ![v18.toNat, 0]
@[reducible] def k0_t1_loop : Scf.Loop 32 :=
  let c0_i32_4 : BitVec 32 := 0#32
  let c2_i32_5 : BitVec 32 := 2#32
  let v27 : BitVec 32 := Scalar.addi c0_i32_4 c2_i32_5
  let c1_i32_6 : BitVec 32 := 1#32
  ⟨c0_i32_4, v27, c1_i32_6⟩
def k0_off2 (k0_t1 : Fin k0_t1_loop.trips) : Fin 3 → Nat :=
  let c0_i32_4 : BitVec 32 := 0#32
  let c1_i32_6 : BitVec 32 := 1#32
  let arg11 : BitVec 32 := Scf.iv c0_i32_4 c1_i32_6 k0_t1
  let v28 : Index := Scalar.indexCast arg11
  let c0_8 : Index := 0#32
  let c0_9 : Index := 0#32
  ![v28.toNat, 0, 0]
@[reducible] def k0_t2_loop : Scf.Loop 32 :=
  let c0_i32_10 : BitVec 32 := 0#32
  let c8_i32_11 : BitVec 32 := 8#32
  let v80 : BitVec 32 := Scalar.addi c0_i32_10 c8_i32_11
  let c1_i32_12 : BitVec 32 := 1#32
  ⟨c0_i32_10, v80, c1_i32_12⟩
def k0_mult1 (k0_t2 : Fin k0_t2_loop.trips) : BitVec 32 :=
  let c0_i32_10 : BitVec 32 := 0#32
  let c1_i32_12 : BitVec 32 := 1#32
  let arg12 : BitVec 32 := Scf.iv c0_i32_10 c1_i32_12 k0_t2
  let c24_i32 : BitVec 32 := 24#32
  let v466 : BitVec 32 := Scalar.muli arg12 c24_i32
  v466
def k0_off3 (k0_t1 : Fin k0_t1_loop.trips) (k0_t2 : Fin k0_t2_loop.trips) : Fin 4 → Nat :=
  let c0_i32_4 : BitVec 32 := 0#32
  let c1_i32_6 : BitVec 32 := 1#32
  let arg11 : BitVec 32 := Scf.iv c0_i32_4 c1_i32_6 k0_t1
  let v468 : Index := Scalar.indexCast arg11
  let c0_222 : Index := 0#32
  let c0_i32_10 : BitVec 32 := 0#32
  let c1_i32_12 : BitVec 32 := 1#32
  let arg12 : BitVec 32 := Scf.iv c0_i32_10 c1_i32_12 k0_t2
  let c24_i32 : BitVec 32 := 24#32
  let v466 : BitVec 32 := Scalar.muli arg12 c24_i32
  let v467 : BitVec 32 := v466
  let v469 : Index := Scalar.indexCast v467
  let c0_223 : Index := 0#32
  ![v468.toNat, 0, v469.toNat, 0]
def k0_mult2 (k0_t2 : Fin k0_t2_loop.trips) : BitVec 32 :=
  let c0_i32_10 : BitVec 32 := 0#32
  let c1_i32_12 : BitVec 32 := 1#32
  let arg12 : BitVec 32 := Scf.iv c0_i32_10 c1_i32_12 k0_t2
  let c24_i32_224 : BitVec 32 := 24#32
  let v498 : BitVec 32 := Scalar.muli arg12 c24_i32_224
  v498
def k0_off4 (k0_t1 : Fin k0_t1_loop.trips) (k0_t2 : Fin k0_t2_loop.trips) : Fin 4 → Nat :=
  let c0_i32_4 : BitVec 32 := 0#32
  let c1_i32_6 : BitVec 32 := 1#32
  let arg11 : BitVec 32 := Scf.iv c0_i32_4 c1_i32_6 k0_t1
  let v500 : Index := Scalar.indexCast arg11
  let c1_225 : Index := 1#32
  let c0_i32_10 : BitVec 32 := 0#32
  let c1_i32_12 : BitVec 32 := 1#32
  let arg12 : BitVec 32 := Scf.iv c0_i32_10 c1_i32_12 k0_t2
  let c24_i32_224 : BitVec 32 := 24#32
  let v498 : BitVec 32 := Scalar.muli arg12 c24_i32_224
  let v499 : BitVec 32 := v498
  let v501 : Index := Scalar.indexCast v499
  let c0_226 : Index := 0#32
  ![v500.toNat, 1, v501.toNat, 0]
def k0_mult3 (k0_t2 : Fin k0_t2_loop.trips) : BitVec 32 :=
  let c0_i32_10 : BitVec 32 := 0#32
  let c1_i32_12 : BitVec 32 := 1#32
  let arg12 : BitVec 32 := Scf.iv c0_i32_10 c1_i32_12 k0_t2
  let c24_i32_227 : BitVec 32 := 24#32
  let v542 : BitVec 32 := Scalar.muli arg12 c24_i32_227
  v542
def k0_off5 (k0_t1 : Fin k0_t1_loop.trips) (k0_t2 : Fin k0_t2_loop.trips) : Fin 4 → Nat :=
  let c0_i32_4 : BitVec 32 := 0#32
  let c1_i32_6 : BitVec 32 := 1#32
  let arg11 : BitVec 32 := Scf.iv c0_i32_4 c1_i32_6 k0_t1
  let v544 : Index := Scalar.indexCast arg11
  let c2_228 : Index := 2#32
  let c0_i32_10 : BitVec 32 := 0#32
  let c1_i32_12 : BitVec 32 := 1#32
  let arg12 : BitVec 32 := Scf.iv c0_i32_10 c1_i32_12 k0_t2
  let c24_i32_227 : BitVec 32 := 24#32
  let v542 : BitVec 32 := Scalar.muli arg12 c24_i32_227
  let v543 : BitVec 32 := v542
  let v545 : Index := Scalar.indexCast v543
  let c0_229 : Index := 0#32
  ![v544.toNat, 2, v545.toNat, 0]
def k0_mult4 (k0_t2 : Fin k0_t2_loop.trips) : BitVec 32 :=
  let c0_i32_10 : BitVec 32 := 0#32
  let c1_i32_12 : BitVec 32 := 1#32
  let arg12 : BitVec 32 := Scf.iv c0_i32_10 c1_i32_12 k0_t2
  let c24_i32_230 : BitVec 32 := 24#32
  let v586 : BitVec 32 := Scalar.muli arg12 c24_i32_230
  v586
def k0_off6 (k0_t1 : Fin k0_t1_loop.trips) (k0_t2 : Fin k0_t2_loop.trips) : Fin 4 → Nat :=
  let c0_i32_4 : BitVec 32 := 0#32
  let c1_i32_6 : BitVec 32 := 1#32
  let arg11 : BitVec 32 := Scf.iv c0_i32_4 c1_i32_6 k0_t1
  let v588 : Index := Scalar.indexCast arg11
  let c3_231 : Index := 3#32
  let c0_i32_10 : BitVec 32 := 0#32
  let c1_i32_12 : BitVec 32 := 1#32
  let arg12 : BitVec 32 := Scf.iv c0_i32_10 c1_i32_12 k0_t2
  let c24_i32_230 : BitVec 32 := 24#32
  let v586 : BitVec 32 := Scalar.muli arg12 c24_i32_230
  let v587 : BitVec 32 := v586
  let v589 : Index := Scalar.indexCast v587
  let c0_232 : Index := 0#32
  ![v588.toNat, 3, v589.toNat, 0]
def k0_mult5 (k0_t2 : Fin k0_t2_loop.trips) : BitVec 32 :=
  let c0_i32_10 : BitVec 32 := 0#32
  let c1_i32_12 : BitVec 32 := 1#32
  let arg12 : BitVec 32 := Scf.iv c0_i32_10 c1_i32_12 k0_t2
  let c24_i32_233 : BitVec 32 := 24#32
  let v630 : BitVec 32 := Scalar.muli arg12 c24_i32_233
  v630
def k0_off7 (k0_t1 : Fin k0_t1_loop.trips) (k0_t2 : Fin k0_t2_loop.trips) : Fin 4 → Nat :=
  let c0_i32_4 : BitVec 32 := 0#32
  let c1_i32_6 : BitVec 32 := 1#32
  let arg11 : BitVec 32 := Scf.iv c0_i32_4 c1_i32_6 k0_t1
  let v632 : Index := Scalar.indexCast arg11
  let c4 : Index := 4#32
  let c0_i32_10 : BitVec 32 := 0#32
  let c1_i32_12 : BitVec 32 := 1#32
  let arg12 : BitVec 32 := Scf.iv c0_i32_10 c1_i32_12 k0_t2
  let c24_i32_233 : BitVec 32 := 24#32
  let v630 : BitVec 32 := Scalar.muli arg12 c24_i32_233
  let v631 : BitVec 32 := v630
  let v633 : Index := Scalar.indexCast v631
  let c0_234 : Index := 0#32
  ![v632.toNat, 4, v633.toNat, 0]
def k0_mult6 (k0_t2 : Fin k0_t2_loop.trips) : BitVec 32 :=
  let c0_i32_10 : BitVec 32 := 0#32
  let c1_i32_12 : BitVec 32 := 1#32
  let arg12 : BitVec 32 := Scf.iv c0_i32_10 c1_i32_12 k0_t2
  let c24_i32_235 : BitVec 32 := 24#32
  let v674 : BitVec 32 := Scalar.muli arg12 c24_i32_235
  v674
def k0_off8 (k0_t1 : Fin k0_t1_loop.trips) (k0_t2 : Fin k0_t2_loop.trips) : Fin 4 → Nat :=
  let c0_i32_4 : BitVec 32 := 0#32
  let c1_i32_6 : BitVec 32 := 1#32
  let arg11 : BitVec 32 := Scf.iv c0_i32_4 c1_i32_6 k0_t1
  let v676 : Index := Scalar.indexCast arg11
  let c5 : Index := 5#32
  let c0_i32_10 : BitVec 32 := 0#32
  let c1_i32_12 : BitVec 32 := 1#32
  let arg12 : BitVec 32 := Scf.iv c0_i32_10 c1_i32_12 k0_t2
  let c24_i32_235 : BitVec 32 := 24#32
  let v674 : BitVec 32 := Scalar.muli arg12 c24_i32_235
  let v675 : BitVec 32 := v674
  let v677 : Index := Scalar.indexCast v675
  let c0_236 : Index := 0#32
  ![v676.toNat, 5, v677.toNat, 0]
def k0_mult7 (k0_t2 : Fin k0_t2_loop.trips) : BitVec 32 :=
  let c0_i32_10 : BitVec 32 := 0#32
  let c1_i32_12 : BitVec 32 := 1#32
  let arg12 : BitVec 32 := Scf.iv c0_i32_10 c1_i32_12 k0_t2
  let c24_i32_237 : BitVec 32 := 24#32
  let v718 : BitVec 32 := Scalar.muli arg12 c24_i32_237
  v718
def k0_off9 (k0_t1 : Fin k0_t1_loop.trips) (k0_t2 : Fin k0_t2_loop.trips) : Fin 4 → Nat :=
  let c0_i32_4 : BitVec 32 := 0#32
  let c1_i32_6 : BitVec 32 := 1#32
  let arg11 : BitVec 32 := Scf.iv c0_i32_4 c1_i32_6 k0_t1
  let v720 : Index := Scalar.indexCast arg11
  let c6_238 : Index := 6#32
  let c0_i32_10 : BitVec 32 := 0#32
  let c1_i32_12 : BitVec 32 := 1#32
  let arg12 : BitVec 32 := Scf.iv c0_i32_10 c1_i32_12 k0_t2
  let c24_i32_237 : BitVec 32 := 24#32
  let v718 : BitVec 32 := Scalar.muli arg12 c24_i32_237
  let v719 : BitVec 32 := v718
  let v721 : Index := Scalar.indexCast v719
  let c0_239 : Index := 0#32
  ![v720.toNat, 6, v721.toNat, 0]
def k0_mult8 (k0_t2 : Fin k0_t2_loop.trips) : BitVec 32 :=
  let c0_i32_10 : BitVec 32 := 0#32
  let c1_i32_12 : BitVec 32 := 1#32
  let arg12 : BitVec 32 := Scf.iv c0_i32_10 c1_i32_12 k0_t2
  let c24_i32_240 : BitVec 32 := 24#32
  let v762 : BitVec 32 := Scalar.muli arg12 c24_i32_240
  v762
def k0_off10 (k0_t1 : Fin k0_t1_loop.trips) (k0_t2 : Fin k0_t2_loop.trips) : Fin 4 → Nat :=
  let c0_i32_4 : BitVec 32 := 0#32
  let c1_i32_6 : BitVec 32 := 1#32
  let arg11 : BitVec 32 := Scf.iv c0_i32_4 c1_i32_6 k0_t1
  let v764 : Index := Scalar.indexCast arg11
  let c7 : Index := 7#32
  let c0_i32_10 : BitVec 32 := 0#32
  let c1_i32_12 : BitVec 32 := 1#32
  let arg12 : BitVec 32 := Scf.iv c0_i32_10 c1_i32_12 k0_t2
  let c24_i32_240 : BitVec 32 := 24#32
  let v762 : BitVec 32 := Scalar.muli arg12 c24_i32_240
  let v763 : BitVec 32 := v762
  let v765 : Index := Scalar.indexCast v763
  let c0_241 : Index := 0#32
  ![v764.toNat, 7, v765.toNat, 0]
def k0_mult9 (k0_t2 : Fin k0_t2_loop.trips) : BitVec 32 :=
  let c0_i32_10 : BitVec 32 := 0#32
  let c1_i32_12 : BitVec 32 := 1#32
  let arg12 : BitVec 32 := Scf.iv c0_i32_10 c1_i32_12 k0_t2
  let c24_i32_242 : BitVec 32 := 24#32
  let v806 : BitVec 32 := Scalar.muli arg12 c24_i32_242
  v806
def k0_off11 (k0_t1 : Fin k0_t1_loop.trips) (k0_t2 : Fin k0_t2_loop.trips) : Fin 4 → Nat :=
  let c0_i32_4 : BitVec 32 := 0#32
  let c1_i32_6 : BitVec 32 := 1#32
  let arg11 : BitVec 32 := Scf.iv c0_i32_4 c1_i32_6 k0_t1
  let v808 : Index := Scalar.indexCast arg11
  let c8 : Index := 8#32
  let c0_i32_10 : BitVec 32 := 0#32
  let c1_i32_12 : BitVec 32 := 1#32
  let arg12 : BitVec 32 := Scf.iv c0_i32_10 c1_i32_12 k0_t2
  let c24_i32_242 : BitVec 32 := 24#32
  let v806 : BitVec 32 := Scalar.muli arg12 c24_i32_242
  let v807 : BitVec 32 := v806
  let v809 : Index := Scalar.indexCast v807
  let c0_243 : Index := 0#32
  ![v808.toNat, 8, v809.toNat, 0]
def k0_mult10 (k0_t2 : Fin k0_t2_loop.trips) : BitVec 32 :=
  let c0_i32_10 : BitVec 32 := 0#32
  let c1_i32_12 : BitVec 32 := 1#32
  let arg12 : BitVec 32 := Scf.iv c0_i32_10 c1_i32_12 k0_t2
  let c24_i32_244 : BitVec 32 := 24#32
  let v850 : BitVec 32 := Scalar.muli arg12 c24_i32_244
  v850
def k0_off12 (k0_t1 : Fin k0_t1_loop.trips) (k0_t2 : Fin k0_t2_loop.trips) : Fin 4 → Nat :=
  let c0_i32_4 : BitVec 32 := 0#32
  let c1_i32_6 : BitVec 32 := 1#32
  let arg11 : BitVec 32 := Scf.iv c0_i32_4 c1_i32_6 k0_t1
  let v852 : Index := Scalar.indexCast arg11
  let c9 : Index := 9#32
  let c0_i32_10 : BitVec 32 := 0#32
  let c1_i32_12 : BitVec 32 := 1#32
  let arg12 : BitVec 32 := Scf.iv c0_i32_10 c1_i32_12 k0_t2
  let c24_i32_244 : BitVec 32 := 24#32
  let v850 : BitVec 32 := Scalar.muli arg12 c24_i32_244
  let v851 : BitVec 32 := v850
  let v853 : Index := Scalar.indexCast v851
  let c0_245 : Index := 0#32
  ![v852.toNat, 9, v853.toNat, 0]
def k0_mult11 (k0_t2 : Fin k0_t2_loop.trips) : BitVec 32 :=
  let c0_i32_10 : BitVec 32 := 0#32
  let c1_i32_12 : BitVec 32 := 1#32
  let arg12 : BitVec 32 := Scf.iv c0_i32_10 c1_i32_12 k0_t2
  let c24_i32_246 : BitVec 32 := 24#32
  let v894 : BitVec 32 := Scalar.muli arg12 c24_i32_246
  v894
def k0_off13 (k0_t1 : Fin k0_t1_loop.trips) (k0_t2 : Fin k0_t2_loop.trips) : Fin 4 → Nat :=
  let c0_i32_4 : BitVec 32 := 0#32
  let c1_i32_6 : BitVec 32 := 1#32
  let arg11 : BitVec 32 := Scf.iv c0_i32_4 c1_i32_6 k0_t1
  let v896 : Index := Scalar.indexCast arg11
  let c10 : Index := 10#32
  let c0_i32_10 : BitVec 32 := 0#32
  let c1_i32_12 : BitVec 32 := 1#32
  let arg12 : BitVec 32 := Scf.iv c0_i32_10 c1_i32_12 k0_t2
  let c24_i32_246 : BitVec 32 := 24#32
  let v894 : BitVec 32 := Scalar.muli arg12 c24_i32_246
  let v895 : BitVec 32 := v894
  let v897 : Index := Scalar.indexCast v895
  let c0_247 : Index := 0#32
  ![v896.toNat, 10, v897.toNat, 0]
def k0_mult12 (k0_t2 : Fin k0_t2_loop.trips) : BitVec 32 :=
  let c0_i32_10 : BitVec 32 := 0#32
  let c1_i32_12 : BitVec 32 := 1#32
  let arg12 : BitVec 32 := Scf.iv c0_i32_10 c1_i32_12 k0_t2
  let c24_i32_248 : BitVec 32 := 24#32
  let v938 : BitVec 32 := Scalar.muli arg12 c24_i32_248
  v938
def k0_off14 (k0_t1 : Fin k0_t1_loop.trips) (k0_t2 : Fin k0_t2_loop.trips) : Fin 4 → Nat :=
  let c0_i32_4 : BitVec 32 := 0#32
  let c1_i32_6 : BitVec 32 := 1#32
  let arg11 : BitVec 32 := Scf.iv c0_i32_4 c1_i32_6 k0_t1
  let v940 : Index := Scalar.indexCast arg11
  let c11 : Index := 11#32
  let c0_i32_10 : BitVec 32 := 0#32
  let c1_i32_12 : BitVec 32 := 1#32
  let arg12 : BitVec 32 := Scf.iv c0_i32_10 c1_i32_12 k0_t2
  let c24_i32_248 : BitVec 32 := 24#32
  let v938 : BitVec 32 := Scalar.muli arg12 c24_i32_248
  let v939 : BitVec 32 := v938
  let v941 : Index := Scalar.indexCast v939
  let c0_249 : Index := 0#32
  ![v940.toNat, 11, v941.toNat, 0]
def k0_mult13 (k0_t2 : Fin k0_t2_loop.trips) : BitVec 32 :=
  let c0_i32_10 : BitVec 32 := 0#32
  let c1_i32_12 : BitVec 32 := 1#32
  let arg12 : BitVec 32 := Scf.iv c0_i32_10 c1_i32_12 k0_t2
  let c24_i32_250 : BitVec 32 := 24#32
  let v982 : BitVec 32 := Scalar.muli arg12 c24_i32_250
  let c4_i32 : BitVec 32 := 4#32
  let v983 : BitVec 32 := Scalar.muli v982 c4_i32
  let c0_i32_251 : BitVec 32 := 0#32
  let v984 : BitVec 32 := Scalar.addi v983 c0_i32_251
  v984
def k0_off15 (k0_t2 : Fin k0_t2_loop.trips) (c0_i32_251 : BitVec 32) : Fin 2 → Nat :=
  let c0_i32_10 : BitVec 32 := 0#32
  let c1_i32_12 : BitVec 32 := 1#32
  let arg12 : BitVec 32 := Scf.iv c0_i32_10 c1_i32_12 k0_t2
  let c24_i32_250 : BitVec 32 := 24#32
  let v982 : BitVec 32 := Scalar.muli arg12 c24_i32_250
  let c4_i32 : BitVec 32 := 4#32
  let v983 : BitVec 32 := Scalar.muli v982 c4_i32
  let v984 : BitVec 32 := Scalar.addi v983 c0_i32_251
  let v985 : BitVec 32 := v984
  let v986 : Index := Scalar.indexCast v985
  let c0_252 : Index := 0#32
  ![v986.toNat, 0]
def k0_mult14 (k0_t2 : Fin k0_t2_loop.trips) : BitVec 32 :=
  let c0_i32_10 : BitVec 32 := 0#32
  let c1_i32_12 : BitVec 32 := 1#32
  let arg12 : BitVec 32 := Scf.iv c0_i32_10 c1_i32_12 k0_t2
  let c24_i32_253 : BitVec 32 := 24#32
  let v990 : BitVec 32 := Scalar.muli arg12 c24_i32_253
  let c4_i32_254 : BitVec 32 := 4#32
  let v991 : BitVec 32 := Scalar.muli v990 c4_i32_254
  let c8_i32_255 : BitVec 32 := 8#32
  let v992 : BitVec 32 := Scalar.addi v991 c8_i32_255
  v992
def k0_mult15 (k0_t2 : Fin k0_t2_loop.trips) : BitVec 32 :=
  let c0_i32_10 : BitVec 32 := 0#32
  let c1_i32_12 : BitVec 32 := 1#32
  let arg12 : BitVec 32 := Scf.iv c0_i32_10 c1_i32_12 k0_t2
  let c24_i32_257 : BitVec 32 := 24#32
  let v998 : BitVec 32 := Scalar.muli arg12 c24_i32_257
  let c4_i32_258 : BitVec 32 := 4#32
  let v999 : BitVec 32 := Scalar.muli v998 c4_i32_258
  let c16_i32 : BitVec 32 := 16#32
  let v1000 : BitVec 32 := Scalar.addi v999 c16_i32
  v1000
def k0_mult16 (k0_t2 : Fin k0_t2_loop.trips) : BitVec 32 :=
  let c0_i32_10 : BitVec 32 := 0#32
  let c1_i32_12 : BitVec 32 := 1#32
  let arg12 : BitVec 32 := Scf.iv c0_i32_10 c1_i32_12 k0_t2
  let c24_i32_260 : BitVec 32 := 24#32
  let v1006 : BitVec 32 := Scalar.muli arg12 c24_i32_260
  let c4_i32_261 : BitVec 32 := 4#32
  let v1007 : BitVec 32 := Scalar.muli v1006 c4_i32_261
  let c24_i32_262 : BitVec 32 := 24#32
  let v1008 : BitVec 32 := Scalar.addi v1007 c24_i32_262
  v1008
def k0_mult17 (k0_t2 : Fin k0_t2_loop.trips) : BitVec 32 :=
  let c0_i32_10 : BitVec 32 := 0#32
  let c1_i32_12 : BitVec 32 := 1#32
  let arg12 : BitVec 32 := Scf.iv c0_i32_10 c1_i32_12 k0_t2
  let c24_i32_264 : BitVec 32 := 24#32
  let v1014 : BitVec 32 := Scalar.muli arg12 c24_i32_264
  let c4_i32_265 : BitVec 32 := 4#32
  let v1015 : BitVec 32 := Scalar.muli v1014 c4_i32_265
  let c32_i32 : BitVec 32 := 32#32
  let v1016 : BitVec 32 := Scalar.addi v1015 c32_i32
  v1016
def k0_mult18 (k0_t2 : Fin k0_t2_loop.trips) : BitVec 32 :=
  let c0_i32_10 : BitVec 32 := 0#32
  let c1_i32_12 : BitVec 32 := 1#32
  let arg12 : BitVec 32 := Scf.iv c0_i32_10 c1_i32_12 k0_t2
  let c24_i32_267 : BitVec 32 := 24#32
  let v1022 : BitVec 32 := Scalar.muli arg12 c24_i32_267
  let c4_i32_268 : BitVec 32 := 4#32
  let v1023 : BitVec 32 := Scalar.muli v1022 c4_i32_268
  let c40_i32 : BitVec 32 := 40#32
  let v1024 : BitVec 32 := Scalar.addi v1023 c40_i32
  v1024
def k0_mult19 (k0_t2 : Fin k0_t2_loop.trips) : BitVec 32 :=
  let c0_i32_10 : BitVec 32 := 0#32
  let c1_i32_12 : BitVec 32 := 1#32
  let arg12 : BitVec 32 := Scf.iv c0_i32_10 c1_i32_12 k0_t2
  let c24_i32_270 : BitVec 32 := 24#32
  let v1030 : BitVec 32 := Scalar.muli arg12 c24_i32_270
  let c4_i32_271 : BitVec 32 := 4#32
  let v1031 : BitVec 32 := Scalar.muli v1030 c4_i32_271
  let c48_i32 : BitVec 32 := 48#32
  let v1032 : BitVec 32 := Scalar.addi v1031 c48_i32
  v1032
def k0_mult20 (k0_t2 : Fin k0_t2_loop.trips) : BitVec 32 :=
  let c0_i32_10 : BitVec 32 := 0#32
  let c1_i32_12 : BitVec 32 := 1#32
  let arg12 : BitVec 32 := Scf.iv c0_i32_10 c1_i32_12 k0_t2
  let c24_i32_273 : BitVec 32 := 24#32
  let v1038 : BitVec 32 := Scalar.muli arg12 c24_i32_273
  let c4_i32_274 : BitVec 32 := 4#32
  let v1039 : BitVec 32 := Scalar.muli v1038 c4_i32_274
  let c56_i32 : BitVec 32 := 56#32
  let v1040 : BitVec 32 := Scalar.addi v1039 c56_i32
  v1040
def k0_mult21 (k0_t2 : Fin k0_t2_loop.trips) : BitVec 32 :=
  let c0_i32_10 : BitVec 32 := 0#32
  let c1_i32_12 : BitVec 32 := 1#32
  let arg12 : BitVec 32 := Scf.iv c0_i32_10 c1_i32_12 k0_t2
  let c24_i32_276 : BitVec 32 := 24#32
  let v1046 : BitVec 32 := Scalar.muli arg12 c24_i32_276
  let c4_i32_277 : BitVec 32 := 4#32
  let v1047 : BitVec 32 := Scalar.muli v1046 c4_i32_277
  let c64_i32 : BitVec 32 := 64#32
  let v1048 : BitVec 32 := Scalar.addi v1047 c64_i32
  v1048
def k0_mult22 (k0_t2 : Fin k0_t2_loop.trips) : BitVec 32 :=
  let c0_i32_10 : BitVec 32 := 0#32
  let c1_i32_12 : BitVec 32 := 1#32
  let arg12 : BitVec 32 := Scf.iv c0_i32_10 c1_i32_12 k0_t2
  let c24_i32_279 : BitVec 32 := 24#32
  let v1054 : BitVec 32 := Scalar.muli arg12 c24_i32_279
  let c4_i32_280 : BitVec 32 := 4#32
  let v1055 : BitVec 32 := Scalar.muli v1054 c4_i32_280
  let c72_i32 : BitVec 32 := 72#32
  let v1056 : BitVec 32 := Scalar.addi v1055 c72_i32
  v1056
def k0_mult23 (k0_t2 : Fin k0_t2_loop.trips) : BitVec 32 :=
  let c0_i32_10 : BitVec 32 := 0#32
  let c1_i32_12 : BitVec 32 := 1#32
  let arg12 : BitVec 32 := Scf.iv c0_i32_10 c1_i32_12 k0_t2
  let c24_i32_282 : BitVec 32 := 24#32
  let v1062 : BitVec 32 := Scalar.muli arg12 c24_i32_282
  let c4_i32_283 : BitVec 32 := 4#32
  let v1063 : BitVec 32 := Scalar.muli v1062 c4_i32_283
  let c80_i32 : BitVec 32 := 80#32
  let v1064 : BitVec 32 := Scalar.addi v1063 c80_i32
  v1064
def k0_mult24 (k0_t2 : Fin k0_t2_loop.trips) : BitVec 32 :=
  let c0_i32_10 : BitVec 32 := 0#32
  let c1_i32_12 : BitVec 32 := 1#32
  let arg12 : BitVec 32 := Scf.iv c0_i32_10 c1_i32_12 k0_t2
  let c24_i32_285 : BitVec 32 := 24#32
  let v1070 : BitVec 32 := Scalar.muli arg12 c24_i32_285
  let c4_i32_286 : BitVec 32 := 4#32
  let v1071 : BitVec 32 := Scalar.muli v1070 c4_i32_286
  let c88_i32 : BitVec 32 := 88#32
  let v1072 : BitVec 32 := Scalar.addi v1071 c88_i32
  v1072
def k0_off16 (k0_t1 : Fin k0_t1_loop.trips) : Fin 3 → Nat :=
  let c0_i32_4 : BitVec 32 := 0#32
  let c1_i32_6 : BitVec 32 := 1#32
  let arg11 : BitVec 32 := Scf.iv c0_i32_4 c1_i32_6 k0_t1
  let v88 : Index := Scalar.indexCast arg11
  let c0_19 : Index := 0#32
  let c0_20 : Index := 0#32
  ![v88.toNat, 0, 0]
def k0_off17 (k0_t1 : Fin k0_t1_loop.trips) : Fin 4 → Nat :=
  let c0_i32_4 : BitVec 32 := 0#32
  let c1_i32_6 : BitVec 32 := 1#32
  let arg11 : BitVec 32 := Scf.iv c0_i32_4 c1_i32_6 k0_t1
  let v96 : Index := Scalar.indexCast arg11
  let c0_23 : Index := 0#32
  let c0_24 : Index := 0#32
  let c0_25 : Index := 0#32
  ![v96.toNat, 0, 0, 0]
def k0_off18 (k0_t1 : Fin k0_t1_loop.trips) : Fin 4 → Nat :=
  let c0_i32_4 : BitVec 32 := 0#32
  let c1_i32_6 : BitVec 32 := 1#32
  let arg11 : BitVec 32 := Scf.iv c0_i32_4 c1_i32_6 k0_t1
  let v99 : Index := Scalar.indexCast arg11
  let c0_26 : Index := 0#32
  let c0_27 : Index := 0#32
  let c128 : Index := 128#32
  ![v99.toNat, 0, 0, 128]
def k0_off19 (k0_t1 : Fin k0_t1_loop.trips) : Fin 4 → Nat :=
  let c0_i32_4 : BitVec 32 := 0#32
  let c1_i32_6 : BitVec 32 := 1#32
  let arg11 : BitVec 32 := Scf.iv c0_i32_4 c1_i32_6 k0_t1
  let v102 : Index := Scalar.indexCast arg11
  let c6 : Index := 6#32
  let c0_28 : Index := 0#32
  let c0_29 : Index := 0#32
  ![v102.toNat, 6, 0, 0]
def k0_off20 (k0_t1 : Fin k0_t1_loop.trips) : Fin 4 → Nat :=
  let c0_i32_4 : BitVec 32 := 0#32
  let c1_i32_6 : BitVec 32 := 1#32
  let arg11 : BitVec 32 := Scf.iv c0_i32_4 c1_i32_6 k0_t1
  let v105 : Index := Scalar.indexCast arg11
  let c6_30 : Index := 6#32
  let c0_31 : Index := 0#32
  let c128_32 : Index := 128#32
  ![v105.toNat, 6, 0, 128]
def k0_off21 (k0_t1 : Fin k0_t1_loop.trips) : Fin 4 → Nat :=
  let c0_i32_4 : BitVec 32 := 0#32
  let c1_i32_6 : BitVec 32 := 1#32
  let arg11 : BitVec 32 := Scf.iv c0_i32_4 c1_i32_6 k0_t1
  let v108 : Index := Scalar.indexCast arg11
  let c12 : Index := 12#32
  let c0_33 : Index := 0#32
  let c0_34 : Index := 0#32
  ![v108.toNat, 12, 0, 0]
def k0_off22 (k0_t1 : Fin k0_t1_loop.trips) : Fin 4 → Nat :=
  let c0_i32_4 : BitVec 32 := 0#32
  let c1_i32_6 : BitVec 32 := 1#32
  let arg11 : BitVec 32 := Scf.iv c0_i32_4 c1_i32_6 k0_t1
  let v111 : Index := Scalar.indexCast arg11
  let c12_35 : Index := 12#32
  let c0_36 : Index := 0#32
  let c128_37 : Index := 128#32
  ![v111.toNat, 12, 0, 128]
def k0_off23 (k0_t1 : Fin k0_t1_loop.trips) : Fin 4 → Nat :=
  let c0_i32_4 : BitVec 32 := 0#32
  let c1_i32_6 : BitVec 32 := 1#32
  let arg11 : BitVec 32 := Scf.iv c0_i32_4 c1_i32_6 k0_t1
  let v114 : Index := Scalar.indexCast arg11
  let c18 : Index := 18#32
  let c0_38 : Index := 0#32
  let c0_39 : Index := 0#32
  ![v114.toNat, 18, 0, 0]
def k0_off24 (k0_t1 : Fin k0_t1_loop.trips) : Fin 4 → Nat :=
  let c0_i32_4 : BitVec 32 := 0#32
  let c1_i32_6 : BitVec 32 := 1#32
  let arg11 : BitVec 32 := Scf.iv c0_i32_4 c1_i32_6 k0_t1
  let v117 : Index := Scalar.indexCast arg11
  let c18_40 : Index := 18#32
  let c0_41 : Index := 0#32
  let c128_42 : Index := 128#32
  ![v117.toNat, 18, 0, 128]
def k0_off25 (k0_t1 : Fin k0_t1_loop.trips) : Fin 4 → Nat :=
  let c0_i32_4 : BitVec 32 := 0#32
  let c1_i32_6 : BitVec 32 := 1#32
  let arg11 : BitVec 32 := Scf.iv c0_i32_4 c1_i32_6 k0_t1
  let v121 : Index := Scalar.indexCast arg11
  let c0_43 : Index := 0#32
  let c1_44 : Index := 1#32
  let c0_45 : Index := 0#32
  ![v121.toNat, 0, 1, 0]
def k0_off26 (k0_t1 : Fin k0_t1_loop.trips) : Fin 4 → Nat :=
  let c0_i32_4 : BitVec 32 := 0#32
  let c1_i32_6 : BitVec 32 := 1#32
  let arg11 : BitVec 32 := Scf.iv c0_i32_4 c1_i32_6 k0_t1
  let v124 : Index := Scalar.indexCast arg11
  let c0_46 : Index := 0#32
  let c1_47 : Index := 1#32
  let c128_48 : Index := 128#32
  ![v124.toNat, 0, 1, 128]
def k0_off27 (k0_t1 : Fin k0_t1_loop.trips) : Fin 4 → Nat :=
  let c0_i32_4 : BitVec 32 := 0#32
  let c1_i32_6 : BitVec 32 := 1#32
  let arg11 : BitVec 32 := Scf.iv c0_i32_4 c1_i32_6 k0_t1
  let v127 : Index := Scalar.indexCast arg11
  let c6_49 : Index := 6#32
  let c1_50 : Index := 1#32
  let c0_51 : Index := 0#32
  ![v127.toNat, 6, 1, 0]
def k0_off28 (k0_t1 : Fin k0_t1_loop.trips) : Fin 4 → Nat :=
  let c0_i32_4 : BitVec 32 := 0#32
  let c1_i32_6 : BitVec 32 := 1#32
  let arg11 : BitVec 32 := Scf.iv c0_i32_4 c1_i32_6 k0_t1
  let v130 : Index := Scalar.indexCast arg11
  let c6_52 : Index := 6#32
  let c1_53 : Index := 1#32
  let c128_54 : Index := 128#32
  ![v130.toNat, 6, 1, 128]
def k0_off29 (k0_t1 : Fin k0_t1_loop.trips) : Fin 4 → Nat :=
  let c0_i32_4 : BitVec 32 := 0#32
  let c1_i32_6 : BitVec 32 := 1#32
  let arg11 : BitVec 32 := Scf.iv c0_i32_4 c1_i32_6 k0_t1
  let v133 : Index := Scalar.indexCast arg11
  let c12_55 : Index := 12#32
  let c1_56 : Index := 1#32
  let c0_57 : Index := 0#32
  ![v133.toNat, 12, 1, 0]
def k0_off30 (k0_t1 : Fin k0_t1_loop.trips) : Fin 4 → Nat :=
  let c0_i32_4 : BitVec 32 := 0#32
  let c1_i32_6 : BitVec 32 := 1#32
  let arg11 : BitVec 32 := Scf.iv c0_i32_4 c1_i32_6 k0_t1
  let v136 : Index := Scalar.indexCast arg11
  let c12_58 : Index := 12#32
  let c1_59 : Index := 1#32
  let c128_60 : Index := 128#32
  ![v136.toNat, 12, 1, 128]
def k0_off31 (k0_t1 : Fin k0_t1_loop.trips) : Fin 4 → Nat :=
  let c0_i32_4 : BitVec 32 := 0#32
  let c1_i32_6 : BitVec 32 := 1#32
  let arg11 : BitVec 32 := Scf.iv c0_i32_4 c1_i32_6 k0_t1
  let v139 : Index := Scalar.indexCast arg11
  let c18_61 : Index := 18#32
  let c1_62 : Index := 1#32
  let c0_63 : Index := 0#32
  ![v139.toNat, 18, 1, 0]
def k0_off32 (k0_t1 : Fin k0_t1_loop.trips) : Fin 4 → Nat :=
  let c0_i32_4 : BitVec 32 := 0#32
  let c1_i32_6 : BitVec 32 := 1#32
  let arg11 : BitVec 32 := Scf.iv c0_i32_4 c1_i32_6 k0_t1
  let v142 : Index := Scalar.indexCast arg11
  let c18_64 : Index := 18#32
  let c1_65 : Index := 1#32
  let c128_66 : Index := 128#32
  ![v142.toNat, 18, 1, 128]
def k0_off33 (k0_t1 : Fin k0_t1_loop.trips) : Fin 4 → Nat :=
  let c0_i32_4 : BitVec 32 := 0#32
  let c1_i32_6 : BitVec 32 := 1#32
  let arg11 : BitVec 32 := Scf.iv c0_i32_4 c1_i32_6 k0_t1
  let v146 : Index := Scalar.indexCast arg11
  let c0_67 : Index := 0#32
  let c0_68 : Index := 0#32
  let c0_69 : Index := 0#32
  ![v146.toNat, 0, 0, 0]
def k0_off34 (k0_t1 : Fin k0_t1_loop.trips) : Fin 4 → Nat :=
  let c0_i32_4 : BitVec 32 := 0#32
  let c1_i32_6 : BitVec 32 := 1#32
  let arg11 : BitVec 32 := Scf.iv c0_i32_4 c1_i32_6 k0_t1
  let v149 : Index := Scalar.indexCast arg11
  let c0_70 : Index := 0#32
  let c0_71 : Index := 0#32
  let c128_72 : Index := 128#32
  ![v149.toNat, 0, 0, 128]
def k0_off35 (k0_t1 : Fin k0_t1_loop.trips) : Fin 4 → Nat :=
  let c0_i32_4 : BitVec 32 := 0#32
  let c1_i32_6 : BitVec 32 := 1#32
  let arg11 : BitVec 32 := Scf.iv c0_i32_4 c1_i32_6 k0_t1
  let v152 : Index := Scalar.indexCast arg11
  let c0_73 : Index := 0#32
  let c1_74 : Index := 1#32
  let c0_75 : Index := 0#32
  ![v152.toNat, 0, 1, 0]
def k0_off36 (k0_t1 : Fin k0_t1_loop.trips) : Fin 4 → Nat :=
  let c0_i32_4 : BitVec 32 := 0#32
  let c1_i32_6 : BitVec 32 := 1#32
  let arg11 : BitVec 32 := Scf.iv c0_i32_4 c1_i32_6 k0_t1
  let v155 : Index := Scalar.indexCast arg11
  let c0_76 : Index := 0#32
  let c1_77 : Index := 1#32
  let c128_78 : Index := 128#32
  ![v155.toNat, 0, 1, 128]
def k0_off37 (k0_t1 : Fin k0_t1_loop.trips) : Fin 4 → Nat :=
  let c0_i32_4 : BitVec 32 := 0#32
  let c1_i32_6 : BitVec 32 := 1#32
  let arg11 : BitVec 32 := Scf.iv c0_i32_4 c1_i32_6 k0_t1
  let v158 : Index := Scalar.indexCast arg11
  let c0_79 : Index := 0#32
  let c2_80 : Index := 2#32
  let c0_81 : Index := 0#32
  ![v158.toNat, 0, 2, 0]
def k0_off38 (k0_t1 : Fin k0_t1_loop.trips) : Fin 4 → Nat :=
  let c0_i32_4 : BitVec 32 := 0#32
  let c1_i32_6 : BitVec 32 := 1#32
  let arg11 : BitVec 32 := Scf.iv c0_i32_4 c1_i32_6 k0_t1
  let v161 : Index := Scalar.indexCast arg11
  let c0_82 : Index := 0#32
  let c2_83 : Index := 2#32
  let c128_84 : Index := 128#32
  ![v161.toNat, 0, 2, 128]
def k0_off39 (k0_t1 : Fin k0_t1_loop.trips) : Fin 4 → Nat :=
  let c0_i32_4 : BitVec 32 := 0#32
  let c1_i32_6 : BitVec 32 := 1#32
  let arg11 : BitVec 32 := Scf.iv c0_i32_4 c1_i32_6 k0_t1
  let v164 : Index := Scalar.indexCast arg11
  let c0_85 : Index := 0#32
  let c3_86 : Index := 3#32
  let c0_87 : Index := 0#32
  ![v164.toNat, 0, 3, 0]
def k0_off40 (k0_t1 : Fin k0_t1_loop.trips) : Fin 4 → Nat :=
  let c0_i32_4 : BitVec 32 := 0#32
  let c1_i32_6 : BitVec 32 := 1#32
  let arg11 : BitVec 32 := Scf.iv c0_i32_4 c1_i32_6 k0_t1
  let v167 : Index := Scalar.indexCast arg11
  let c0_88 : Index := 0#32
  let c3_89 : Index := 3#32
  let c128_90 : Index := 128#32
  ![v167.toNat, 0, 3, 128]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x24x2x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x6x4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x48x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x12x192x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x192x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x24x2x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x6x4x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S3x256x8x4x6x2 : Shape := ⟨6, ![3, 256, 8, 4, 6, 2]⟩
abbrev S3x256x8x4x6 : Shape := ⟨5, ![3, 256, 8, 4, 6]⟩
abbrev S3x256 : Shape := ⟨2, ![3, 256]⟩
abbrev S24x48x256 : Shape := ⟨3, ![24, 48, 256]⟩
abbrev S7077888 : Shape := ⟨1, ![7077888]⟩
abbrev S589824 : Shape := ⟨1, ![589824]⟩
abbrev S3x8x256 : Shape := ⟨3, ![3, 8, 256]⟩
abbrev S24x256 : Shape := ⟨2, ![24, 256]⟩
abbrev S24x1x256 : Shape := ⟨3, ![24, 1, 256]⟩
abbrev S24x12x1x24576 : Shape := ⟨4, ![24, 12, 1, 24576]⟩
abbrev S4 : Shape := ⟨1, ![4]⟩
abbrev S_ : Shape := ⟨0, ![]⟩
abbrev S4x1 : Shape := ⟨2, ![4, 1]⟩
abbrev S1x1x4x1 : Shape := ⟨4, ![1, 1, 4, 1]⟩
abbrev S24x12x4x24576 : Shape := ⟨4, ![24, 12, 4, 24576]⟩
abbrev S24x48x16x2x6x128 : Shape := ⟨6, ![24, 48, 16, 2, 6, 128]⟩
abbrev S24x16x6x2x128x48 : Shape := ⟨6, ![24, 16, 6, 2, 128, 48]⟩
abbrev S24x4x4x6x256x48 : Shape := ⟨6, ![24, 4, 4, 6, 256, 48]⟩
abbrev S24x16x2x6x128 : Shape := ⟨5, ![24, 16, 2, 6, 128]⟩
abbrev S24x16x6x2x128 : Shape := ⟨5, ![24, 16, 6, 2, 128]⟩
abbrev S24x4x4x6x256 : Shape := ⟨5, ![24, 4, 4, 6, 256]⟩
abbrev S3x8x2x4x6x256 : Shape := ⟨6, ![3, 8, 2, 4, 6, 256]⟩
abbrev S24x2x4x6x256 : Shape := ⟨5, ![24, 2, 4, 6, 256]⟩
abbrev S3x8x4x6x256 : Shape := ⟨5, ![3, 8, 4, 6, 256]⟩
abbrev S24x4x6x256 : Shape := ⟨4, ![24, 4, 6, 256]⟩
abbrev S4x1x1 : Shape := ⟨3, ![4, 1, 1]⟩
abbrev S24x1x4x6x256 : Shape := ⟨5, ![24, 1, 4, 6, 256]⟩
abbrev S1x4x1x1 : Shape := ⟨4, ![1, 4, 1, 1]⟩
abbrev S24x4x1x6x256 : Shape := ⟨5, ![24, 4, 1, 6, 256]⟩
abbrev S4x1x1x1 : Shape := ⟨4, ![4, 1, 1, 1]⟩
abbrev S1x4x1x1x1 : Shape := ⟨5, ![1, 4, 1, 1, 1]⟩
abbrev S24x4x4x6x256x1 : Shape := ⟨6, ![24, 4, 4, 6, 256, 1]⟩
abbrev S24x4x1x6x256x48 : Shape := ⟨6, ![24, 4, 1, 6, 256, 48]⟩
abbrev S24x4x6x256x48 : Shape := ⟨5, ![24, 4, 6, 256, 48]⟩
abbrev S24x4x6x256x1 : Shape := ⟨5, ![24, 4, 6, 256, 1]⟩
abbrev S24x256x4x6 : Shape := ⟨4, ![24, 256, 4, 6]⟩
abbrev S24x4x6x1x256 : Shape := ⟨5, ![24, 4, 6, 1, 256]⟩
abbrev S24x4x6x2x256 : Shape := ⟨5, ![24, 4, 6, 2, 256]⟩
abbrev S24x24x2x256 : Shape := ⟨4, ![24, 24, 2, 256]⟩
abbrev S24x6x4x256 : Shape := ⟨4, ![24, 6, 4, 256]⟩

abbrev nBuf : Space → Nat
  | .hbm => 224
  | .vmem => 0
  | .smem => 0
  | _ => 0

abbrev hbmTy0_0 (i : Nat) : BufTy := match i % 128 with
  | 0 => ⟨S3x256x8x4x6x2, .f32⟩
  | 1 => ⟨S3x256x8x4x6, .f32⟩
  | 2 => ⟨S3x256, .f32⟩
  | 3 => ⟨S24x48x256, .bf16⟩
  | 4 => ⟨S7077888, .i32⟩
  | 5 => ⟨S589824, .i32⟩
  | 6 => ⟨S24x48x256, .f32⟩
  | 7 => ⟨S3x8x256, .f32⟩
  | 8 => ⟨S24x256, .f32⟩
  | 9 => ⟨S24x1x256, .f32⟩
  | 10 => ⟨S24x48x256, .f32⟩
  | 11 => ⟨S24x48x256, .f32⟩
  | 12 => ⟨S24x12x1x24576, .i32⟩
  | 13 => ⟨S4, .i32⟩
  | 14 => ⟨S_, .i32⟩
  | 15 => ⟨S4, .i32⟩
  | 16 => ⟨S4, .i32⟩
  | 17 => ⟨S4x1, .i32⟩
  | 18 => ⟨S1x1x4x1, .i32⟩
  | 19 => ⟨S24x12x4x24576, .i32⟩
  | 20 => ⟨S24x12x4x24576, .i32⟩
  | 21 => ⟨S24x12x4x24576, .i32⟩
  | 22 => ⟨S_, .i32⟩
  | 23 => ⟨S24x12x4x24576, .i32⟩
  | 24 => ⟨S24x12x4x24576, .i32⟩
  | 25 => ⟨S_, .i32⟩
  | 26 => ⟨S24x12x4x24576, .i32⟩
  | 27 => ⟨S24x12x4x24576, .i32⟩
  | 28 => ⟨S_, .i32⟩
  | 29 => ⟨S24x12x4x24576, .i32⟩
  | 30 => ⟨S24x12x4x24576, .i32⟩
  | 31 => ⟨S_, .i32⟩
  | 32 => ⟨S24x12x4x24576, .i32⟩
  | 33 => ⟨S24x12x4x24576, .i32⟩
  | 34 => ⟨S_, .i32⟩
  | 35 => ⟨S24x12x4x24576, .i32⟩
  | 36 => ⟨S24x12x4x24576, .i32⟩
  | 37 => ⟨S_, .i32⟩
  | 38 => ⟨S24x12x4x24576, .i32⟩
  | 39 => ⟨S24x12x4x24576, .i32⟩
  | 40 => ⟨S_, .i32⟩
  | 41 => ⟨S24x12x4x24576, .i32⟩
  | 42 => ⟨S24x12x4x24576, .i32⟩
  | 43 => ⟨S24x12x4x24576, .f32⟩
  | 44 => ⟨S_, .i32⟩
  | 45 => ⟨S24x12x4x24576, .i32⟩
  | 46 => ⟨S24x12x4x24576, .i1⟩
  | 47 => ⟨S24x12x4x24576, .f32⟩
  | 48 => ⟨S_, .f32⟩
  | 49 => ⟨S24x12x4x24576, .f32⟩
  | 50 => ⟨S24x12x4x24576, .f32⟩
  | 51 => ⟨S_, .i32⟩
  | 52 => ⟨S24x12x4x24576, .i32⟩
  | 53 => ⟨S24x12x4x24576, .i32⟩
  | 54 => ⟨S24x12x4x24576, .f32⟩
  | 55 => ⟨S24x12x4x24576, .f32⟩
  | 56 => ⟨S24x12x4x24576, .f32⟩
  | 57 => ⟨S_, .i32⟩
  | 58 => ⟨S24x12x4x24576, .i32⟩
  | 59 => ⟨S24x12x4x24576, .i1⟩
  | 60 => ⟨S24x12x4x24576, .f32⟩
  | 61 => ⟨S24x12x4x24576, .f32⟩
  | 62 => ⟨S24x48x16x2x6x128, .f32⟩
  | 63 => ⟨S24x16x6x2x128x48, .f32⟩
  | 64 => ⟨S24x4x4x6x256x48, .f32⟩
  | 65 => ⟨S589824, .f32⟩
  | 66 => ⟨S24x16x2x6x128, .f32⟩
  | 67 => ⟨S24x16x6x2x128, .f32⟩
  | 68 => ⟨S24x4x4x6x256, .f32⟩
  | 69 => ⟨S3x8x2x4x6x256, .f32⟩
  | 70 => ⟨S24x2x4x6x256, .f32⟩
  | 71 => ⟨S3x8x4x6x256, .f32⟩
  | 72 => ⟨S24x4x6x256, .f32⟩
  | 73 => ⟨S4, .i32⟩
  | 74 => ⟨S4x1x1, .i32⟩
  | 75 => ⟨S_, .i32⟩
  | 76 => ⟨S4x1x1, .i32⟩
  | 77 => ⟨S4x1x1, .i32⟩
  | 78 => ⟨S_, .i32⟩
  | 79 => ⟨S4x1x1, .i32⟩
  | 80 => ⟨S4x1x1, .i32⟩
  | 81 => ⟨S4x1x1, .f32⟩
  | 82 => ⟨S4x1x1, .f32⟩
  | 83 => ⟨S24x1x4x6x256, .f32⟩
  | 84 => ⟨S24x4x6x256, .f32⟩
  | 85 => ⟨S1x4x1x1, .f32⟩
  | 86 => ⟨S24x4x6x256, .f32⟩
  | 87 => ⟨S24x4x6x256, .f32⟩
  | 88 => ⟨S_, .f32⟩
  | 89 => ⟨S24x4x6x256, .f32⟩
  | 90 => ⟨S24x4x6x256, .f32⟩
  | 91 => ⟨S24x1x4x6x256, .f32⟩
  | 92 => ⟨S24x4x6x256, .f32⟩
  | 93 => ⟨S1x4x1x1, .f32⟩
  | 94 => ⟨S24x4x6x256, .f32⟩
  | 95 => ⟨S24x4x6x256, .f32⟩
  | 96 => ⟨S_, .f32⟩
  | 97 => ⟨S24x4x6x256, .f32⟩
  | 98 => ⟨S24x4x6x256, .f32⟩
  | 99 => ⟨S24x4x6x256, .f32⟩
  | 100 => ⟨S24x4x6x256, .f32⟩
  | 101 => ⟨S24x4x6x256, .f32⟩
  | 102 => ⟨S24x4x6x256, .f32⟩
  | 103 => ⟨S_, .f32⟩
  | 104 => ⟨S24x4x6x256, .f32⟩
  | 105 => ⟨S24x4x6x256, .f32⟩
  | 106 => ⟨S_, .f32⟩
  | 107 => ⟨S24x4x6x256, .f32⟩
  | 108 => ⟨S24x4x6x256, .f32⟩
  | 109 => ⟨S24x4x6x256, .i32⟩
  | 110 => ⟨S24x4x6x256, .i32⟩
  | 111 => ⟨S_, .i32⟩
  | 112 => ⟨S24x4x6x256, .i32⟩
  | 113 => ⟨S24x4x6x256, .i32⟩
  | 114 => ⟨S_, .i32⟩
  | 115 => ⟨S24x4x6x256, .i32⟩
  | 116 => ⟨S24x4x6x256, .i32⟩
  | 117 => ⟨S24x4x1x6x256, .i32⟩
  | 118 => ⟨S24x4x1x6x256, .i32⟩
  | 119 => ⟨S24x4x1x6x256, .i32⟩
  | 120 => ⟨S24x4x1x6x256, .i32⟩
  | 121 => ⟨S24x4x4x6x256, .i32⟩
  | 122 => ⟨S_, .i32⟩
  | 123 => ⟨S24x4x6x256, .i32⟩
  | 124 => ⟨S24x4x6x256, .i32⟩
  | 125 => ⟨S_, .i32⟩
  | 126 => ⟨S24x4x6x256, .i32⟩
  | 127 => ⟨S24x4x6x256, .i32⟩
  | _ => ⟨S3x256x8x4x6x2, .f32⟩

abbrev hbmTy0_1 (i : Nat) : BufTy := match i % 128 with
  | 0 => ⟨S24x4x1x6x256, .i32⟩
  | 1 => ⟨S24x4x1x6x256, .i32⟩
  | 2 => ⟨S24x4x1x6x256, .i32⟩
  | 3 => ⟨S24x4x1x6x256, .i32⟩
  | 4 => ⟨S24x4x4x6x256, .i32⟩
  | 5 => ⟨S24x4x6x256, .f32⟩
  | 6 => ⟨S24x4x6x256, .f32⟩
  | 7 => ⟨S24x4x6x256, .f32⟩
  | 8 => ⟨S24x4x6x256, .f32⟩
  | 9 => ⟨S24x4x1x6x256, .f32⟩
  | 10 => ⟨S24x4x1x6x256, .f32⟩
  | 11 => ⟨S24x4x1x6x256, .f32⟩
  | 12 => ⟨S24x4x1x6x256, .f32⟩
  | 13 => ⟨S24x4x4x6x256, .f32⟩
  | 14 => ⟨S_, .i32⟩
  | 15 => ⟨S24x4x4x6x256, .i32⟩
  | 16 => ⟨S24x4x4x6x256, .i1⟩
  | 17 => ⟨S4x1x1x1, .i32⟩
  | 18 => ⟨S_, .i32⟩
  | 19 => ⟨S4x1x1x1, .i32⟩
  | 20 => ⟨S4x1x1x1, .i32⟩
  | 21 => ⟨S1x4x1x1x1, .i32⟩
  | 22 => ⟨S24x4x4x6x256, .i32⟩
  | 23 => ⟨S24x4x4x6x256, .i1⟩
  | 24 => ⟨S24x4x4x6x256, .i1⟩
  | 25 => ⟨S_, .i32⟩
  | 26 => ⟨S24x4x4x6x256, .i32⟩
  | 27 => ⟨S24x4x4x6x256, .i1⟩
  | 28 => ⟨S24x4x4x6x256, .i1⟩
  | 29 => ⟨S4x1x1x1, .i32⟩
  | 30 => ⟨S_, .i32⟩
  | 31 => ⟨S4x1x1x1, .i32⟩
  | 32 => ⟨S4x1x1x1, .i32⟩
  | 33 => ⟨S1x4x1x1x1, .i32⟩
  | 34 => ⟨S24x4x4x6x256, .i32⟩
  | 35 => ⟨S24x4x4x6x256, .i1⟩
  | 36 => ⟨S24x4x4x6x256, .i1⟩
  | 37 => ⟨S24x4x4x6x256x1, .i1⟩
  | 38 => ⟨S24x4x4x6x256x1, .f32⟩
  | 39 => ⟨S24x4x4x6x256x48, .f32⟩
  | 40 => ⟨S24x4x4x6x256x48, .f32⟩
  | 41 => ⟨S_, .f32⟩
  | 42 => ⟨S_, .f32⟩
  | 43 => ⟨S24x4x4x6x256x48, .i1⟩
  | 44 => ⟨S24x4x4x6x256x48, .f32⟩
  | 45 => ⟨S24x4x4x6x256x48, .f32⟩
  | 46 => ⟨S24x4x1x6x256x48, .f32⟩
  | 47 => ⟨S24x4x6x256x48, .f32⟩
  | 48 => ⟨S24x4x1x6x256x48, .f32⟩
  | 49 => ⟨S24x4x6x256x48, .f32⟩
  | 50 => ⟨S24x4x1x6x256x48, .f32⟩
  | 51 => ⟨S24x4x6x256x48, .f32⟩
  | 52 => ⟨S24x4x1x6x256x48, .f32⟩
  | 53 => ⟨S24x4x6x256x48, .f32⟩
  | 54 => ⟨S24x4x4x6x256x1, .f32⟩
  | 55 => ⟨S24x4x4x6x256x48, .f32⟩
  | 56 => ⟨S24x4x4x6x256x48, .f32⟩
  | 57 => ⟨S_, .f32⟩
  | 58 => ⟨S24x4x6x256x48, .f32⟩
  | 59 => ⟨S24x4x6x256x1, .f32⟩
  | 60 => ⟨S24x4x6x256x48, .f32⟩
  | 61 => ⟨S24x4x6x256x48, .f32⟩
  | 62 => ⟨S24x4x6x256x48, .f32⟩
  | 63 => ⟨S24x4x6x256x1, .f32⟩
  | 64 => ⟨S24x4x6x256x48, .f32⟩
  | 65 => ⟨S24x4x6x256x48, .f32⟩
  | 66 => ⟨S24x4x6x256x48, .f32⟩
  | 67 => ⟨S24x4x6x256x48, .f32⟩
  | 68 => ⟨S24x4x6x256x1, .f32⟩
  | 69 => ⟨S24x4x6x256x48, .f32⟩
  | 70 => ⟨S24x4x6x256x48, .f32⟩
  | 71 => ⟨S24x4x6x256x48, .f32⟩
  | 72 => ⟨S24x4x6x256x1, .f32⟩
  | 73 => ⟨S24x4x6x256x48, .f32⟩
  | 74 => ⟨S24x4x6x256x48, .f32⟩
  | 75 => ⟨S24x4x6x256x48, .f32⟩
  | 76 => ⟨S24x4x6x256x48, .f32⟩
  | 77 => ⟨S24x256x4x6, .f32⟩
  | 78 => ⟨S24x4x6x256, .f32⟩
  | 79 => ⟨S1x4x1x1, .f32⟩
  | 80 => ⟨S24x4x6x256, .f32⟩
  | 81 => ⟨S24x4x6x256, .f32⟩
  | 82 => ⟨S24x256x4x6, .f32⟩
  | 83 => ⟨S24x4x6x256, .f32⟩
  | 84 => ⟨S24x4x6x256, .f32⟩
  | 85 => ⟨S1x4x1x1, .f32⟩
  | 86 => ⟨S24x4x6x256, .f32⟩
  | 87 => ⟨S24x4x6x256, .f32⟩
  | 88 => ⟨S24x256x4x6, .f32⟩
  | 89 => ⟨S24x4x6x256, .f32⟩
  | 90 => ⟨S24x4x6x256, .f32⟩
  | 91 => ⟨S24x4x6x1x256, .f32⟩
  | 92 => ⟨S24x4x6x1x256, .f32⟩
  | 93 => ⟨S24x4x6x2x256, .f32⟩
  | 94 => ⟨S24x24x2x256, .f32⟩
  | 95 => ⟨S24x6x4x256, .f32⟩
  | _ => ⟨S3x256x8x4x6x2, .f32⟩

abbrev hbmTy (i : Nat) : BufTy := match i / 128 with
  | 0 => hbmTy0_0 i
  | 1 => hbmTy0_1 i
  | _ => ⟨S3x256x8x4x6x2, .f32⟩

abbrev bufTy : (tb : Table) → Fin (tcTables nBuf tb) → BufTy
  | .hbm, ⟨i, _⟩ => hbmTy i
  | _, _ => ⟨S3x256x8x4x6x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c_10 : Ref sig .tc := ⟨.hbm, 75, rfl⟩
abbrev main_v57 : Ref sig .tc := ⟨.hbm, 76, rfl⟩
abbrev main_v58 : Ref sig .tc := ⟨.hbm, 77, rfl⟩
abbrev main_c_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_12 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_13 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_14 : Ref sig .tc := ⟨.hbm, 103, rfl⟩
abbrev main_v81 : Ref sig .tc := ⟨.hbm, 104, rfl⟩
abbrev main_v82 : Ref sig .tc := ⟨.hbm, 105, rfl⟩
abbrev main_cst_15 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_c_16 : Ref sig .tc := ⟨.hbm, 111, rfl⟩
abbrev main_v87 : Ref sig .tc := ⟨.hbm, 112, rfl⟩
abbrev main_v88 : Ref sig .tc := ⟨.hbm, 113, rfl⟩
abbrev main_c_17 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_c_18 : Ref sig .tc := ⟨.hbm, 122, rfl⟩
abbrev main_v96 : Ref sig .tc := ⟨.hbm, 123, rfl⟩
abbrev main_v97 : Ref sig .tc := ⟨.hbm, 124, rfl⟩
abbrev main_c_19 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_c_20 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_c_21 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_c_22 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_c_23 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_cst_24 : Ref sig .tc := ⟨.hbm, 169, rfl⟩
abbrev main_call2_v0 : Ref sig .tc := ⟨.hbm, 170, rfl⟩
abbrev main_call2_v1 : Ref sig .tc := ⟨.hbm, 171, rfl⟩
abbrev main_call2_v2 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_cst_25 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩

abbrev nD : Nat := 1
abbrev τ : Topo := Topo.v7x

variable {F : FTy → Type} [FloatOps F]
-- ==== Proof.KernelLoops.lean ====
/-
  The loop over the two heads of a grid point (`k0_t1_loop`): one trip run at a symbolic head, and the loop's
  invariant.  The inner loop over the chunks of rows is gone through by its generated invariant.
-/
module

public import proofs.«01_k».proof.Proof.Gen.Kernel.Loops
public import proofs.«01_k».proof.Proof.Gen.Kernel.Frame

@[expose] public section

set_option maxRecDepth 16384
set_option maxHeartbeats 8000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

/-- What one trip over a head holds: the five buffers it reads at their contents, the four it writes at any. -/
abbrev Trip (c : Dev nD) (arg1 : Memref sig .tc .vmem S2x24x2x256 .f32) (arg2 : Memref sig .tc .vmem S2x6x4x256 .f32) (arg4 : Memref sig .tc .vmem S2x48x256 .bf16) (arg5 : Memref sig .tc .vmem S2x12x192x128 .i32) (arg6 : Memref sig .tc .vmem S2x192x128 .i32) (arg7 : Memref sig .tc .vmem S2x24x2x256 .f32) (arg8 : Memref sig .tc .vmem S2x6x4x256 .f32) (arg9 : Memref sig .tc .vmem S768x128 .f32) (arg10 : Memref sig .tc .vmem S192x128 .f32) (X1 : BufTy.Contents (Elt F) arg1.view.ty) (X2 : BufTy.Contents (Elt F) arg2.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) : sProp 𝕄G :=
  iprop((arg1.view.loc (c : Thread nD τ) ↦[arg1.view.set]{fullShare} X1) ∗ (arg2.view.loc (c : Thread nD τ) ↦[arg2.view.set]{fullShare} X2) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))

/-- The chunks' pieces tile the accumulator's scratch, so what is read back from it after the inner loop does not depend
    on what it held before. -/
theorem acc_read (𝒱 : Variants) (c : Dev nD) (bd : Option 𝒱.V) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole) (a b : BitVec 32) (k0 : Fin k0_t1_loop.trips) (n : BitVec 32) (v29 : Vec F S1x48x256 .bf16) (X5 : BufTy.Contents (Elt F) arg5.view.ty)
    (f : BufTy.Contents (Elt F) arg9.view.ty) (B : LoadRect S768x128) :
    arg9.view.readAt (Elt F) B (arg9.view.writes (Elt F) f (pb_k0_t2 (F := F) 𝒱 c bd i arg1 harg1 arg2 harg2 arg3 harg3 arg4 harg4 arg5 harg5 arg6 harg6 arg7 harg7 arg8 harg8 arg9 harg9 arg10 harg10 a b k0 n v29 X5 (Scf.trips k0_t2_loop.lb k0_t2_loop.ub k0_t2_loop.st))) = arg9.view.readCov (pb_k0_t2 (F := F) 𝒱 c bd i arg1 harg1 arg2 harg2 arg3 harg3 arg4 harg4 arg5 harg5 arg6 harg6 arg7 harg7 arg8 harg8 arg9 harg9 arg10 harg10 a b k0 n v29 X5 (Scf.trips k0_t2_loop.lb k0_t2_loop.ub k0_t2_loop.st)) B :=
  View.readAt_writes_of_cover _ f _ B (fun j => View.cover_of_tiledL (pb_k0_t2 (F := F) 𝒱 c bd i arg1 harg1 arg2 harg2 arg3 harg3 arg4 harg4 arg5 harg5 arg6 harg6 arg7 harg7 arg8 harg8 arg9 harg9 arg10 harg10 a b k0 n v29 X5 (Scf.trips k0_t2_loop.lb k0_t2_loop.ub k0_t2_loop.st)) S8x128.size (by sl_kernel_rfl) (B.idx j))

/-- ONE TRIP over a head, at a symbolic head `k`: the pieces it writes into each of the two results and the scratch of
    the dot products; the accumulator's scratch ends at some contents. -/
@[irreducible] def trip (𝒱 : Variants) (c : Dev nD) (bd : Option 𝒱.V) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole) (v19 : Vec F S1x256 .f32) (X1 : BufTy.Contents (Elt F) arg1.view.ty) (X2 : BufTy.Contents (Elt F) arg2.view.ty) (X4 : BufTy.Contents (Elt F) arg4.view.ty) (X5 : BufTy.Contents (Elt F) arg5.view.ty) (X6 : BufTy.Contents (Elt F) arg6.view.ty) (k : Fin k0_t1_loop.trips) :
    Σ' (L7 : List (View.Piece (Elt F) S2x24x2x256 .f32)), { L8 : List (View.Piece (Elt F) S2x6x4x256 .f32) // ∀ (E : Set ℕ) (f7 : BufTy.Contents (Elt F) arg7.view.ty) (f8 : BufTy.Contents (Elt F) arg8.view.ty) (f9 : BufTy.Contents (Elt F) arg9.view.ty) (f10 : BufTy.Contents (Elt F) arg10.view.ty),
      Trip (F := F) c arg1 arg2 arg4 arg5 arg6 arg7 arg8 arg9 arg10 X1 X2 X4 X5 X6 f7 f8 f9 f10
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 v19 k PUnit.unit)
          (fun _ => iprop(∃ g9 g10, Trip (F := F) c arg1 arg2 arg4 arg5 arg6 arg7 arg8 arg9 arg10 X1 X2 X4 X5 X6 (arg7.view.writes (Elt F) f7 L7) (arg8.view.writes (Elt F) f8 L8) g9 g10)) } := by
  have hk : k.val < 2 := Nat.lt_of_lt_of_le k.isLt k0_t1_abs.2.1
  refine ⟨?_, ?_, fun E f7 f8 f9 f10 => ?run⟩
  case run =>
    have hrd := acc_read (F := F)
    unfold k0_t1_body
    iintro ⟨HX1, HX2, HX4, HX5, HX6, HW7, HW8, HW9, HW10⟩
    sl_exec
    sl_step
    iexists _, _
    sl_close

/-- The pieces of the trips before `k` (last first), of the two results. -/
def pb (𝒱 : Variants) (c : Dev nD) (bd : Option 𝒱.V) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole) (v19 : Vec F S1x256 .f32) (X1 : BufTy.Contents (Elt F) arg1.view.ty) (X2 : BufTy.Contents (Elt F) arg2.view.ty) (X4 : BufTy.Contents (Elt F) arg4.view.ty) (X5 : BufTy.Contents (Elt F) arg5.view.ty) (X6 : BufTy.Contents (Elt F) arg6.view.ty) : ℕ → List (View.Piece (Elt F) S2x24x2x256 .f32) × List (View.Piece (Elt F) S2x6x4x256 .f32)
  | 0 => ([], [])
  | k + 1 => if h : k < k0_t1_loop.trips then
      ((trip (F := F) 𝒱 c bd i arg1 harg1 arg2 harg2 arg3 harg3 arg4 harg4 arg5 harg5 arg6 harg6 arg7 harg7 arg8 harg8 arg9 harg9 arg10 harg10 v19 X1 X2 X4 X5 X6 ⟨k, h⟩).1 ++ (pb 𝒱 c bd i arg1 harg1 arg2 harg2 arg3 harg3 arg4 harg4 arg5 harg5 arg6 harg6 arg7 harg7 arg8 harg8 arg9 harg9 arg10 harg10 v19 X1 X2 X4 X5 X6 k).1,
       (trip (F := F) 𝒱 c bd i arg1 harg1 arg2 harg2 arg3 harg3 arg4 harg4 arg5 harg5 arg6 harg6 arg7 harg7 arg8 harg8 arg9 harg9 arg10 harg10 v19 X1 X2 X4 X5 X6 ⟨k, h⟩).2.1 ++ (pb 𝒱 c bd i arg1 harg1 arg2 harg2 arg3 harg3 arg4 harg4 arg5 harg5 arg6 harg6 arg7 harg7 arg8 harg8 arg9 harg9 arg10 harg10 v19 X1 X2 X4 X5 X6 k).2)
    else pb 𝒱 c bd i arg1 harg1 arg2 harg2 arg3 harg3 arg4 harg4 arg5 harg5 arg6 harg6 arg7 harg7 arg8 harg8 arg9 harg9 arg10 harg10 v19 X1 X2 X4 X5 X6 k

theorem pb_succ (𝒱 : Variants) (c : Dev nD) (bd : Option 𝒱.V) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole) (v19 : Vec F S1x256 .f32) (X1 : BufTy.Contents (Elt F) arg1.view.ty) (X2 : BufTy.Contents (Elt F) arg2.view.ty) (X4 : BufTy.Contents (Elt F) arg4.view.ty) (X5 : BufTy.Contents (Elt F) arg5.view.ty) (X6 : BufTy.Contents (Elt F) arg6.view.ty) (k : Fin k0_t1_loop.trips) :
    pb (F := F) 𝒱 c bd i arg1 harg1 arg2 harg2 arg3 harg3 arg4 harg4 arg5 harg5 arg6 harg6 arg7 harg7 arg8 harg8 arg9 harg9 arg10 harg10 v19 X1 X2 X4 X5 X6 (k.val + 1)
      = ((trip (F := F) 𝒱 c bd i arg1 harg1 arg2 harg2 arg3 harg3 arg4 harg4 arg5 harg5 arg6 harg6 arg7 harg7 arg8 harg8 arg9 harg9 arg10 harg10 v19 X1 X2 X4 X5 X6 k).1 ++ (pb (F := F) 𝒱 c bd i arg1 harg1 arg2 harg2 arg3 harg3 arg4 harg4 arg5 harg5 arg6 harg6 arg7 harg7 arg8 harg8 arg9 harg9 arg10 harg10 v19 X1 X2 X4 X5 X6 k.val).1,
         (trip (F := F) 𝒱 c bd i arg1 harg1 arg2 harg2 arg3 harg3 arg4 harg4 arg5 harg5 arg6 harg6 arg7 harg7 arg8 harg8 arg9 harg9 arg10 harg10 v19 X1 X2 X4 X5 X6 k).2.1 ++ (pb (F := F) 𝒱 c bd i arg1 harg1 arg2 harg2 arg3 harg3 arg4 harg4 arg5 harg5 arg6 harg6 arg7 harg7 arg8 harg8 arg9 harg9 arg10 harg10 v19 X1 X2 X4 X5 X6 k.val).2) := by
  rw [pb.eq_2]; exact dif_pos k.isLt

/-- THE INVARIANT before trip `k`: the buffers read at their contents, the two results holding the pieces of the heads
    before `k` over what they held at the loop's entry, the two scratch buffers at some contents. -/
abbrev inv (𝒱 : Variants) (c : Dev nD) (bd : Option 𝒱.V) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole) (v19 : Vec F S1x256 .f32) (X1 : BufTy.Contents (Elt F) arg1.view.ty) (X2 : BufTy.Contents (Elt F) arg2.view.ty) (X4 : BufTy.Contents (Elt F) arg4.view.ty) (X5 : BufTy.Contents (Elt F) arg5.view.ty) (X6 : BufTy.Contents (Elt F) arg6.view.ty) (G7 : BufTy.Contents (Elt F) arg7.view.ty) (G8 : BufTy.Contents (Elt F) arg8.view.ty) (k : ℕ) (_u : Unit) : sProp 𝕄G :=
  iprop((arg1.view.loc (c : Thread nD τ) ↦[arg1.view.set]{fullShare} X1) ∗ (arg2.view.loc (c : Thread nD τ) ↦[arg2.view.set]{fullShare} X2) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
    ∗ (∃ f, (arg7.view.loc (c : Thread nD τ) ↦[arg7.view.set]{fullShare} f) ∗ ⌜f = arg7.view.writes (Elt F) G7 (pb (F := F) 𝒱 c bd i arg1 harg1 arg2 harg2 arg3 harg3 arg4 harg4 arg5 harg5 arg6 harg6 arg7 harg7 arg8 harg8 arg9 harg9 arg10 harg10 v19 X1 X2 X4 X5 X6 k).1⌝)
    ∗ (∃ f, (arg8.view.loc (c : Thread nD τ) ↦[arg8.view.set]{fullShare} f) ∗ ⌜f = arg8.view.writes (Elt F) G8 (pb (F := F) 𝒱 c bd i arg1 harg1 arg2 harg2 arg3 harg3 arg4 harg4 arg5 harg5 arg6 harg6 arg7 harg7 arg8 harg8 arg9 harg9 arg10 harg10 v19 X1 X2 X4 X5 X6 k).2⌝)
    ∗ (∃ f, (arg9.view.loc (c : Thread nD τ) ↦[arg9.view.set]{fullShare} f)) ∗ (∃ f, (arg10.view.loc (c : Thread nD τ) ↦[arg10.view.set]{fullShare} f)))

set_option warn.classDefReducibility false in
/-- THE LOOP OVER THE HEADS BY ITS INVARIANT. -/
@[sl_loop] def loopInv (𝒱 : Variants) (c : Dev nD) (bd : Option 𝒱.V) (E : Set ℕ) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole) (v19 : Vec F S1x256 .f32) (X1 : BufTy.Contents (Elt F) arg1.view.ty) (X2 : BufTy.Contents (Elt F) arg2.view.ty) (X4 : BufTy.Contents (Elt F) arg4.view.ty) (X5 : BufTy.Contents (Elt F) arg5.view.ty) (X6 : BufTy.Contents (Elt F) arg6.view.ty) (G7 : BufTy.Contents (Elt F) arg7.view.ty) (G8 : BufTy.Contents (Elt F) arg8.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 v19 where
  inv := inv (F := F) 𝒱 c bd i arg1 harg1 arg2 harg2 arg3 harg3 arg4 harg4 arg5 harg5 arg6 harg6 arg7 harg7 arg8 harg8 arg9 harg9 arg10 harg10 v19 X1 X2 X4 X5 X6 G7 G8
  step k acc := by
    iintro ⟨HX1, HX2, HX4, HX5, HX6, ⟨%f7, HW7, %h7⟩, ⟨%f8, HW8, %h8⟩, ⟨%f9, HW9⟩, ⟨%f10, HW10⟩⟩
    iapply (wp_wand_r Idealize.ShloMosaic.frame (wpE (defs₀ (F := F)) 𝒱 (c : Thread nD τ) bd) E)
    isplitl [HX1 HX2 HX4 HX5 HX6 HW7 HW8 HW9 HW10]
    · iapply ((trip (F := F) 𝒱 c bd i arg1 harg1 arg2 harg2 arg3 harg3 arg4 harg4 arg5 harg5 arg6 harg6 arg7 harg7 arg8 harg8 arg9 harg9 arg10 harg10 v19 X1 X2 X4 X5 X6 k).2.2 E f7 f8 f9 f10)
      isplitl [HX1]; · iexact HX1
      isplitl [HX2]; · iexact HX2
      isplitl [HX4]; · iexact HX4
      isplitl [HX5]; · iexact HX5
      isplitl [HX6]; · iexact HX6
      isplitl [HW7]; · iexact HW7
      isplitl [HW8]; · iexact HW8
      isplitl [HW9]; · iexact HW9
      iexact HW10
    · iintro %_ ⟨%g9, %g10, HX1, HX2, HX4, HX5, HX6, HW7, HW8, HW9, HW10⟩
      isplitl [HX1]; · iexact HX1
      isplitl [HX2]; · iexact HX2
      isplitl [HX4]; · iexact HX4
      isplitl [HX5]; · iexact HX5
      isplitl [HX6]; · iexact HX6
      isplitl [HW7]
      · rw [pb_succ]; iexists _; isplitl [HW7]; · iexact HW7
        ipureintro; rw [h7, ← View.writes_append]
      isplitl [HW8]
      · rw [pb_succ]; iexists _; isplitl [HW8]; · iexact HW8
        ipureintro; rw [h8, ← View.writes_append]
      isplitl [HW9]; · iexists _; iexact HW9
      iexists _; iexact HW10

end Cert.Kernel.Hand

end
-- ==== Proof.KernelFrame.lean ====
/-
  The kernel's run and its frame: the body of a grid point run through the loop over the heads, what it leaves in the
  two results, the pipeline's proof data, and the run of the whole program.  Stated for any float values.
-/
module

public import proofs.«01_k».proof.Proof.KernelLoops
public import Idealize.ShloMosaic.Lib.Claim
public import Idealize.ShloMosaic.Lib.Ring

@[expose] public section

set_option maxRecDepth 16384
set_option maxHeartbeats 8000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of output window 6, through which its contents are stated (`View.read_writes_of_cover`: the
    choice does not matter). -/
abbrev VO0_6 : View sig .tc .vmem S2x24x2x256 .f32 := (Memref.whole cc0_stg6_0 : Memref sig .tc .vmem S2x24x2x256 .f32).view
/-- One staging buffer of output window 7, through which its contents are stated (`View.read_writes_of_cover`: the
    choice does not matter). -/
abbrev VO0_7 : View sig .tc .vmem S2x6x4x256 .f32 := (Memref.whole cc0_stg7_0 : Memref sig .tc .vmem S2x6x4x256 .f32).view
/-- Each window's current staging memref at point `t`, spelled as the pipeline passes it (`bodyAt0`), and its wholeness. -/
abbrev ms0_0 (t : Fin cfg0.N) : Memref sig .tc .vmem S2x24x2x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x6x4x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x48x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x12x192x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x192x128 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x24x2x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x6x4x256 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S768x128 .f32 := Memref.whole cc0_scratch0
abbrev scM0_1 : Memref sig .tc .vmem S192x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option backward.proofsInPublic true in
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole)
    (x0 : Vec F S2x24x2x256 .f32) (x1 : Vec F S2x6x4x256 .f32) (x2 : Vec F S3x256 .f32) (x3 : Vec F S2x48x256 .bf16) (x4 : Vec F S2x12x192x128 .i32) (x5 : Vec F S2x192x128 .i32) :
    Σ' (L6 : List (View.Piece (Elt F) S2x24x2x256 .f32)), { L7 : List (View.Piece (Elt F) S2x6x4x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d) ∗ (∃ d, owns (c : Thread nD τ) arg10 fullShare d)) -∗ K ⟨⟩))
          ⊢ wp frame (wpE (defs₀ (F := F)) Variants.none c none) E (cc0_combine i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0_combine_eq_skeleton]; unfold cc0_combine_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]
    · iexists _, _; isplitr; swap; · iexact HS0
      ipureintro; rfl
    iexists _, _; isplitr; swap; · iexact HS1
    ipureintro; rfl

/-- The run's pieces for output 6 tile its block (16 stores of `S1x6x1x128`, checked by the kernel's evaluation: Lib/Ring.lean `Piece.tiledL`, linear in the pieces, through a loop's `@[irreducible]` trip theorem too), so they cover it. -/
theorem cover0_A_6 (c : Dev nD) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole)
    (x0 : Vec F S2x24x2x256 .f32) (x1 : Vec F S2x6x4x256 .f32) (x2 : Vec F S3x256 .f32) (x3 : Vec F S2x48x256 .bf16) (x4 : Vec F S2x12x192x128 .i32) (x5 : Vec F S2x192x128 .i32) (y : S2x24x2x256.Idx) :
    ∃ pc ∈ (kernelRun0_A c i arg1 harg1 arg2 harg2 arg3 harg3 arg4 harg4 arg5 harg5 arg6 harg6 arg7 harg7 arg8 harg8 arg9 harg9 arg10 harg10 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4 x5).1 S1x6x1x128.size (by sl_kernel_rfl) y

/-- What the run leaves in output 6's staging buffer: its pieces read back over junk. -/
def out0_A_6 (c : Dev nD) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole)
    (x0 : Vec F S2x24x2x256 .f32) (x1 : Vec F S2x6x4x256 .f32) (x2 : Vec F S3x256 .f32) (x3 : Vec F S2x48x256 .bf16) (x4 : Vec F S2x12x192x128 .i32) (x5 : Vec F S2x192x128 .i32) : Vec F S2x24x2x256 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 x0 x1 x2 x3 x4 x5).1)

/-- The run's pieces for output 7 tile its block (8 stores of `S1x6x1x128`, checked by the kernel's evaluation: Lib/Ring.lean `Piece.tiledL`, linear in the pieces, through a loop's `@[irreducible]` trip theorem too), so they cover it. -/
theorem cover0_A_7 (c : Dev nD) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole)
    (x0 : Vec F S2x24x2x256 .f32) (x1 : Vec F S2x6x4x256 .f32) (x2 : Vec F S3x256 .f32) (x3 : Vec F S2x48x256 .bf16) (x4 : Vec F S2x12x192x128 .i32) (x5 : Vec F S2x192x128 .i32) (y : S2x6x4x256.Idx) :
    ∃ pc ∈ (kernelRun0_A c i arg1 harg1 arg2 harg2 arg3 harg3 arg4 harg4 arg5 harg5 arg6 harg6 arg7 harg7 arg8 harg8 arg9 harg9 arg10 harg10 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4 x5).2.1 S1x6x1x128.size (by sl_kernel_rfl) y

/-- What the run leaves in output 7's staging buffer: its pieces read back over junk. -/
def out0_A_7 (c : Dev nD) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole)
    (x0 : Vec F S2x24x2x256 .f32) (x1 : Vec F S2x6x4x256 .f32) (x2 : Vec F S3x256 .f32) (x3 : Vec F S2x48x256 .bf16) (x4 : Vec F S2x12x192x128 .i32) (x5 : Vec F S2x192x128 .i32) : Vec F S2x6x4x256 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 x0 x1 x2 x3 x4 x5).2.1)

/-! ## What the outputs hold after each point -/

/-- What the outputs' staging buffers hold after the body at point `t` (as a tuple, in window order): the run's contents at
    the point's memrefs and input blocks. -/
def outsAt0 (c : Dev nD) (t : Fin cfg0.N) : Vec F S2x24x2x256 .f32 × Vec F S2x6x4x256 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t).1
    | ⟨7, _⟩ => (outsAt0 m c t).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t).1 := by dsimp only [dats]
theorem after0_7 (c : Dev nD) (t : Fin cfg0.N) : (dats m 0 c).after 7 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0
  unfold out0_A_6 out0_A_7; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t) (iblk m c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  iintro ⟨H0, H1, H2, H3, H4, H5, ⟨%e6, H6⟩, ⟨%e7, H7⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _ _)
  unfold owns; iexists _; isplitr
  swap; · iexact H7
  ipureintro; exact View.read_writes_of_cover _ _ _ _ _ (cover0_A_7 c _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Hand

end
-- ==== Proof.KernelIdealLoops.lean ====
/-
  The loop over the two heads of a grid point (`k0_t1_loop`): one trip run at a symbolic head, and the loop's
  invariant.  The inner loop over the chunks of rows is gone through by its generated invariant.
-/
module

public import proofs.«01_k».proof.Proof.Gen.KernelIdeal.Loops
public import proofs.«01_k».proof.Proof.Gen.KernelIdeal.Frame

@[expose] public section

set_option maxRecDepth 16384
set_option maxHeartbeats 8000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

/-- What one trip over a head holds: the five buffers it reads at their contents, the four it writes at any. -/
abbrev Trip (c : Dev nD) (arg1 : Memref sig .tc .vmem S2x24x2x256 .f32) (arg2 : Memref sig .tc .vmem S2x6x4x256 .f32) (arg4 : Memref sig .tc .vmem S2x48x256 .bf16) (arg5 : Memref sig .tc .vmem S2x12x192x128 .i32) (arg6 : Memref sig .tc .vmem S2x192x128 .i32) (arg7 : Memref sig .tc .vmem S2x24x2x256 .f32) (arg8 : Memref sig .tc .vmem S2x6x4x256 .f32) (arg9 : Memref sig .tc .vmem S768x128 .f32) (arg10 : Memref sig .tc .vmem S192x128 .f32) (X1 : BufTy.Contents (Elt F) arg1.view.ty) (X2 : BufTy.Contents (Elt F) arg2.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) : sProp 𝕄G :=
  iprop((arg1.view.loc (c : Thread nD τ) ↦[arg1.view.set]{fullShare} X1) ∗ (arg2.view.loc (c : Thread nD τ) ↦[arg2.view.set]{fullShare} X2) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))

/-- The chunks' pieces tile the accumulator's scratch, so what is read back from it after the inner loop does not depend
    on what it held before. -/
theorem acc_read (𝒱 : Variants) (c : Dev nD) (bd : Option 𝒱.V) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole) (a b : BitVec 32) (k0 : Fin k0_t1_loop.trips) (n : BitVec 32) (v29 : Vec F S1x48x256 .bf16) (X5 : BufTy.Contents (Elt F) arg5.view.ty)
    (f : BufTy.Contents (Elt F) arg9.view.ty) (B : LoadRect S768x128) :
    arg9.view.readAt (Elt F) B (arg9.view.writes (Elt F) f (pb_k0_t2 (F := F) 𝒱 c bd i arg1 harg1 arg2 harg2 arg3 harg3 arg4 harg4 arg5 harg5 arg6 harg6 arg7 harg7 arg8 harg8 arg9 harg9 arg10 harg10 a b k0 n v29 X5 (Scf.trips k0_t2_loop.lb k0_t2_loop.ub k0_t2_loop.st))) = arg9.view.readCov (pb_k0_t2 (F := F) 𝒱 c bd i arg1 harg1 arg2 harg2 arg3 harg3 arg4 harg4 arg5 harg5 arg6 harg6 arg7 harg7 arg8 harg8 arg9 harg9 arg10 harg10 a b k0 n v29 X5 (Scf.trips k0_t2_loop.lb k0_t2_loop.ub k0_t2_loop.st)) B :=
  View.readAt_writes_of_cover _ f _ B (fun j => View.cover_of_tiledL (pb_k0_t2 (F := F) 𝒱 c bd i arg1 harg1 arg2 harg2 arg3 harg3 arg4 harg4 arg5 harg5 arg6 harg6 arg7 harg7 arg8 harg8 arg9 harg9 arg10 harg10 a b k0 n v29 X5 (Scf.trips k0_t2_loop.lb k0_t2_loop.ub k0_t2_loop.st)) S8x128.size (by sl_kernel_rfl) (B.idx j))

/-- ONE TRIP over a head, at a symbolic head `k`: the pieces it writes into each of the two results and the scratch of
    the dot products; the accumulator's scratch ends at some contents. -/
@[irreducible] def trip (𝒱 : Variants) (c : Dev nD) (bd : Option 𝒱.V) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole) (v19 : Vec F S1x256 .f32) (X1 : BufTy.Contents (Elt F) arg1.view.ty) (X2 : BufTy.Contents (Elt F) arg2.view.ty) (X4 : BufTy.Contents (Elt F) arg4.view.ty) (X5 : BufTy.Contents (Elt F) arg5.view.ty) (X6 : BufTy.Contents (Elt F) arg6.view.ty) (k : Fin k0_t1_loop.trips) :
    Σ' (L7 : List (View.Piece (Elt F) S2x24x2x256 .f32)), { L8 : List (View.Piece (Elt F) S2x6x4x256 .f32) // ∀ (E : Set ℕ) (f7 : BufTy.Contents (Elt F) arg7.view.ty) (f8 : BufTy.Contents (Elt F) arg8.view.ty) (f9 : BufTy.Contents (Elt F) arg9.view.ty) (f10 : BufTy.Contents (Elt F) arg10.view.ty),
      Trip (F := F) c arg1 arg2 arg4 arg5 arg6 arg7 arg8 arg9 arg10 X1 X2 X4 X5 X6 f7 f8 f9 f10
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 v19 k PUnit.unit)
          (fun _ => iprop(∃ g9 g10, Trip (F := F) c arg1 arg2 arg4 arg5 arg6 arg7 arg8 arg9 arg10 X1 X2 X4 X5 X6 (arg7.view.writes (Elt F) f7 L7) (arg8.view.writes (Elt F) f8 L8) g9 g10)) } := by
  have hk : k.val < 2 := Nat.lt_of_lt_of_le k.isLt k0_t1_abs.2.1
  refine ⟨?_, ?_, fun E f7 f8 f9 f10 => ?run⟩
  case run =>
    have hrd := acc_read (F := F)
    unfold k0_t1_body
    iintro ⟨HX1, HX2, HX4, HX5, HX6, HW7, HW8, HW9, HW10⟩
    sl_exec
    sl_step
    iexists _, _
    sl_close

/-- The pieces of the trips before `k` (last first), of the two results. -/
def pb (𝒱 : Variants) (c : Dev nD) (bd : Option 𝒱.V) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole) (v19 : Vec F S1x256 .f32) (X1 : BufTy.Contents (Elt F) arg1.view.ty) (X2 : BufTy.Contents (Elt F) arg2.view.ty) (X4 : BufTy.Contents (Elt F) arg4.view.ty) (X5 : BufTy.Contents (Elt F) arg5.view.ty) (X6 : BufTy.Contents (Elt F) arg6.view.ty) : ℕ → List (View.Piece (Elt F) S2x24x2x256 .f32) × List (View.Piece (Elt F) S2x6x4x256 .f32)
  | 0 => ([], [])
  | k + 1 => if h : k < k0_t1_loop.trips then
      ((trip (F := F) 𝒱 c bd i arg1 harg1 arg2 harg2 arg3 harg3 arg4 harg4 arg5 harg5 arg6 harg6 arg7 harg7 arg8 harg8 arg9 harg9 arg10 harg10 v19 X1 X2 X4 X5 X6 ⟨k, h⟩).1 ++ (pb 𝒱 c bd i arg1 harg1 arg2 harg2 arg3 harg3 arg4 harg4 arg5 harg5 arg6 harg6 arg7 harg7 arg8 harg8 arg9 harg9 arg10 harg10 v19 X1 X2 X4 X5 X6 k).1,
       (trip (F := F) 𝒱 c bd i arg1 harg1 arg2 harg2 arg3 harg3 arg4 harg4 arg5 harg5 arg6 harg6 arg7 harg7 arg8 harg8 arg9 harg9 arg10 harg10 v19 X1 X2 X4 X5 X6 ⟨k, h⟩).2.1 ++ (pb 𝒱 c bd i arg1 harg1 arg2 harg2 arg3 harg3 arg4 harg4 arg5 harg5 arg6 harg6 arg7 harg7 arg8 harg8 arg9 harg9 arg10 harg10 v19 X1 X2 X4 X5 X6 k).2)
    else pb 𝒱 c bd i arg1 harg1 arg2 harg2 arg3 harg3 arg4 harg4 arg5 harg5 arg6 harg6 arg7 harg7 arg8 harg8 arg9 harg9 arg10 harg10 v19 X1 X2 X4 X5 X6 k

theorem pb_succ (𝒱 : Variants) (c : Dev nD) (bd : Option 𝒱.V) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole) (v19 : Vec F S1x256 .f32) (X1 : BufTy.Contents (Elt F) arg1.view.ty) (X2 : BufTy.Contents (Elt F) arg2.view.ty) (X4 : BufTy.Contents (Elt F) arg4.view.ty) (X5 : BufTy.Contents (Elt F) arg5.view.ty) (X6 : BufTy.Contents (Elt F) arg6.view.ty) (k : Fin k0_t1_loop.trips) :
    pb (F := F) 𝒱 c bd i arg1 harg1 arg2 harg2 arg3 harg3 arg4 harg4 arg5 harg5 arg6 harg6 arg7 harg7 arg8 harg8 arg9 harg9 arg10 harg10 v19 X1 X2 X4 X5 X6 (k.val + 1)
      = ((trip (F := F) 𝒱 c bd i arg1 harg1 arg2 harg2 arg3 harg3 arg4 harg4 arg5 harg5 arg6 harg6 arg7 harg7 arg8 harg8 arg9 harg9 arg10 harg10 v19 X1 X2 X4 X5 X6 k).1 ++ (pb (F := F) 𝒱 c bd i arg1 harg1 arg2 harg2 arg3 harg3 arg4 harg4 arg5 harg5 arg6 harg6 arg7 harg7 arg8 harg8 arg9 harg9 arg10 harg10 v19 X1 X2 X4 X5 X6 k.val).1,
         (trip (F := F) 𝒱 c bd i arg1 harg1 arg2 harg2 arg3 harg3 arg4 harg4 arg5 harg5 arg6 harg6 arg7 harg7 arg8 harg8 arg9 harg9 arg10 harg10 v19 X1 X2 X4 X5 X6 k).2.1 ++ (pb (F := F) 𝒱 c bd i arg1 harg1 arg2 harg2 arg3 harg3 arg4 harg4 arg5 harg5 arg6 harg6 arg7 harg7 arg8 harg8 arg9 harg9 arg10 harg10 v19 X1 X2 X4 X5 X6 k.val).2) := by
  rw [pb.eq_2]; exact dif_pos k.isLt

/-- THE INVARIANT before trip `k`: the buffers read at their contents, the two results holding the pieces of the heads
    before `k` over what they held at the loop's entry, the two scratch buffers at some contents. -/
abbrev inv (𝒱 : Variants) (c : Dev nD) (bd : Option 𝒱.V) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole) (v19 : Vec F S1x256 .f32) (X1 : BufTy.Contents (Elt F) arg1.view.ty) (X2 : BufTy.Contents (Elt F) arg2.view.ty) (X4 : BufTy.Contents (Elt F) arg4.view.ty) (X5 : BufTy.Contents (Elt F) arg5.view.ty) (X6 : BufTy.Contents (Elt F) arg6.view.ty) (G7 : BufTy.Contents (Elt F) arg7.view.ty) (G8 : BufTy.Contents (Elt F) arg8.view.ty) (k : ℕ) (_u : Unit) : sProp 𝕄G :=
  iprop((arg1.view.loc (c : Thread nD τ) ↦[arg1.view.set]{fullShare} X1) ∗ (arg2.view.loc (c : Thread nD τ) ↦[arg2.view.set]{fullShare} X2) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
    ∗ (∃ f, (arg7.view.loc (c : Thread nD τ) ↦[arg7.view.set]{fullShare} f) ∗ ⌜f = arg7.view.writes (Elt F) G7 (pb (F := F) 𝒱 c bd i arg1 harg1 arg2 harg2 arg3 harg3 arg4 harg4 arg5 harg5 arg6 harg6 arg7 harg7 arg8 harg8 arg9 harg9 arg10 harg10 v19 X1 X2 X4 X5 X6 k).1⌝)
    ∗ (∃ f, (arg8.view.loc (c : Thread nD τ) ↦[arg8.view.set]{fullShare} f) ∗ ⌜f = arg8.view.writes (Elt F) G8 (pb (F := F) 𝒱 c bd i arg1 harg1 arg2 harg2 arg3 harg3 arg4 harg4 arg5 harg5 arg6 harg6 arg7 harg7 arg8 harg8 arg9 harg9 arg10 harg10 v19 X1 X2 X4 X5 X6 k).2⌝)
    ∗ (∃ f, (arg9.view.loc (c : Thread nD τ) ↦[arg9.view.set]{fullShare} f)) ∗ (∃ f, (arg10.view.loc (c : Thread nD τ) ↦[arg10.view.set]{fullShare} f)))

set_option warn.classDefReducibility false in
/-- THE LOOP OVER THE HEADS BY ITS INVARIANT. -/
@[sl_loop] def loopInv (𝒱 : Variants) (c : Dev nD) (bd : Option 𝒱.V) (E : Set ℕ) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole) (v19 : Vec F S1x256 .f32) (X1 : BufTy.Contents (Elt F) arg1.view.ty) (X2 : BufTy.Contents (Elt F) arg2.view.ty) (X4 : BufTy.Contents (Elt F) arg4.view.ty) (X5 : BufTy.Contents (Elt F) arg5.view.ty) (X6 : BufTy.Contents (Elt F) arg6.view.ty) (G7 : BufTy.Contents (Elt F) arg7.view.ty) (G8 : BufTy.Contents (Elt F) arg8.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 v19 where
  inv := inv (F := F) 𝒱 c bd i arg1 harg1 arg2 harg2 arg3 harg3 arg4 harg4 arg5 harg5 arg6 harg6 arg7 harg7 arg8 harg8 arg9 harg9 arg10 harg10 v19 X1 X2 X4 X5 X6 G7 G8
  step k acc := by
    iintro ⟨HX1, HX2, HX4, HX5, HX6, ⟨%f7, HW7, %h7⟩, ⟨%f8, HW8, %h8⟩, ⟨%f9, HW9⟩, ⟨%f10, HW10⟩⟩
    iapply (wp_wand_r Idealize.ShloMosaic.frame (wpE (defs₀ (F := F)) 𝒱 (c : Thread nD τ) bd) E)
    isplitl [HX1 HX2 HX4 HX5 HX6 HW7 HW8 HW9 HW10]
    · iapply ((trip (F := F) 𝒱 c bd i arg1 harg1 arg2 harg2 arg3 harg3 arg4 harg4 arg5 harg5 arg6 harg6 arg7 harg7 arg8 harg8 arg9 harg9 arg10 harg10 v19 X1 X2 X4 X5 X6 k).2.2 E f7 f8 f9 f10)
      isplitl [HX1]; · iexact HX1
      isplitl [HX2]; · iexact HX2
      isplitl [HX4]; · iexact HX4
      isplitl [HX5]; · iexact HX5
      isplitl [HX6]; · iexact HX6
      isplitl [HW7]; · iexact HW7
      isplitl [HW8]; · iexact HW8
      isplitl [HW9]; · iexact HW9
      iexact HW10
    · iintro %_ ⟨%g9, %g10, HX1, HX2, HX4, HX5, HX6, HW7, HW8, HW9, HW10⟩
      isplitl [HX1]; · iexact HX1
      isplitl [HX2]; · iexact HX2
      isplitl [HX4]; · iexact HX4
      isplitl [HX5]; · iexact HX5
      isplitl [HX6]; · iexact HX6
      isplitl [HW7]
      · rw [pb_succ]; iexists _; isplitl [HW7]; · iexact HW7
        ipureintro; rw [h7, ← View.writes_append]
      isplitl [HW8]
      · rw [pb_succ]; iexists _; isplitl [HW8]; · iexact HW8
        ipureintro; rw [h8, ← View.writes_append]
      isplitl [HW9]; · iexists _; iexact HW9
      iexists _; iexact HW10

end Cert.KernelIdeal.Hand

end
-- ==== Proof.KernelIdealFrame.lean ====
/-
  The kernel's run and its frame: the body of a grid point run through the loop over the heads, what it leaves in the
  two results, the pipeline's proof data, and the run of the whole program.  Stated for any float values.
-/
module

public import proofs.«01_k».proof.Proof.KernelIdealLoops
public import Idealize.ShloMosaic.Lib.Claim
public import Idealize.ShloMosaic.Lib.Ring

@[expose] public section

set_option maxRecDepth 16384
set_option maxHeartbeats 8000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of output window 6, through which its contents are stated (`View.read_writes_of_cover`: the
    choice does not matter). -/
abbrev VO0_6 : View sig .tc .vmem S2x24x2x256 .f32 := (Memref.whole cc0_stg6_0 : Memref sig .tc .vmem S2x24x2x256 .f32).view
/-- One staging buffer of output window 7, through which its contents are stated (`View.read_writes_of_cover`: the
    choice does not matter). -/
abbrev VO0_7 : View sig .tc .vmem S2x6x4x256 .f32 := (Memref.whole cc0_stg7_0 : Memref sig .tc .vmem S2x6x4x256 .f32).view
/-- Each window's current staging memref at point `t`, spelled as the pipeline passes it (`bodyAt0`), and its wholeness. -/
abbrev ms0_0 (t : Fin cfg0.N) : Memref sig .tc .vmem S2x24x2x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x6x4x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x48x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x12x192x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x192x128 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x24x2x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x6x4x256 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S768x128 .f32 := Memref.whole cc0_scratch0
abbrev scM0_1 : Memref sig .tc .vmem S192x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option backward.proofsInPublic true in
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole)
    (x0 : Vec F S2x24x2x256 .f32) (x1 : Vec F S2x6x4x256 .f32) (x2 : Vec F S3x256 .f32) (x3 : Vec F S2x48x256 .bf16) (x4 : Vec F S2x12x192x128 .i32) (x5 : Vec F S2x192x128 .i32) :
    Σ' (L6 : List (View.Piece (Elt F) S2x24x2x256 .f32)), { L7 : List (View.Piece (Elt F) S2x6x4x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d) ∗ (∃ d, owns (c : Thread nD τ) arg10 fullShare d)) -∗ K ⟨⟩))
          ⊢ wp frame (wpE (defs₀ (F := F)) Variants.none c none) E (cc0_combine i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0_combine_eq_skeleton]; unfold cc0_combine_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]
    · iexists _, _; isplitr; swap; · iexact HS0
      ipureintro; rfl
    iexists _, _; isplitr; swap; · iexact HS1
    ipureintro; rfl

/-- The run's pieces for output 6 tile its block (16 stores of `S1x6x1x128`, checked by the kernel's evaluation: Lib/Ring.lean `Piece.tiledL`, linear in the pieces, through a loop's `@[irreducible]` trip theorem too), so they cover it. -/
theorem cover0_A_6 (c : Dev nD) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole)
    (x0 : Vec F S2x24x2x256 .f32) (x1 : Vec F S2x6x4x256 .f32) (x2 : Vec F S3x256 .f32) (x3 : Vec F S2x48x256 .bf16) (x4 : Vec F S2x12x192x128 .i32) (x5 : Vec F S2x192x128 .i32) (y : S2x24x2x256.Idx) :
    ∃ pc ∈ (kernelRun0_A c i arg1 harg1 arg2 harg2 arg3 harg3 arg4 harg4 arg5 harg5 arg6 harg6 arg7 harg7 arg8 harg8 arg9 harg9 arg10 harg10 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4 x5).1 S1x6x1x128.size (by sl_kernel_rfl) y

/-- What the run leaves in output 6's staging buffer: its pieces read back over junk. -/
def out0_A_6 (c : Dev nD) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole)
    (x0 : Vec F S2x24x2x256 .f32) (x1 : Vec F S2x6x4x256 .f32) (x2 : Vec F S3x256 .f32) (x3 : Vec F S2x48x256 .bf16) (x4 : Vec F S2x12x192x128 .i32) (x5 : Vec F S2x192x128 .i32) : Vec F S2x24x2x256 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 x0 x1 x2 x3 x4 x5).1)

/-- The run's pieces for output 7 tile its block (8 stores of `S1x6x1x128`, checked by the kernel's evaluation: Lib/Ring.lean `Piece.tiledL`, linear in the pieces, through a loop's `@[irreducible]` trip theorem too), so they cover it. -/
theorem cover0_A_7 (c : Dev nD) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole)
    (x0 : Vec F S2x24x2x256 .f32) (x1 : Vec F S2x6x4x256 .f32) (x2 : Vec F S3x256 .f32) (x3 : Vec F S2x48x256 .bf16) (x4 : Vec F S2x12x192x128 .i32) (x5 : Vec F S2x192x128 .i32) (y : S2x6x4x256.Idx) :
    ∃ pc ∈ (kernelRun0_A c i arg1 harg1 arg2 harg2 arg3 harg3 arg4 harg4 arg5 harg5 arg6 harg6 arg7 harg7 arg8 harg8 arg9 harg9 arg10 harg10 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4 x5).2.1 S1x6x1x128.size (by sl_kernel_rfl) y

/-- What the run leaves in output 7's staging buffer: its pieces read back over junk. -/
def out0_A_7 (c : Dev nD) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole)
    (x0 : Vec F S2x24x2x256 .f32) (x1 : Vec F S2x6x4x256 .f32) (x2 : Vec F S3x256 .f32) (x3 : Vec F S2x48x256 .bf16) (x4 : Vec F S2x12x192x128 .i32) (x5 : Vec F S2x192x128 .i32) : Vec F S2x6x4x256 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 x0 x1 x2 x3 x4 x5).2.1)

/-! ## What the outputs hold after each point -/

/-- What the outputs' staging buffers hold after the body at point `t` (as a tuple, in window order): the run's contents at
    the point's memrefs and input blocks. -/
def outsAt0 (c : Dev nD) (t : Fin cfg0.N) : Vec F S2x24x2x256 .f32 × Vec F S2x6x4x256 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t).1
    | ⟨7, _⟩ => (outsAt0 m c t).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t).1 := by dsimp only [dats]
theorem after0_7 (c : Dev nD) (t : Fin cfg0.N) : (dats m 0 c).after 7 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0
  unfold out0_A_6 out0_A_7; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t) (iblk m c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  iintro ⟨H0, H1, H2, H3, H4, H5, ⟨%e6, H6⟩, ⟨%e7, H7⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _ _)
  unfold owns; iexists _; isplitr
  swap; · iexact H7
  ipureintro; exact View.read_writes_of_cover _ _ _ _ _ (cover0_A_7 c _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Hand

end
-- ==== Proof.RefStagesA.lean ====
/-
  The reference, one operation at a time. `val_main_v‹n›` is the value of the operation that writes `main_v‹n›`, as a
  function of the arguments; `val_main_v‹n›_apply` reads it at an index. First half.
-/
module

public import proofs.«01_k».proof.Proof.Gen.ReferenceIdeal
public import Idealize.ShloMosaic.Lib.StableHlo.Run
public import Idealize.ShloMosaic.Lib.StableHlo.RunRead
public import Idealize.ShloMosaic.Lib.Pipeline.Value
public import Idealize.ShloMosaic.Lib.ValueIdx
public import Idealize.ShloMosaic.PureOps.Ideal.Laws

@[expose] public section

set_option maxRecDepth 16384

noncomputable section

namespace Cert.ReferenceIdeal.Stage

open Cert.ReferenceIdeal Cert.ReferenceIdeal.Gen Idealize.ShloMosaic Idealize.ShloMosaic.TcCoe Idealize.SL.Sem Idealize.ShloMosaic.StableHlo

/-- The arrays of a shape and an element type. -/
abbrev Arr (F : FTy → Type) (s : Shape) (e : EltTy) := (⟨s, e⟩ : BufTy).Contents (Elt F)

variable {F : FTy → Type} [FloatOps F]
variable (x0 : Arr F S3x256x8x4x6x2 .f32) (x1 : Arr F S3x256x8x4x6 .f32) (x2 : Arr F S3x256 .f32) (x3 : Arr F S24x48x256 .bf16) (x4 : Arr F S7077888 .i32) (x5 : Arr F S589824 .i32)

/-- The index of these coordinates. -/
@[reducible] def mkS24x48x16x2x6x128 (i0 : Fin 24) (i1 : Fin 48) (i2 : Fin 16) (i3 : Fin 2) (i4 : Fin 6) (i5 : Fin 128) : S24x48x16x2x6x128.Idx
  | ⟨0, _⟩ => i0
  | ⟨1, _⟩ => i1
  | ⟨2, _⟩ => i2
  | ⟨3, _⟩ => i3
  | ⟨4, _⟩ => i4
  | ⟨5, _⟩ => i5

/-- The index of these coordinates. -/
@[reducible] def mkS24x4x4x6x256x1 (i0 : Fin 24) (i1 : Fin 4) (i2 : Fin 4) (i3 : Fin 6) (i4 : Fin 256) (i5 : Fin 1) : S24x4x4x6x256x1.Idx
  | ⟨0, _⟩ => i0
  | ⟨1, _⟩ => i1
  | ⟨2, _⟩ => i2
  | ⟨3, _⟩ => i3
  | ⟨4, _⟩ => i4
  | ⟨5, _⟩ => i5

/-- The index of these coordinates. -/
@[reducible] def mkS24x4x4x6x256x48 (i0 : Fin 24) (i1 : Fin 4) (i2 : Fin 4) (i3 : Fin 6) (i4 : Fin 256) (i5 : Fin 48) : S24x4x4x6x256x48.Idx
  | ⟨0, _⟩ => i0
  | ⟨1, _⟩ => i1
  | ⟨2, _⟩ => i2
  | ⟨3, _⟩ => i3
  | ⟨4, _⟩ => i4
  | ⟨5, _⟩ => i5

/-- The index of these coordinates. -/
@[reducible] def mkS3x256x8x4x6x2 (i0 : Fin 3) (i1 : Fin 256) (i2 : Fin 8) (i3 : Fin 4) (i4 : Fin 6) (i5 : Fin 2) : S3x256x8x4x6x2.Idx
  | ⟨0, _⟩ => i0
  | ⟨1, _⟩ => i1
  | ⟨2, _⟩ => i2
  | ⟨3, _⟩ => i3
  | ⟨4, _⟩ => i4
  | ⟨5, _⟩ => i5

-- %0 = stablehlo.convert %arg3 : (tensor<24x48x256xbf16>) -> tensor<24x48x256xf32>
def val_main_v0 : Arr F S24x48x256 .f32 :=
  extf .f32 (x3) bitsLt_bf16_f32
theorem val_main_v0_apply (i : S24x48x256.Idx) :
    val_main_v0 (F := F) x3 i = FloatOps.extf .f32 bitsLt_bf16_f32 (x3 i) := rfl

-- %1 = stablehlo.broadcast_in_dim %arg2, dims = [0, 2] : (tensor<3x256xf32>) -> tensor<3x8x256xf32>
def val_main_v1 : Arr F S3x8x256 .f32 :=
  broadcastInDim S3x8x256 ![0, 2] bcast_S3x256_S3x8x256_0_2 (x2)
abbrev idx_main_v1 (i : S3x8x256.Idx) : S3x256.Idx := fun a => match a with
  | ⟨0, _⟩ => ⟨(i 0).val, (i 0).isLt⟩
  | ⟨1, _⟩ => ⟨(i 2).val, (i 2).isLt⟩
theorem val_main_v1_apply (i : S3x8x256.Idx) :
    val_main_v1 (F := F) x2 i = x2 (idx_main_v1 i) := by
  unfold val_main_v1
  exact broadcastInDim_apply _ bcast_S3x256_S3x8x256_0_2 x2 i (idx_main_v1 i) (fun a => match a with
    | ⟨0, _⟩ => rfl
    | ⟨1, _⟩ => rfl)

-- %2 = stablehlo.reshape %1 : (tensor<3x8x256xf32>) -> tensor<24x256xf32>
def val_main_v2 : Arr F S24x256 .f32 :=
  shapeCast _ (val_main_v1 (F := F) x2) shapeCasts_S3x8x256_S24x256
set_option backward.proofsInPublic true in
abbrev idx_main_v2 (i : S24x256.Idx) : S3x8x256.Idx := fun a => match a with
  | ⟨0, _⟩ => ⟨((i 0).val * 256 + (i 1).val) / 2048, by have h0 : (i 0).val < 24 := (i 0).isLt; have h1 : (i 1).val < 256 := (i 1).isLt; show ((i 0).val * 256 + (i 1).val) / 2048 < 3; omega⟩
  | ⟨1, _⟩ => ⟨((i 0).val * 256 + (i 1).val) / 256 % 8, by have h0 : (i 0).val < 24 := (i 0).isLt; have h1 : (i 1).val < 256 := (i 1).isLt; show ((i 0).val * 256 + (i 1).val) / 256 % 8 < 8; omega⟩
  | ⟨2, _⟩ => ⟨((i 0).val * 256 + (i 1).val) % 256, by have h0 : (i 0).val < 24 := (i 0).isLt; have h1 : (i 1).val < 256 := (i 1).isLt; show ((i 0).val * 256 + (i 1).val) % 256 < 256; omega⟩
theorem val_main_v2_apply (i : S24x256.Idx) :
    val_main_v2 (F := F) x2 i = val_main_v1 (F := F) x2 (idx_main_v2 i) := by
  unfold val_main_v2
  generalize val_main_v1 (F := F) x2 = y
  exact shapeCast_apply y shapeCasts_S3x8x256_S24x256 i (idx_main_v2 i)
    (by rewrite [Shape.rowMajor_val_three, Shape.rowMajor_val_two]; have h0 : (i 0).val < 24 := (i 0).isLt; have h1 : (i 1).val < 256 := (i 1).isLt; show (((i 0).val * 256 + (i 1).val) / 2048 * 8 + ((i 0).val * 256 + (i 1).val) / 256 % 8) * 256 + ((i 0).val * 256 + (i 1).val) % 256 = (i 0).val * 256 + (i 1).val; omega)

-- %3 = stablehlo.broadcast_in_dim %2, dims = [0, 2] : (tensor<24x256xf32>) -> tensor<24x1x256xf32>
def val_main_v3 : Arr F S24x1x256 .f32 :=
  broadcastInDim S24x1x256 ![0, 2] bcast_S24x256_S24x1x256_0_2 (val_main_v2 (F := F) x2)
abbrev idx_main_v3 (i : S24x1x256.Idx) : S24x256.Idx := fun a => match a with
  | ⟨0, _⟩ => ⟨(i 0).val, (i 0).isLt⟩
  | ⟨1, _⟩ => ⟨(i 2).val, (i 2).isLt⟩
theorem val_main_v3_apply (i : S24x1x256.Idx) :
    val_main_v3 (F := F) x2 i = val_main_v2 (F := F) x2 (idx_main_v3 i) := by
  unfold val_main_v3
  generalize val_main_v2 (F := F) x2 = y
  exact broadcastInDim_apply _ bcast_S24x256_S24x1x256_0_2 y i (idx_main_v3 i) (fun a => match a with
    | ⟨0, _⟩ => rfl
    | ⟨1, _⟩ => rfl)

-- %4 = stablehlo.broadcast_in_dim %3, dims = [0, 1, 2] : (tensor<24x1x256xf32>) -> tensor<24x48x256xf32>
def val_main_v4 : Arr F S24x48x256 .f32 :=
  broadcastInDim S24x48x256 ![0, 1, 2] bcast_S24x1x256_S24x48x256_0_1_2 (val_main_v3 (F := F) x2)
abbrev idx_main_v4 (i : S24x48x256.Idx) : S24x1x256.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v4_apply (i : S24x48x256.Idx) :
    val_main_v4 (F := F) x2 i = val_main_v3 (F := F) x2 (idx_main_v4 i) := by
  unfold val_main_v4
  generalize val_main_v3 (F := F) x2 = y
  exact broadcastInDim_apply _ bcast_S24x1x256_S24x48x256_0_1_2 y i (idx_main_v4 i) (fun a => match a with
    | ⟨0, _⟩ => rfl
    | ⟨1, _⟩ => rfl
    | ⟨2, _⟩ => rfl)

-- %5 = stablehlo.multiply %0, %4 : tensor<24x48x256xf32>
def val_main_v5 : Arr F S24x48x256 .f32 :=
  mulf (val_main_v0 (F := F) x3) (val_main_v4 (F := F) x2)
theorem val_main_v5_apply (i : S24x48x256.Idx) :
    val_main_v5 (F := F) x2 x3 i = FloatOps.mulf (val_main_v0 (F := F) x3 i) (val_main_v4 (F := F) x2 i) := rfl

-- %6 = stablehlo.reshape %arg4 : (tensor<7077888xi32>) -> tensor<24x12x1x24576xi32>
def val_main_v6 : Arr F S24x12x1x24576 .i32 :=
  shapeCast _ (x4) shapeCasts_S7077888_S24x12x1x24576
set_option backward.proofsInPublic true in
abbrev idx_main_v6 (i : S24x12x1x24576.Idx) : S7077888.Idx := fun a => match a with
  | ⟨0, _⟩ => ⟨(((i 0).val * 12 + (i 1).val) * 1 + (i 2).val) * 24576 + (i 3).val, by have h0 : (i 0).val < 24 := (i 0).isLt; have h1 : (i 1).val < 12 := (i 1).isLt; have h2 : (i 2).val < 1 := (i 2).isLt; have h3 : (i 3).val < 24576 := (i 3).isLt; show (((i 0).val * 12 + (i 1).val) * 1 + (i 2).val) * 24576 + (i 3).val < 7077888; omega⟩
theorem val_main_v6_apply (i : S24x12x1x24576.Idx) :
    val_main_v6 (F := F) x4 i = x4 (idx_main_v6 i) := by
  unfold val_main_v6
  exact shapeCast_apply x4 shapeCasts_S7077888_S24x12x1x24576 i (idx_main_v6 i)
    (by rewrite [Shape.rowMajor_val_one, Shape.rowMajor_val_four]; have h0 : (i 0).val < 24 := (i 0).isLt; have h1 : (i 1).val < 12 := (i 1).isLt; have h2 : (i 2).val < 1 := (i 2).isLt; have h3 : (i 3).val < 24576 := (i 3).isLt; show (((i 0).val * 12 + (i 1).val) * 1 + (i 2).val) * 24576 + (i 3).val = (((i 0).val * 12 + (i 1).val) * 1 + (i 2).val) * 24576 + (i 3).val; omega)

-- %7 = stablehlo.iota dim = 0 : tensor<4xi32>
def val_main_v7 : Arr F S4 .i32 :=
  iotaInDim S4 32 0
theorem val_main_v7_apply (i : S4.Idx) :
    val_main_v7 (F := F) i = BitVec.ofNat 32 (i 0).val := rfl

-- %c = stablehlo.constant dense<8> : tensor<i32>
def val_main_c : Arr F S_ .i32 :=
  constantI S_ 32 8#32
theorem val_main_c_apply (i : S_.Idx) :
    val_main_c (F := F) i = 8#32 := rfl

-- %8 = stablehlo.broadcast_in_dim %c, dims = [] : (tensor<i32>) -> tensor<4xi32>
def val_main_v8 : Arr F S4 .i32 :=
  broadcastInDim S4 ![] bcast_S_S4 (val_main_c (F := F))
abbrev idx_main_v8 (i : S4.Idx) : S_.Idx := fun a => a.elim0
theorem val_main_v8_apply (i : S4.Idx) :
    val_main_v8 (F := F) i = val_main_c (F := F) (idx_main_v8 i) := by
  unfold val_main_v8
  generalize val_main_c (F := F) = y
  exact broadcastInDim_apply _ bcast_S_S4 y i (idx_main_v8 i) (fun a => a.elim0)

-- %9 = stablehlo.multiply %8, %7 : tensor<4xi32>
def val_main_v9 : Arr F S4 .i32 :=
  muli (val_main_v8 (F := F)) (val_main_v7 (F := F))
theorem val_main_v9_apply (i : S4.Idx) :
    val_main_v9 (F := F) i = IntOp.muli (val_main_v8 (F := F) i) (val_main_v7 (F := F) i) := rfl

-- %10 = stablehlo.broadcast_in_dim %9, dims = [0] : (tensor<4xi32>) -> tensor<4x1xi32>
def val_main_v10 : Arr F S4x1 .i32 :=
  broadcastInDim S4x1 ![0] bcast_S4_S4x1_0 (val_main_v9 (F := F))
abbrev idx_main_v10 (i : S4x1.Idx) : S4.Idx := fun a => match a with
  | ⟨0, _⟩ => ⟨(i 0).val, (i 0).isLt⟩
theorem val_main_v10_apply (i : S4x1.Idx) :
    val_main_v10 (F := F) i = val_main_v9 (F := F) (idx_main_v10 i) := by
  unfold val_main_v10
  generalize val_main_v9 (F := F) = y
  exact broadcastInDim_apply _ bcast_S4_S4x1_0 y i (idx_main_v10 i) (fun a => match a with
    | ⟨0, _⟩ => rfl)

-- %11 = stablehlo.broadcast_in_dim %10, dims = [2, 3] : (tensor<4x1xi32>) -> tensor<1x1x4x1xi32>
def val_main_v11 : Arr F S1x1x4x1 .i32 :=
  broadcastInDim S1x1x4x1 ![2, 3] bcast_S4x1_S1x1x4x1_2_3 (val_main_v10 (F := F))
abbrev idx_main_v11 (i : S1x1x4x1.Idx) : S4x1.Idx := fun a => match a with
  | ⟨0, _⟩ => ⟨(i 2).val, (i 2).isLt⟩
  | ⟨1, _⟩ => ⟨0, Nat.one_pos⟩
theorem val_main_v11_apply (i : S1x1x4x1.Idx) :
    val_main_v11 (F := F) i = val_main_v10 (F := F) (idx_main_v11 i) := by
  unfold val_main_v11
  generalize val_main_v10 (F := F) = y
  exact broadcastInDim_apply _ bcast_S4x1_S1x1x4x1_2_3 y i (idx_main_v11 i) (fun a => match a with
    | ⟨0, _⟩ => rfl
    | ⟨1, _⟩ => rfl)

-- %12 = stablehlo.broadcast_in_dim %6, dims = [0, 1, 2, 3] : (tensor<24x12x1x24576xi32>) -> tensor<24x12x4x24576xi32>
def val_main_v12 : Arr F S24x12x4x24576 .i32 :=
  broadcastInDim S24x12x4x24576 ![0, 1, 2, 3] bcast_S24x12x1x24576_S24x12x4x24576_0_1_2_3 (val_main_v6 (F := F) x4)
abbrev idx_main_v12 (i : S24x12x4x24576.Idx) : S24x12x1x24576.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 3).val, (i 3).isLt⟩
theorem val_main_v12_apply (i : S24x12x4x24576.Idx) :
    val_main_v12 (F := F) x4 i = val_main_v6 (F := F) x4 (idx_main_v12 i) := by
  unfold val_main_v12
  generalize val_main_v6 (F := F) x4 = y
  exact broadcastInDim_apply _ bcast_S24x12x1x24576_S24x12x4x24576_0_1_2_3 y i (idx_main_v12 i) (fun a => match a with
    | ⟨0, _⟩ => rfl
    | ⟨1, _⟩ => rfl
    | ⟨2, _⟩ => rfl
    | ⟨3, _⟩ => rfl)

-- %13 = stablehlo.broadcast_in_dim %11, dims = [0, 1, 2, 3] : (tensor<1x1x4x1xi32>) -> tensor<24x12x4x24576xi32>
def val_main_v13 : Arr F S24x12x4x24576 .i32 :=
  broadcastInDim S24x12x4x24576 ![0, 1, 2, 3] bcast_S1x1x4x1_S24x12x4x24576_0_1_2_3 (val_main_v11 (F := F))
abbrev idx_main_v13 (i : S24x12x4x24576.Idx) : S1x1x4x1.Idx := fun a => match a with
  | ⟨0, _⟩ => ⟨0, Nat.one_pos⟩
  | ⟨1, _⟩ => ⟨0, Nat.one_pos⟩
  | ⟨2, _⟩ => ⟨(i 2).val, (i 2).isLt⟩
  | ⟨3, _⟩ => ⟨0, Nat.one_pos⟩
theorem val_main_v13_apply (i : S24x12x4x24576.Idx) :
    val_main_v13 (F := F) i = val_main_v11 (F := F) (idx_main_v13 i) := by
  unfold val_main_v13
  generalize val_main_v11 (F := F) = y
  exact broadcastInDim_apply _ bcast_S1x1x4x1_S24x12x4x24576_0_1_2_3 y i (idx_main_v13 i) (fun a => match a with
    | ⟨0, _⟩ => rfl
    | ⟨1, _⟩ => rfl
    | ⟨2, _⟩ => rfl
    | ⟨3, _⟩ => rfl)

-- %14 = stablehlo.shift_right_arithmetic %12, %13 : tensor<24x12x4x24576xi32>
def val_main_v14 : Arr F S24x12x4x24576 .i32 :=
  Host.shrsi (val_main_v12 (F := F) x4) (val_main_v13 (F := F))
theorem val_main_v14_apply (i : S24x12x4x24576.Idx) :
    val_main_v14 (F := F) x4 i = IntOp.shrsi .host (val_main_v12 (F := F) x4 i) (val_main_v13 (F := F) i) := rfl

-- %c_0 = stablehlo.constant dense<255> : tensor<i32>
def val_main_c_0 : Arr F S_ .i32 :=
  constantI S_ 32 255#32
theorem val_main_c_0_apply (i : S_.Idx) :
    val_main_c_0 (F := F) i = 255#32 := rfl

-- %15 = stablehlo.broadcast_in_dim %c_0, dims = [] : (tensor<i32>) -> tensor<24x12x4x24576xi32>
def val_main_v15 : Arr F S24x12x4x24576 .i32 :=
  broadcastInDim S24x12x4x24576 ![] bcast_S_S24x12x4x24576 (val_main_c_0 (F := F))
abbrev idx_main_v15 (i : S24x12x4x24576.Idx) : S_.Idx := fun a => a.elim0
theorem val_main_v15_apply (i : S24x12x4x24576.Idx) :
    val_main_v15 (F := F) i = val_main_c_0 (F := F) (idx_main_v15 i) := by
  unfold val_main_v15
  generalize val_main_c_0 (F := F) = y
  exact broadcastInDim_apply _ bcast_S_S24x12x4x24576 y i (idx_main_v15 i) (fun a => a.elim0)

-- %16 = stablehlo.and %14, %15 : tensor<24x12x4x24576xi32>
def val_main_v16 : Arr F S24x12x4x24576 .i32 :=
  andi (val_main_v14 (F := F) x4) (val_main_v15 (F := F))
theorem val_main_v16_apply (i : S24x12x4x24576.Idx) :
    val_main_v16 (F := F) x4 i = IntOp.andi (val_main_v14 (F := F) x4 i) (val_main_v15 (F := F) i) := rfl

-- %c_1 = stablehlo.constant dense<7> : tensor<i32>
def val_main_c_1 : Arr F S_ .i32 :=
  constantI S_ 32 7#32
theorem val_main_c_1_apply (i : S_.Idx) :
    val_main_c_1 (F := F) i = 7#32 := rfl

-- %17 = stablehlo.broadcast_in_dim %c_1, dims = [] : (tensor<i32>) -> tensor<24x12x4x24576xi32>
def val_main_v17 : Arr F S24x12x4x24576 .i32 :=
  broadcastInDim S24x12x4x24576 ![] bcast_S_S24x12x4x24576 (val_main_c_1 (F := F))
abbrev idx_main_v17 (i : S24x12x4x24576.Idx) : S_.Idx := fun a => a.elim0
theorem val_main_v17_apply (i : S24x12x4x24576.Idx) :
    val_main_v17 (F := F) i = val_main_c_1 (F := F) (idx_main_v17 i) := by
  unfold val_main_v17
  generalize val_main_c_1 (F := F) = y
  exact broadcastInDim_apply _ bcast_S_S24x12x4x24576 y i (idx_main_v17 i) (fun a => a.elim0)

-- %18 = stablehlo.shift_right_arithmetic %16, %17 : tensor<24x12x4x24576xi32>
def val_main_v18 : Arr F S24x12x4x24576 .i32 :=
  Host.shrsi (val_main_v16 (F := F) x4) (val_main_v17 (F := F))
theorem val_main_v18_apply (i : S24x12x4x24576.Idx) :
    val_main_v18 (F := F) x4 i = IntOp.shrsi .host (val_main_v16 (F := F) x4 i) (val_main_v17 (F := F) i) := rfl

-- %c_2 = stablehlo.constant dense<3> : tensor<i32>
def val_main_c_2 : Arr F S_ .i32 :=
  constantI S_ 32 3#32
theorem val_main_c_2_apply (i : S_.Idx) :
    val_main_c_2 (F := F) i = 3#32 := rfl

-- %19 = stablehlo.broadcast_in_dim %c_2, dims = [] : (tensor<i32>) -> tensor<24x12x4x24576xi32>
def val_main_v19 : Arr F S24x12x4x24576 .i32 :=
  broadcastInDim S24x12x4x24576 ![] bcast_S_S24x12x4x24576 (val_main_c_2 (F := F))
abbrev idx_main_v19 (i : S24x12x4x24576.Idx) : S_.Idx := fun a => a.elim0
theorem val_main_v19_apply (i : S24x12x4x24576.Idx) :
    val_main_v19 (F := F) i = val_main_c_2 (F := F) (idx_main_v19 i) := by
  unfold val_main_v19
  generalize val_main_c_2 (F := F) = y
  exact broadcastInDim_apply _ bcast_S_S24x12x4x24576 y i (idx_main_v19 i) (fun a => a.elim0)

-- %20 = stablehlo.shift_right_arithmetic %16, %19 : tensor<24x12x4x24576xi32>
def val_main_v20 : Arr F S24x12x4x24576 .i32 :=
  Host.shrsi (val_main_v16 (F := F) x4) (val_main_v19 (F := F))
theorem val_main_v20_apply (i : S24x12x4x24576.Idx) :
    val_main_v20 (F := F) x4 i = IntOp.shrsi .host (val_main_v16 (F := F) x4 i) (val_main_v19 (F := F) i) := rfl

-- %c_3 = stablehlo.constant dense<15> : tensor<i32>
def val_main_c_3 : Arr F S_ .i32 :=
  constantI S_ 32 15#32
theorem val_main_c_3_apply (i : S_.Idx) :
    val_main_c_3 (F := F) i = 15#32 := rfl

-- %21 = stablehlo.broadcast_in_dim %c_3, dims = [] : (tensor<i32>) -> tensor<24x12x4x24576xi32>
def val_main_v21 : Arr F S24x12x4x24576 .i32 :=
  broadcastInDim S24x12x4x24576 ![] bcast_S_S24x12x4x24576 (val_main_c_3 (F := F))
abbrev idx_main_v21 (i : S24x12x4x24576.Idx) : S_.Idx := fun a => a.elim0
theorem val_main_v21_apply (i : S24x12x4x24576.Idx) :
    val_main_v21 (F := F) i = val_main_c_3 (F := F) (idx_main_v21 i) := by
  unfold val_main_v21
  generalize val_main_c_3 (F := F) = y
  exact broadcastInDim_apply _ bcast_S_S24x12x4x24576 y i (idx_main_v21 i) (fun a => a.elim0)

-- %22 = stablehlo.and %20, %21 : tensor<24x12x4x24576xi32>
def val_main_v22 : Arr F S24x12x4x24576 .i32 :=
  andi (val_main_v20 (F := F) x4) (val_main_v21 (F := F))
theorem val_main_v22_apply (i : S24x12x4x24576.Idx) :
    val_main_v22 (F := F) x4 i = IntOp.andi (val_main_v20 (F := F) x4 i) (val_main_v21 (F := F) i) := rfl

-- %c_4 = stablehlo.constant dense<7> : tensor<i32>
def val_main_c_4 : Arr F S_ .i32 :=
  constantI S_ 32 7#32
theorem val_main_c_4_apply (i : S_.Idx) :
    val_main_c_4 (F := F) i = 7#32 := rfl

-- %23 = stablehlo.broadcast_in_dim %c_4, dims = [] : (tensor<i32>) -> tensor<24x12x4x24576xi32>
def val_main_v23 : Arr F S24x12x4x24576 .i32 :=
  broadcastInDim S24x12x4x24576 ![] bcast_S_S24x12x4x24576 (val_main_c_4 (F := F))
abbrev idx_main_v23 (i : S24x12x4x24576.Idx) : S_.Idx := fun a => a.elim0
theorem val_main_v23_apply (i : S24x12x4x24576.Idx) :
    val_main_v23 (F := F) i = val_main_c_4 (F := F) (idx_main_v23 i) := by
  unfold val_main_v23
  generalize val_main_c_4 (F := F) = y
  exact broadcastInDim_apply _ bcast_S_S24x12x4x24576 y i (idx_main_v23 i) (fun a => a.elim0)

-- %24 = stablehlo.and %16, %23 : tensor<24x12x4x24576xi32>
def val_main_v24 : Arr F S24x12x4x24576 .i32 :=
  andi (val_main_v16 (F := F) x4) (val_main_v23 (F := F))
theorem val_main_v24_apply (i : S24x12x4x24576.Idx) :
    val_main_v24 (F := F) x4 i = IntOp.andi (val_main_v16 (F := F) x4 i) (val_main_v23 (F := F) i) := rfl

-- %c_5 = stablehlo.constant dense<117> : tensor<i32>
def val_main_c_5 : Arr F S_ .i32 :=
  constantI S_ 32 117#32
theorem val_main_c_5_apply (i : S_.Idx) :
    val_main_c_5 (F := F) i = 117#32 := rfl

-- %25 = stablehlo.broadcast_in_dim %c_5, dims = [] : (tensor<i32>) -> tensor<24x12x4x24576xi32>
def val_main_v25 : Arr F S24x12x4x24576 .i32 :=
  broadcastInDim S24x12x4x24576 ![] bcast_S_S24x12x4x24576 (val_main_c_5 (F := F))
abbrev idx_main_v25 (i : S24x12x4x24576.Idx) : S_.Idx := fun a => a.elim0
theorem val_main_v25_apply (i : S24x12x4x24576.Idx) :
    val_main_v25 (F := F) i = val_main_c_5 (F := F) (idx_main_v25 i) := by
  unfold val_main_v25
  generalize val_main_c_5 (F := F) = y
  exact broadcastInDim_apply _ bcast_S_S24x12x4x24576 y i (idx_main_v25 i) (fun a => a.elim0)

-- %26 = stablehlo.add %22, %25 : tensor<24x12x4x24576xi32>
def val_main_v26 : Arr F S24x12x4x24576 .i32 :=
  addi (val_main_v22 (F := F) x4) (val_main_v25 (F := F))
theorem val_main_v26_apply (i : S24x12x4x24576.Idx) :
    val_main_v26 (F := F) x4 i = IntOp.addi (val_main_v22 (F := F) x4 i) (val_main_v25 (F := F) i) := rfl

-- %c_6 = stablehlo.constant dense<23> : tensor<i32>
def val_main_c_6 : Arr F S_ .i32 :=
  constantI S_ 32 23#32
theorem val_main_c_6_apply (i : S_.Idx) :
    val_main_c_6 (F := F) i = 23#32 := rfl

-- %27 = stablehlo.broadcast_in_dim %c_6, dims = [] : (tensor<i32>) -> tensor<24x12x4x24576xi32>
def val_main_v27 : Arr F S24x12x4x24576 .i32 :=
  broadcastInDim S24x12x4x24576 ![] bcast_S_S24x12x4x24576 (val_main_c_6 (F := F))
abbrev idx_main_v27 (i : S24x12x4x24576.Idx) : S_.Idx := fun a => a.elim0
theorem val_main_v27_apply (i : S24x12x4x24576.Idx) :
    val_main_v27 (F := F) i = val_main_c_6 (F := F) (idx_main_v27 i) := by
  unfold val_main_v27
  generalize val_main_c_6 (F := F) = y
  exact broadcastInDim_apply _ bcast_S_S24x12x4x24576 y i (idx_main_v27 i) (fun a => a.elim0)

-- %28 = stablehlo.shift_left %26, %27 : tensor<24x12x4x24576xi32>
def val_main_v28 : Arr F S24x12x4x24576 .i32 :=
  Host.shli (val_main_v26 (F := F) x4) (val_main_v27 (F := F))
theorem val_main_v28_apply (i : S24x12x4x24576.Idx) :
    val_main_v28 (F := F) x4 i = IntOp.shli .host (val_main_v26 (F := F) x4 i) (val_main_v27 (F := F) i) := rfl

-- %29 = stablehlo.bitcast_convert %28 : (tensor<24x12x4x24576xi32>) -> tensor<24x12x4x24576xf32>
def val_main_v29 : Arr F S24x12x4x24576 .f32 :=
  bitcastToFloat (F := F) .f32 (val_main_v28 (F := F) x4)
theorem val_main_v29_apply (i : S24x12x4x24576.Idx) :
    val_main_v29 (F := F) x4 i = FloatOps.ofBits .f32 (val_main_v28 (F := F) x4 i) := rfl

-- %c_7 = stablehlo.constant dense<0> : tensor<i32>
def val_main_c_7 : Arr F S_ .i32 :=
  constantI S_ 32 0#32
theorem val_main_c_7_apply (i : S_.Idx) :
    val_main_c_7 (F := F) i = 0#32 := rfl

-- %30 = stablehlo.broadcast_in_dim %c_7, dims = [] : (tensor<i32>) -> tensor<24x12x4x24576xi32>
def val_main_v30 : Arr F S24x12x4x24576 .i32 :=
  broadcastInDim S24x12x4x24576 ![] bcast_S_S24x12x4x24576 (val_main_c_7 (F := F))
abbrev idx_main_v30 (i : S24x12x4x24576.Idx) : S_.Idx := fun a => a.elim0
theorem val_main_v30_apply (i : S24x12x4x24576.Idx) :
    val_main_v30 (F := F) i = val_main_c_7 (F := F) (idx_main_v30 i) := by
  unfold val_main_v30
  generalize val_main_c_7 (F := F) = y
  exact broadcastInDim_apply _ bcast_S_S24x12x4x24576 y i (idx_main_v30 i) (fun a => a.elim0)

-- %31 = stablehlo.compare EQ, %22, %30, SIGNED : (tensor<24x12x4x24576xi32>, tensor<24x12x4x24576xi32>) -> tensor<24x12x4x24576xi1>
def val_main_v31 : Arr F S24x12x4x24576 .i1 :=
  cmpi .eq (val_main_v22 (F := F) x4) (val_main_v30 (F := F))
theorem val_main_v31_apply (i : S24x12x4x24576.Idx) :
    val_main_v31 (F := F) x4 i = IntOp.cmpi .eq (val_main_v22 (F := F) x4 i) (val_main_v30 (F := F) i) := rfl

-- %32 = stablehlo.convert %24 : (tensor<24x12x4x24576xi32>) -> tensor<24x12x4x24576xf32>
def val_main_v32 : Arr F S24x12x4x24576 .f32 :=
  sitofp .f32 (val_main_v24 (F := F) x4)
theorem val_main_v32_apply (i : S24x12x4x24576.Idx) :
    val_main_v32 (F := F) x4 i = FloatOps.sitofp .f32 (val_main_v24 (F := F) x4 i) := rfl

-- %cst = stablehlo.constant dense<0.001953125> : tensor<f32>
def val_main_cst : Arr F S_ .f32 :=
  constant S_ .f32 0x3B000000#32
theorem val_main_cst_apply (i : S_.Idx) :
    val_main_cst (F := F) i = FloatOps.ofBits .f32 0x3B000000#32 := rfl

-- %33 = stablehlo.broadcast_in_dim %cst, dims = [] : (tensor<f32>) -> tensor<24x12x4x24576xf32>
def val_main_v33 : Arr F S24x12x4x24576 .f32 :=
  broadcastInDim S24x12x4x24576 ![] bcast_S_S24x12x4x24576 (val_main_cst (F := F))
abbrev idx_main_v33 (i : S24x12x4x24576.Idx) : S_.Idx := fun a => a.elim0
theorem val_main_v33_apply (i : S24x12x4x24576.Idx) :
    val_main_v33 (F := F) i = val_main_cst (F := F) (idx_main_v33 i) := by
  unfold val_main_v33
  generalize val_main_cst (F := F) = y
  exact broadcastInDim_apply _ bcast_S_S24x12x4x24576 y i (idx_main_v33 i) (fun a => a.elim0)

-- %34 = stablehlo.multiply %32, %33 : tensor<24x12x4x24576xf32>
def val_main_v34 : Arr F S24x12x4x24576 .f32 :=
  mulf (val_main_v32 (F := F) x4) (val_main_v33 (F := F))
theorem val_main_v34_apply (i : S24x12x4x24576.Idx) :
    val_main_v34 (F := F) x4 i = FloatOps.mulf (val_main_v32 (F := F) x4 i) (val_main_v33 (F := F) i) := rfl

-- %c_8 = stablehlo.constant dense<8> : tensor<i32>
def val_main_c_8 : Arr F S_ .i32 :=
  constantI S_ 32 8#32
theorem val_main_c_8_apply (i : S_.Idx) :
    val_main_c_8 (F := F) i = 8#32 := rfl

-- %35 = stablehlo.broadcast_in_dim %c_8, dims = [] : (tensor<i32>) -> tensor<24x12x4x24576xi32>
def val_main_v35 : Arr F S24x12x4x24576 .i32 :=
  broadcastInDim S24x12x4x24576 ![] bcast_S_S24x12x4x24576 (val_main_c_8 (F := F))
abbrev idx_main_v35 (i : S24x12x4x24576.Idx) : S_.Idx := fun a => a.elim0
theorem val_main_v35_apply (i : S24x12x4x24576.Idx) :
    val_main_v35 (F := F) i = val_main_c_8 (F := F) (idx_main_v35 i) := by
  unfold val_main_v35
  generalize val_main_c_8 (F := F) = y
  exact broadcastInDim_apply _ bcast_S_S24x12x4x24576 y i (idx_main_v35 i) (fun a => a.elim0)

-- %36 = stablehlo.add %35, %24 : tensor<24x12x4x24576xi32>
def val_main_v36 : Arr F S24x12x4x24576 .i32 :=
  addi (val_main_v35 (F := F)) (val_main_v24 (F := F) x4)
theorem val_main_v36_apply (i : S24x12x4x24576.Idx) :
    val_main_v36 (F := F) x4 i = IntOp.addi (val_main_v35 (F := F) i) (val_main_v24 (F := F) x4 i) := rfl

-- %37 = stablehlo.convert %36 : (tensor<24x12x4x24576xi32>) -> tensor<24x12x4x24576xf32>
def val_main_v37 : Arr F S24x12x4x24576 .f32 :=
  sitofp .f32 (val_main_v36 (F := F) x4)
theorem val_main_v37_apply (i : S24x12x4x24576.Idx) :
    val_main_v37 (F := F) x4 i = FloatOps.sitofp .f32 (val_main_v36 (F := F) x4 i) := rfl

-- %38 = stablehlo.multiply %37, %29 : tensor<24x12x4x24576xf32>
def val_main_v38 : Arr F S24x12x4x24576 .f32 :=
  mulf (val_main_v37 (F := F) x4) (val_main_v29 (F := F) x4)
theorem val_main_v38_apply (i : S24x12x4x24576.Idx) :
    val_main_v38 (F := F) x4 i = FloatOps.mulf (val_main_v37 (F := F) x4 i) (val_main_v29 (F := F) x4 i) := rfl

-- %39 = func.call @_where(…) (record main_call0) result 0: @_where's %0 = stablehlo.select %arg0, %arg1, %arg2 : tensor<24x12x4x24576xi1>, tensor<24x12x4x24576xf32>
def val_main_v39 : Arr F S24x12x4x24576 .f32 :=
  select (val_main_v31 (F := F) x4) (val_main_v34 (F := F) x4) (val_main_v38 (F := F) x4)
theorem val_main_v39_apply (i : S24x12x4x24576.Idx) :
    val_main_v39 (F := F) x4 i = Scalar.select (val_main_v31 (F := F) x4 i) (val_main_v34 (F := F) x4 i) (val_main_v38 (F := F) x4 i) := rfl

-- %c_9 = stablehlo.constant dense<1> : tensor<i32>
def val_main_c_9 : Arr F S_ .i32 :=
  constantI S_ 32 1#32
theorem val_main_c_9_apply (i : S_.Idx) :
    val_main_c_9 (F := F) i = 1#32 := rfl

-- %40 = stablehlo.broadcast_in_dim %c_9, dims = [] : (tensor<i32>) -> tensor<24x12x4x24576xi32>
def val_main_v40 : Arr F S24x12x4x24576 .i32 :=
  broadcastInDim S24x12x4x24576 ![] bcast_S_S24x12x4x24576 (val_main_c_9 (F := F))
abbrev idx_main_v40 (i : S24x12x4x24576.Idx) : S_.Idx := fun a => a.elim0
theorem val_main_v40_apply (i : S24x12x4x24576.Idx) :
    val_main_v40 (F := F) i = val_main_c_9 (F := F) (idx_main_v40 i) := by
  unfold val_main_v40
  generalize val_main_c_9 (F := F) = y
  exact broadcastInDim_apply _ bcast_S_S24x12x4x24576 y i (idx_main_v40 i) (fun a => a.elim0)

-- %41 = stablehlo.compare EQ, %18, %40, SIGNED : (tensor<24x12x4x24576xi32>, tensor<24x12x4x24576xi32>) -> tensor<24x12x4x24576xi1>
def val_main_v41 : Arr F S24x12x4x24576 .i1 :=
  cmpi .eq (val_main_v18 (F := F) x4) (val_main_v40 (F := F))
theorem val_main_v41_apply (i : S24x12x4x24576.Idx) :
    val_main_v41 (F := F) x4 i = IntOp.cmpi .eq (val_main_v18 (F := F) x4 i) (val_main_v40 (F := F) i) := rfl

-- %42 = stablehlo.negate %39 : tensor<24x12x4x24576xf32>
def val_main_v42 : Arr F S24x12x4x24576 .f32 :=
  Host.negf (val_main_v39 (F := F) x4)
theorem val_main_v42_apply (i : S24x12x4x24576.Idx) :
    val_main_v42 (F := F) x4 i = FloatOps.hostNegf (val_main_v39 (F := F) x4 i) := rfl

-- %43 = func.call @_where(…) (record main_call1) result 0: @_where's %0 = stablehlo.select %arg0, %arg1, %arg2 : tensor<24x12x4x24576xi1>, tensor<24x12x4x24576xf32>
def val_main_v43 : Arr F S24x12x4x24576 .f32 :=
  select (val_main_v41 (F := F) x4) (val_main_v42 (F := F) x4) (val_main_v39 (F := F) x4)
theorem val_main_v43_apply (i : S24x12x4x24576.Idx) :
    val_main_v43 (F := F) x4 i = Scalar.select (val_main_v41 (F := F) x4 i) (val_main_v42 (F := F) x4 i) (val_main_v39 (F := F) x4 i) := rfl

-- %44 = stablehlo.reshape %43 : (tensor<24x12x4x24576xf32>) -> tensor<24x48x16x2x6x128xf32>
def val_main_v44 : Arr F S24x48x16x2x6x128 .f32 :=
  shapeCast _ (val_main_v43 (F := F) x4) shapeCasts_S24x12x4x24576_S24x48x16x2x6x128

-- %45 = stablehlo.transpose %44, dims = [0, 2, 4, 3, 5, 1] : (tensor<24x48x16x2x6x128xf32>) -> tensor<24x16x6x2x128x48xf32>
def val_main_v45 : Arr F S24x16x6x2x128x48 .f32 :=
  transpose S24x16x6x2x128x48 [0, 2, 4, 3, 5, 1] (val_main_v44 (F := F) x4) transposes_S24x48x16x2x6x128_S24x16x6x2x128x48_0_2_4_3_5_1
abbrev idx_main_v45 (i : S24x16x6x2x128x48.Idx) : S24x48x16x2x6x128.Idx := mkS24x48x16x2x6x128 (⟨(i 0).val, (i 0).isLt⟩) (⟨(i 5).val, (i 5).isLt⟩) (⟨(i 1).val, (i 1).isLt⟩) (⟨(i 3).val, (i 3).isLt⟩) (⟨(i 2).val, (i 2).isLt⟩) (⟨(i 4).val, (i 4).isLt⟩)
theorem val_main_v45_apply (i : S24x16x6x2x128x48.Idx) :
    val_main_v45 (F := F) x4 i = val_main_v44 (F := F) x4 (idx_main_v45 i) := by
  unfold val_main_v45
  generalize val_main_v44 (F := F) x4 = y
  exact transpose_apply [0, 2, 4, 3, 5, 1] y transposes_S24x48x16x2x6x128_S24x16x6x2x128x48_0_2_4_3_5_1 i (idx_main_v45 i) (fun b => match b with
    | ⟨0, _⟩ => rfl
    | ⟨1, _⟩ => rfl
    | ⟨2, _⟩ => rfl
    | ⟨3, _⟩ => rfl
    | ⟨4, _⟩ => rfl
    | ⟨5, _⟩ => rfl)

-- %46 = stablehlo.reshape %45 : (tensor<24x16x6x2x128x48xf32>) -> tensor<24x4x4x6x256x48xf32>
def val_main_v46 : Arr F S24x4x4x6x256x48 .f32 :=
  shapeCast _ (val_main_v45 (F := F) x4) shapeCasts_S24x16x6x2x128x48_S24x4x4x6x256x48

-- %47 = stablehlo.bitcast_convert %arg5 : (tensor<589824xi32>) -> tensor<589824xf32>
def val_main_v47 : Arr F S589824 .f32 :=
  bitcastToFloat (F := F) .f32 (x5)
theorem val_main_v47_apply (i : S589824.Idx) :
    val_main_v47 (F := F) x5 i = FloatOps.ofBits .f32 (x5 i) := rfl

-- %48 = stablehlo.reshape %47 : (tensor<589824xf32>) -> tensor<24x16x2x6x128xf32>
def val_main_v48 : Arr F S24x16x2x6x128 .f32 :=
  shapeCast _ (val_main_v47 (F := F) x5) shapeCasts_S589824_S24x16x2x6x128
set_option backward.proofsInPublic true in
abbrev idx_main_v48 (i : S24x16x2x6x128.Idx) : S589824.Idx := fun a => match a with
  | ⟨0, _⟩ => ⟨((((i 0).val * 16 + (i 1).val) * 2 + (i 2).val) * 6 + (i 3).val) * 128 + (i 4).val, by have h0 : (i 0).val < 24 := (i 0).isLt; have h1 : (i 1).val < 16 := (i 1).isLt; have h2 : (i 2).val < 2 := (i 2).isLt; have h3 : (i 3).val < 6 := (i 3).isLt; have h4 : (i 4).val < 128 := (i 4).isLt; show ((((i 0).val * 16 + (i 1).val) * 2 + (i 2).val) * 6 + (i 3).val) * 128 + (i 4).val < 589824; omega⟩
theorem val_main_v48_apply (i : S24x16x2x6x128.Idx) :
    val_main_v48 (F := F) x5 i = val_main_v47 (F := F) x5 (idx_main_v48 i) := by
  unfold val_main_v48
  generalize val_main_v47 (F := F) x5 = y
  exact shapeCast_apply y shapeCasts_S589824_S24x16x2x6x128 i (idx_main_v48 i)
    (by rewrite [Shape.rowMajor_val_one, Shape.rowMajor_val_five]; have h0 : (i 0).val < 24 := (i 0).isLt; have h1 : (i 1).val < 16 := (i 1).isLt; have h2 : (i 2).val < 2 := (i 2).isLt; have h3 : (i 3).val < 6 := (i 3).isLt; have h4 : (i 4).val < 128 := (i 4).isLt; show ((((i 0).val * 16 + (i 1).val) * 2 + (i 2).val) * 6 + (i 3).val) * 128 + (i 4).val = ((((i 0).val * 16 + (i 1).val) * 2 + (i 2).val) * 6 + (i 3).val) * 128 + (i 4).val; omega)

-- %49 = stablehlo.transpose %48, dims = [0, 1, 3, 2, 4] : (tensor<24x16x2x6x128xf32>) -> tensor<24x16x6x2x128xf32>
def val_main_v49 : Arr F S24x16x6x2x128 .f32 :=
  transpose S24x16x6x2x128 [0, 1, 3, 2, 4] (val_main_v48 (F := F) x5) transposes_S24x16x2x6x128_S24x16x6x2x128_0_1_3_2_4
abbrev idx_main_v49 (i : S24x16x6x2x128.Idx) : S24x16x2x6x128.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨(i 2).val, (i 2).isLt⟩
  | ⟨4, _⟩ => ⟨(i 4).val, (i 4).isLt⟩
theorem val_main_v49_apply (i : S24x16x6x2x128.Idx) :
    val_main_v49 (F := F) x5 i = val_main_v48 (F := F) x5 (idx_main_v49 i) := by
  unfold val_main_v49
  generalize val_main_v48 (F := F) x5 = y
  exact transpose_apply [0, 1, 3, 2, 4] y transposes_S24x16x2x6x128_S24x16x6x2x128_0_1_3_2_4 i (idx_main_v49 i) (fun b => match b with
    | ⟨0, _⟩ => rfl
    | ⟨1, _⟩ => rfl
    | ⟨2, _⟩ => rfl
    | ⟨3, _⟩ => rfl
    | ⟨4, _⟩ => rfl)

-- %50 = stablehlo.reshape %49 : (tensor<24x16x6x2x128xf32>) -> tensor<24x4x4x6x256xf32>
def val_main_v50 : Arr F S24x4x4x6x256 .f32 :=
  shapeCast _ (val_main_v49 (F := F) x5) shapeCasts_S24x16x6x2x128_S24x4x4x6x256
set_option backward.proofsInPublic true in
abbrev idx_main_v50 (i : S24x4x4x6x256.Idx) : S24x16x6x2x128.Idx := fun a => match a with
  | ⟨0, _⟩ => ⟨(((((i 0).val * 4 + (i 1).val) * 4 + (i 2).val) * 6 + (i 3).val) * 256 + (i 4).val) / 24576, by have h0 : (i 0).val < 24 := (i 0).isLt; have h1 : (i 1).val < 4 := (i 1).isLt; have h2 : (i 2).val < 4 := (i 2).isLt; have h3 : (i 3).val < 6 := (i 3).isLt; have h4 : (i 4).val < 256 := (i 4).isLt; show (((((i 0).val * 4 + (i 1).val) * 4 + (i 2).val) * 6 + (i 3).val) * 256 + (i 4).val) / 24576 < 24; omega⟩
  | ⟨1, _⟩ => ⟨(((((i 0).val * 4 + (i 1).val) * 4 + (i 2).val) * 6 + (i 3).val) * 256 + (i 4).val) / 1536 % 16, by have h0 : (i 0).val < 24 := (i 0).isLt; have h1 : (i 1).val < 4 := (i 1).isLt; have h2 : (i 2).val < 4 := (i 2).isLt; have h3 : (i 3).val < 6 := (i 3).isLt; have h4 : (i 4).val < 256 := (i 4).isLt; show (((((i 0).val * 4 + (i 1).val) * 4 + (i 2).val) * 6 + (i 3).val) * 256 + (i 4).val) / 1536 % 16 < 16; omega⟩
  | ⟨2, _⟩ => ⟨(((((i 0).val * 4 + (i 1).val) * 4 + (i 2).val) * 6 + (i 3).val) * 256 + (i 4).val) / 256 % 6, by have h0 : (i 0).val < 24 := (i 0).isLt; have h1 : (i 1).val < 4 := (i 1).isLt; have h2 : (i 2).val < 4 := (i 2).isLt; have h3 : (i 3).val < 6 := (i 3).isLt; have h4 : (i 4).val < 256 := (i 4).isLt; show (((((i 0).val * 4 + (i 1).val) * 4 + (i 2).val) * 6 + (i 3).val) * 256 + (i 4).val) / 256 % 6 < 6; omega⟩
  | ⟨3, _⟩ => ⟨(((((i 0).val * 4 + (i 1).val) * 4 + (i 2).val) * 6 + (i 3).val) * 256 + (i 4).val) / 128 % 2, by have h0 : (i 0).val < 24 := (i 0).isLt; have h1 : (i 1).val < 4 := (i 1).isLt; have h2 : (i 2).val < 4 := (i 2).isLt; have h3 : (i 3).val < 6 := (i 3).isLt; have h4 : (i 4).val < 256 := (i 4).isLt; show (((((i 0).val * 4 + (i 1).val) * 4 + (i 2).val) * 6 + (i 3).val) * 256 + (i 4).val) / 128 % 2 < 2; omega⟩
  | ⟨4, _⟩ => ⟨(((((i 0).val * 4 + (i 1).val) * 4 + (i 2).val) * 6 + (i 3).val) * 256 + (i 4).val) % 128, by have h0 : (i 0).val < 24 := (i 0).isLt; have h1 : (i 1).val < 4 := (i 1).isLt; have h2 : (i 2).val < 4 := (i 2).isLt; have h3 : (i 3).val < 6 := (i 3).isLt; have h4 : (i 4).val < 256 := (i 4).isLt; show (((((i 0).val * 4 + (i 1).val) * 4 + (i 2).val) * 6 + (i 3).val) * 256 + (i 4).val) % 128 < 128; omega⟩
theorem val_main_v50_apply (i : S24x4x4x6x256.Idx) :
    val_main_v50 (F := F) x5 i = val_main_v49 (F := F) x5 (idx_main_v50 i) := by
  unfold val_main_v50
  generalize val_main_v49 (F := F) x5 = y
  exact shapeCast_apply y shapeCasts_S24x16x6x2x128_S24x4x4x6x256 i (idx_main_v50 i)
    (by rewrite [Shape.rowMajor_val_five, Shape.rowMajor_val_five]; have h0 : (i 0).val < 24 := (i 0).isLt; have h1 : (i 1).val < 4 := (i 1).isLt; have h2 : (i 2).val < 4 := (i 2).isLt; have h3 : (i 3).val < 6 := (i 3).isLt; have h4 : (i 4).val < 256 := (i 4).isLt; show ((((((((i 0).val * 4 + (i 1).val) * 4 + (i 2).val) * 6 + (i 3).val) * 256 + (i 4).val) / 24576 * 16 + (((((i 0).val * 4 + (i 1).val) * 4 + (i 2).val) * 6 + (i 3).val) * 256 + (i 4).val) / 1536 % 16) * 6 + (((((i 0).val * 4 + (i 1).val) * 4 + (i 2).val) * 6 + (i 3).val) * 256 + (i 4).val) / 256 % 6) * 2 + (((((i 0).val * 4 + (i 1).val) * 4 + (i 2).val) * 6 + (i 3).val) * 256 + (i 4).val) / 128 % 2) * 128 + (((((i 0).val * 4 + (i 1).val) * 4 + (i 2).val) * 6 + (i 3).val) * 256 + (i 4).val) % 128 = ((((i 0).val * 4 + (i 1).val) * 4 + (i 2).val) * 6 + (i 3).val) * 256 + (i 4).val; omega)

-- %51 = stablehlo.transpose %arg0, dims = [0, 2, 5, 3, 4, 1] : (tensor<3x256x8x4x6x2xf32>) -> tensor<3x8x2x4x6x256xf32>
def val_main_v51 : Arr F S3x8x2x4x6x256 .f32 :=
  transpose S3x8x2x4x6x256 [0, 2, 5, 3, 4, 1] (x0) transposes_S3x256x8x4x6x2_S3x8x2x4x6x256_0_2_5_3_4_1
abbrev idx_main_v51 (i : S3x8x2x4x6x256.Idx) : S3x256x8x4x6x2.Idx := mkS3x256x8x4x6x2 (⟨(i 0).val, (i 0).isLt⟩) (⟨(i 5).val, (i 5).isLt⟩) (⟨(i 1).val, (i 1).isLt⟩) (⟨(i 3).val, (i 3).isLt⟩) (⟨(i 4).val, (i 4).isLt⟩) (⟨(i 2).val, (i 2).isLt⟩)
theorem val_main_v51_apply (i : S3x8x2x4x6x256.Idx) :
    val_main_v51 (F := F) x0 i = x0 (idx_main_v51 i) := by
  unfold val_main_v51
  exact transpose_apply [0, 2, 5, 3, 4, 1] x0 transposes_S3x256x8x4x6x2_S3x8x2x4x6x256_0_2_5_3_4_1 i (idx_main_v51 i) (fun b => match b with
    | ⟨0, _⟩ => rfl
    | ⟨1, _⟩ => rfl
    | ⟨2, _⟩ => rfl
    | ⟨3, _⟩ => rfl
    | ⟨4, _⟩ => rfl
    | ⟨5, _⟩ => rfl)

-- %52 = stablehlo.reshape %51 : (tensor<3x8x2x4x6x256xf32>) -> tensor<24x2x4x6x256xf32>
def val_main_v52 : Arr F S24x2x4x6x256 .f32 :=
  shapeCast _ (val_main_v51 (F := F) x0) shapeCasts_S3x8x2x4x6x256_S24x2x4x6x256

-- %53 = stablehlo.transpose %arg1, dims = [0, 2, 3, 4, 1] : (tensor<3x256x8x4x6xf32>) -> tensor<3x8x4x6x256xf32>
def val_main_v53 : Arr F S3x8x4x6x256 .f32 :=
  transpose S3x8x4x6x256 [0, 2, 3, 4, 1] (x1) transposes_S3x256x8x4x6_S3x8x4x6x256_0_2_3_4_1
abbrev idx_main_v53 (i : S3x8x4x6x256.Idx) : S3x256x8x4x6.Idx := fun a => match a with
  | ⟨0, _⟩ => ⟨(i 0).val, (i 0).isLt⟩
  | ⟨1, _⟩ => ⟨(i 4).val, (i 4).isLt⟩
  | ⟨2, _⟩ => ⟨(i 1).val, (i 1).isLt⟩
  | ⟨3, _⟩ => ⟨(i 2).val, (i 2).isLt⟩
  | ⟨4, _⟩ => ⟨(i 3).val, (i 3).isLt⟩
theorem val_main_v53_apply (i : S3x8x4x6x256.Idx) :
    val_main_v53 (F := F) x1 i = x1 (idx_main_v53 i) := by
  unfold val_main_v53
  exact transpose_apply [0, 2, 3, 4, 1] x1 transposes_S3x256x8x4x6_S3x8x4x6x256_0_2_3_4_1 i (idx_main_v53 i) (fun b => match b with
    | ⟨0, _⟩ => rfl
    | ⟨1, _⟩ => rfl
    | ⟨2, _⟩ => rfl
    | ⟨3, _⟩ => rfl
    | ⟨4, _⟩ => rfl)

-- %54 = stablehlo.reshape %53 : (tensor<3x8x4x6x256xf32>) -> tensor<24x4x6x256xf32>
def val_main_v54 : Arr F S24x4x6x256 .f32 :=
  shapeCast _ (val_main_v53 (F := F) x1) shapeCasts_S3x8x4x6x256_S24x4x6x256
set_option backward.proofsInPublic true in
abbrev idx_main_v54 (i : S24x4x6x256.Idx) : S3x8x4x6x256.Idx := fun a => match a with
  | ⟨0, _⟩ => ⟨((((i 0).val * 4 + (i 1).val) * 6 + (i 2).val) * 256 + (i 3).val) / 49152, by have h0 : (i 0).val < 24 := (i 0).isLt; have h1 : (i 1).val < 4 := (i 1).isLt; have h2 : (i 2).val < 6 := (i 2).isLt; have h3 : (i 3).val < 256 := (i 3).isLt; show ((((i 0).val * 4 + (i 1).val) * 6 + (i 2).val) * 256 + (i 3).val) / 49152 < 3; omega⟩
  | ⟨1, _⟩ => ⟨((((i 0).val * 4 + (i 1).val) * 6 + (i 2).val) * 256 + (i 3).val) / 6144 % 8, by have h0 : (i 0).val < 24 := (i 0).isLt; have h1 : (i 1).val < 4 := (i 1).isLt; have h2 : (i 2).val < 6 := (i 2).isLt; have h3 : (i 3).val < 256 := (i 3).isLt; show ((((i 0).val * 4 + (i 1).val) * 6 + (i 2).val) * 256 + (i 3).val) / 6144 % 8 < 8; omega⟩
  | ⟨2, _⟩ => ⟨((((i 0).val * 4 + (i 1).val) * 6 + (i 2).val) * 256 + (i 3).val) / 1536 % 4, by have h0 : (i 0).val < 24 := (i 0).isLt; have h1 : (i 1).val < 4 := (i 1).isLt; have h2 : (i 2).val < 6 := (i 2).isLt; have h3 : (i 3).val < 256 := (i 3).isLt; show ((((i 0).val * 4 + (i 1).val) * 6 + (i 2).val) * 256 + (i 3).val) / 1536 % 4 < 4; omega⟩
  | ⟨3, _⟩ => ⟨((((i 0).val * 4 + (i 1).val) * 6 + (i 2).val) * 256 + (i 3).val) / 256 % 6, by have h0 : (i 0).val < 24 := (i 0).isLt; have h1 : (i 1).val < 4 := (i 1).isLt; have h2 : (i 2).val < 6 := (i 2).isLt; have h3 : (i 3).val < 256 := (i 3).isLt; show ((((i 0).val * 4 + (i 1).val) * 6 + (i 2).val) * 256 + (i 3).val) / 256 % 6 < 6; omega⟩
  | ⟨4, _⟩ => ⟨((((i 0).val * 4 + (i 1).val) * 6 + (i 2).val) * 256 + (i 3).val) % 256, by have h0 : (i 0).val < 24 := (i 0).isLt; have h1 : (i 1).val < 4 := (i 1).isLt; have h2 : (i 2).val < 6 := (i 2).isLt; have h3 : (i 3).val < 256 := (i 3).isLt; show ((((i 0).val * 4 + (i 1).val) * 6 + (i 2).val) * 256 + (i 3).val) % 256 < 256; omega⟩
theorem val_main_v54_apply (i : S24x4x6x256.Idx) :
    val_main_v54 (F := F) x1 i = val_main_v53 (F := F) x1 (idx_main_v54 i) := by
  unfold val_main_v54
  generalize val_main_v53 (F := F) x1 = y
  exact shapeCast_apply y shapeCasts_S3x8x4x6x256_S24x4x6x256 i (idx_main_v54 i)
    (by rewrite [Shape.rowMajor_val_five, Shape.rowMajor_val_four]; have h0 : (i 0).val < 24 := (i 0).isLt; have h1 : (i 1).val < 4 := (i 1).isLt; have h2 : (i 2).val < 6 := (i 2).isLt; have h3 : (i 3).val < 256 := (i 3).isLt; show (((((((i 0).val * 4 + (i 1).val) * 6 + (i 2).val) * 256 + (i 3).val) / 49152 * 8 + ((((i 0).val * 4 + (i 1).val) * 6 + (i 2).val) * 256 + (i 3).val) / 6144 % 8) * 4 + ((((i 0).val * 4 + (i 1).val) * 6 + (i 2).val) * 256 + (i 3).val) / 1536 % 4) * 6 + ((((i 0).val * 4 + (i 1).val) * 6 + (i 2).val) * 256 + (i 3).val) / 256 % 6) * 256 + ((((i 0).val * 4 + (i 1).val) * 6 + (i 2).val) * 256 + (i 3).val) % 256 = (((i 0).val * 4 + (i 1).val) * 6 + (i 2).val) * 256 + (i 3).val; omega)

-- %55 = stablehlo.iota dim = 0 : tensor<4xi32>
def val_main_v55 : Arr F S4 .i32 :=
  iotaInDim S4 32 0
theorem val_main_v55_apply (i : S4.Idx) :
    val_main_v55 (F := F) i = BitVec.ofNat 32 (i 0).val := rfl

-- %56 = stablehlo.broadcast_in_dim %55, dims = [0] : (tensor<4xi32>) -> tensor<4x1x1xi32>
def val_main_v56 : Arr F S4x1x1 .i32 :=
  broadcastInDim S4x1x1 ![0] bcast_S4_S4x1x1_0 (val_main_v55 (F := F))
abbrev idx_main_v56 (i : S4x1x1.Idx) : S4.Idx := fun a => match a with
  | ⟨0, _⟩ => ⟨(i 0).val, (i 0).isLt⟩
theorem val_main_v56_apply (i : S4x1x1.Idx) :
    val_main_v56 (F := F) i = val_main_v55 (F := F) (idx_main_v56 i) := by
  unfold val_main_v56
  generalize val_main_v55 (F := F) = y
  exact broadcastInDim_apply _ bcast_S4_S4x1x1_0 y i (idx_main_v56 i) (fun a => match a with
    | ⟨0, _⟩ => rfl)

-- %c_10 = stablehlo.constant dense<320> : tensor<i32>
def val_main_c_10 : Arr F S_ .i32 :=
  constantI S_ 32 320#32
theorem val_main_c_10_apply (i : S_.Idx) :
    val_main_c_10 (F := F) i = 320#32 := rfl

-- %57 = stablehlo.broadcast_in_dim %c_10, dims = [] : (tensor<i32>) -> tensor<4x1x1xi32>
def val_main_v57 : Arr F S4x1x1 .i32 :=
  broadcastInDim S4x1x1 ![] bcast_S_S4x1x1 (val_main_c_10 (F := F))
abbrev idx_main_v57 (i : S4x1x1.Idx) : S_.Idx := fun a => a.elim0
theorem val_main_v57_apply (i : S4x1x1.Idx) :
    val_main_v57 (F := F) i = val_main_c_10 (F := F) (idx_main_v57 i) := by
  unfold val_main_v57
  generalize val_main_c_10 (F := F) = y
  exact broadcastInDim_apply _ bcast_S_S4x1x1 y i (idx_main_v57 i) (fun a => a.elim0)

-- %58 = stablehlo.shift_right_arithmetic %57, %56 : tensor<4x1x1xi32>
def val_main_v58 : Arr F S4x1x1 .i32 :=
  Host.shrsi (val_main_v57 (F := F)) (val_main_v56 (F := F))
theorem val_main_v58_apply (i : S4x1x1.Idx) :
    val_main_v58 (F := F) i = IntOp.shrsi .host (val_main_v57 (F := F) i) (val_main_v56 (F := F) i) := rfl

-- %c_11 = stablehlo.constant dense<200> : tensor<i32>
def val_main_c_11 : Arr F S_ .i32 :=
  constantI S_ 32 200#32
theorem val_main_c_11_apply (i : S_.Idx) :
    val_main_c_11 (F := F) i = 200#32 := rfl

-- %59 = stablehlo.broadcast_in_dim %c_11, dims = [] : (tensor<i32>) -> tensor<4x1x1xi32>
def val_main_v59 : Arr F S4x1x1 .i32 :=
  broadcastInDim S4x1x1 ![] bcast_S_S4x1x1 (val_main_c_11 (F := F))
abbrev idx_main_v59 (i : S4x1x1.Idx) : S_.Idx := fun a => a.elim0
theorem val_main_v59_apply (i : S4x1x1.Idx) :
    val_main_v59 (F := F) i = val_main_c_11 (F := F) (idx_main_v59 i) := by
  unfold val_main_v59
  generalize val_main_c_11 (F := F) = y
  exact broadcastInDim_apply _ bcast_S_S4x1x1 y i (idx_main_v59 i) (fun a => a.elim0)

-- %60 = stablehlo.shift_right_arithmetic %59, %56 : tensor<4x1x1xi32>
def val_main_v60 : Arr F S4x1x1 .i32 :=
  Host.shrsi (val_main_v59 (F := F)) (val_main_v56 (F := F))
theorem val_main_v60_apply (i : S4x1x1.Idx) :
    val_main_v60 (F := F) i = IntOp.shrsi .host (val_main_v59 (F := F) i) (val_main_v56 (F := F) i) := rfl

-- %61 = stablehlo.convert %58 : (tensor<4x1x1xi32>) -> tensor<4x1x1xf32>
def val_main_v61 : Arr F S4x1x1 .f32 :=
  sitofp .f32 (val_main_v58 (F := F))
theorem val_main_v61_apply (i : S4x1x1.Idx) :
    val_main_v61 (F := F) i = FloatOps.sitofp .f32 (val_main_v58 (F := F) i) := rfl

-- %62 = stablehlo.convert %60 : (tensor<4x1x1xi32>) -> tensor<4x1x1xf32>
def val_main_v62 : Arr F S4x1x1 .f32 :=
  sitofp .f32 (val_main_v60 (F := F))
theorem val_main_v62_apply (i : S4x1x1.Idx) :
    val_main_v62 (F := F) i = FloatOps.sitofp .f32 (val_main_v60 (F := F) i) := rfl

-- %63 = stablehlo.slice %52 [0:24, 0:1, 0:4, 0:6, 0:256] : (tensor<24x2x4x6x256xf32>) -> tensor<24x1x4x6x256xf32>
def val_main_v63 : Arr F S24x1x4x6x256 .f32 :=
  extractStridedSlice S24x1x4x6x256 ![0, 0, 0, 0, 0] (val_main_v52 (F := F) x0) slices_S24x2x4x6x256_S24x1x4x6x256_0_0_0_0_0
set_option backward.proofsInPublic true in
abbrev idx_main_v63 (i : S24x1x4x6x256.Idx) : S24x2x4x6x256.Idx := fun a => match a with
  | ⟨0, _⟩ => ⟨(i 0).val, (i 0).isLt⟩
  | ⟨1, _⟩ => ⟨(i 1).val, by have h1 : (i 1).val < 1 := (i 1).isLt; show (i 1).val < 2; omega⟩
  | ⟨2, _⟩ => ⟨(i 2).val, (i 2).isLt⟩
  | ⟨3, _⟩ => ⟨(i 3).val, (i 3).isLt⟩
  | ⟨4, _⟩ => ⟨(i 4).val, (i 4).isLt⟩
theorem val_main_v63_apply (i : S24x1x4x6x256.Idx) :
    val_main_v63 (F := F) x0 i = val_main_v52 (F := F) x0 (idx_main_v63 i) := by
  unfold val_main_v63
  generalize val_main_v52 (F := F) x0 = y
  exact extractStridedSlice_apply ![0, 0, 0, 0, 0] y slices_S24x2x4x6x256_S24x1x4x6x256_0_0_0_0_0 i (idx_main_v63 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega
    | ⟨4, _⟩ => by show (i 4).val = 0 + (i 4).val; omega)

-- %64 = stablehlo.reshape %63 : (tensor<24x1x4x6x256xf32>) -> tensor<24x4x6x256xf32>
def val_main_v64 : Arr F S24x4x6x256 .f32 :=
  shapeCast _ (val_main_v63 (F := F) x0) shapeCasts_S24x1x4x6x256_S24x4x6x256
set_option backward.proofsInPublic true in
abbrev idx_main_v64 (i : S24x4x6x256.Idx) : S24x1x4x6x256.Idx := fun a => match a with
  | ⟨0, _⟩ => ⟨((((i 0).val * 4 + (i 1).val) * 6 + (i 2).val) * 256 + (i 3).val) / 6144, by have h0 : (i 0).val < 24 := (i 0).isLt; have h1 : (i 1).val < 4 := (i 1).isLt; have h2 : (i 2).val < 6 := (i 2).isLt; have h3 : (i 3).val < 256 := (i 3).isLt; show ((((i 0).val * 4 + (i 1).val) * 6 + (i 2).val) * 256 + (i 3).val) / 6144 < 24; omega⟩
  | ⟨1, _⟩ => ⟨0, Nat.one_pos⟩
  | ⟨2, _⟩ => ⟨((((i 0).val * 4 + (i 1).val) * 6 + (i 2).val) * 256 + (i 3).val) / 1536 % 4, by have h0 : (i 0).val < 24 := (i 0).isLt; have h1 : (i 1).val < 4 := (i 1).isLt; have h2 : (i 2).val < 6 := (i 2).isLt; have h3 : (i 3).val < 256 := (i 3).isLt; show ((((i 0).val * 4 + (i 1).val) * 6 + (i 2).val) * 256 + (i 3).val) / 1536 % 4 < 4; omega⟩
  | ⟨3, _⟩ => ⟨((((i 0).val * 4 + (i 1).val) * 6 + (i 2).val) * 256 + (i 3).val) / 256 % 6, by have h0 : (i 0).val < 24 := (i 0).isLt; have h1 : (i 1).val < 4 := (i 1).isLt; have h2 : (i 2).val < 6 := (i 2).isLt; have h3 : (i 3).val < 256 := (i 3).isLt; show ((((i 0).val * 4 + (i 1).val) * 6 + (i 2).val) * 256 + (i 3).val) / 256 % 6 < 6; omega⟩
  | ⟨4, _⟩ => ⟨((((i 0).val * 4 + (i 1).val) * 6 + (i 2).val) * 256 + (i 3).val) % 256, by have h0 : (i 0).val < 24 := (i 0).isLt; have h1 : (i 1).val < 4 := (i 1).isLt; have h2 : (i 2).val < 6 := (i 2).isLt; have h3 : (i 3).val < 256 := (i 3).isLt; show ((((i 0).val * 4 + (i 1).val) * 6 + (i 2).val) * 256 + (i 3).val) % 256 < 256; omega⟩
theorem val_main_v64_apply (i : S24x4x6x256.Idx) :
    val_main_v64 (F := F) x0 i = val_main_v63 (F := F) x0 (idx_main_v64 i) := by
  unfold val_main_v64
  generalize val_main_v63 (F := F) x0 = y
  exact shapeCast_apply y shapeCasts_S24x1x4x6x256_S24x4x6x256 i (idx_main_v64 i)
    (by rewrite [Shape.rowMajor_val_five, Shape.rowMajor_val_four]; have h0 : (i 0).val < 24 := (i 0).isLt; have h1 : (i 1).val < 4 := (i 1).isLt; have h2 : (i 2).val < 6 := (i 2).isLt; have h3 : (i 3).val < 256 := (i 3).isLt; show (((((((i 0).val * 4 + (i 1).val) * 6 + (i 2).val) * 256 + (i 3).val) / 6144 * 1 + 0) * 4 + ((((i 0).val * 4 + (i 1).val) * 6 + (i 2).val) * 256 + (i 3).val) / 1536 % 4) * 6 + ((((i 0).val * 4 + (i 1).val) * 6 + (i 2).val) * 256 + (i 3).val) / 256 % 6) * 256 + ((((i 0).val * 4 + (i 1).val) * 6 + (i 2).val) * 256 + (i 3).val) % 256 = (((i 0).val * 4 + (i 1).val) * 6 + (i 2).val) * 256 + (i 3).val; omega)

-- %65 = stablehlo.broadcast_in_dim %61, dims = [1, 2, 3] : (tensor<4x1x1xf32>) -> tensor<1x4x1x1xf32>
def val_main_v65 : Arr F S1x4x1x1 .f32 :=
  broadcastInDim S1x4x1x1 ![1, 2, 3] bcast_S4x1x1_S1x4x1x1_1_2_3 (val_main_v61 (F := F))
abbrev idx_main_v65 (i : S1x4x1x1.Idx) : S4x1x1.Idx := fun a => match a with
  | ⟨0, _⟩ => ⟨(i 1).val, (i 1).isLt⟩
  | ⟨1, _⟩ => ⟨0, Nat.one_pos⟩
  | ⟨2, _⟩ => ⟨0, Nat.one_pos⟩
theorem val_main_v65_apply (i : S1x4x1x1.Idx) :
    val_main_v65 (F := F) i = val_main_v61 (F := F) (idx_main_v65 i) := by
  unfold val_main_v65
  generalize val_main_v61 (F := F) = y
  exact broadcastInDim_apply _ bcast_S4x1x1_S1x4x1x1_1_2_3 y i (idx_main_v65 i) (fun a => match a with
    | ⟨0, _⟩ => rfl
    | ⟨1, _⟩ => rfl
    | ⟨2, _⟩ => rfl)

-- %66 = stablehlo.broadcast_in_dim %65, dims = [0, 1, 2, 3] : (tensor<1x4x1x1xf32>) -> tensor<24x4x6x256xf32>
def val_main_v66 : Arr F S24x4x6x256 .f32 :=
  broadcastInDim S24x4x6x256 ![0, 1, 2, 3] bcast_S1x4x1x1_S24x4x6x256_0_1_2_3 (val_main_v65 (F := F))
abbrev idx_main_v66 (i : S24x4x6x256.Idx) : S1x4x1x1.Idx := fun a => match a with
  | ⟨0, _⟩ => ⟨0, Nat.one_pos⟩
  | ⟨1, _⟩ => ⟨(i 1).val, (i 1).isLt⟩
  | ⟨2, _⟩ => ⟨0, Nat.one_pos⟩
  | ⟨3, _⟩ => ⟨0, Nat.one_pos⟩
theorem val_main_v66_apply (i : S24x4x6x256.Idx) :
    val_main_v66 (F := F) i = val_main_v65 (F := F) (idx_main_v66 i) := by
  unfold val_main_v66
  generalize val_main_v65 (F := F) = y
  exact broadcastInDim_apply _ bcast_S1x4x1x1_S24x4x6x256_0_1_2_3 y i (idx_main_v66 i) (fun a => match a with
    | ⟨0, _⟩ => rfl
    | ⟨1, _⟩ => rfl
    | ⟨2, _⟩ => rfl
    | ⟨3, _⟩ => rfl)

-- %67 = stablehlo.multiply %64, %66 : tensor<24x4x6x256xf32>
def val_main_v67 : Arr F S24x4x6x256 .f32 :=
  mulf (val_main_v64 (F := F) x0) (val_main_v66 (F := F))
theorem val_main_v67_apply (i : S24x4x6x256.Idx) :
    val_main_v67 (F := F) x0 i = FloatOps.mulf (val_main_v64 (F := F) x0 i) (val_main_v66 (F := F) i) := rfl

-- %cst_12 = stablehlo.constant dense<5.000000e-01> : tensor<f32>
def val_main_cst_12 : Arr F S_ .f32 :=
  constant S_ .f32 0x3F000000#32
theorem val_main_cst_12_apply (i : S_.Idx) :
    val_main_cst_12 (F := F) i = FloatOps.ofBits .f32 0x3F000000#32 := rfl

-- %68 = stablehlo.broadcast_in_dim %cst_12, dims = [] : (tensor<f32>) -> tensor<24x4x6x256xf32>
def val_main_v68 : Arr F S24x4x6x256 .f32 :=
  broadcastInDim S24x4x6x256 ![] bcast_S_S24x4x6x256 (val_main_cst_12 (F := F))
abbrev idx_main_v68 (i : S24x4x6x256.Idx) : S_.Idx := fun a => a.elim0
theorem val_main_v68_apply (i : S24x4x6x256.Idx) :
    val_main_v68 (F := F) i = val_main_cst_12 (F := F) (idx_main_v68 i) := by
  unfold val_main_v68
  generalize val_main_cst_12 (F := F) = y
  exact broadcastInDim_apply _ bcast_S_S24x4x6x256 y i (idx_main_v68 i) (fun a => a.elim0)

-- %69 = stablehlo.subtract %67, %68 : tensor<24x4x6x256xf32>
def val_main_v69 : Arr F S24x4x6x256 .f32 :=
  subf (val_main_v67 (F := F) x0) (val_main_v68 (F := F))
theorem val_main_v69_apply (i : S24x4x6x256.Idx) :
    val_main_v69 (F := F) x0 i = FloatOps.subf (val_main_v67 (F := F) x0 i) (val_main_v68 (F := F) i) := rfl

-- %70 = stablehlo.slice %52 [0:24, 1:2, 0:4, 0:6, 0:256] : (tensor<24x2x4x6x256xf32>) -> tensor<24x1x4x6x256xf32>
def val_main_v70 : Arr F S24x1x4x6x256 .f32 :=
  extractStridedSlice S24x1x4x6x256 ![0, 1, 0, 0, 0] (val_main_v52 (F := F) x0) slices_S24x2x4x6x256_S24x1x4x6x256_0_1_0_0_0
set_option backward.proofsInPublic true in
abbrev idx_main_v70 (i : S24x1x4x6x256.Idx) : S24x2x4x6x256.Idx := fun a => match a with
  | ⟨0, _⟩ => ⟨(i 0).val, (i 0).isLt⟩
  | ⟨1, _⟩ => ⟨1 + (i 1).val, by have h1 : (i 1).val < 1 := (i 1).isLt; show 1 + (i 1).val < 2; omega⟩
  | ⟨2, _⟩ => ⟨(i 2).val, (i 2).isLt⟩
  | ⟨3, _⟩ => ⟨(i 3).val, (i 3).isLt⟩
  | ⟨4, _⟩ => ⟨(i 4).val, (i 4).isLt⟩
theorem val_main_v70_apply (i : S24x1x4x6x256.Idx) :
    val_main_v70 (F := F) x0 i = val_main_v52 (F := F) x0 (idx_main_v70 i) := by
  unfold val_main_v70
  generalize val_main_v52 (F := F) x0 = y
  exact extractStridedSlice_apply ![0, 1, 0, 0, 0] y slices_S24x2x4x6x256_S24x1x4x6x256_0_1_0_0_0 i (idx_main_v70 i) (fun a => match a with
    | ⟨0, _⟩ => by show (i 0).val = 0 + (i 0).val; omega
    | ⟨1, _⟩ => by show 1 + (i 1).val = 1 + (i 1).val; omega
    | ⟨2, _⟩ => by show (i 2).val = 0 + (i 2).val; omega
    | ⟨3, _⟩ => by show (i 3).val = 0 + (i 3).val; omega
    | ⟨4, _⟩ => by show (i 4).val = 0 + (i 4).val; omega)

-- %71 = stablehlo.reshape %70 : (tensor<24x1x4x6x256xf32>) -> tensor<24x4x6x256xf32>
def val_main_v71 : Arr F S24x4x6x256 .f32 :=
  shapeCast _ (val_main_v70 (F := F) x0) shapeCasts_S24x1x4x6x256_S24x4x6x256
set_option backward.proofsInPublic true in
abbrev idx_main_v71 (i : S24x4x6x256.Idx) : S24x1x4x6x256.Idx := fun a => match a with
  | ⟨0, _⟩ => ⟨((((i 0).val * 4 + (i 1).val) * 6 + (i 2).val) * 256 + (i 3).val) / 6144, by have h0 : (i 0).val < 24 := (i 0).isLt; have h1 : (i 1).val < 4 := (i 1).isLt; have h2 : (i 2).val < 6 := (i 2).isLt; have h3 : (i 3).val < 256 := (i 3).isLt; show ((((i 0).val * 4 + (i 1).val) * 6 + (i 2).val) * 256 + (i 3).val) / 6144 < 24; omega⟩
  | ⟨1, _⟩ => ⟨0, Nat.one_pos⟩
  | ⟨2, _⟩ => ⟨((((i 0).val * 4 + (i 1).val) * 6 + (i 2).val) * 256 + (i 3).val) / 1536 % 4, by have h0 : (i 0).val < 24 := (i 0).isLt; have h1 : (i 1).val < 4 := (i 1).isLt; have h2 : (i 2).val < 6 := (i 2).isLt; have h3 : (i 3).val < 256 := (i 3).isLt; show ((((i 0).val * 4 + (i 1).val) * 6 + (i 2).val) * 256 + (i 3).val) / 1536 % 4 < 4; omega⟩
  | ⟨3, _⟩ => ⟨((((i 0).val * 4 + (i 1).val) * 6 + (i 2).val) * 256 + (i 3).val) / 256 % 6, by have h0 : (i 0).val < 24 := (i 0).isLt; have h1 : (i 1).val < 4 := (i 1).isLt; have h2 : (i 2).val < 6 := (i 2).isLt; have h3 : (i 3).val < 256 := (i 3).isLt; show ((((i 0).val * 4 + (i 1).val) * 6 + (i 2).val) * 256 + (i 3).val) / 256 % 6 < 6; omega⟩
  | ⟨4, _⟩ => ⟨((((i 0).val * 4 + (i 1).val) * 6 + (i 2).val) * 256 + (i 3).val) % 256, by have h0 : (i 0).val < 24 := (i 0).isLt; have h1 : (i 1).val < 4 := (i 1).isLt; have h2 : (i 2).val < 6 := (i 2).isLt; have h3 : (i 3).val < 256 := (i 3).isLt; show ((((i 0).val * 4 + (i 1).val) * 6 + (i 2).val) * 256 + (i 3).val) % 256 < 256; omega⟩
theorem val_main_v71_apply (i : S24x4x6x256.Idx) :
    val_main_v71 (F := F) x0 i = val_main_v70 (F := F) x0 (idx_main_v71 i) := by
  unfold val_main_v71
  generalize val_main_v70 (F := F) x0 = y
  exact shapeCast_apply y shapeCasts_S24x1x4x6x256_S24x4x6x256 i (idx_main_v71 i)
    (by rewrite [Shape.rowMajor_val_five, Shape.rowMajor_val_four]; have h0 : (i 0).val < 24 := (i 0).isLt; have h1 : (i 1).val < 4 := (i 1).isLt; have h2 : (i 2).val < 6 := (i 2).isLt; have h3 : (i 3).val < 256 := (i 3).isLt; show (((((((i 0).val * 4 + (i 1).val) * 6 + (i 2).val) * 256 + (i 3).val) / 6144 * 1 + 0) * 4 + ((((i 0).val * 4 + (i 1).val) * 6 + (i 2).val) * 256 + (i 3).val) / 1536 % 4) * 6 + ((((i 0).val * 4 + (i 1).val) * 6 + (i 2).val) * 256 + (i 3).val) / 256 % 6) * 256 + ((((i 0).val * 4 + (i 1).val) * 6 + (i 2).val) * 256 + (i 3).val) % 256 = (((i 0).val * 4 + (i 1).val) * 6 + (i 2).val) * 256 + (i 3).val; omega)

-- %72 = stablehlo.broadcast_in_dim %62, dims = [1, 2, 3] : (tensor<4x1x1xf32>) -> tensor<1x4x1x1xf32>
def val_main_v72 : Arr F S1x4x1x1 .f32 :=
  broadcastInDim S1x4x1x1 ![1, 2, 3] bcast_S4x1x1_S1x4x1x1_1_2_3 (val_main_v62 (F := F))
abbrev idx_main_v72 (i : S1x4x1x1.Idx) : S4x1x1.Idx := fun a => match a with
  | ⟨0, _⟩ => ⟨(i 1).val, (i 1).isLt⟩
  | ⟨1, _⟩ => ⟨0, Nat.one_pos⟩
  | ⟨2, _⟩ => ⟨0, Nat.one_pos⟩
theorem val_main_v72_apply (i : S1x4x1x1.Idx) :
    val_main_v72 (F := F) i = val_main_v62 (F := F) (idx_main_v72 i) := by
  unfold val_main_v72
  generalize val_main_v62 (F := F) = y
  exact broadcastInDim_apply _ bcast_S4x1x1_S1x4x1x1_1_2_3 y i (idx_main_v72 i) (fun a => match a with
    | ⟨0, _⟩ => rfl
    | ⟨1, _⟩ => rfl
    | ⟨2, _⟩ => rfl)

-- %73 = stablehlo.broadcast_in_dim %72, dims = [0, 1, 2, 3] : (tensor<1x4x1x1xf32>) -> tensor<24x4x6x256xf32>
def val_main_v73 : Arr F S24x4x6x256 .f32 :=
  broadcastInDim S24x4x6x256 ![0, 1, 2, 3] bcast_S1x4x1x1_S24x4x6x256_0_1_2_3 (val_main_v72 (F := F))
abbrev idx_main_v73 (i : S24x4x6x256.Idx) : S1x4x1x1.Idx := fun a => match a with
  | ⟨0, _⟩ => ⟨0, Nat.one_pos⟩
  | ⟨1, _⟩ => ⟨(i 1).val, (i 1).isLt⟩
  | ⟨2, _⟩ => ⟨0, Nat.one_pos⟩
  | ⟨3, _⟩ => ⟨0, Nat.one_pos⟩
theorem val_main_v73_apply (i : S24x4x6x256.Idx) :
    val_main_v73 (F := F) i = val_main_v72 (F := F) (idx_main_v73 i) := by
  unfold val_main_v73
  generalize val_main_v72 (F := F) = y
  exact broadcastInDim_apply _ bcast_S1x4x1x1_S24x4x6x256_0_1_2_3 y i (idx_main_v73 i) (fun a => match a with
    | ⟨0, _⟩ => rfl
    | ⟨1, _⟩ => rfl
    | ⟨2, _⟩ => rfl
    | ⟨3, _⟩ => rfl)

-- %74 = stablehlo.multiply %71, %73 : tensor<24x4x6x256xf32>
def val_main_v74 : Arr F S24x4x6x256 .f32 :=
  mulf (val_main_v71 (F := F) x0) (val_main_v73 (F := F))
theorem val_main_v74_apply (i : S24x4x6x256.Idx) :
    val_main_v74 (F := F) x0 i = FloatOps.mulf (val_main_v71 (F := F) x0 i) (val_main_v73 (F := F) i) := rfl

-- %cst_13 = stablehlo.constant dense<5.000000e-01> : tensor<f32>
def val_main_cst_13 : Arr F S_ .f32 :=
  constant S_ .f32 0x3F000000#32
theorem val_main_cst_13_apply (i : S_.Idx) :
    val_main_cst_13 (F := F) i = FloatOps.ofBits .f32 0x3F000000#32 := rfl

-- %75 = stablehlo.broadcast_in_dim %cst_13, dims = [] : (tensor<f32>) -> tensor<24x4x6x256xf32>
def val_main_v75 : Arr F S24x4x6x256 .f32 :=
  broadcastInDim S24x4x6x256 ![] bcast_S_S24x4x6x256 (val_main_cst_13 (F := F))
abbrev idx_main_v75 (i : S24x4x6x256.Idx) : S_.Idx := fun a => a.elim0
theorem val_main_v75_apply (i : S24x4x6x256.Idx) :
    val_main_v75 (F := F) i = val_main_cst_13 (F := F) (idx_main_v75 i) := by
  unfold val_main_v75
  generalize val_main_cst_13 (F := F) = y
  exact broadcastInDim_apply _ bcast_S_S24x4x6x256 y i (idx_main_v75 i) (fun a => a.elim0)

-- %76 = stablehlo.subtract %74, %75 : tensor<24x4x6x256xf32>
def val_main_v76 : Arr F S24x4x6x256 .f32 :=
  subf (val_main_v74 (F := F) x0) (val_main_v75 (F := F))
theorem val_main_v76_apply (i : S24x4x6x256.Idx) :
    val_main_v76 (F := F) x0 i = FloatOps.subf (val_main_v74 (F := F) x0 i) (val_main_v75 (F := F) i) := rfl

-- %77 = stablehlo.floor %69 : tensor<24x4x6x256xf32>
def val_main_v77 : Arr F S24x4x6x256 .f32 :=
  Host.floor (val_main_v69 (F := F) x0)
theorem val_main_v77_apply (i : S24x4x6x256.Idx) :
    val_main_v77 (F := F) x0 i = FloatOps.hostUnary .floor (val_main_v69 (F := F) x0 i) := rfl

-- %78 = stablehlo.floor %76 : tensor<24x4x6x256xf32>
def val_main_v78 : Arr F S24x4x6x256 .f32 :=
  Host.floor (val_main_v76 (F := F) x0)
theorem val_main_v78_apply (i : S24x4x6x256.Idx) :
    val_main_v78 (F := F) x0 i = FloatOps.hostUnary .floor (val_main_v76 (F := F) x0 i) := rfl

-- %79 = stablehlo.subtract %69, %77 : tensor<24x4x6x256xf32>
def val_main_v79 : Arr F S24x4x6x256 .f32 :=
  subf (val_main_v69 (F := F) x0) (val_main_v77 (F := F) x0)
theorem val_main_v79_apply (i : S24x4x6x256.Idx) :
    val_main_v79 (F := F) x0 i = FloatOps.subf (val_main_v69 (F := F) x0 i) (val_main_v77 (F := F) x0 i) := rfl

-- %80 = stablehlo.subtract %76, %78 : tensor<24x4x6x256xf32>
def val_main_v80 : Arr F S24x4x6x256 .f32 :=
  subf (val_main_v76 (F := F) x0) (val_main_v78 (F := F) x0)
theorem val_main_v80_apply (i : S24x4x6x256.Idx) :
    val_main_v80 (F := F) x0 i = FloatOps.subf (val_main_v76 (F := F) x0 i) (val_main_v78 (F := F) x0 i) := rfl

-- %cst_14 = stablehlo.constant dense<1.000000e+00> : tensor<f32>
def val_main_cst_14 : Arr F S_ .f32 :=
  constant S_ .f32 0x3F800000#32
theorem val_main_cst_14_apply (i : S_.Idx) :
    val_main_cst_14 (F := F) i = FloatOps.ofBits .f32 0x3F800000#32 := rfl

-- %81 = stablehlo.broadcast_in_dim %cst_14, dims = [] : (tensor<f32>) -> tensor<24x4x6x256xf32>
def val_main_v81 : Arr F S24x4x6x256 .f32 :=
  broadcastInDim S24x4x6x256 ![] bcast_S_S24x4x6x256 (val_main_cst_14 (F := F))
abbrev idx_main_v81 (i : S24x4x6x256.Idx) : S_.Idx := fun a => a.elim0
theorem val_main_v81_apply (i : S24x4x6x256.Idx) :
    val_main_v81 (F := F) i = val_main_cst_14 (F := F) (idx_main_v81 i) := by
  unfold val_main_v81
  generalize val_main_cst_14 (F := F) = y
  exact broadcastInDim_apply _ bcast_S_S24x4x6x256 y i (idx_main_v81 i) (fun a => a.elim0)

-- %82 = stablehlo.subtract %81, %79 : tensor<24x4x6x256xf32>
def val_main_v82 : Arr F S24x4x6x256 .f32 :=
  subf (val_main_v81 (F := F)) (val_main_v79 (F := F) x0)
theorem val_main_v82_apply (i : S24x4x6x256.Idx) :
    val_main_v82 (F := F) x0 i = FloatOps.subf (val_main_v81 (F := F) i) (val_main_v79 (F := F) x0 i) := rfl

-- %cst_15 = stablehlo.constant dense<1.000000e+00> : tensor<f32>
def val_main_cst_15 : Arr F S_ .f32 :=
  constant S_ .f32 0x3F800000#32
theorem val_main_cst_15_apply (i : S_.Idx) :
    val_main_cst_15 (F := F) i = FloatOps.ofBits .f32 0x3F800000#32 := rfl

-- %83 = stablehlo.broadcast_in_dim %cst_15, dims = [] : (tensor<f32>) -> tensor<24x4x6x256xf32>
def val_main_v83 : Arr F S24x4x6x256 .f32 :=
  broadcastInDim S24x4x6x256 ![] bcast_S_S24x4x6x256 (val_main_cst_15 (F := F))
abbrev idx_main_v83 (i : S24x4x6x256.Idx) : S_.Idx := fun a => a.elim0
theorem val_main_v83_apply (i : S24x4x6x256.Idx) :
    val_main_v83 (F := F) i = val_main_cst_15 (F := F) (idx_main_v83 i) := by
  unfold val_main_v83
  generalize val_main_cst_15 (F := F) = y
  exact broadcastInDim_apply _ bcast_S_S24x4x6x256 y i (idx_main_v83 i) (fun a => a.elim0)

-- %84 = stablehlo.subtract %83, %80 : tensor<24x4x6x256xf32>
def val_main_v84 : Arr F S24x4x6x256 .f32 :=
  subf (val_main_v83 (F := F)) (val_main_v80 (F := F) x0)
theorem val_main_v84_apply (i : S24x4x6x256.Idx) :
    val_main_v84 (F := F) x0 i = FloatOps.subf (val_main_v83 (F := F) i) (val_main_v80 (F := F) x0 i) := rfl

-- %85 = stablehlo.convert %77 : (tensor<24x4x6x256xf32>) -> tensor<24x4x6x256xi32>
def val_main_v85 : Arr F S24x4x6x256 .i32 :=
  fptosi 32 (val_main_v77 (F := F) x0)
theorem val_main_v85_apply (i : S24x4x6x256.Idx) :
    val_main_v85 (F := F) x0 i = FloatOps.fptosi 32 (val_main_v77 (F := F) x0 i) := rfl

-- %86 = stablehlo.convert %78 : (tensor<24x4x6x256xf32>) -> tensor<24x4x6x256xi32>
def val_main_v86 : Arr F S24x4x6x256 .i32 :=
  fptosi 32 (val_main_v78 (F := F) x0)
theorem val_main_v86_apply (i : S24x4x6x256.Idx) :
    val_main_v86 (F := F) x0 i = FloatOps.fptosi 32 (val_main_v78 (F := F) x0 i) := rfl

-- %c_16 = stablehlo.constant dense<1> : tensor<i32>
def val_main_c_16 : Arr F S_ .i32 :=
  constantI S_ 32 1#32
theorem val_main_c_16_apply (i : S_.Idx) :
    val_main_c_16 (F := F) i = 1#32 := rfl

-- %87 = stablehlo.broadcast_in_dim %c_16, dims = [] : (tensor<i32>) -> tensor<24x4x6x256xi32>
def val_main_v87 : Arr F S24x4x6x256 .i32 :=
  broadcastInDim S24x4x6x256 ![] bcast_S_S24x4x6x256 (val_main_c_16 (F := F))
abbrev idx_main_v87 (i : S24x4x6x256.Idx) : S_.Idx := fun a => a.elim0
theorem val_main_v87_apply (i : S24x4x6x256.Idx) :
    val_main_v87 (F := F) i = val_main_c_16 (F := F) (idx_main_v87 i) := by
  unfold val_main_v87
  generalize val_main_c_16 (F := F) = y
  exact broadcastInDim_apply _ bcast_S_S24x4x6x256 y i (idx_main_v87 i) (fun a => a.elim0)

-- %88 = stablehlo.add %85, %87 : tensor<24x4x6x256xi32>
def val_main_v88 : Arr F S24x4x6x256 .i32 :=
  addi (val_main_v85 (F := F) x0) (val_main_v87 (F := F))
theorem val_main_v88_apply (i : S24x4x6x256.Idx) :
    val_main_v88 (F := F) x0 i = IntOp.addi (val_main_v85 (F := F) x0 i) (val_main_v87 (F := F) i) := rfl

-- %c_17 = stablehlo.constant dense<1> : tensor<i32>
def val_main_c_17 : Arr F S_ .i32 :=
  constantI S_ 32 1#32
theorem val_main_c_17_apply (i : S_.Idx) :
    val_main_c_17 (F := F) i = 1#32 := rfl

-- %89 = stablehlo.broadcast_in_dim %c_17, dims = [] : (tensor<i32>) -> tensor<24x4x6x256xi32>
def val_main_v89 : Arr F S24x4x6x256 .i32 :=
  broadcastInDim S24x4x6x256 ![] bcast_S_S24x4x6x256 (val_main_c_17 (F := F))
abbrev idx_main_v89 (i : S24x4x6x256.Idx) : S_.Idx := fun a => a.elim0
theorem val_main_v89_apply (i : S24x4x6x256.Idx) :
    val_main_v89 (F := F) i = val_main_c_17 (F := F) (idx_main_v89 i) := by
  unfold val_main_v89
  generalize val_main_c_17 (F := F) = y
  exact broadcastInDim_apply _ bcast_S_S24x4x6x256 y i (idx_main_v89 i) (fun a => a.elim0)

-- %90 = stablehlo.add %85, %89 : tensor<24x4x6x256xi32>
def val_main_v90 : Arr F S24x4x6x256 .i32 :=
  addi (val_main_v85 (F := F) x0) (val_main_v89 (F := F))
theorem val_main_v90_apply (i : S24x4x6x256.Idx) :
    val_main_v90 (F := F) x0 i = IntOp.addi (val_main_v85 (F := F) x0 i) (val_main_v89 (F := F) i) := rfl

-- %91 = stablehlo.broadcast_in_dim %85, dims = [0, 1, 3, 4] : (tensor<24x4x6x256xi32>) -> tensor<24x4x1x6x256xi32>
def val_main_v91 : Arr F S24x4x1x6x256 .i32 :=
  broadcastInDim S24x4x1x6x256 ![0, 1, 3, 4] bcast_S24x4x6x256_S24x4x1x6x256_0_1_3_4 (val_main_v85 (F := F) x0)
abbrev idx_main_v91 (i : S24x4x1x6x256.Idx) : S24x4x6x256.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨(i 4).val, (i 4).isLt⟩
theorem val_main_v91_apply (i : S24x4x1x6x256.Idx) :
    val_main_v91 (F := F) x0 i = val_main_v85 (F := F) x0 (idx_main_v91 i) := by
  unfold val_main_v91
  generalize val_main_v85 (F := F) x0 = y
  exact broadcastInDim_apply _ bcast_S24x4x6x256_S24x4x1x6x256_0_1_3_4 y i (idx_main_v91 i) (fun a => match a with
    | ⟨0, _⟩ => rfl
    | ⟨1, _⟩ => rfl
    | ⟨2, _⟩ => rfl
    | ⟨3, _⟩ => rfl)

-- %92 = stablehlo.broadcast_in_dim %88, dims = [0, 1, 3, 4] : (tensor<24x4x6x256xi32>) -> tensor<24x4x1x6x256xi32>
def val_main_v92 : Arr F S24x4x1x6x256 .i32 :=
  broadcastInDim S24x4x1x6x256 ![0, 1, 3, 4] bcast_S24x4x6x256_S24x4x1x6x256_0_1_3_4 (val_main_v88 (F := F) x0)
abbrev idx_main_v92 (i : S24x4x1x6x256.Idx) : S24x4x6x256.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨(i 4).val, (i 4).isLt⟩
theorem val_main_v92_apply (i : S24x4x1x6x256.Idx) :
    val_main_v92 (F := F) x0 i = val_main_v88 (F := F) x0 (idx_main_v92 i) := by
  unfold val_main_v92
  generalize val_main_v88 (F := F) x0 = y
  exact broadcastInDim_apply _ bcast_S24x4x6x256_S24x4x1x6x256_0_1_3_4 y i (idx_main_v92 i) (fun a => match a with
    | ⟨0, _⟩ => rfl
    | ⟨1, _⟩ => rfl
    | ⟨2, _⟩ => rfl
    | ⟨3, _⟩ => rfl)

-- %93 = stablehlo.broadcast_in_dim %85, dims = [0, 1, 3, 4] : (tensor<24x4x6x256xi32>) -> tensor<24x4x1x6x256xi32>
def val_main_v93 : Arr F S24x4x1x6x256 .i32 :=
  broadcastInDim S24x4x1x6x256 ![0, 1, 3, 4] bcast_S24x4x6x256_S24x4x1x6x256_0_1_3_4 (val_main_v85 (F := F) x0)
abbrev idx_main_v93 (i : S24x4x1x6x256.Idx) : S24x4x6x256.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨(i 4).val, (i 4).isLt⟩
theorem val_main_v93_apply (i : S24x4x1x6x256.Idx) :
    val_main_v93 (F := F) x0 i = val_main_v85 (F := F) x0 (idx_main_v93 i) := by
  unfold val_main_v93
  generalize val_main_v85 (F := F) x0 = y
  exact broadcastInDim_apply _ bcast_S24x4x6x256_S24x4x1x6x256_0_1_3_4 y i (idx_main_v93 i) (fun a => match a with
    | ⟨0, _⟩ => rfl
    | ⟨1, _⟩ => rfl
    | ⟨2, _⟩ => rfl
    | ⟨3, _⟩ => rfl)

-- %94 = stablehlo.broadcast_in_dim %90, dims = [0, 1, 3, 4] : (tensor<24x4x6x256xi32>) -> tensor<24x4x1x6x256xi32>
def val_main_v94 : Arr F S24x4x1x6x256 .i32 :=
  broadcastInDim S24x4x1x6x256 ![0, 1, 3, 4] bcast_S24x4x6x256_S24x4x1x6x256_0_1_3_4 (val_main_v90 (F := F) x0)
abbrev idx_main_v94 (i : S24x4x1x6x256.Idx) : S24x4x6x256.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨(i 4).val, (i 4).isLt⟩
theorem val_main_v94_apply (i : S24x4x1x6x256.Idx) :
    val_main_v94 (F := F) x0 i = val_main_v90 (F := F) x0 (idx_main_v94 i) := by
  unfold val_main_v94
  generalize val_main_v90 (F := F) x0 = y
  exact broadcastInDim_apply _ bcast_S24x4x6x256_S24x4x1x6x256_0_1_3_4 y i (idx_main_v94 i) (fun a => match a with
    | ⟨0, _⟩ => rfl
    | ⟨1, _⟩ => rfl
    | ⟨2, _⟩ => rfl
    | ⟨3, _⟩ => rfl)

-- %95 = stablehlo.concatenate %91, %92, %93, %94, dim = 2 : (tensor<24x4x1x6x256xi32>, tensor<24x4x1x6x256xi32>, tensor<24x4x1x6x256xi32>, tensor<24x4x1x6x256xi32>) -> tensor<24x4x4x6x256xi32>
def val_main_v95 : Arr F S24x4x4x6x256 .i32 :=
  (concatenate S24x4x4x6x256 2 [⟨S24x4x1x6x256, ((val_main_v91 (F := F) x0) : Arr F S24x4x1x6x256 .i32)⟩, ⟨S24x4x1x6x256, ((val_main_v92 (F := F) x0) : Arr F S24x4x1x6x256 .i32)⟩, ⟨S24x4x1x6x256, ((val_main_v93 (F := F) x0) : Arr F S24x4x1x6x256 .i32)⟩, ⟨S24x4x1x6x256, ((val_main_v94 (F := F) x0) : Arr F S24x4x1x6x256 .i32)⟩] concatenates_S24x4x1x6x256_S24x4x1x6x256_S24x4x1x6x256_S24x4x1x6x256_S24x4x4x6x256_d2 : Arr F S24x4x4x6x256 .i32)

-- %c_18 = stablehlo.constant dense<1> : tensor<i32>
def val_main_c_18 : Arr F S_ .i32 :=
  constantI S_ 32 1#32
theorem val_main_c_18_apply (i : S_.Idx) :
    val_main_c_18 (F := F) i = 1#32 := rfl

-- %96 = stablehlo.broadcast_in_dim %c_18, dims = [] : (tensor<i32>) -> tensor<24x4x6x256xi32>
def val_main_v96 : Arr F S24x4x6x256 .i32 :=
  broadcastInDim S24x4x6x256 ![] bcast_S_S24x4x6x256 (val_main_c_18 (F := F))
abbrev idx_main_v96 (i : S24x4x6x256.Idx) : S_.Idx := fun a => a.elim0
theorem val_main_v96_apply (i : S24x4x6x256.Idx) :
    val_main_v96 (F := F) i = val_main_c_18 (F := F) (idx_main_v96 i) := by
  unfold val_main_v96
  generalize val_main_c_18 (F := F) = y
  exact broadcastInDim_apply _ bcast_S_S24x4x6x256 y i (idx_main_v96 i) (fun a => a.elim0)

-- %97 = stablehlo.add %86, %96 : tensor<24x4x6x256xi32>
def val_main_v97 : Arr F S24x4x6x256 .i32 :=
  addi (val_main_v86 (F := F) x0) (val_main_v96 (F := F))
theorem val_main_v97_apply (i : S24x4x6x256.Idx) :
    val_main_v97 (F := F) x0 i = IntOp.addi (val_main_v86 (F := F) x0 i) (val_main_v96 (F := F) i) := rfl

-- %c_19 = stablehlo.constant dense<1> : tensor<i32>
def val_main_c_19 : Arr F S_ .i32 :=
  constantI S_ 32 1#32
theorem val_main_c_19_apply (i : S_.Idx) :
    val_main_c_19 (F := F) i = 1#32 := rfl

-- %98 = stablehlo.broadcast_in_dim %c_19, dims = [] : (tensor<i32>) -> tensor<24x4x6x256xi32>
def val_main_v98 : Arr F S24x4x6x256 .i32 :=
  broadcastInDim S24x4x6x256 ![] bcast_S_S24x4x6x256 (val_main_c_19 (F := F))
abbrev idx_main_v98 (i : S24x4x6x256.Idx) : S_.Idx := fun a => a.elim0
theorem val_main_v98_apply (i : S24x4x6x256.Idx) :
    val_main_v98 (F := F) i = val_main_c_19 (F := F) (idx_main_v98 i) := by
  unfold val_main_v98
  generalize val_main_c_19 (F := F) = y
  exact broadcastInDim_apply _ bcast_S_S24x4x6x256 y i (idx_main_v98 i) (fun a => a.elim0)

-- %99 = stablehlo.add %86, %98 : tensor<24x4x6x256xi32>
def val_main_v99 : Arr F S24x4x6x256 .i32 :=
  addi (val_main_v86 (F := F) x0) (val_main_v98 (F := F))
theorem val_main_v99_apply (i : S24x4x6x256.Idx) :
    val_main_v99 (F := F) x0 i = IntOp.addi (val_main_v86 (F := F) x0 i) (val_main_v98 (F := F) i) := rfl

-- %100 = stablehlo.broadcast_in_dim %86, dims = [0, 1, 3, 4] : (tensor<24x4x6x256xi32>) -> tensor<24x4x1x6x256xi32>
def val_main_v100 : Arr F S24x4x1x6x256 .i32 :=
  broadcastInDim S24x4x1x6x256 ![0, 1, 3, 4] bcast_S24x4x6x256_S24x4x1x6x256_0_1_3_4 (val_main_v86 (F := F) x0)
abbrev idx_main_v100 (i : S24x4x1x6x256.Idx) : S24x4x6x256.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨(i 4).val, (i 4).isLt⟩
theorem val_main_v100_apply (i : S24x4x1x6x256.Idx) :
    val_main_v100 (F := F) x0 i = val_main_v86 (F := F) x0 (idx_main_v100 i) := by
  unfold val_main_v100
  generalize val_main_v86 (F := F) x0 = y
  exact broadcastInDim_apply _ bcast_S24x4x6x256_S24x4x1x6x256_0_1_3_4 y i (idx_main_v100 i) (fun a => match a with
    | ⟨0, _⟩ => rfl
    | ⟨1, _⟩ => rfl
    | ⟨2, _⟩ => rfl
    | ⟨3, _⟩ => rfl)

-- %101 = stablehlo.broadcast_in_dim %86, dims = [0, 1, 3, 4] : (tensor<24x4x6x256xi32>) -> tensor<24x4x1x6x256xi32>
def val_main_v101 : Arr F S24x4x1x6x256 .i32 :=
  broadcastInDim S24x4x1x6x256 ![0, 1, 3, 4] bcast_S24x4x6x256_S24x4x1x6x256_0_1_3_4 (val_main_v86 (F := F) x0)
abbrev idx_main_v101 (i : S24x4x1x6x256.Idx) : S24x4x6x256.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨(i 4).val, (i 4).isLt⟩
theorem val_main_v101_apply (i : S24x4x1x6x256.Idx) :
    val_main_v101 (F := F) x0 i = val_main_v86 (F := F) x0 (idx_main_v101 i) := by
  unfold val_main_v101
  generalize val_main_v86 (F := F) x0 = y
  exact broadcastInDim_apply _ bcast_S24x4x6x256_S24x4x1x6x256_0_1_3_4 y i (idx_main_v101 i) (fun a => match a with
    | ⟨0, _⟩ => rfl
    | ⟨1, _⟩ => rfl
    | ⟨2, _⟩ => rfl
    | ⟨3, _⟩ => rfl)

-- %102 = stablehlo.broadcast_in_dim %97, dims = [0, 1, 3, 4] : (tensor<24x4x6x256xi32>) -> tensor<24x4x1x6x256xi32>
def val_main_v102 : Arr F S24x4x1x6x256 .i32 :=
  broadcastInDim S24x4x1x6x256 ![0, 1, 3, 4] bcast_S24x4x6x256_S24x4x1x6x256_0_1_3_4 (val_main_v97 (F := F) x0)
abbrev idx_main_v102 (i : S24x4x1x6x256.Idx) : S24x4x6x256.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨(i 4).val, (i 4).isLt⟩
theorem val_main_v102_apply (i : S24x4x1x6x256.Idx) :
    val_main_v102 (F := F) x0 i = val_main_v97 (F := F) x0 (idx_main_v102 i) := by
  unfold val_main_v102
  generalize val_main_v97 (F := F) x0 = y
  exact broadcastInDim_apply _ bcast_S24x4x6x256_S24x4x1x6x256_0_1_3_4 y i (idx_main_v102 i) (fun a => match a with
    | ⟨0, _⟩ => rfl
    | ⟨1, _⟩ => rfl
    | ⟨2, _⟩ => rfl
    | ⟨3, _⟩ => rfl)

-- %103 = stablehlo.broadcast_in_dim %99, dims = [0, 1, 3, 4] : (tensor<24x4x6x256xi32>) -> tensor<24x4x1x6x256xi32>
def val_main_v103 : Arr F S24x4x1x6x256 .i32 :=
  broadcastInDim S24x4x1x6x256 ![0, 1, 3, 4] bcast_S24x4x6x256_S24x4x1x6x256_0_1_3_4 (val_main_v99 (F := F) x0)
abbrev idx_main_v103 (i : S24x4x1x6x256.Idx) : S24x4x6x256.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨(i 4).val, (i 4).isLt⟩
theorem val_main_v103_apply (i : S24x4x1x6x256.Idx) :
    val_main_v103 (F := F) x0 i = val_main_v99 (F := F) x0 (idx_main_v103 i) := by
  unfold val_main_v103
  generalize val_main_v99 (F := F) x0 = y
  exact broadcastInDim_apply _ bcast_S24x4x6x256_S24x4x1x6x256_0_1_3_4 y i (idx_main_v103 i) (fun a => match a with
    | ⟨0, _⟩ => rfl
    | ⟨1, _⟩ => rfl
    | ⟨2, _⟩ => rfl
    | ⟨3, _⟩ => rfl)

-- %104 = stablehlo.concatenate %100, %101, %102, %103, dim = 2 : (tensor<24x4x1x6x256xi32>, tensor<24x4x1x6x256xi32>, tensor<24x4x1x6x256xi32>, tensor<24x4x1x6x256xi32>) -> tensor<24x4x4x6x256xi32>
def val_main_v104 : Arr F S24x4x4x6x256 .i32 :=
  (concatenate S24x4x4x6x256 2 [⟨S24x4x1x6x256, ((val_main_v100 (F := F) x0) : Arr F S24x4x1x6x256 .i32)⟩, ⟨S24x4x1x6x256, ((val_main_v101 (F := F) x0) : Arr F S24x4x1x6x256 .i32)⟩, ⟨S24x4x1x6x256, ((val_main_v102 (F := F) x0) : Arr F S24x4x1x6x256 .i32)⟩, ⟨S24x4x1x6x256, ((val_main_v103 (F := F) x0) : Arr F S24x4x1x6x256 .i32)⟩] concatenates_S24x4x1x6x256_S24x4x1x6x256_S24x4x1x6x256_S24x4x1x6x256_S24x4x4x6x256_d2 : Arr F S24x4x4x6x256 .i32)

-- %105 = stablehlo.multiply %84, %82 : tensor<24x4x6x256xf32>
def val_main_v105 : Arr F S24x4x6x256 .f32 :=
  mulf (val_main_v84 (F := F) x0) (val_main_v82 (F := F) x0)
theorem val_main_v105_apply (i : S24x4x6x256.Idx) :
    val_main_v105 (F := F) x0 i = FloatOps.mulf (val_main_v84 (F := F) x0 i) (val_main_v82 (F := F) x0 i) := rfl

-- %106 = stablehlo.multiply %84, %79 : tensor<24x4x6x256xf32>
def val_main_v106 : Arr F S24x4x6x256 .f32 :=
  mulf (val_main_v84 (F := F) x0) (val_main_v79 (F := F) x0)
theorem val_main_v106_apply (i : S24x4x6x256.Idx) :
    val_main_v106 (F := F) x0 i = FloatOps.mulf (val_main_v84 (F := F) x0 i) (val_main_v79 (F := F) x0 i) := rfl

-- %107 = stablehlo.multiply %80, %82 : tensor<24x4x6x256xf32>
def val_main_v107 : Arr F S24x4x6x256 .f32 :=
  mulf (val_main_v80 (F := F) x0) (val_main_v82 (F := F) x0)
theorem val_main_v107_apply (i : S24x4x6x256.Idx) :
    val_main_v107 (F := F) x0 i = FloatOps.mulf (val_main_v80 (F := F) x0 i) (val_main_v82 (F := F) x0 i) := rfl

-- %108 = stablehlo.multiply %80, %79 : tensor<24x4x6x256xf32>
def val_main_v108 : Arr F S24x4x6x256 .f32 :=
  mulf (val_main_v80 (F := F) x0) (val_main_v79 (F := F) x0)
theorem val_main_v108_apply (i : S24x4x6x256.Idx) :
    val_main_v108 (F := F) x0 i = FloatOps.mulf (val_main_v80 (F := F) x0 i) (val_main_v79 (F := F) x0 i) := rfl

-- %109 = stablehlo.broadcast_in_dim %105, dims = [0, 1, 3, 4] : (tensor<24x4x6x256xf32>) -> tensor<24x4x1x6x256xf32>
def val_main_v109 : Arr F S24x4x1x6x256 .f32 :=
  broadcastInDim S24x4x1x6x256 ![0, 1, 3, 4] bcast_S24x4x6x256_S24x4x1x6x256_0_1_3_4 (val_main_v105 (F := F) x0)
abbrev idx_main_v109 (i : S24x4x1x6x256.Idx) : S24x4x6x256.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨(i 4).val, (i 4).isLt⟩
theorem val_main_v109_apply (i : S24x4x1x6x256.Idx) :
    val_main_v109 (F := F) x0 i = val_main_v105 (F := F) x0 (idx_main_v109 i) := by
  unfold val_main_v109
  generalize val_main_v105 (F := F) x0 = y
  exact broadcastInDim_apply _ bcast_S24x4x6x256_S24x4x1x6x256_0_1_3_4 y i (idx_main_v109 i) (fun a => match a with
    | ⟨0, _⟩ => rfl
    | ⟨1, _⟩ => rfl
    | ⟨2, _⟩ => rfl
    | ⟨3, _⟩ => rfl)

-- %110 = stablehlo.broadcast_in_dim %106, dims = [0, 1, 3, 4] : (tensor<24x4x6x256xf32>) -> tensor<24x4x1x6x256xf32>
def val_main_v110 : Arr F S24x4x1x6x256 .f32 :=
  broadcastInDim S24x4x1x6x256 ![0, 1, 3, 4] bcast_S24x4x6x256_S24x4x1x6x256_0_1_3_4 (val_main_v106 (F := F) x0)
abbrev idx_main_v110 (i : S24x4x1x6x256.Idx) : S24x4x6x256.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨(i 4).val, (i 4).isLt⟩
theorem val_main_v110_apply (i : S24x4x1x6x256.Idx) :
    val_main_v110 (F := F) x0 i = val_main_v106 (F := F) x0 (idx_main_v110 i) := by
  unfold val_main_v110
  generalize val_main_v106 (F := F) x0 = y
  exact broadcastInDim_apply _ bcast_S24x4x6x256_S24x4x1x6x256_0_1_3_4 y i (idx_main_v110 i) (fun a => match a with
    | ⟨0, _⟩ => rfl
    | ⟨1, _⟩ => rfl
    | ⟨2, _⟩ => rfl
    | ⟨3, _⟩ => rfl)

-- %111 = stablehlo.broadcast_in_dim %107, dims = [0, 1, 3, 4] : (tensor<24x4x6x256xf32>) -> tensor<24x4x1x6x256xf32>
def val_main_v111 : Arr F S24x4x1x6x256 .f32 :=
  broadcastInDim S24x4x1x6x256 ![0, 1, 3, 4] bcast_S24x4x6x256_S24x4x1x6x256_0_1_3_4 (val_main_v107 (F := F) x0)
abbrev idx_main_v111 (i : S24x4x1x6x256.Idx) : S24x4x6x256.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨(i 4).val, (i 4).isLt⟩
theorem val_main_v111_apply (i : S24x4x1x6x256.Idx) :
    val_main_v111 (F := F) x0 i = val_main_v107 (F := F) x0 (idx_main_v111 i) := by
  unfold val_main_v111
  generalize val_main_v107 (F := F) x0 = y
  exact broadcastInDim_apply _ bcast_S24x4x6x256_S24x4x1x6x256_0_1_3_4 y i (idx_main_v111 i) (fun a => match a with
    | ⟨0, _⟩ => rfl
    | ⟨1, _⟩ => rfl
    | ⟨2, _⟩ => rfl
    | ⟨3, _⟩ => rfl)

-- %112 = stablehlo.broadcast_in_dim %108, dims = [0, 1, 3, 4] : (tensor<24x4x6x256xf32>) -> tensor<24x4x1x6x256xf32>
def val_main_v112 : Arr F S24x4x1x6x256 .f32 :=
  broadcastInDim S24x4x1x6x256 ![0, 1, 3, 4] bcast_S24x4x6x256_S24x4x1x6x256_0_1_3_4 (val_main_v108 (F := F) x0)
abbrev idx_main_v112 (i : S24x4x1x6x256.Idx) : S24x4x6x256.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨(i 4).val, (i 4).isLt⟩
theorem val_main_v112_apply (i : S24x4x1x6x256.Idx) :
    val_main_v112 (F := F) x0 i = val_main_v108 (F := F) x0 (idx_main_v112 i) := by
  unfold val_main_v112
  generalize val_main_v108 (F := F) x0 = y
  exact broadcastInDim_apply _ bcast_S24x4x6x256_S24x4x1x6x256_0_1_3_4 y i (idx_main_v112 i) (fun a => match a with
    | ⟨0, _⟩ => rfl
    | ⟨1, _⟩ => rfl
    | ⟨2, _⟩ => rfl
    | ⟨3, _⟩ => rfl)

-- %113 = stablehlo.concatenate %109, %110, %111, %112, dim = 2 : (tensor<24x4x1x6x256xf32>, tensor<24x4x1x6x256xf32>, tensor<24x4x1x6x256xf32>, tensor<24x4x1x6x256xf32>) -> tensor<24x4x4x6x256xf32>
def val_main_v113 : Arr F S24x4x4x6x256 .f32 :=
  (concatenate S24x4x4x6x256 2 [⟨S24x4x1x6x256, ((val_main_v109 (F := F) x0) : Arr F S24x4x1x6x256 .f32)⟩, ⟨S24x4x1x6x256, ((val_main_v110 (F := F) x0) : Arr F S24x4x1x6x256 .f32)⟩, ⟨S24x4x1x6x256, ((val_main_v111 (F := F) x0) : Arr F S24x4x1x6x256 .f32)⟩, ⟨S24x4x1x6x256, ((val_main_v112 (F := F) x0) : Arr F S24x4x1x6x256 .f32)⟩] concatenates_S24x4x1x6x256_S24x4x1x6x256_S24x4x1x6x256_S24x4x1x6x256_S24x4x4x6x256_d2 : Arr F S24x4x4x6x256 .f32)

-- %c_20 = stablehlo.constant dense<0> : tensor<i32>
def val_main_c_20 : Arr F S_ .i32 :=
  constantI S_ 32 0#32
theorem val_main_c_20_apply (i : S_.Idx) :
    val_main_c_20 (F := F) i = 0#32 := rfl

end Cert.ReferenceIdeal.Stage

end
-- ==== Proof.RefStagesB.lean ====
/-
  The reference, one operation at a time. `val_main_v‹n›` is the value of the operation that writes `main_v‹n›`, as a
  function of the arguments; `val_main_v‹n›_apply` reads it at an index. Second half.
-/
module

public import proofs.«01_k».proof.Proof.RefStagesA

@[expose] public section

set_option maxRecDepth 16384

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F]
variable (x0 : Arr F S3x256x8x4x6x2 .f32) (x1 : Arr F S3x256x8x4x6 .f32) (x2 : Arr F S3x256 .f32) (x3 : Arr F S24x48x256 .bf16) (x4 : Arr F S7077888 .i32) (x5 : Arr F S589824 .i32)

theorem lhs_prod_0 (i : S24x256x4x6.Idx) (q : dot_S24x4x6x256x48_S24x48x256_S24x256x4x6_4_1_12_n_03_02.contr.Idx) :
    (dot_S24x4x6x256x48_S24x48x256_S24x256x4x6_4_1_12_n_03_02.lhsIdx i q 0).val = (i 0).val := by
  unfold DotDims.lhsIdx
  rw [dif_pos (show (0 : Fin S24x4x6x256x48.rank) ∈ dot_S24x4x6x256x48_S24x48x256_S24x256x4x6_4_1_12_n_03_02.lhsBatch by decide)]
  rfl
theorem lhs_prod_1 (i : S24x256x4x6.Idx) (q : dot_S24x4x6x256x48_S24x48x256_S24x256x4x6_4_1_12_n_03_02.contr.Idx) :
    (dot_S24x4x6x256x48_S24x48x256_S24x256x4x6_4_1_12_n_03_02.lhsIdx i q 1).val = (i 2).val := by
  unfold DotDims.lhsIdx
  rw [dif_neg (show ¬(1 : Fin S24x4x6x256x48.rank) ∈ dot_S24x4x6x256x48_S24x48x256_S24x256x4x6_4_1_12_n_03_02.lhsBatch by decide), dif_pos (show (1 : Fin S24x4x6x256x48.rank) ∈ dot_S24x4x6x256x48_S24x48x256_S24x256x4x6_4_1_12_n_03_02.lhsNonContracting by decide)]
  rfl
theorem lhs_prod_2 (i : S24x256x4x6.Idx) (q : dot_S24x4x6x256x48_S24x48x256_S24x256x4x6_4_1_12_n_03_02.contr.Idx) :
    (dot_S24x4x6x256x48_S24x48x256_S24x256x4x6_4_1_12_n_03_02.lhsIdx i q 2).val = (i 3).val := by
  unfold DotDims.lhsIdx
  rw [dif_neg (show ¬(2 : Fin S24x4x6x256x48.rank) ∈ dot_S24x4x6x256x48_S24x48x256_S24x256x4x6_4_1_12_n_03_02.lhsBatch by decide), dif_pos (show (2 : Fin S24x4x6x256x48.rank) ∈ dot_S24x4x6x256x48_S24x48x256_S24x256x4x6_4_1_12_n_03_02.lhsNonContracting by decide)]
  rfl
theorem lhs_prod_3 (i : S24x256x4x6.Idx) (q : dot_S24x4x6x256x48_S24x48x256_S24x256x4x6_4_1_12_n_03_02.contr.Idx) :
    (dot_S24x4x6x256x48_S24x48x256_S24x256x4x6_4_1_12_n_03_02.lhsIdx i q 3).val = (i 1).val := by
  unfold DotDims.lhsIdx
  rw [dif_pos (show (3 : Fin S24x4x6x256x48.rank) ∈ dot_S24x4x6x256x48_S24x48x256_S24x256x4x6_4_1_12_n_03_02.lhsBatch by decide)]
  rfl
theorem lhs_prod_4 (i : S24x256x4x6.Idx) (q : dot_S24x4x6x256x48_S24x48x256_S24x256x4x6_4_1_12_n_03_02.contr.Idx) :
    (dot_S24x4x6x256x48_S24x48x256_S24x256x4x6_4_1_12_n_03_02.lhsIdx i q 4).val = (q ⟨0, by decide⟩).val :=
  dot_S24x4x6x256x48_S24x48x256_S24x256x4x6_4_1_12_n_03_02.lhsIdx_val_of_single rfl i q
theorem rhs_prod_0 (i : S24x256x4x6.Idx) (q : dot_S24x4x6x256x48_S24x48x256_S24x256x4x6_4_1_12_n_03_02.contr.Idx) :
    (dot_S24x4x6x256x48_S24x48x256_S24x256x4x6_4_1_12_n_03_02.rhsIdx i q 0).val = (i 0).val := by
  unfold DotDims.rhsIdx
  rw [dif_pos (show (0 : Fin S24x48x256.rank) ∈ dot_S24x4x6x256x48_S24x48x256_S24x256x4x6_4_1_12_n_03_02.rhsBatch by decide)]
  rfl
theorem rhs_prod_1 (i : S24x256x4x6.Idx) (q : dot_S24x4x6x256x48_S24x48x256_S24x256x4x6_4_1_12_n_03_02.contr.Idx) :
    (dot_S24x4x6x256x48_S24x48x256_S24x256x4x6_4_1_12_n_03_02.rhsIdx i q 1).val = (q ⟨0, by decide⟩).val :=
  dot_S24x4x6x256x48_S24x48x256_S24x256x4x6_4_1_12_n_03_02.rhsIdx_val_of_single rfl i q
theorem rhs_prod_2 (i : S24x256x4x6.Idx) (q : dot_S24x4x6x256x48_S24x48x256_S24x256x4x6_4_1_12_n_03_02.contr.Idx) :
    (dot_S24x4x6x256x48_S24x48x256_S24x256x4x6_4_1_12_n_03_02.rhsIdx i q 2).val = (i 1).val := by
  unfold DotDims.rhsIdx
  rw [dif_pos (show (2 : Fin S24x48x256.rank) ∈ dot_S24x4x6x256x48_S24x48x256_S24x256x4x6_4_1_12_n_03_02.rhsBatch by decide)]
  rfl
abbrev lidx_prod (i : S24x256x4x6.Idx) (k : Fin 48) : S24x4x6x256x48.Idx := fun a => match a with
  | ⟨0, _⟩ => ⟨(i 0).val, (i 0).isLt⟩
  | ⟨1, _⟩ => ⟨(i 2).val, (i 2).isLt⟩
  | ⟨2, _⟩ => ⟨(i 3).val, (i 3).isLt⟩
  | ⟨3, _⟩ => ⟨(i 1).val, (i 1).isLt⟩
  | ⟨4, _⟩ => ⟨k.val, k.isLt⟩
abbrev ridx_prod (i : S24x256x4x6.Idx) (k : Fin 48) : S24x48x256.Idx := fun a => match a with
  | ⟨0, _⟩ => ⟨(i 0).val, (i 0).isLt⟩
  | ⟨1, _⟩ => ⟨k.val, k.isLt⟩
  | ⟨2, _⟩ => ⟨(i 1).val, (i 1).isLt⟩
/-- The product over the elements of a head, read at an index. Stated at `F := Ideal`, where the host's `dot_general` is this sum; at a bit-exact instance it is an opaque function of its operands. -/
theorem prod_apply (y0 : Arr Ideal S24x4x6x256x48 .f32) (y1 : Arr Ideal S24x48x256 .f32) (i : S24x256x4x6.Idx) :
    (Host.dotGeneral (F := Ideal) (φ₁ := .f32) (φ₂ := .f32) dot_S24x4x6x256x48_S24x48x256_S24x256x4x6_4_1_12_n_03_02 (some .fp32) y0 y1 : Arr Ideal S24x256x4x6 .f32) i = ∑ k : Fin 48, y0 (lidx_prod i k) * y1 (ridx_prod i k) := by
  simp only [Host.dotGeneral]
  rw [Ideal.dotGeneral_apply, ← Equiv.sum_comp (ValueIdx.contrEquiv1 dot_S24x4x6x256x48_S24x48x256_S24x256x4x6_4_1_12_n_03_02 48 rfl rfl).symm]
  refine Finset.sum_congr rfl fun k _ => ?_
  have hk := ValueIdx.contrEquiv1_symm_val dot_S24x4x6x256x48_S24x48x256_S24x256x4x6_4_1_12_n_03_02 48 rfl rfl k
  have el : dot_S24x4x6x256x48_S24x48x256_S24x256x4x6_4_1_12_n_03_02.lhsIdx i ((ValueIdx.contrEquiv1 dot_S24x4x6x256x48_S24x48x256_S24x256x4x6_4_1_12_n_03_02 48 rfl rfl).symm k) = lidx_prod i k := funext fun a => Fin.ext (by
    match a with
    | ⟨0, _⟩ => exact lhs_prod_0 _ _
    | ⟨1, _⟩ => exact lhs_prod_1 _ _
    | ⟨2, _⟩ => exact lhs_prod_2 _ _
    | ⟨3, _⟩ => exact lhs_prod_3 _ _
    | ⟨4, _⟩ => exact (lhs_prod_4 _ _).trans hk)
  have er : dot_S24x4x6x256x48_S24x48x256_S24x256x4x6_4_1_12_n_03_02.rhsIdx i ((ValueIdx.contrEquiv1 dot_S24x4x6x256x48_S24x48x256_S24x256x4x6_4_1_12_n_03_02 48 rfl rfl).symm k) = ridx_prod i k := funext fun a => Fin.ext (by
    match a with
    | ⟨0, _⟩ => exact rhs_prod_0 _ _
    | ⟨1, _⟩ => exact (rhs_prod_1 _ _).trans hk
    | ⟨2, _⟩ => exact rhs_prod_2 _ _)
  rw [el, er]

-- %114 = stablehlo.broadcast_in_dim %c_20, dims = [] : (tensor<i32>) -> tensor<24x4x4x6x256xi32>
def val_main_v114 : Arr F S24x4x4x6x256 .i32 :=
  broadcastInDim S24x4x4x6x256 ![] bcast_S_S24x4x4x6x256 (val_main_c_20 (F := F))
abbrev idx_main_v114 (i : S24x4x4x6x256.Idx) : S_.Idx := fun a => a.elim0
theorem val_main_v114_apply (i : S24x4x4x6x256.Idx) :
    val_main_v114 (F := F) i = val_main_c_20 (F := F) (idx_main_v114 i) := by
  unfold val_main_v114
  generalize val_main_c_20 (F := F) = y
  exact broadcastInDim_apply _ bcast_S_S24x4x4x6x256 y i (idx_main_v114 i) (fun a => a.elim0)

-- %115 = stablehlo.compare GE, %95, %114, SIGNED : (tensor<24x4x4x6x256xi32>, tensor<24x4x4x6x256xi32>) -> tensor<24x4x4x6x256xi1>
def val_main_v115 : Arr F S24x4x4x6x256 .i1 :=
  cmpi .sge (val_main_v95 (F := F) x0) (val_main_v114 (F := F))
theorem val_main_v115_apply (i : S24x4x4x6x256.Idx) :
    val_main_v115 (F := F) x0 i = IntOp.cmpi .sge (val_main_v95 (F := F) x0 i) (val_main_v114 (F := F) i) := rfl

-- %116 = stablehlo.broadcast_in_dim %58, dims = [0, 2, 3] : (tensor<4x1x1xi32>) -> tensor<4x1x1x1xi32>
def val_main_v116 : Arr F S4x1x1x1 .i32 :=
  broadcastInDim S4x1x1x1 ![0, 2, 3] bcast_S4x1x1_S4x1x1x1_0_2_3 (val_main_v58 (F := F))
abbrev idx_main_v116 (i : S4x1x1x1.Idx) : S4x1x1.Idx := fun a => match a with
  | ⟨0, _⟩ => ⟨(i 0).val, (i 0).isLt⟩
  | ⟨1, _⟩ => ⟨0, Nat.one_pos⟩
  | ⟨2, _⟩ => ⟨0, Nat.one_pos⟩
theorem val_main_v116_apply (i : S4x1x1x1.Idx) :
    val_main_v116 (F := F) i = val_main_v58 (F := F) (idx_main_v116 i) := by
  unfold val_main_v116
  generalize val_main_v58 (F := F) = y
  exact broadcastInDim_apply _ bcast_S4x1x1_S4x1x1x1_0_2_3 y i (idx_main_v116 i) (fun a => match a with
    | ⟨0, _⟩ => rfl
    | ⟨1, _⟩ => rfl
    | ⟨2, _⟩ => rfl)

-- %c_21 = stablehlo.constant dense<1> : tensor<i32>
def val_main_c_21 : Arr F S_ .i32 :=
  constantI S_ 32 1#32
theorem val_main_c_21_apply (i : S_.Idx) :
    val_main_c_21 (F := F) i = 1#32 := rfl

-- %117 = stablehlo.broadcast_in_dim %c_21, dims = [] : (tensor<i32>) -> tensor<4x1x1x1xi32>
def val_main_v117 : Arr F S4x1x1x1 .i32 :=
  broadcastInDim S4x1x1x1 ![] bcast_S_S4x1x1x1 (val_main_c_21 (F := F))
abbrev idx_main_v117 (i : S4x1x1x1.Idx) : S_.Idx := fun a => a.elim0
theorem val_main_v117_apply (i : S4x1x1x1.Idx) :
    val_main_v117 (F := F) i = val_main_c_21 (F := F) (idx_main_v117 i) := by
  unfold val_main_v117
  generalize val_main_c_21 (F := F) = y
  exact broadcastInDim_apply _ bcast_S_S4x1x1x1 y i (idx_main_v117 i) (fun a => a.elim0)

-- %118 = stablehlo.subtract %116, %117 : tensor<4x1x1x1xi32>
def val_main_v118 : Arr F S4x1x1x1 .i32 :=
  subi (val_main_v116 (F := F)) (val_main_v117 (F := F))
theorem val_main_v118_apply (i : S4x1x1x1.Idx) :
    val_main_v118 (F := F) i = IntOp.subi (val_main_v116 (F := F) i) (val_main_v117 (F := F) i) := rfl

-- %119 = stablehlo.broadcast_in_dim %118, dims = [1, 2, 3, 4] : (tensor<4x1x1x1xi32>) -> tensor<1x4x1x1x1xi32>
def val_main_v119 : Arr F S1x4x1x1x1 .i32 :=
  broadcastInDim S1x4x1x1x1 ![1, 2, 3, 4] bcast_S4x1x1x1_S1x4x1x1x1_1_2_3_4 (val_main_v118 (F := F))
abbrev idx_main_v119 (i : S1x4x1x1x1.Idx) : S4x1x1x1.Idx := fun a => match a with
  | ⟨0, _⟩ => ⟨(i 1).val, (i 1).isLt⟩
  | ⟨1, _⟩ => ⟨0, Nat.one_pos⟩
  | ⟨2, _⟩ => ⟨0, Nat.one_pos⟩
  | ⟨3, _⟩ => ⟨0, Nat.one_pos⟩
theorem val_main_v119_apply (i : S1x4x1x1x1.Idx) :
    val_main_v119 (F := F) i = val_main_v118 (F := F) (idx_main_v119 i) := by
  unfold val_main_v119
  generalize val_main_v118 (F := F) = y
  exact broadcastInDim_apply _ bcast_S4x1x1x1_S1x4x1x1x1_1_2_3_4 y i (idx_main_v119 i) (fun a => match a with
    | ⟨0, _⟩ => rfl
    | ⟨1, _⟩ => rfl
    | ⟨2, _⟩ => rfl
    | ⟨3, _⟩ => rfl)

-- %120 = stablehlo.broadcast_in_dim %119, dims = [0, 1, 2, 3, 4] : (tensor<1x4x1x1x1xi32>) -> tensor<24x4x4x6x256xi32>
def val_main_v120 : Arr F S24x4x4x6x256 .i32 :=
  broadcastInDim S24x4x4x6x256 ![0, 1, 2, 3, 4] bcast_S1x4x1x1x1_S24x4x4x6x256_0_1_2_3_4 (val_main_v119 (F := F))
abbrev idx_main_v120 (i : S24x4x4x6x256.Idx) : S1x4x1x1x1.Idx := fun a => match a with
  | ⟨0, _⟩ => ⟨0, Nat.one_pos⟩
  | ⟨1, _⟩ => ⟨(i 1).val, (i 1).isLt⟩
  | ⟨2, _⟩ => ⟨0, Nat.one_pos⟩
  | ⟨3, _⟩ => ⟨0, Nat.one_pos⟩
  | ⟨4, _⟩ => ⟨0, Nat.one_pos⟩
theorem val_main_v120_apply (i : S24x4x4x6x256.Idx) :
    val_main_v120 (F := F) i = val_main_v119 (F := F) (idx_main_v120 i) := by
  unfold val_main_v120
  generalize val_main_v119 (F := F) = y
  exact broadcastInDim_apply _ bcast_S1x4x1x1x1_S24x4x4x6x256_0_1_2_3_4 y i (idx_main_v120 i) (fun a => match a with
    | ⟨0, _⟩ => rfl
    | ⟨1, _⟩ => rfl
    | ⟨2, _⟩ => rfl
    | ⟨3, _⟩ => rfl
    | ⟨4, _⟩ => rfl)

-- %121 = stablehlo.compare LE, %95, %120, SIGNED : (tensor<24x4x4x6x256xi32>, tensor<24x4x4x6x256xi32>) -> tensor<24x4x4x6x256xi1>
def val_main_v121 : Arr F S24x4x4x6x256 .i1 :=
  cmpi .sle (val_main_v95 (F := F) x0) (val_main_v120 (F := F))
theorem val_main_v121_apply (i : S24x4x4x6x256.Idx) :
    val_main_v121 (F := F) x0 i = IntOp.cmpi .sle (val_main_v95 (F := F) x0 i) (val_main_v120 (F := F) i) := rfl

-- %122 = stablehlo.and %115, %121 : tensor<24x4x4x6x256xi1>
def val_main_v122 : Arr F S24x4x4x6x256 .i1 :=
  andi (val_main_v115 (F := F) x0) (val_main_v121 (F := F) x0)
theorem val_main_v122_apply (i : S24x4x4x6x256.Idx) :
    val_main_v122 (F := F) x0 i = IntOp.andi (val_main_v115 (F := F) x0 i) (val_main_v121 (F := F) x0 i) := rfl

-- %c_22 = stablehlo.constant dense<0> : tensor<i32>
def val_main_c_22 : Arr F S_ .i32 :=
  constantI S_ 32 0#32
theorem val_main_c_22_apply (i : S_.Idx) :
    val_main_c_22 (F := F) i = 0#32 := rfl

-- %123 = stablehlo.broadcast_in_dim %c_22, dims = [] : (tensor<i32>) -> tensor<24x4x4x6x256xi32>
def val_main_v123 : Arr F S24x4x4x6x256 .i32 :=
  broadcastInDim S24x4x4x6x256 ![] bcast_S_S24x4x4x6x256 (val_main_c_22 (F := F))
abbrev idx_main_v123 (i : S24x4x4x6x256.Idx) : S_.Idx := fun a => a.elim0
theorem val_main_v123_apply (i : S24x4x4x6x256.Idx) :
    val_main_v123 (F := F) i = val_main_c_22 (F := F) (idx_main_v123 i) := by
  unfold val_main_v123
  generalize val_main_c_22 (F := F) = y
  exact broadcastInDim_apply _ bcast_S_S24x4x4x6x256 y i (idx_main_v123 i) (fun a => a.elim0)

-- %124 = stablehlo.compare GE, %104, %123, SIGNED : (tensor<24x4x4x6x256xi32>, tensor<24x4x4x6x256xi32>) -> tensor<24x4x4x6x256xi1>
def val_main_v124 : Arr F S24x4x4x6x256 .i1 :=
  cmpi .sge (val_main_v104 (F := F) x0) (val_main_v123 (F := F))
theorem val_main_v124_apply (i : S24x4x4x6x256.Idx) :
    val_main_v124 (F := F) x0 i = IntOp.cmpi .sge (val_main_v104 (F := F) x0 i) (val_main_v123 (F := F) i) := rfl

-- %125 = stablehlo.and %122, %124 : tensor<24x4x4x6x256xi1>
def val_main_v125 : Arr F S24x4x4x6x256 .i1 :=
  andi (val_main_v122 (F := F) x0) (val_main_v124 (F := F) x0)
theorem val_main_v125_apply (i : S24x4x4x6x256.Idx) :
    val_main_v125 (F := F) x0 i = IntOp.andi (val_main_v122 (F := F) x0 i) (val_main_v124 (F := F) x0 i) := rfl

-- %126 = stablehlo.broadcast_in_dim %60, dims = [0, 2, 3] : (tensor<4x1x1xi32>) -> tensor<4x1x1x1xi32>
def val_main_v126 : Arr F S4x1x1x1 .i32 :=
  broadcastInDim S4x1x1x1 ![0, 2, 3] bcast_S4x1x1_S4x1x1x1_0_2_3 (val_main_v60 (F := F))
abbrev idx_main_v126 (i : S4x1x1x1.Idx) : S4x1x1.Idx := fun a => match a with
  | ⟨0, _⟩ => ⟨(i 0).val, (i 0).isLt⟩
  | ⟨1, _⟩ => ⟨0, Nat.one_pos⟩
  | ⟨2, _⟩ => ⟨0, Nat.one_pos⟩
theorem val_main_v126_apply (i : S4x1x1x1.Idx) :
    val_main_v126 (F := F) i = val_main_v60 (F := F) (idx_main_v126 i) := by
  unfold val_main_v126
  generalize val_main_v60 (F := F) = y
  exact broadcastInDim_apply _ bcast_S4x1x1_S4x1x1x1_0_2_3 y i (idx_main_v126 i) (fun a => match a with
    | ⟨0, _⟩ => rfl
    | ⟨1, _⟩ => rfl
    | ⟨2, _⟩ => rfl)

-- %c_23 = stablehlo.constant dense<1> : tensor<i32>
def val_main_c_23 : Arr F S_ .i32 :=
  constantI S_ 32 1#32
theorem val_main_c_23_apply (i : S_.Idx) :
    val_main_c_23 (F := F) i = 1#32 := rfl

-- %127 = stablehlo.broadcast_in_dim %c_23, dims = [] : (tensor<i32>) -> tensor<4x1x1x1xi32>
def val_main_v127 : Arr F S4x1x1x1 .i32 :=
  broadcastInDim S4x1x1x1 ![] bcast_S_S4x1x1x1 (val_main_c_23 (F := F))
abbrev idx_main_v127 (i : S4x1x1x1.Idx) : S_.Idx := fun a => a.elim0
theorem val_main_v127_apply (i : S4x1x1x1.Idx) :
    val_main_v127 (F := F) i = val_main_c_23 (F := F) (idx_main_v127 i) := by
  unfold val_main_v127
  generalize val_main_c_23 (F := F) = y
  exact broadcastInDim_apply _ bcast_S_S4x1x1x1 y i (idx_main_v127 i) (fun a => a.elim0)

-- %128 = stablehlo.subtract %126, %127 : tensor<4x1x1x1xi32>
def val_main_v128 : Arr F S4x1x1x1 .i32 :=
  subi (val_main_v126 (F := F)) (val_main_v127 (F := F))
theorem val_main_v128_apply (i : S4x1x1x1.Idx) :
    val_main_v128 (F := F) i = IntOp.subi (val_main_v126 (F := F) i) (val_main_v127 (F := F) i) := rfl

-- %129 = stablehlo.broadcast_in_dim %128, dims = [1, 2, 3, 4] : (tensor<4x1x1x1xi32>) -> tensor<1x4x1x1x1xi32>
def val_main_v129 : Arr F S1x4x1x1x1 .i32 :=
  broadcastInDim S1x4x1x1x1 ![1, 2, 3, 4] bcast_S4x1x1x1_S1x4x1x1x1_1_2_3_4 (val_main_v128 (F := F))
abbrev idx_main_v129 (i : S1x4x1x1x1.Idx) : S4x1x1x1.Idx := fun a => match a with
  | ⟨0, _⟩ => ⟨(i 1).val, (i 1).isLt⟩
  | ⟨1, _⟩ => ⟨0, Nat.one_pos⟩
  | ⟨2, _⟩ => ⟨0, Nat.one_pos⟩
  | ⟨3, _⟩ => ⟨0, Nat.one_pos⟩
theorem val_main_v129_apply (i : S1x4x1x1x1.Idx) :
    val_main_v129 (F := F) i = val_main_v128 (F := F) (idx_main_v129 i) := by
  unfold val_main_v129
  generalize val_main_v128 (F := F) = y
  exact broadcastInDim_apply _ bcast_S4x1x1x1_S1x4x1x1x1_1_2_3_4 y i (idx_main_v129 i) (fun a => match a with
    | ⟨0, _⟩ => rfl
    | ⟨1, _⟩ => rfl
    | ⟨2, _⟩ => rfl
    | ⟨3, _⟩ => rfl)

-- %130 = stablehlo.broadcast_in_dim %129, dims = [0, 1, 2, 3, 4] : (tensor<1x4x1x1x1xi32>) -> tensor<24x4x4x6x256xi32>
def val_main_v130 : Arr F S24x4x4x6x256 .i32 :=
  broadcastInDim S24x4x4x6x256 ![0, 1, 2, 3, 4] bcast_S1x4x1x1x1_S24x4x4x6x256_0_1_2_3_4 (val_main_v129 (F := F))
abbrev idx_main_v130 (i : S24x4x4x6x256.Idx) : S1x4x1x1x1.Idx := fun a => match a with
  | ⟨0, _⟩ => ⟨0, Nat.one_pos⟩
  | ⟨1, _⟩ => ⟨(i 1).val, (i 1).isLt⟩
  | ⟨2, _⟩ => ⟨0, Nat.one_pos⟩
  | ⟨3, _⟩ => ⟨0, Nat.one_pos⟩
  | ⟨4, _⟩ => ⟨0, Nat.one_pos⟩
theorem val_main_v130_apply (i : S24x4x4x6x256.Idx) :
    val_main_v130 (F := F) i = val_main_v129 (F := F) (idx_main_v130 i) := by
  unfold val_main_v130
  generalize val_main_v129 (F := F) = y
  exact broadcastInDim_apply _ bcast_S1x4x1x1x1_S24x4x4x6x256_0_1_2_3_4 y i (idx_main_v130 i) (fun a => match a with
    | ⟨0, _⟩ => rfl
    | ⟨1, _⟩ => rfl
    | ⟨2, _⟩ => rfl
    | ⟨3, _⟩ => rfl
    | ⟨4, _⟩ => rfl)

-- %131 = stablehlo.compare LE, %104, %130, SIGNED : (tensor<24x4x4x6x256xi32>, tensor<24x4x4x6x256xi32>) -> tensor<24x4x4x6x256xi1>
def val_main_v131 : Arr F S24x4x4x6x256 .i1 :=
  cmpi .sle (val_main_v104 (F := F) x0) (val_main_v130 (F := F))
theorem val_main_v131_apply (i : S24x4x4x6x256.Idx) :
    val_main_v131 (F := F) x0 i = IntOp.cmpi .sle (val_main_v104 (F := F) x0 i) (val_main_v130 (F := F) i) := rfl

-- %132 = stablehlo.and %125, %131 : tensor<24x4x4x6x256xi1>
def val_main_v132 : Arr F S24x4x4x6x256 .i1 :=
  andi (val_main_v125 (F := F) x0) (val_main_v131 (F := F) x0)
theorem val_main_v132_apply (i : S24x4x4x6x256.Idx) :
    val_main_v132 (F := F) x0 i = IntOp.andi (val_main_v125 (F := F) x0 i) (val_main_v131 (F := F) x0 i) := rfl

-- %133 = stablehlo.broadcast_in_dim %132, dims = [0, 1, 2, 3, 4] : (tensor<24x4x4x6x256xi1>) -> tensor<24x4x4x6x256x1xi1>
def val_main_v133 : Arr F S24x4x4x6x256x1 .i1 :=
  broadcastInDim S24x4x4x6x256x1 ![0, 1, 2, 3, 4] bcast_S24x4x4x6x256_S24x4x4x6x256x1_0_1_2_3_4 (val_main_v132 (F := F) x0)
abbrev idx_main_v133 (i : S24x4x4x6x256x1.Idx) : S24x4x4x6x256.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨(i 4).val, (i 4).isLt⟩
theorem val_main_v133_apply (i : S24x4x4x6x256x1.Idx) :
    val_main_v133 (F := F) x0 i = val_main_v132 (F := F) x0 (idx_main_v133 i) := by
  unfold val_main_v133
  generalize val_main_v132 (F := F) x0 = y
  exact broadcastInDim_apply _ bcast_S24x4x4x6x256_S24x4x4x6x256x1_0_1_2_3_4 y i (idx_main_v133 i) (fun a => match a with
    | ⟨0, _⟩ => rfl
    | ⟨1, _⟩ => rfl
    | ⟨2, _⟩ => rfl
    | ⟨3, _⟩ => rfl
    | ⟨4, _⟩ => rfl)

-- %134 = stablehlo.broadcast_in_dim %50, dims = [0, 1, 2, 3, 4] : (tensor<24x4x4x6x256xf32>) -> tensor<24x4x4x6x256x1xf32>
def val_main_v134 : Arr F S24x4x4x6x256x1 .f32 :=
  broadcastInDim S24x4x4x6x256x1 ![0, 1, 2, 3, 4] bcast_S24x4x4x6x256_S24x4x4x6x256x1_0_1_2_3_4 (val_main_v50 (F := F) x5)
abbrev idx_main_v134 (i : S24x4x4x6x256x1.Idx) : S24x4x4x6x256.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨(i 4).val, (i 4).isLt⟩
theorem val_main_v134_apply (i : S24x4x4x6x256x1.Idx) :
    val_main_v134 (F := F) x5 i = val_main_v50 (F := F) x5 (idx_main_v134 i) := by
  unfold val_main_v134
  generalize val_main_v50 (F := F) x5 = y
  exact broadcastInDim_apply _ bcast_S24x4x4x6x256_S24x4x4x6x256x1_0_1_2_3_4 y i (idx_main_v134 i) (fun a => match a with
    | ⟨0, _⟩ => rfl
    | ⟨1, _⟩ => rfl
    | ⟨2, _⟩ => rfl
    | ⟨3, _⟩ => rfl
    | ⟨4, _⟩ => rfl)

-- %135 = stablehlo.broadcast_in_dim %134, dims = [0, 1, 2, 3, 4, 5] : (tensor<24x4x4x6x256x1xf32>) -> tensor<24x4x4x6x256x48xf32>
def val_main_v135 : Arr F S24x4x4x6x256x48 .f32 :=
  broadcastInDim S24x4x4x6x256x48 ![0, 1, 2, 3, 4, 5] bcast_S24x4x4x6x256x1_S24x4x4x6x256x48_0_1_2_3_4_5 (val_main_v134 (F := F) x5)
abbrev idx_main_v135 (i : S24x4x4x6x256x48.Idx) : S24x4x4x6x256x1.Idx := mkS24x4x4x6x256x1 (⟨(i 0).val, (i 0).isLt⟩) (⟨(i 1).val, (i 1).isLt⟩) (⟨(i 2).val, (i 2).isLt⟩) (⟨(i 3).val, (i 3).isLt⟩) (⟨(i 4).val, (i 4).isLt⟩) (0 : Fin 1)
theorem val_main_v135_apply (i : S24x4x4x6x256x48.Idx) :
    val_main_v135 (F := F) x5 i = val_main_v134 (F := F) x5 (idx_main_v135 i) := by
  unfold val_main_v135
  generalize val_main_v134 (F := F) x5 = y
  exact broadcastInDim_apply _ bcast_S24x4x4x6x256x1_S24x4x4x6x256x48_0_1_2_3_4_5 y i (idx_main_v135 i) (fun a => match a with
    | ⟨0, _⟩ => rfl
    | ⟨1, _⟩ => rfl
    | ⟨2, _⟩ => rfl
    | ⟨3, _⟩ => rfl
    | ⟨4, _⟩ => rfl
    | ⟨5, _⟩ => rfl)

-- %136 = stablehlo.multiply %46, %135 : tensor<24x4x4x6x256x48xf32>
def val_main_v136 : Arr F S24x4x4x6x256x48 .f32 :=
  mulf (val_main_v46 (F := F) x4) (val_main_v135 (F := F) x5)
theorem val_main_v136_apply (i : S24x4x4x6x256x48.Idx) :
    val_main_v136 (F := F) x4 x5 i = FloatOps.mulf (val_main_v46 (F := F) x4 i) (val_main_v135 (F := F) x5 i) := rfl

-- %cst_24 = stablehlo.constant dense<0.000000e+00> : tensor<f32>
def val_main_cst_24 : Arr F S_ .f32 :=
  constant S_ .f32 0x00000000#32
theorem val_main_cst_24_apply (i : S_.Idx) :
    val_main_cst_24 (F := F) i = FloatOps.ofBits .f32 0x00000000#32 := rfl

-- @_where_0's %0 = stablehlo.convert %arg2 : tensor<f32>, in %137 = func.call @_where_0(…) (record main_call2)
def val_main_call2_v0 : Arr F S_ .f32 :=
  id (val_main_cst_24 (F := F))
theorem val_main_call2_v0_apply (i : S_.Idx) :
    val_main_call2_v0 (F := F) i = (val_main_cst_24 (F := F) i) := rfl

-- @_where_0's %1 = stablehlo.broadcast_in_dim %arg0, dims = [0, 1, 2, 3, 4, 5] : (tensor<24x4x4x6x256x1xi1>) -> tensor<24x4x4x6x256x48xi1>, in %137 = func.call @_where_0(…) (record main_call2)
def val_main_call2_v1 : Arr F S24x4x4x6x256x48 .i1 :=
  broadcastInDim S24x4x4x6x256x48 ![0, 1, 2, 3, 4, 5] bcast_S24x4x4x6x256x1_S24x4x4x6x256x48_0_1_2_3_4_5 (val_main_v133 (F := F) x0)
abbrev idx_main_call2_v1 (i : S24x4x4x6x256x48.Idx) : S24x4x4x6x256x1.Idx := mkS24x4x4x6x256x1 (⟨(i 0).val, (i 0).isLt⟩) (⟨(i 1).val, (i 1).isLt⟩) (⟨(i 2).val, (i 2).isLt⟩) (⟨(i 3).val, (i 3).isLt⟩) (⟨(i 4).val, (i 4).isLt⟩) (0 : Fin 1)
theorem val_main_call2_v1_apply (i : S24x4x4x6x256x48.Idx) :
    val_main_call2_v1 (F := F) x0 i = val_main_v133 (F := F) x0 (idx_main_call2_v1 i) := by
  unfold val_main_call2_v1
  generalize val_main_v133 (F := F) x0 = y
  exact broadcastInDim_apply _ bcast_S24x4x4x6x256x1_S24x4x4x6x256x48_0_1_2_3_4_5 y i (idx_main_call2_v1 i) (fun a => match a with
    | ⟨0, _⟩ => rfl
    | ⟨1, _⟩ => rfl
    | ⟨2, _⟩ => rfl
    | ⟨3, _⟩ => rfl
    | ⟨4, _⟩ => rfl
    | ⟨5, _⟩ => rfl)

-- @_where_0's %2 = stablehlo.broadcast_in_dim %0, dims = [] : (tensor<f32>) -> tensor<24x4x4x6x256x48xf32>, in %137 = func.call @_where_0(…) (record main_call2)
def val_main_call2_v2 : Arr F S24x4x4x6x256x48 .f32 :=
  broadcastInDim S24x4x4x6x256x48 ![] bcast_S_S24x4x4x6x256x48 (val_main_call2_v0 (F := F))
abbrev idx_main_call2_v2 (i : S24x4x4x6x256x48.Idx) : S_.Idx := fun a => a.elim0
theorem val_main_call2_v2_apply (i : S24x4x4x6x256x48.Idx) :
    val_main_call2_v2 (F := F) i = val_main_call2_v0 (F := F) (idx_main_call2_v2 i) := by
  unfold val_main_call2_v2
  generalize val_main_call2_v0 (F := F) = y
  exact broadcastInDim_apply _ bcast_S_S24x4x4x6x256x48 y i (idx_main_call2_v2 i) (fun a => a.elim0)

-- %137 = func.call @_where_0(…) (record main_call2) result 0: @_where_0's %3 = stablehlo.select %1, %arg1, %2 : tensor<24x4x4x6x256x48xi1>, tensor<24x4x4x6x256x48xf32>
def val_main_v137 : Arr F S24x4x4x6x256x48 .f32 :=
  select (val_main_call2_v1 (F := F) x0) (val_main_v136 (F := F) x4 x5) (val_main_call2_v2 (F := F))
theorem val_main_v137_apply (i : S24x4x4x6x256x48.Idx) :
    val_main_v137 (F := F) x0 x4 x5 i = Scalar.select (val_main_call2_v1 (F := F) x0 i) (val_main_v136 (F := F) x4 x5 i) (val_main_call2_v2 (F := F) i) := rfl

-- %138 = stablehlo.slice %137 [0:24, 0:4, 0:1, 0:6, 0:256, 0:48] : (tensor<24x4x4x6x256x48xf32>) -> tensor<24x4x1x6x256x48xf32>
def val_main_v138 : Arr F S24x4x1x6x256x48 .f32 :=
  extractStridedSlice S24x4x1x6x256x48 ![0, 0, 0, 0, 0, 0] (val_main_v137 (F := F) x0 x4 x5) slices_S24x4x4x6x256x48_S24x4x1x6x256x48_0_0_0_0_0_0
set_option backward.proofsInPublic true in
abbrev idx_main_v138 (i : S24x4x1x6x256x48.Idx) : S24x4x4x6x256x48.Idx := mkS24x4x4x6x256x48 (⟨(i 0).val, (i 0).isLt⟩) (⟨(i 1).val, (i 1).isLt⟩) (⟨(i 2).val, by have h2 : (i 2).val < 1 := (i 2).isLt; show (i 2).val < 4; omega⟩) (⟨(i 3).val, (i 3).isLt⟩) (⟨(i 4).val, (i 4).isLt⟩) (⟨(i 5).val, (i 5).isLt⟩)
theorem val_main_v138_apply (i : S24x4x1x6x256x48.Idx) :
    val_main_v138 (F := F) x0 x4 x5 i = val_main_v137 (F := F) x0 x4 x5 (idx_main_v138 i) := by
  unfold val_main_v138
  generalize val_main_v137 (F := F) x0 x4 x5 = y
  exact extractStridedSlice_apply ![0, 0, 0, 0, 0, 0] y slices_S24x4x4x6x256x48_S24x4x1x6x256x48_0_0_0_0_0_0 i (idx_main_v138 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega
    | ⟨4, _⟩ => by show (i 4).val = 0 + (i 4).val; omega
    | ⟨5, _⟩ => by show (i 5).val = 0 + (i 5).val; omega)

-- %139 = stablehlo.reshape %138 : (tensor<24x4x1x6x256x48xf32>) -> tensor<24x4x6x256x48xf32>
def val_main_v139 : Arr F S24x4x6x256x48 .f32 :=
  shapeCast _ (val_main_v138 (F := F) x0 x4 x5) shapeCasts_S24x4x1x6x256x48_S24x4x6x256x48

-- %140 = stablehlo.slice %137 [0:24, 0:4, 1:2, 0:6, 0:256, 0:48] : (tensor<24x4x4x6x256x48xf32>) -> tensor<24x4x1x6x256x48xf32>
def val_main_v140 : Arr F S24x4x1x6x256x48 .f32 :=
  extractStridedSlice S24x4x1x6x256x48 ![0, 0, 1, 0, 0, 0] (val_main_v137 (F := F) x0 x4 x5) slices_S24x4x4x6x256x48_S24x4x1x6x256x48_0_0_1_0_0_0
set_option backward.proofsInPublic true in
abbrev idx_main_v140 (i : S24x4x1x6x256x48.Idx) : S24x4x4x6x256x48.Idx := mkS24x4x4x6x256x48 (⟨(i 0).val, (i 0).isLt⟩) (⟨(i 1).val, (i 1).isLt⟩) (⟨1 + (i 2).val, by have h2 : (i 2).val < 1 := (i 2).isLt; show 1 + (i 2).val < 4; omega⟩) (⟨(i 3).val, (i 3).isLt⟩) (⟨(i 4).val, (i 4).isLt⟩) (⟨(i 5).val, (i 5).isLt⟩)
theorem val_main_v140_apply (i : S24x4x1x6x256x48.Idx) :
    val_main_v140 (F := F) x0 x4 x5 i = val_main_v137 (F := F) x0 x4 x5 (idx_main_v140 i) := by
  unfold val_main_v140
  generalize val_main_v137 (F := F) x0 x4 x5 = y
  exact extractStridedSlice_apply ![0, 0, 1, 0, 0, 0] y slices_S24x4x4x6x256x48_S24x4x1x6x256x48_0_0_1_0_0_0 i (idx_main_v140 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega
    | ⟨3, _⟩ => by show (i 3).val = 0 + (i 3).val; omega
    | ⟨4, _⟩ => by show (i 4).val = 0 + (i 4).val; omega
    | ⟨5, _⟩ => by show (i 5).val = 0 + (i 5).val; omega)

-- %141 = stablehlo.reshape %140 : (tensor<24x4x1x6x256x48xf32>) -> tensor<24x4x6x256x48xf32>
def val_main_v141 : Arr F S24x4x6x256x48 .f32 :=
  shapeCast _ (val_main_v140 (F := F) x0 x4 x5) shapeCasts_S24x4x1x6x256x48_S24x4x6x256x48

-- %142 = stablehlo.slice %137 [0:24, 0:4, 2:3, 0:6, 0:256, 0:48] : (tensor<24x4x4x6x256x48xf32>) -> tensor<24x4x1x6x256x48xf32>
def val_main_v142 : Arr F S24x4x1x6x256x48 .f32 :=
  extractStridedSlice S24x4x1x6x256x48 ![0, 0, 2, 0, 0, 0] (val_main_v137 (F := F) x0 x4 x5) slices_S24x4x4x6x256x48_S24x4x1x6x256x48_0_0_2_0_0_0
set_option backward.proofsInPublic true in
abbrev idx_main_v142 (i : S24x4x1x6x256x48.Idx) : S24x4x4x6x256x48.Idx := mkS24x4x4x6x256x48 (⟨(i 0).val, (i 0).isLt⟩) (⟨(i 1).val, (i 1).isLt⟩) (⟨2 + (i 2).val, by have h2 : (i 2).val < 1 := (i 2).isLt; show 2 + (i 2).val < 4; omega⟩) (⟨(i 3).val, (i 3).isLt⟩) (⟨(i 4).val, (i 4).isLt⟩) (⟨(i 5).val, (i 5).isLt⟩)
theorem val_main_v142_apply (i : S24x4x1x6x256x48.Idx) :
    val_main_v142 (F := F) x0 x4 x5 i = val_main_v137 (F := F) x0 x4 x5 (idx_main_v142 i) := by
  unfold val_main_v142
  generalize val_main_v137 (F := F) x0 x4 x5 = y
  exact extractStridedSlice_apply ![0, 0, 2, 0, 0, 0] y slices_S24x4x4x6x256x48_S24x4x1x6x256x48_0_0_2_0_0_0 i (idx_main_v142 i) (fun a => match a with
    | ⟨0, _⟩ => by show (i 0).val = 0 + (i 0).val; omega
    | ⟨1, _⟩ => by show (i 1).val = 0 + (i 1).val; omega
    | ⟨2, _⟩ => by show 2 + (i 2).val = 2 + (i 2).val; omega
    | ⟨3, _⟩ => by show (i 3).val = 0 + (i 3).val; omega
    | ⟨4, _⟩ => by show (i 4).val = 0 + (i 4).val; omega
    | ⟨5, _⟩ => by show (i 5).val = 0 + (i 5).val; omega)

-- %143 = stablehlo.reshape %142 : (tensor<24x4x1x6x256x48xf32>) -> tensor<24x4x6x256x48xf32>
def val_main_v143 : Arr F S24x4x6x256x48 .f32 :=
  shapeCast _ (val_main_v142 (F := F) x0 x4 x5) shapeCasts_S24x4x1x6x256x48_S24x4x6x256x48

-- %144 = stablehlo.slice %137 [0:24, 0:4, 3:4, 0:6, 0:256, 0:48] : (tensor<24x4x4x6x256x48xf32>) -> tensor<24x4x1x6x256x48xf32>
def val_main_v144 : Arr F S24x4x1x6x256x48 .f32 :=
  extractStridedSlice S24x4x1x6x256x48 ![0, 0, 3, 0, 0, 0] (val_main_v137 (F := F) x0 x4 x5) slices_S24x4x4x6x256x48_S24x4x1x6x256x48_0_0_3_0_0_0
set_option backward.proofsInPublic true in
abbrev idx_main_v144 (i : S24x4x1x6x256x48.Idx) : S24x4x4x6x256x48.Idx := mkS24x4x4x6x256x48 (⟨(i 0).val, (i 0).isLt⟩) (⟨(i 1).val, (i 1).isLt⟩) (⟨3 + (i 2).val, by have h2 : (i 2).val < 1 := (i 2).isLt; show 3 + (i 2).val < 4; omega⟩) (⟨(i 3).val, (i 3).isLt⟩) (⟨(i 4).val, (i 4).isLt⟩) (⟨(i 5).val, (i 5).isLt⟩)
theorem val_main_v144_apply (i : S24x4x1x6x256x48.Idx) :
    val_main_v144 (F := F) x0 x4 x5 i = val_main_v137 (F := F) x0 x4 x5 (idx_main_v144 i) := by
  unfold val_main_v144
  generalize val_main_v137 (F := F) x0 x4 x5 = y
  exact extractStridedSlice_apply ![0, 0, 3, 0, 0, 0] y slices_S24x4x4x6x256x48_S24x4x1x6x256x48_0_0_3_0_0_0 i (idx_main_v144 i) (fun a => match a with
    | ⟨0, _⟩ => by show (i 0).val = 0 + (i 0).val; omega
    | ⟨1, _⟩ => by show (i 1).val = 0 + (i 1).val; omega
    | ⟨2, _⟩ => by show 3 + (i 2).val = 3 + (i 2).val; omega
    | ⟨3, _⟩ => by show (i 3).val = 0 + (i 3).val; omega
    | ⟨4, _⟩ => by show (i 4).val = 0 + (i 4).val; omega
    | ⟨5, _⟩ => by show (i 5).val = 0 + (i 5).val; omega)

-- %145 = stablehlo.reshape %144 : (tensor<24x4x1x6x256x48xf32>) -> tensor<24x4x6x256x48xf32>
def val_main_v145 : Arr F S24x4x6x256x48 .f32 :=
  shapeCast _ (val_main_v144 (F := F) x0 x4 x5) shapeCasts_S24x4x1x6x256x48_S24x4x6x256x48

-- %146 = stablehlo.broadcast_in_dim %113, dims = [0, 1, 2, 3, 4] : (tensor<24x4x4x6x256xf32>) -> tensor<24x4x4x6x256x1xf32>
def val_main_v146 : Arr F S24x4x4x6x256x1 .f32 :=
  broadcastInDim S24x4x4x6x256x1 ![0, 1, 2, 3, 4] bcast_S24x4x4x6x256_S24x4x4x6x256x1_0_1_2_3_4 (val_main_v113 (F := F) x0)
abbrev idx_main_v146 (i : S24x4x4x6x256x1.Idx) : S24x4x4x6x256.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨(i 4).val, (i 4).isLt⟩
theorem val_main_v146_apply (i : S24x4x4x6x256x1.Idx) :
    val_main_v146 (F := F) x0 i = val_main_v113 (F := F) x0 (idx_main_v146 i) := by
  unfold val_main_v146
  generalize val_main_v113 (F := F) x0 = y
  exact broadcastInDim_apply _ bcast_S24x4x4x6x256_S24x4x4x6x256x1_0_1_2_3_4 y i (idx_main_v146 i) (fun a => match a with
    | ⟨0, _⟩ => rfl
    | ⟨1, _⟩ => rfl
    | ⟨2, _⟩ => rfl
    | ⟨3, _⟩ => rfl
    | ⟨4, _⟩ => rfl)

-- %147 = stablehlo.broadcast_in_dim %146, dims = [0, 1, 2, 3, 4, 5] : (tensor<24x4x4x6x256x1xf32>) -> tensor<24x4x4x6x256x48xf32>
def val_main_v147 : Arr F S24x4x4x6x256x48 .f32 :=
  broadcastInDim S24x4x4x6x256x48 ![0, 1, 2, 3, 4, 5] bcast_S24x4x4x6x256x1_S24x4x4x6x256x48_0_1_2_3_4_5 (val_main_v146 (F := F) x0)
abbrev idx_main_v147 (i : S24x4x4x6x256x48.Idx) : S24x4x4x6x256x1.Idx := mkS24x4x4x6x256x1 (⟨(i 0).val, (i 0).isLt⟩) (⟨(i 1).val, (i 1).isLt⟩) (⟨(i 2).val, (i 2).isLt⟩) (⟨(i 3).val, (i 3).isLt⟩) (⟨(i 4).val, (i 4).isLt⟩) (0 : Fin 1)
theorem val_main_v147_apply (i : S24x4x4x6x256x48.Idx) :
    val_main_v147 (F := F) x0 i = val_main_v146 (F := F) x0 (idx_main_v147 i) := by
  unfold val_main_v147
  generalize val_main_v146 (F := F) x0 = y
  exact broadcastInDim_apply _ bcast_S24x4x4x6x256x1_S24x4x4x6x256x48_0_1_2_3_4_5 y i (idx_main_v147 i) (fun a => match a with
    | ⟨0, _⟩ => rfl
    | ⟨1, _⟩ => rfl
    | ⟨2, _⟩ => rfl
    | ⟨3, _⟩ => rfl
    | ⟨4, _⟩ => rfl
    | ⟨5, _⟩ => rfl)

-- %148 = stablehlo.multiply %147, %137 : tensor<24x4x4x6x256x48xf32>
def val_main_v148 : Arr F S24x4x4x6x256x48 .f32 :=
  mulf (val_main_v147 (F := F) x0) (val_main_v137 (F := F) x0 x4 x5)
theorem val_main_v148_apply (i : S24x4x4x6x256x48.Idx) :
    val_main_v148 (F := F) x0 x4 x5 i = FloatOps.mulf (val_main_v147 (F := F) x0 i) (val_main_v137 (F := F) x0 x4 x5 i) := rfl

-- %cst_25 = stablehlo.constant dense<0.000000e+00> : tensor<f32>
def val_main_cst_25 : Arr F S_ .f32 :=
  constant S_ .f32 0x00000000#32
theorem val_main_cst_25_apply (i : S_.Idx) :
    val_main_cst_25 (F := F) i = FloatOps.ofBits .f32 0x00000000#32 := rfl

-- %149 = stablehlo.reduce(%148 init: %cst_25) applies stablehlo.add across dimensions = [2] : (tensor<24x4x4x6x256x48xf32>, tensor<f32>) -> tensor<24x4x6x256x48xf32> {
def val_main_v149 : Arr F S24x4x6x256x48 .f32 :=
  Host.reduceAdd (val_main_v148 (F := F) x0 x4 x5) (val_main_cst_25 (F := F)) reducesTo_S24x4x4x6x256x48_S24x4x6x256x48_d2 h_S_
abbrev idx_main_v149 (i : S24x4x6x256x48.Idx) (k : Fin 4) : S24x4x4x6x256x48.Idx := fun a => match a with
  | ⟨0, _⟩ => ⟨(i 0).val, (i 0).isLt⟩
  | ⟨1, _⟩ => ⟨(i 1).val, (i 1).isLt⟩
  | ⟨2, _⟩ => ⟨k.val, k.isLt⟩
  | ⟨3, _⟩ => ⟨(i 2).val, (i 2).isLt⟩
  | ⟨4, _⟩ => ⟨(i 3).val, (i 3).isLt⟩
  | ⟨5, _⟩ => ⟨(i 4).val, (i 4).isLt⟩
/-- Stated at `F := Ideal`, where the host's float sum is this sum; at a bit-exact instance it is an opaque function of its operand. -/
theorem val_main_v149_apply (x0 : Arr Ideal S3x256x8x4x6x2 .f32) (x4 : Arr Ideal S7077888 .i32) (x5 : Arr Ideal S589824 .i32) (i : S24x4x6x256x48.Idx) :
    val_main_v149 (F := Ideal) x0 x4 x5 i = (val_main_cst_25 (F := Ideal)) (Shape.Idx.first h_S_) + ∑ k : Fin 4, (val_main_v148 (F := Ideal) x0 x4 x5) (idx_main_v149 i k) := by
  unfold val_main_v149
  generalize val_main_v148 (F := Ideal) x0 x4 x5 = y0
  simp only [Host.reduceAdd, Ideal.hostReduceAdd_def]
  rw [Ideal.hostReduceAdd_single reducesTo_S24x4x4x6x256x48_S24x4x6x256x48_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl | ⟨4, _⟩ => rfl | ⟨5, _⟩ => rfl))

-- %150 = stablehlo.broadcast_in_dim %84, dims = [0, 1, 2, 3] : (tensor<24x4x6x256xf32>) -> tensor<24x4x6x256x1xf32>
def val_main_v150 : Arr F S24x4x6x256x1 .f32 :=
  broadcastInDim S24x4x6x256x1 ![0, 1, 2, 3] bcast_S24x4x6x256_S24x4x6x256x1_0_1_2_3 (val_main_v84 (F := F) x0)
abbrev idx_main_v150 (i : S24x4x6x256x1.Idx) : S24x4x6x256.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v150_apply (i : S24x4x6x256x1.Idx) :
    val_main_v150 (F := F) x0 i = val_main_v84 (F := F) x0 (idx_main_v150 i) := by
  unfold val_main_v150
  generalize val_main_v84 (F := F) x0 = y
  exact broadcastInDim_apply _ bcast_S24x4x6x256_S24x4x6x256x1_0_1_2_3 y i (idx_main_v150 i) (fun a => match a with
    | ⟨0, _⟩ => rfl
    | ⟨1, _⟩ => rfl
    | ⟨2, _⟩ => rfl
    | ⟨3, _⟩ => rfl)

-- %151 = stablehlo.subtract %141, %139 : tensor<24x4x6x256x48xf32>
def val_main_v151 : Arr F S24x4x6x256x48 .f32 :=
  subf (val_main_v141 (F := F) x0 x4 x5) (val_main_v139 (F := F) x0 x4 x5)
theorem val_main_v151_apply (i : S24x4x6x256x48.Idx) :
    val_main_v151 (F := F) x0 x4 x5 i = FloatOps.subf (val_main_v141 (F := F) x0 x4 x5 i) (val_main_v139 (F := F) x0 x4 x5 i) := rfl

-- %152 = stablehlo.broadcast_in_dim %150, dims = [0, 1, 2, 3, 4] : (tensor<24x4x6x256x1xf32>) -> tensor<24x4x6x256x48xf32>
def val_main_v152 : Arr F S24x4x6x256x48 .f32 :=
  broadcastInDim S24x4x6x256x48 ![0, 1, 2, 3, 4] bcast_S24x4x6x256x1_S24x4x6x256x48_0_1_2_3_4 (val_main_v150 (F := F) x0)
abbrev idx_main_v152 (i : S24x4x6x256x48.Idx) : S24x4x6x256x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v152_apply (i : S24x4x6x256x48.Idx) :
    val_main_v152 (F := F) x0 i = val_main_v150 (F := F) x0 (idx_main_v152 i) := by
  unfold val_main_v152
  generalize val_main_v150 (F := F) x0 = y
  exact broadcastInDim_apply _ bcast_S24x4x6x256x1_S24x4x6x256x48_0_1_2_3_4 y i (idx_main_v152 i) (fun a => match a with
    | ⟨0, _⟩ => rfl
    | ⟨1, _⟩ => rfl
    | ⟨2, _⟩ => rfl
    | ⟨3, _⟩ => rfl
    | ⟨4, _⟩ => rfl)

-- %153 = stablehlo.multiply %152, %151 : tensor<24x4x6x256x48xf32>
def val_main_v153 : Arr F S24x4x6x256x48 .f32 :=
  mulf (val_main_v152 (F := F) x0) (val_main_v151 (F := F) x0 x4 x5)
theorem val_main_v153_apply (i : S24x4x6x256x48.Idx) :
    val_main_v153 (F := F) x0 x4 x5 i = FloatOps.mulf (val_main_v152 (F := F) x0 i) (val_main_v151 (F := F) x0 x4 x5 i) := rfl

-- %154 = stablehlo.broadcast_in_dim %80, dims = [0, 1, 2, 3] : (tensor<24x4x6x256xf32>) -> tensor<24x4x6x256x1xf32>
def val_main_v154 : Arr F S24x4x6x256x1 .f32 :=
  broadcastInDim S24x4x6x256x1 ![0, 1, 2, 3] bcast_S24x4x6x256_S24x4x6x256x1_0_1_2_3 (val_main_v80 (F := F) x0)
abbrev idx_main_v154 (i : S24x4x6x256x1.Idx) : S24x4x6x256.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v154_apply (i : S24x4x6x256x1.Idx) :
    val_main_v154 (F := F) x0 i = val_main_v80 (F := F) x0 (idx_main_v154 i) := by
  unfold val_main_v154
  generalize val_main_v80 (F := F) x0 = y
  exact broadcastInDim_apply _ bcast_S24x4x6x256_S24x4x6x256x1_0_1_2_3 y i (idx_main_v154 i) (fun a => match a with
    | ⟨0, _⟩ => rfl
    | ⟨1, _⟩ => rfl
    | ⟨2, _⟩ => rfl
    | ⟨3, _⟩ => rfl)

-- %155 = stablehlo.subtract %145, %143 : tensor<24x4x6x256x48xf32>
def val_main_v155 : Arr F S24x4x6x256x48 .f32 :=
  subf (val_main_v145 (F := F) x0 x4 x5) (val_main_v143 (F := F) x0 x4 x5)
theorem val_main_v155_apply (i : S24x4x6x256x48.Idx) :
    val_main_v155 (F := F) x0 x4 x5 i = FloatOps.subf (val_main_v145 (F := F) x0 x4 x5 i) (val_main_v143 (F := F) x0 x4 x5 i) := rfl

-- %156 = stablehlo.broadcast_in_dim %154, dims = [0, 1, 2, 3, 4] : (tensor<24x4x6x256x1xf32>) -> tensor<24x4x6x256x48xf32>
def val_main_v156 : Arr F S24x4x6x256x48 .f32 :=
  broadcastInDim S24x4x6x256x48 ![0, 1, 2, 3, 4] bcast_S24x4x6x256x1_S24x4x6x256x48_0_1_2_3_4 (val_main_v154 (F := F) x0)
abbrev idx_main_v156 (i : S24x4x6x256x48.Idx) : S24x4x6x256x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v156_apply (i : S24x4x6x256x48.Idx) :
    val_main_v156 (F := F) x0 i = val_main_v154 (F := F) x0 (idx_main_v156 i) := by
  unfold val_main_v156
  generalize val_main_v154 (F := F) x0 = y
  exact broadcastInDim_apply _ bcast_S24x4x6x256x1_S24x4x6x256x48_0_1_2_3_4 y i (idx_main_v156 i) (fun a => match a with
    | ⟨0, _⟩ => rfl
    | ⟨1, _⟩ => rfl
    | ⟨2, _⟩ => rfl
    | ⟨3, _⟩ => rfl
    | ⟨4, _⟩ => rfl)

-- %157 = stablehlo.multiply %156, %155 : tensor<24x4x6x256x48xf32>
def val_main_v157 : Arr F S24x4x6x256x48 .f32 :=
  mulf (val_main_v156 (F := F) x0) (val_main_v155 (F := F) x0 x4 x5)
theorem val_main_v157_apply (i : S24x4x6x256x48.Idx) :
    val_main_v157 (F := F) x0 x4 x5 i = FloatOps.mulf (val_main_v156 (F := F) x0 i) (val_main_v155 (F := F) x0 x4 x5 i) := rfl

-- %158 = stablehlo.add %153, %157 : tensor<24x4x6x256x48xf32>
def val_main_v158 : Arr F S24x4x6x256x48 .f32 :=
  addf (val_main_v153 (F := F) x0 x4 x5) (val_main_v157 (F := F) x0 x4 x5)
theorem val_main_v158_apply (i : S24x4x6x256x48.Idx) :
    val_main_v158 (F := F) x0 x4 x5 i = FloatOps.addf (val_main_v153 (F := F) x0 x4 x5 i) (val_main_v157 (F := F) x0 x4 x5 i) := rfl

-- %159 = stablehlo.broadcast_in_dim %82, dims = [0, 1, 2, 3] : (tensor<24x4x6x256xf32>) -> tensor<24x4x6x256x1xf32>
def val_main_v159 : Arr F S24x4x6x256x1 .f32 :=
  broadcastInDim S24x4x6x256x1 ![0, 1, 2, 3] bcast_S24x4x6x256_S24x4x6x256x1_0_1_2_3 (val_main_v82 (F := F) x0)
abbrev idx_main_v159 (i : S24x4x6x256x1.Idx) : S24x4x6x256.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v159_apply (i : S24x4x6x256x1.Idx) :
    val_main_v159 (F := F) x0 i = val_main_v82 (F := F) x0 (idx_main_v159 i) := by
  unfold val_main_v159
  generalize val_main_v82 (F := F) x0 = y
  exact broadcastInDim_apply _ bcast_S24x4x6x256_S24x4x6x256x1_0_1_2_3 y i (idx_main_v159 i) (fun a => match a with
    | ⟨0, _⟩ => rfl
    | ⟨1, _⟩ => rfl
    | ⟨2, _⟩ => rfl
    | ⟨3, _⟩ => rfl)

-- %160 = stablehlo.subtract %143, %139 : tensor<24x4x6x256x48xf32>
def val_main_v160 : Arr F S24x4x6x256x48 .f32 :=
  subf (val_main_v143 (F := F) x0 x4 x5) (val_main_v139 (F := F) x0 x4 x5)
theorem val_main_v160_apply (i : S24x4x6x256x48.Idx) :
    val_main_v160 (F := F) x0 x4 x5 i = FloatOps.subf (val_main_v143 (F := F) x0 x4 x5 i) (val_main_v139 (F := F) x0 x4 x5 i) := rfl

-- %161 = stablehlo.broadcast_in_dim %159, dims = [0, 1, 2, 3, 4] : (tensor<24x4x6x256x1xf32>) -> tensor<24x4x6x256x48xf32>
def val_main_v161 : Arr F S24x4x6x256x48 .f32 :=
  broadcastInDim S24x4x6x256x48 ![0, 1, 2, 3, 4] bcast_S24x4x6x256x1_S24x4x6x256x48_0_1_2_3_4 (val_main_v159 (F := F) x0)
abbrev idx_main_v161 (i : S24x4x6x256x48.Idx) : S24x4x6x256x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v161_apply (i : S24x4x6x256x48.Idx) :
    val_main_v161 (F := F) x0 i = val_main_v159 (F := F) x0 (idx_main_v161 i) := by
  unfold val_main_v161
  generalize val_main_v159 (F := F) x0 = y
  exact broadcastInDim_apply _ bcast_S24x4x6x256x1_S24x4x6x256x48_0_1_2_3_4 y i (idx_main_v161 i) (fun a => match a with
    | ⟨0, _⟩ => rfl
    | ⟨1, _⟩ => rfl
    | ⟨2, _⟩ => rfl
    | ⟨3, _⟩ => rfl
    | ⟨4, _⟩ => rfl)

-- %162 = stablehlo.multiply %161, %160 : tensor<24x4x6x256x48xf32>
def val_main_v162 : Arr F S24x4x6x256x48 .f32 :=
  mulf (val_main_v161 (F := F) x0) (val_main_v160 (F := F) x0 x4 x5)
theorem val_main_v162_apply (i : S24x4x6x256x48.Idx) :
    val_main_v162 (F := F) x0 x4 x5 i = FloatOps.mulf (val_main_v161 (F := F) x0 i) (val_main_v160 (F := F) x0 x4 x5 i) := rfl

-- %163 = stablehlo.broadcast_in_dim %79, dims = [0, 1, 2, 3] : (tensor<24x4x6x256xf32>) -> tensor<24x4x6x256x1xf32>
def val_main_v163 : Arr F S24x4x6x256x1 .f32 :=
  broadcastInDim S24x4x6x256x1 ![0, 1, 2, 3] bcast_S24x4x6x256_S24x4x6x256x1_0_1_2_3 (val_main_v79 (F := F) x0)
abbrev idx_main_v163 (i : S24x4x6x256x1.Idx) : S24x4x6x256.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v163_apply (i : S24x4x6x256x1.Idx) :
    val_main_v163 (F := F) x0 i = val_main_v79 (F := F) x0 (idx_main_v163 i) := by
  unfold val_main_v163
  generalize val_main_v79 (F := F) x0 = y
  exact broadcastInDim_apply _ bcast_S24x4x6x256_S24x4x6x256x1_0_1_2_3 y i (idx_main_v163 i) (fun a => match a with
    | ⟨0, _⟩ => rfl
    | ⟨1, _⟩ => rfl
    | ⟨2, _⟩ => rfl
    | ⟨3, _⟩ => rfl)

-- %164 = stablehlo.subtract %145, %141 : tensor<24x4x6x256x48xf32>
def val_main_v164 : Arr F S24x4x6x256x48 .f32 :=
  subf (val_main_v145 (F := F) x0 x4 x5) (val_main_v141 (F := F) x0 x4 x5)
theorem val_main_v164_apply (i : S24x4x6x256x48.Idx) :
    val_main_v164 (F := F) x0 x4 x5 i = FloatOps.subf (val_main_v145 (F := F) x0 x4 x5 i) (val_main_v141 (F := F) x0 x4 x5 i) := rfl

-- %165 = stablehlo.broadcast_in_dim %163, dims = [0, 1, 2, 3, 4] : (tensor<24x4x6x256x1xf32>) -> tensor<24x4x6x256x48xf32>
def val_main_v165 : Arr F S24x4x6x256x48 .f32 :=
  broadcastInDim S24x4x6x256x48 ![0, 1, 2, 3, 4] bcast_S24x4x6x256x1_S24x4x6x256x48_0_1_2_3_4 (val_main_v163 (F := F) x0)
abbrev idx_main_v165 (i : S24x4x6x256x48.Idx) : S24x4x6x256x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v165_apply (i : S24x4x6x256x48.Idx) :
    val_main_v165 (F := F) x0 i = val_main_v163 (F := F) x0 (idx_main_v165 i) := by
  unfold val_main_v165
  generalize val_main_v163 (F := F) x0 = y
  exact broadcastInDim_apply _ bcast_S24x4x6x256x1_S24x4x6x256x48_0_1_2_3_4 y i (idx_main_v165 i) (fun a => match a with
    | ⟨0, _⟩ => rfl
    | ⟨1, _⟩ => rfl
    | ⟨2, _⟩ => rfl
    | ⟨3, _⟩ => rfl
    | ⟨4, _⟩ => rfl)

-- %166 = stablehlo.multiply %165, %164 : tensor<24x4x6x256x48xf32>
def val_main_v166 : Arr F S24x4x6x256x48 .f32 :=
  mulf (val_main_v165 (F := F) x0) (val_main_v164 (F := F) x0 x4 x5)
theorem val_main_v166_apply (i : S24x4x6x256x48.Idx) :
    val_main_v166 (F := F) x0 x4 x5 i = FloatOps.mulf (val_main_v165 (F := F) x0 i) (val_main_v164 (F := F) x0 x4 x5 i) := rfl

-- %167 = stablehlo.add %162, %166 : tensor<24x4x6x256x48xf32>
def val_main_v167 : Arr F S24x4x6x256x48 .f32 :=
  addf (val_main_v162 (F := F) x0 x4 x5) (val_main_v166 (F := F) x0 x4 x5)
theorem val_main_v167_apply (i : S24x4x6x256x48.Idx) :
    val_main_v167 (F := F) x0 x4 x5 i = FloatOps.addf (val_main_v162 (F := F) x0 x4 x5 i) (val_main_v166 (F := F) x0 x4 x5 i) := rfl

-- %168 = stablehlo.dot_general %149, %5, batching_dims = [0, 3] x [0, 2], contracting_dims = [4] x [1], precision = [HIGHEST, HIGHEST] : (tensor<24x4x6x256x48xf32>, tensor<24x48x256xf32>) -> tensor<24x256x4x6xf32>
def val_main_v168 : Arr F S24x256x4x6 .f32 :=
  Host.dotGeneral dot_S24x4x6x256x48_S24x48x256_S24x256x4x6_4_1_12_n_03_02 (some .fp32) (val_main_v149 (F := F) x0 x4 x5) (val_main_v5 (F := F) x2 x3)
theorem val_main_v168_apply (x0 : Arr Ideal S3x256x8x4x6x2 .f32) (x2 : Arr Ideal S3x256 .f32) (x3 : Arr Ideal S24x48x256 .bf16) (x4 : Arr Ideal S7077888 .i32) (x5 : Arr Ideal S589824 .i32) (i : S24x256x4x6.Idx) :
    val_main_v168 (F := Ideal) x0 x2 x3 x4 x5 i = ∑ k : Fin 48, (val_main_v149 (F := Ideal) x0 x4 x5) (lidx_prod i k) * (val_main_v5 (F := Ideal) x2 x3) (ridx_prod i k) := prod_apply _ _ i

-- %169 = stablehlo.transpose %168, dims = [0, 2, 3, 1] : (tensor<24x256x4x6xf32>) -> tensor<24x4x6x256xf32>
def val_main_v169 : Arr F S24x4x6x256 .f32 :=
  transpose S24x4x6x256 [0, 2, 3, 1] (val_main_v168 (F := F) x0 x2 x3 x4 x5) transposes_S24x256x4x6_S24x4x6x256_0_2_3_1
abbrev idx_main_v169 (i : S24x4x6x256.Idx) : S24x256x4x6.Idx := fun a => match a with
  | ⟨0, _⟩ => ⟨(i 0).val, (i 0).isLt⟩
  | ⟨1, _⟩ => ⟨(i 3).val, (i 3).isLt⟩
  | ⟨2, _⟩ => ⟨(i 1).val, (i 1).isLt⟩
  | ⟨3, _⟩ => ⟨(i 2).val, (i 2).isLt⟩
theorem val_main_v169_apply (i : S24x4x6x256.Idx) :
    val_main_v169 (F := F) x0 x2 x3 x4 x5 i = val_main_v168 (F := F) x0 x2 x3 x4 x5 (idx_main_v169 i) := by
  unfold val_main_v169
  generalize val_main_v168 (F := F) x0 x2 x3 x4 x5 = y
  exact transpose_apply [0, 2, 3, 1] y transposes_S24x256x4x6_S24x4x6x256_0_2_3_1 i (idx_main_v169 i) (fun b => match b with
    | ⟨0, _⟩ => rfl
    | ⟨1, _⟩ => rfl
    | ⟨2, _⟩ => rfl
    | ⟨3, _⟩ => rfl)

-- %170 = stablehlo.broadcast_in_dim %61, dims = [1, 2, 3] : (tensor<4x1x1xf32>) -> tensor<1x4x1x1xf32>
def val_main_v170 : Arr F S1x4x1x1 .f32 :=
  broadcastInDim S1x4x1x1 ![1, 2, 3] bcast_S4x1x1_S1x4x1x1_1_2_3 (val_main_v61 (F := F))
abbrev idx_main_v170 (i : S1x4x1x1.Idx) : S4x1x1.Idx := fun a => match a with
  | ⟨0, _⟩ => ⟨(i 1).val, (i 1).isLt⟩
  | ⟨1, _⟩ => ⟨0, Nat.one_pos⟩
  | ⟨2, _⟩ => ⟨0, Nat.one_pos⟩
theorem val_main_v170_apply (i : S1x4x1x1.Idx) :
    val_main_v170 (F := F) i = val_main_v61 (F := F) (idx_main_v170 i) := by
  unfold val_main_v170
  generalize val_main_v61 (F := F) = y
  exact broadcastInDim_apply _ bcast_S4x1x1_S1x4x1x1_1_2_3 y i (idx_main_v170 i) (fun a => match a with
    | ⟨0, _⟩ => rfl
    | ⟨1, _⟩ => rfl
    | ⟨2, _⟩ => rfl)

-- %171 = stablehlo.broadcast_in_dim %170, dims = [0, 1, 2, 3] : (tensor<1x4x1x1xf32>) -> tensor<24x4x6x256xf32>
def val_main_v171 : Arr F S24x4x6x256 .f32 :=
  broadcastInDim S24x4x6x256 ![0, 1, 2, 3] bcast_S1x4x1x1_S24x4x6x256_0_1_2_3 (val_main_v170 (F := F))
abbrev idx_main_v171 (i : S24x4x6x256.Idx) : S1x4x1x1.Idx := fun a => match a with
  | ⟨0, _⟩ => ⟨0, Nat.one_pos⟩
  | ⟨1, _⟩ => ⟨(i 1).val, (i 1).isLt⟩
  | ⟨2, _⟩ => ⟨0, Nat.one_pos⟩
  | ⟨3, _⟩ => ⟨0, Nat.one_pos⟩
theorem val_main_v171_apply (i : S24x4x6x256.Idx) :
    val_main_v171 (F := F) i = val_main_v170 (F := F) (idx_main_v171 i) := by
  unfold val_main_v171
  generalize val_main_v170 (F := F) = y
  exact broadcastInDim_apply _ bcast_S1x4x1x1_S24x4x6x256_0_1_2_3 y i (idx_main_v171 i) (fun a => match a with
    | ⟨0, _⟩ => rfl
    | ⟨1, _⟩ => rfl
    | ⟨2, _⟩ => rfl
    | ⟨3, _⟩ => rfl)

-- %172 = stablehlo.multiply %54, %171 : tensor<24x4x6x256xf32>
def val_main_v172 : Arr F S24x4x6x256 .f32 :=
  mulf (val_main_v54 (F := F) x1) (val_main_v171 (F := F))
theorem val_main_v172_apply (i : S24x4x6x256.Idx) :
    val_main_v172 (F := F) x1 i = FloatOps.mulf (val_main_v54 (F := F) x1 i) (val_main_v171 (F := F) i) := rfl

-- %173 = stablehlo.dot_general %158, %5, batching_dims = [0, 3] x [0, 2], contracting_dims = [4] x [1], precision = [HIGHEST, HIGHEST] : (tensor<24x4x6x256x48xf32>, tensor<24x48x256xf32>) -> tensor<24x256x4x6xf32>
def val_main_v173 : Arr F S24x256x4x6 .f32 :=
  Host.dotGeneral dot_S24x4x6x256x48_S24x48x256_S24x256x4x6_4_1_12_n_03_02 (some .fp32) (val_main_v158 (F := F) x0 x4 x5) (val_main_v5 (F := F) x2 x3)
theorem val_main_v173_apply (x0 : Arr Ideal S3x256x8x4x6x2 .f32) (x2 : Arr Ideal S3x256 .f32) (x3 : Arr Ideal S24x48x256 .bf16) (x4 : Arr Ideal S7077888 .i32) (x5 : Arr Ideal S589824 .i32) (i : S24x256x4x6.Idx) :
    val_main_v173 (F := Ideal) x0 x2 x3 x4 x5 i = ∑ k : Fin 48, (val_main_v158 (F := Ideal) x0 x4 x5) (lidx_prod i k) * (val_main_v5 (F := Ideal) x2 x3) (ridx_prod i k) := prod_apply _ _ i

-- %174 = stablehlo.transpose %173, dims = [0, 2, 3, 1] : (tensor<24x256x4x6xf32>) -> tensor<24x4x6x256xf32>
def val_main_v174 : Arr F S24x4x6x256 .f32 :=
  transpose S24x4x6x256 [0, 2, 3, 1] (val_main_v173 (F := F) x0 x2 x3 x4 x5) transposes_S24x256x4x6_S24x4x6x256_0_2_3_1
abbrev idx_main_v174 (i : S24x4x6x256.Idx) : S24x256x4x6.Idx := fun a => match a with
  | ⟨0, _⟩ => ⟨(i 0).val, (i 0).isLt⟩
  | ⟨1, _⟩ => ⟨(i 3).val, (i 3).isLt⟩
  | ⟨2, _⟩ => ⟨(i 1).val, (i 1).isLt⟩
  | ⟨3, _⟩ => ⟨(i 2).val, (i 2).isLt⟩
theorem val_main_v174_apply (i : S24x4x6x256.Idx) :
    val_main_v174 (F := F) x0 x2 x3 x4 x5 i = val_main_v173 (F := F) x0 x2 x3 x4 x5 (idx_main_v174 i) := by
  unfold val_main_v174
  generalize val_main_v173 (F := F) x0 x2 x3 x4 x5 = y
  exact transpose_apply [0, 2, 3, 1] y transposes_S24x256x4x6_S24x4x6x256_0_2_3_1 i (idx_main_v174 i) (fun b => match b with
    | ⟨0, _⟩ => rfl
    | ⟨1, _⟩ => rfl
    | ⟨2, _⟩ => rfl
    | ⟨3, _⟩ => rfl)

-- %175 = stablehlo.multiply %172, %174 : tensor<24x4x6x256xf32>
def val_main_v175 : Arr F S24x4x6x256 .f32 :=
  mulf (val_main_v172 (F := F) x1) (val_main_v174 (F := F) x0 x2 x3 x4 x5)
theorem val_main_v175_apply (i : S24x4x6x256.Idx) :
    val_main_v175 (F := F) x0 x1 x2 x3 x4 x5 i = FloatOps.mulf (val_main_v172 (F := F) x1 i) (val_main_v174 (F := F) x0 x2 x3 x4 x5 i) := rfl

-- %176 = stablehlo.broadcast_in_dim %62, dims = [1, 2, 3] : (tensor<4x1x1xf32>) -> tensor<1x4x1x1xf32>
def val_main_v176 : Arr F S1x4x1x1 .f32 :=
  broadcastInDim S1x4x1x1 ![1, 2, 3] bcast_S4x1x1_S1x4x1x1_1_2_3 (val_main_v62 (F := F))
abbrev idx_main_v176 (i : S1x4x1x1.Idx) : S4x1x1.Idx := fun a => match a with
  | ⟨0, _⟩ => ⟨(i 1).val, (i 1).isLt⟩
  | ⟨1, _⟩ => ⟨0, Nat.one_pos⟩
  | ⟨2, _⟩ => ⟨0, Nat.one_pos⟩
theorem val_main_v176_apply (i : S1x4x1x1.Idx) :
    val_main_v176 (F := F) i = val_main_v62 (F := F) (idx_main_v176 i) := by
  unfold val_main_v176
  generalize val_main_v62 (F := F) = y
  exact broadcastInDim_apply _ bcast_S4x1x1_S1x4x1x1_1_2_3 y i (idx_main_v176 i) (fun a => match a with
    | ⟨0, _⟩ => rfl
    | ⟨1, _⟩ => rfl
    | ⟨2, _⟩ => rfl)

-- %177 = stablehlo.broadcast_in_dim %176, dims = [0, 1, 2, 3] : (tensor<1x4x1x1xf32>) -> tensor<24x4x6x256xf32>
def val_main_v177 : Arr F S24x4x6x256 .f32 :=
  broadcastInDim S24x4x6x256 ![0, 1, 2, 3] bcast_S1x4x1x1_S24x4x6x256_0_1_2_3 (val_main_v176 (F := F))
abbrev idx_main_v177 (i : S24x4x6x256.Idx) : S1x4x1x1.Idx := fun a => match a with
  | ⟨0, _⟩ => ⟨0, Nat.one_pos⟩
  | ⟨1, _⟩ => ⟨(i 1).val, (i 1).isLt⟩
  | ⟨2, _⟩ => ⟨0, Nat.one_pos⟩
  | ⟨3, _⟩ => ⟨0, Nat.one_pos⟩
theorem val_main_v177_apply (i : S24x4x6x256.Idx) :
    val_main_v177 (F := F) i = val_main_v176 (F := F) (idx_main_v177 i) := by
  unfold val_main_v177
  generalize val_main_v176 (F := F) = y
  exact broadcastInDim_apply _ bcast_S1x4x1x1_S24x4x6x256_0_1_2_3 y i (idx_main_v177 i) (fun a => match a with
    | ⟨0, _⟩ => rfl
    | ⟨1, _⟩ => rfl
    | ⟨2, _⟩ => rfl
    | ⟨3, _⟩ => rfl)

-- %178 = stablehlo.multiply %54, %177 : tensor<24x4x6x256xf32>
def val_main_v178 : Arr F S24x4x6x256 .f32 :=
  mulf (val_main_v54 (F := F) x1) (val_main_v177 (F := F))
theorem val_main_v178_apply (i : S24x4x6x256.Idx) :
    val_main_v178 (F := F) x1 i = FloatOps.mulf (val_main_v54 (F := F) x1 i) (val_main_v177 (F := F) i) := rfl

-- %179 = stablehlo.dot_general %167, %5, batching_dims = [0, 3] x [0, 2], contracting_dims = [4] x [1], precision = [HIGHEST, HIGHEST] : (tensor<24x4x6x256x48xf32>, tensor<24x48x256xf32>) -> tensor<24x256x4x6xf32>
def val_main_v179 : Arr F S24x256x4x6 .f32 :=
  Host.dotGeneral dot_S24x4x6x256x48_S24x48x256_S24x256x4x6_4_1_12_n_03_02 (some .fp32) (val_main_v167 (F := F) x0 x4 x5) (val_main_v5 (F := F) x2 x3)
theorem val_main_v179_apply (x0 : Arr Ideal S3x256x8x4x6x2 .f32) (x2 : Arr Ideal S3x256 .f32) (x3 : Arr Ideal S24x48x256 .bf16) (x4 : Arr Ideal S7077888 .i32) (x5 : Arr Ideal S589824 .i32) (i : S24x256x4x6.Idx) :
    val_main_v179 (F := Ideal) x0 x2 x3 x4 x5 i = ∑ k : Fin 48, (val_main_v167 (F := Ideal) x0 x4 x5) (lidx_prod i k) * (val_main_v5 (F := Ideal) x2 x3) (ridx_prod i k) := prod_apply _ _ i

-- %180 = stablehlo.transpose %179, dims = [0, 2, 3, 1] : (tensor<24x256x4x6xf32>) -> tensor<24x4x6x256xf32>
def val_main_v180 : Arr F S24x4x6x256 .f32 :=
  transpose S24x4x6x256 [0, 2, 3, 1] (val_main_v179 (F := F) x0 x2 x3 x4 x5) transposes_S24x256x4x6_S24x4x6x256_0_2_3_1
abbrev idx_main_v180 (i : S24x4x6x256.Idx) : S24x256x4x6.Idx := fun a => match a with
  | ⟨0, _⟩ => ⟨(i 0).val, (i 0).isLt⟩
  | ⟨1, _⟩ => ⟨(i 3).val, (i 3).isLt⟩
  | ⟨2, _⟩ => ⟨(i 1).val, (i 1).isLt⟩
  | ⟨3, _⟩ => ⟨(i 2).val, (i 2).isLt⟩
theorem val_main_v180_apply (i : S24x4x6x256.Idx) :
    val_main_v180 (F := F) x0 x2 x3 x4 x5 i = val_main_v179 (F := F) x0 x2 x3 x4 x5 (idx_main_v180 i) := by
  unfold val_main_v180
  generalize val_main_v179 (F := F) x0 x2 x3 x4 x5 = y
  exact transpose_apply [0, 2, 3, 1] y transposes_S24x256x4x6_S24x4x6x256_0_2_3_1 i (idx_main_v180 i) (fun b => match b with
    | ⟨0, _⟩ => rfl
    | ⟨1, _⟩ => rfl
    | ⟨2, _⟩ => rfl
    | ⟨3, _⟩ => rfl)

-- %181 = stablehlo.multiply %178, %180 : tensor<24x4x6x256xf32>
def val_main_v181 : Arr F S24x4x6x256 .f32 :=
  mulf (val_main_v178 (F := F) x1) (val_main_v180 (F := F) x0 x2 x3 x4 x5)
theorem val_main_v181_apply (i : S24x4x6x256.Idx) :
    val_main_v181 (F := F) x0 x1 x2 x3 x4 x5 i = FloatOps.mulf (val_main_v178 (F := F) x1 i) (val_main_v180 (F := F) x0 x2 x3 x4 x5 i) := rfl

-- %182 = stablehlo.broadcast_in_dim %175, dims = [0, 1, 2, 4] : (tensor<24x4x6x256xf32>) -> tensor<24x4x6x1x256xf32>
def val_main_v182 : Arr F S24x4x6x1x256 .f32 :=
  broadcastInDim S24x4x6x1x256 ![0, 1, 2, 4] bcast_S24x4x6x256_S24x4x6x1x256_0_1_2_4 (val_main_v175 (F := F) x0 x1 x2 x3 x4 x5)
abbrev idx_main_v182 (i : S24x4x6x1x256.Idx) : S24x4x6x256.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 4).val, (i 4).isLt⟩
theorem val_main_v182_apply (i : S24x4x6x1x256.Idx) :
    val_main_v182 (F := F) x0 x1 x2 x3 x4 x5 i = val_main_v175 (F := F) x0 x1 x2 x3 x4 x5 (idx_main_v182 i) := by
  unfold val_main_v182
  generalize val_main_v175 (F := F) x0 x1 x2 x3 x4 x5 = y
  exact broadcastInDim_apply _ bcast_S24x4x6x256_S24x4x6x1x256_0_1_2_4 y i (idx_main_v182 i) (fun a => match a with
    | ⟨0, _⟩ => rfl
    | ⟨1, _⟩ => rfl
    | ⟨2, _⟩ => rfl
    | ⟨3, _⟩ => rfl)

-- %183 = stablehlo.broadcast_in_dim %181, dims = [0, 1, 2, 4] : (tensor<24x4x6x256xf32>) -> tensor<24x4x6x1x256xf32>
def val_main_v183 : Arr F S24x4x6x1x256 .f32 :=
  broadcastInDim S24x4x6x1x256 ![0, 1, 2, 4] bcast_S24x4x6x256_S24x4x6x1x256_0_1_2_4 (val_main_v181 (F := F) x0 x1 x2 x3 x4 x5)
abbrev idx_main_v183 (i : S24x4x6x1x256.Idx) : S24x4x6x256.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 4).val, (i 4).isLt⟩
theorem val_main_v183_apply (i : S24x4x6x1x256.Idx) :
    val_main_v183 (F := F) x0 x1 x2 x3 x4 x5 i = val_main_v181 (F := F) x0 x1 x2 x3 x4 x5 (idx_main_v183 i) := by
  unfold val_main_v183
  generalize val_main_v181 (F := F) x0 x1 x2 x3 x4 x5 = y
  exact broadcastInDim_apply _ bcast_S24x4x6x256_S24x4x6x1x256_0_1_2_4 y i (idx_main_v183 i) (fun a => match a with
    | ⟨0, _⟩ => rfl
    | ⟨1, _⟩ => rfl
    | ⟨2, _⟩ => rfl
    | ⟨3, _⟩ => rfl)

-- %184 = stablehlo.concatenate %182, %183, dim = 3 : (tensor<24x4x6x1x256xf32>, tensor<24x4x6x1x256xf32>) -> tensor<24x4x6x2x256xf32>
def val_main_v184 : Arr F S24x4x6x2x256 .f32 :=
  concatenate S24x4x6x2x256 3 [⟨S24x4x6x1x256, (val_main_v182 (F := F) x0 x1 x2 x3 x4 x5)⟩, ⟨S24x4x6x1x256, (val_main_v183 (F := F) x0 x1 x2 x3 x4 x5)⟩] concatenates_S24x4x6x1x256_S24x4x6x1x256_S24x4x6x2x256_d3

-- %185 = stablehlo.reshape %184 : (tensor<24x4x6x2x256xf32>) -> tensor<24x24x2x256xf32>
def val_main_v185 : Arr F S24x24x2x256 .f32 :=
  shapeCast _ (val_main_v184 (F := F) x0 x1 x2 x3 x4 x5) shapeCasts_S24x4x6x2x256_S24x24x2x256
set_option backward.proofsInPublic true in
abbrev idx_main_v185 (i : S24x24x2x256.Idx) : S24x4x6x2x256.Idx := fun a => match a with
  | ⟨0, _⟩ => ⟨((((i 0).val * 24 + (i 1).val) * 2 + (i 2).val) * 256 + (i 3).val) / 12288, by have h0 : (i 0).val < 24 := (i 0).isLt; have h1 : (i 1).val < 24 := (i 1).isLt; have h2 : (i 2).val < 2 := (i 2).isLt; have h3 : (i 3).val < 256 := (i 3).isLt; show ((((i 0).val * 24 + (i 1).val) * 2 + (i 2).val) * 256 + (i 3).val) / 12288 < 24; omega⟩
  | ⟨1, _⟩ => ⟨((((i 0).val * 24 + (i 1).val) * 2 + (i 2).val) * 256 + (i 3).val) / 3072 % 4, by have h0 : (i 0).val < 24 := (i 0).isLt; have h1 : (i 1).val < 24 := (i 1).isLt; have h2 : (i 2).val < 2 := (i 2).isLt; have h3 : (i 3).val < 256 := (i 3).isLt; show ((((i 0).val * 24 + (i 1).val) * 2 + (i 2).val) * 256 + (i 3).val) / 3072 % 4 < 4; omega⟩
  | ⟨2, _⟩ => ⟨((((i 0).val * 24 + (i 1).val) * 2 + (i 2).val) * 256 + (i 3).val) / 512 % 6, by have h0 : (i 0).val < 24 := (i 0).isLt; have h1 : (i 1).val < 24 := (i 1).isLt; have h2 : (i 2).val < 2 := (i 2).isLt; have h3 : (i 3).val < 256 := (i 3).isLt; show ((((i 0).val * 24 + (i 1).val) * 2 + (i 2).val) * 256 + (i 3).val) / 512 % 6 < 6; omega⟩
  | ⟨3, _⟩ => ⟨((((i 0).val * 24 + (i 1).val) * 2 + (i 2).val) * 256 + (i 3).val) / 256 % 2, by have h0 : (i 0).val < 24 := (i 0).isLt; have h1 : (i 1).val < 24 := (i 1).isLt; have h2 : (i 2).val < 2 := (i 2).isLt; have h3 : (i 3).val < 256 := (i 3).isLt; show ((((i 0).val * 24 + (i 1).val) * 2 + (i 2).val) * 256 + (i 3).val) / 256 % 2 < 2; omega⟩
  | ⟨4, _⟩ => ⟨((((i 0).val * 24 + (i 1).val) * 2 + (i 2).val) * 256 + (i 3).val) % 256, by have h0 : (i 0).val < 24 := (i 0).isLt; have h1 : (i 1).val < 24 := (i 1).isLt; have h2 : (i 2).val < 2 := (i 2).isLt; have h3 : (i 3).val < 256 := (i 3).isLt; show ((((i 0).val * 24 + (i 1).val) * 2 + (i 2).val) * 256 + (i 3).val) % 256 < 256; omega⟩
theorem val_main_v185_apply (i : S24x24x2x256.Idx) :
    val_main_v185 (F := F) x0 x1 x2 x3 x4 x5 i = val_main_v184 (F := F) x0 x1 x2 x3 x4 x5 (idx_main_v185 i) := by
  unfold val_main_v185
  generalize val_main_v184 (F := F) x0 x1 x2 x3 x4 x5 = y
  exact shapeCast_apply y shapeCasts_S24x4x6x2x256_S24x24x2x256 i (idx_main_v185 i)
    (by rewrite [Shape.rowMajor_val_five, Shape.rowMajor_val_four]; have h0 : (i 0).val < 24 := (i 0).isLt; have h1 : (i 1).val < 24 := (i 1).isLt; have h2 : (i 2).val < 2 := (i 2).isLt; have h3 : (i 3).val < 256 := (i 3).isLt; show (((((((i 0).val * 24 + (i 1).val) * 2 + (i 2).val) * 256 + (i 3).val) / 12288 * 4 + ((((i 0).val * 24 + (i 1).val) * 2 + (i 2).val) * 256 + (i 3).val) / 3072 % 4) * 6 + ((((i 0).val * 24 + (i 1).val) * 2 + (i 2).val) * 256 + (i 3).val) / 512 % 6) * 2 + ((((i 0).val * 24 + (i 1).val) * 2 + (i 2).val) * 256 + (i 3).val) / 256 % 2) * 256 + ((((i 0).val * 24 + (i 1).val) * 2 + (i 2).val) * 256 + (i 3).val) % 256 = (((i 0).val * 24 + (i 1).val) * 2 + (i 2).val) * 256 + (i 3).val; omega)

-- %186 = stablehlo.transpose %169, dims = [0, 2, 1, 3] : (tensor<24x4x6x256xf32>) -> tensor<24x6x4x256xf32>
def val_main_v186 : Arr F S24x6x4x256 .f32 :=
  transpose S24x6x4x256 [0, 2, 1, 3] (val_main_v169 (F := F) x0 x2 x3 x4 x5) transposes_S24x4x6x256_S24x6x4x256_0_2_1_3
abbrev idx_main_v186 (i : S24x6x4x256.Idx) : S24x4x6x256.Idx := fun a => match a with
  | ⟨0, _⟩ => ⟨(i 0).val, (i 0).isLt⟩
  | ⟨1, _⟩ => ⟨(i 2).val, (i 2).isLt⟩
  | ⟨2, _⟩ => ⟨(i 1).val, (i 1).isLt⟩
  | ⟨3, _⟩ => ⟨(i 3).val, (i 3).isLt⟩
theorem val_main_v186_apply (i : S24x6x4x256.Idx) :
    val_main_v186 (F := F) x0 x2 x3 x4 x5 i = val_main_v169 (F := F) x0 x2 x3 x4 x5 (idx_main_v186 i) := by
  unfold val_main_v186
  generalize val_main_v169 (F := F) x0 x2 x3 x4 x5 = y
  exact transpose_apply [0, 2, 1, 3] y transposes_S24x4x6x256_S24x6x4x256_0_2_1_3 i (idx_main_v186 i) (fun b => match b with
    | ⟨0, _⟩ => rfl
    | ⟨1, _⟩ => rfl
    | ⟨2, _⟩ => rfl
    | ⟨3, _⟩ => rfl)

end Cert.ReferenceIdeal.Stage

end
-- ==== Proof.RefRun.lean ====
/-
  The reference's run: @main is the list of its operations, and after them each buffer holds the stage of `RefStagesA` and
  `RefStagesB` that its operation computes.
-/
module

public import proofs.«01_k».proof.Proof.RefStagesB
public import Idealize.ShloMosaic.Lib.Pipeline.Frame

@[expose] public section

set_option maxRecDepth 16384

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v95`, named. It packs its operands into a list of dependent pairs
    whose shapes a later argument's type mentions, so `simp` cannot rewrite an operand where it stands; applied by
    name, the operands are plain arguments, which the window lemmas below rewrite before the name unfolds. -/
def fn_main_v95 : (main_v91 : Ref sig .tc).ty.Contents (Elt F) → (main_v92 : Ref sig .tc).ty.Contents (Elt F) → (main_v93 : Ref sig .tc).ty.Contents (Elt F) → (main_v94 : Ref sig .tc).ty.Contents (Elt F) → (main_v95 : Ref sig .tc).ty.Contents (Elt F) :=
  (fun u0 u1 u2 u3 => (concatenate S24x4x4x6x256 2 [⟨S24x4x1x6x256, (u0 : Arr F S24x4x1x6x256 .i32)⟩, ⟨S24x4x1x6x256, (u1 : Arr F S24x4x1x6x256 .i32)⟩, ⟨S24x4x1x6x256, (u2 : Arr F S24x4x1x6x256 .i32)⟩, ⟨S24x4x1x6x256, (u3 : Arr F S24x4x1x6x256 .i32)⟩] concatenates_S24x4x1x6x256_S24x4x1x6x256_S24x4x1x6x256_S24x4x1x6x256_S24x4x4x6x256_d2 : Arr F S24x4x4x6x256 .i32))

/-- The function of the operation that writes `main_v104`, named. It packs its operands into a list of dependent pairs
    whose shapes a later argument's type mentions, so `simp` cannot rewrite an operand where it stands; applied by
    name, the operands are plain arguments, which the window lemmas below rewrite before the name unfolds. -/
def fn_main_v104 : (main_v100 : Ref sig .tc).ty.Contents (Elt F) → (main_v101 : Ref sig .tc).ty.Contents (Elt F) → (main_v102 : Ref sig .tc).ty.Contents (Elt F) → (main_v103 : Ref sig .tc).ty.Contents (Elt F) → (main_v104 : Ref sig .tc).ty.Contents (Elt F) :=
  (fun u0 u1 u2 u3 => (concatenate S24x4x4x6x256 2 [⟨S24x4x1x6x256, (u0 : Arr F S24x4x1x6x256 .i32)⟩, ⟨S24x4x1x6x256, (u1 : Arr F S24x4x1x6x256 .i32)⟩, ⟨S24x4x1x6x256, (u2 : Arr F S24x4x1x6x256 .i32)⟩, ⟨S24x4x1x6x256, (u3 : Arr F S24x4x1x6x256 .i32)⟩] concatenates_S24x4x1x6x256_S24x4x1x6x256_S24x4x1x6x256_S24x4x1x6x256_S24x4x4x6x256_d2 : Arr F S24x4x4x6x256 .i32))

/-- The function of the operation that writes `main_v113`, named. It packs its operands into a list of dependent pairs
    whose shapes a later argument's type mentions, so `simp` cannot rewrite an operand where it stands; applied by
    name, the operands are plain arguments, which the window lemmas below rewrite before the name unfolds. -/
def fn_main_v113 : (main_v109 : Ref sig .tc).ty.Contents (Elt F) → (main_v110 : Ref sig .tc).ty.Contents (Elt F) → (main_v111 : Ref sig .tc).ty.Contents (Elt F) → (main_v112 : Ref sig .tc).ty.Contents (Elt F) → (main_v113 : Ref sig .tc).ty.Contents (Elt F) :=
  (fun u0 u1 u2 u3 => (concatenate S24x4x4x6x256 2 [⟨S24x4x1x6x256, (u0 : Arr F S24x4x1x6x256 .f32)⟩, ⟨S24x4x1x6x256, (u1 : Arr F S24x4x1x6x256 .f32)⟩, ⟨S24x4x1x6x256, (u2 : Arr F S24x4x1x6x256 .f32)⟩, ⟨S24x4x1x6x256, (u3 : Arr F S24x4x1x6x256 .f32)⟩] concatenates_S24x4x1x6x256_S24x4x1x6x256_S24x4x1x6x256_S24x4x1x6x256_S24x4x4x6x256_d2 : Arr F S24x4x4x6x256 .f32))

/-- The function of the operation that writes `main_v184`, named. It packs its operands into a list of dependent pairs
    whose shapes a later argument's type mentions, so `simp` cannot rewrite an operand where it stands; applied by
    name, the operands are plain arguments, which the window lemmas below rewrite before the name unfolds. -/
def fn_main_v184 : Arr F S24x4x6x1x256 .f32 → Arr F S24x4x6x1x256 .f32 → Arr F S24x4x6x2x256 .f32 :=
  (fun a b => concatenate S24x4x6x2x256 3 [⟨S24x4x6x1x256, a⟩, ⟨S24x4x6x1x256, b⟩] concatenates_S24x4x6x1x256_S24x4x6x1x256_S24x4x6x2x256_d3)

/-- @main's operations 1 … 60 of 218 (window `main_part0`). -/
abbrev ops_part0 : List (HloOp τ sig (Elt F)) :=
  [ unary main_arg3 main_v0 ((extf .f32 · bitsLt_bf16_f32) : Arr F S24x48x256 .bf16 → Arr F S24x48x256 .f32),
    unary main_arg2 main_v1 (broadcastInDim S3x8x256 ![0, 2] bcast_S3x256_S3x8x256_0_2 : Arr F S3x256 .f32 → Arr F S3x8x256 .f32),
    reshape main_v1 main_v2 (rfl : (.f32 : EltTy) = .f32) shapeCasts_S3x8x256_S24x256,
    unary main_v2 main_v3 (broadcastInDim S24x1x256 ![0, 2] bcast_S24x256_S24x1x256_0_2 : Arr F S24x256 .f32 → Arr F S24x1x256 .f32),
    unary main_v3 main_v4 (broadcastInDim S24x48x256 ![0, 1, 2] bcast_S24x1x256_S24x48x256_0_1_2 : Arr F S24x1x256 .f32 → Arr F S24x48x256 .f32),
    binary main_v0 main_v4 main_v5 (mulf : Arr F S24x48x256 .f32 → Arr F S24x48x256 .f32 → Arr F S24x48x256 .f32),
    reshape main_arg4 main_v6 (rfl : (.i32 : EltTy) = .i32) shapeCasts_S7077888_S24x12x1x24576,
    nullary main_v7 (iotaInDim S4 32 0),
    nullary main_c (constantI S_ 32 8#32),
    unary main_c main_v8 (broadcastInDim S4 ![] bcast_S_S4 : Arr F S_ .i32 → Arr F S4 .i32),
    binary main_v8 main_v7 main_v9 (muli : Arr F S4 .i32 → Arr F S4 .i32 → Arr F S4 .i32),
    unary main_v9 main_v10 (broadcastInDim S4x1 ![0] bcast_S4_S4x1_0 : Arr F S4 .i32 → Arr F S4x1 .i32),
    unary main_v10 main_v11 (broadcastInDim S1x1x4x1 ![2, 3] bcast_S4x1_S1x1x4x1_2_3 : Arr F S4x1 .i32 → Arr F S1x1x4x1 .i32),
    unary main_v6 main_v12 (broadcastInDim S24x12x4x24576 ![0, 1, 2, 3] bcast_S24x12x1x24576_S24x12x4x24576_0_1_2_3 : Arr F S24x12x1x24576 .i32 → Arr F S24x12x4x24576 .i32),
    unary main_v11 main_v13 (broadcastInDim S24x12x4x24576 ![0, 1, 2, 3] bcast_S1x1x4x1_S24x12x4x24576_0_1_2_3 : Arr F S1x1x4x1 .i32 → Arr F S24x12x4x24576 .i32),
    binary main_v12 main_v13 main_v14 (Host.shrsi : Arr F S24x12x4x24576 .i32 → Arr F S24x12x4x24576 .i32 → Arr F S24x12x4x24576 .i32),
    nullary main_c_0 (constantI S_ 32 255#32),
    unary main_c_0 main_v15 (broadcastInDim S24x12x4x24576 ![] bcast_S_S24x12x4x24576 : Arr F S_ .i32 → Arr F S24x12x4x24576 .i32),
    binary main_v14 main_v15 main_v16 (andi : Arr F S24x12x4x24576 .i32 → Arr F S24x12x4x24576 .i32 → Arr F S24x12x4x24576 .i32),
    nullary main_c_1 (constantI S_ 32 7#32),
    unary main_c_1 main_v17 (broadcastInDim S24x12x4x24576 ![] bcast_S_S24x12x4x24576 : Arr F S_ .i32 → Arr F S24x12x4x24576 .i32),
    binary main_v16 main_v17 main_v18 (Host.shrsi : Arr F S24x12x4x24576 .i32 → Arr F S24x12x4x24576 .i32 → Arr F S24x12x4x24576 .i32),
    nullary main_c_2 (constantI S_ 32 3#32),
    unary main_c_2 main_v19 (broadcastInDim S24x12x4x24576 ![] bcast_S_S24x12x4x24576 : Arr F S_ .i32 → Arr F S24x12x4x24576 .i32),
    binary main_v16 main_v19 main_v20 (Host.shrsi : Arr F S24x12x4x24576 .i32 → Arr F S24x12x4x24576 .i32 → Arr F S24x12x4x24576 .i32),
    nullary main_c_3 (constantI S_ 32 15#32),
    unary main_c_3 main_v21 (broadcastInDim S24x12x4x24576 ![] bcast_S_S24x12x4x24576 : Arr F S_ .i32 → Arr F S24x12x4x24576 .i32),
    binary main_v20 main_v21 main_v22 (andi : Arr F S24x12x4x24576 .i32 → Arr F S24x12x4x24576 .i32 → Arr F S24x12x4x24576 .i32),
    nullary main_c_4 (constantI S_ 32 7#32),
    unary main_c_4 main_v23 (broadcastInDim S24x12x4x24576 ![] bcast_S_S24x12x4x24576 : Arr F S_ .i32 → Arr F S24x12x4x24576 .i32),
    binary main_v16 main_v23 main_v24 (andi : Arr F S24x12x4x24576 .i32 → Arr F S24x12x4x24576 .i32 → Arr F S24x12x4x24576 .i32),
    nullary main_c_5 (constantI S_ 32 117#32),
    unary main_c_5 main_v25 (broadcastInDim S24x12x4x24576 ![] bcast_S_S24x12x4x24576 : Arr F S_ .i32 → Arr F S24x12x4x24576 .i32),
    binary main_v22 main_v25 main_v26 (addi : Arr F S24x12x4x24576 .i32 → Arr F S24x12x4x24576 .i32 → Arr F S24x12x4x24576 .i32),
    nullary main_c_6 (constantI S_ 32 23#32),
    unary main_c_6 main_v27 (broadcastInDim S24x12x4x24576 ![] bcast_S_S24x12x4x24576 : Arr F S_ .i32 → Arr F S24x12x4x24576 .i32),
    binary main_v26 main_v27 main_v28 (Host.shli : Arr F S24x12x4x24576 .i32 → Arr F S24x12x4x24576 .i32 → Arr F S24x12x4x24576 .i32),
    unary main_v28 main_v29 (bitcastToFloat (F := F) .f32 : Arr F S24x12x4x24576 .i32 → Arr F S24x12x4x24576 .f32),
    nullary main_c_7 (constantI S_ 32 0#32),
    unary main_c_7 main_v30 (broadcastInDim S24x12x4x24576 ![] bcast_S_S24x12x4x24576 : Arr F S_ .i32 → Arr F S24x12x4x24576 .i32),
    binary main_v22 main_v30 main_v31 (cmpi .eq : Arr F S24x12x4x24576 .i32 → Arr F S24x12x4x24576 .i32 → Arr F S24x12x4x24576 .i1),
    unary main_v24 main_v32 (sitofp .f32 : Arr F S24x12x4x24576 .i32 → Arr F S24x12x4x24576 .f32),
    nullary main_cst (constant S_ .f32 0x3B000000#32),
    unary main_cst main_v33 (broadcastInDim S24x12x4x24576 ![] bcast_S_S24x12x4x24576 : Arr F S_ .f32 → Arr F S24x12x4x24576 .f32),
    binary main_v32 main_v33 main_v34 (mulf : Arr F S24x12x4x24576 .f32 → Arr F S24x12x4x24576 .f32 → Arr F S24x12x4x24576 .f32),
    nullary main_c_8 (constantI S_ 32 8#32),
    unary main_c_8 main_v35 (broadcastInDim S24x12x4x24576 ![] bcast_S_S24x12x4x24576 : Arr F S_ .i32 → Arr F S24x12x4x24576 .i32),
    binary main_v35 main_v24 main_v36 (addi : Arr F S24x12x4x24576 .i32 → Arr F S24x12x4x24576 .i32 → Arr F S24x12x4x24576 .i32),
    unary main_v36 main_v37 (sitofp .f32 : Arr F S24x12x4x24576 .i32 → Arr F S24x12x4x24576 .f32),
    binary main_v37 main_v29 main_v38 (mulf : Arr F S24x12x4x24576 .f32 → Arr F S24x12x4x24576 .f32 → Arr F S24x12x4x24576 .f32),
    TRef.ternary (TRef.of (T := ⟨S24x12x4x24576, .i1⟩) main_v31) (TRef.of (T := ⟨S24x12x4x24576, .f32⟩) main_v34) (TRef.of (T := ⟨S24x12x4x24576, .f32⟩) main_v38) (TRef.of (T := ⟨S24x12x4x24576, .f32⟩) main_v39) select,
    nullary main_c_9 (constantI S_ 32 1#32),
    unary main_c_9 main_v40 (broadcastInDim S24x12x4x24576 ![] bcast_S_S24x12x4x24576 : Arr F S_ .i32 → Arr F S24x12x4x24576 .i32),
    binary main_v18 main_v40 main_v41 (cmpi .eq : Arr F S24x12x4x24576 .i32 → Arr F S24x12x4x24576 .i32 → Arr F S24x12x4x24576 .i1),
    unary main_v39 main_v42 (Host.negf : Arr F S24x12x4x24576 .f32 → Arr F S24x12x4x24576 .f32),
    TRef.ternary (TRef.of (T := ⟨S24x12x4x24576, .i1⟩) main_v41) (TRef.of (T := ⟨S24x12x4x24576, .f32⟩) main_v42) (TRef.of (T := ⟨S24x12x4x24576, .f32⟩) main_v39) (TRef.of (T := ⟨S24x12x4x24576, .f32⟩) main_v43) select,
    reshape main_v43 main_v44 (rfl : (.f32 : EltTy) = .f32) shapeCasts_S24x12x4x24576_S24x48x16x2x6x128,
    unary main_v44 main_v45 ((transpose S24x16x6x2x128x48 [0, 2, 4, 3, 5, 1] · transposes_S24x48x16x2x6x128_S24x16x6x2x128x48_0_2_4_3_5_1) : Arr F S24x48x16x2x6x128 .f32 → Arr F S24x16x6x2x128x48 .f32),
    reshape main_v45 main_v46 (rfl : (.f32 : EltTy) = .f32) shapeCasts_S24x16x6x2x128x48_S24x4x4x6x256x48,
    unary main_arg5 main_v47 (bitcastToFloat (F := F) .f32 : Arr F S589824 .i32 → Arr F S589824 .f32) ]

/-- @main's operations 61 … 120 of 218 (window `main_part1`). -/
abbrev ops_part1 : List (HloOp τ sig (Elt F)) :=
  [ reshape main_v47 main_v48 (rfl : (.f32 : EltTy) = .f32) shapeCasts_S589824_S24x16x2x6x128,
    unary main_v48 main_v49 ((transpose S24x16x6x2x128 [0, 1, 3, 2, 4] · transposes_S24x16x2x6x128_S24x16x6x2x128_0_1_3_2_4) : Arr F S24x16x2x6x128 .f32 → Arr F S24x16x6x2x128 .f32),
    reshape main_v49 main_v50 (rfl : (.f32 : EltTy) = .f32) shapeCasts_S24x16x6x2x128_S24x4x4x6x256,
    unary main_arg0 main_v51 ((transpose S3x8x2x4x6x256 [0, 2, 5, 3, 4, 1] · transposes_S3x256x8x4x6x2_S3x8x2x4x6x256_0_2_5_3_4_1) : Arr F S3x256x8x4x6x2 .f32 → Arr F S3x8x2x4x6x256 .f32),
    reshape main_v51 main_v52 (rfl : (.f32 : EltTy) = .f32) shapeCasts_S3x8x2x4x6x256_S24x2x4x6x256,
    unary main_arg1 main_v53 ((transpose S3x8x4x6x256 [0, 2, 3, 4, 1] · transposes_S3x256x8x4x6_S3x8x4x6x256_0_2_3_4_1) : Arr F S3x256x8x4x6 .f32 → Arr F S3x8x4x6x256 .f32),
    reshape main_v53 main_v54 (rfl : (.f32 : EltTy) = .f32) shapeCasts_S3x8x4x6x256_S24x4x6x256,
    nullary main_v55 (iotaInDim S4 32 0),
    unary main_v55 main_v56 (broadcastInDim S4x1x1 ![0] bcast_S4_S4x1x1_0 : Arr F S4 .i32 → Arr F S4x1x1 .i32),
    nullary main_c_10 (constantI S_ 32 320#32),
    unary main_c_10 main_v57 (broadcastInDim S4x1x1 ![] bcast_S_S4x1x1 : Arr F S_ .i32 → Arr F S4x1x1 .i32),
    binary main_v57 main_v56 main_v58 (Host.shrsi : Arr F S4x1x1 .i32 → Arr F S4x1x1 .i32 → Arr F S4x1x1 .i32),
    nullary main_c_11 (constantI S_ 32 200#32),
    unary main_c_11 main_v59 (broadcastInDim S4x1x1 ![] bcast_S_S4x1x1 : Arr F S_ .i32 → Arr F S4x1x1 .i32),
    binary main_v59 main_v56 main_v60 (Host.shrsi : Arr F S4x1x1 .i32 → Arr F S4x1x1 .i32 → Arr F S4x1x1 .i32),
    unary main_v58 main_v61 (sitofp .f32 : Arr F S4x1x1 .i32 → Arr F S4x1x1 .f32),
    unary main_v60 main_v62 (sitofp .f32 : Arr F S4x1x1 .i32 → Arr F S4x1x1 .f32),
    unary main_v52 main_v63 ((extractStridedSlice S24x1x4x6x256 ![0, 0, 0, 0, 0] · slices_S24x2x4x6x256_S24x1x4x6x256_0_0_0_0_0) : Arr F S24x2x4x6x256 .f32 → Arr F S24x1x4x6x256 .f32),
    reshape main_v63 main_v64 (rfl : (.f32 : EltTy) = .f32) shapeCasts_S24x1x4x6x256_S24x4x6x256,
    unary main_v61 main_v65 (broadcastInDim S1x4x1x1 ![1, 2, 3] bcast_S4x1x1_S1x4x1x1_1_2_3 : Arr F S4x1x1 .f32 → Arr F S1x4x1x1 .f32),
    unary main_v65 main_v66 (broadcastInDim S24x4x6x256 ![0, 1, 2, 3] bcast_S1x4x1x1_S24x4x6x256_0_1_2_3 : Arr F S1x4x1x1 .f32 → Arr F S24x4x6x256 .f32),
    binary main_v64 main_v66 main_v67 (mulf : Arr F S24x4x6x256 .f32 → Arr F S24x4x6x256 .f32 → Arr F S24x4x6x256 .f32),
    nullary main_cst_12 (constant S_ .f32 0x3F000000#32),
    unary main_cst_12 main_v68 (broadcastInDim S24x4x6x256 ![] bcast_S_S24x4x6x256 : Arr F S_ .f32 → Arr F S24x4x6x256 .f32),
    binary main_v67 main_v68 main_v69 (subf : Arr F S24x4x6x256 .f32 → Arr F S24x4x6x256 .f32 → Arr F S24x4x6x256 .f32),
    unary main_v52 main_v70 ((extractStridedSlice S24x1x4x6x256 ![0, 1, 0, 0, 0] · slices_S24x2x4x6x256_S24x1x4x6x256_0_1_0_0_0) : Arr F S24x2x4x6x256 .f32 → Arr F S24x1x4x6x256 .f32),
    reshape main_v70 main_v71 (rfl : (.f32 : EltTy) = .f32) shapeCasts_S24x1x4x6x256_S24x4x6x256,
    unary main_v62 main_v72 (broadcastInDim S1x4x1x1 ![1, 2, 3] bcast_S4x1x1_S1x4x1x1_1_2_3 : Arr F S4x1x1 .f32 → Arr F S1x4x1x1 .f32),
    unary main_v72 main_v73 (broadcastInDim S24x4x6x256 ![0, 1, 2, 3] bcast_S1x4x1x1_S24x4x6x256_0_1_2_3 : Arr F S1x4x1x1 .f32 → Arr F S24x4x6x256 .f32),
    binary main_v71 main_v73 main_v74 (mulf : Arr F S24x4x6x256 .f32 → Arr F S24x4x6x256 .f32 → Arr F S24x4x6x256 .f32),
    nullary main_cst_13 (constant S_ .f32 0x3F000000#32),
    unary main_cst_13 main_v75 (broadcastInDim S24x4x6x256 ![] bcast_S_S24x4x6x256 : Arr F S_ .f32 → Arr F S24x4x6x256 .f32),
    binary main_v74 main_v75 main_v76 (subf : Arr F S24x4x6x256 .f32 → Arr F S24x4x6x256 .f32 → Arr F S24x4x6x256 .f32),
    unary main_v69 main_v77 (Host.floor : Arr F S24x4x6x256 .f32 → Arr F S24x4x6x256 .f32),
    unary main_v76 main_v78 (Host.floor : Arr F S24x4x6x256 .f32 → Arr F S24x4x6x256 .f32),
    binary main_v69 main_v77 main_v79 (subf : Arr F S24x4x6x256 .f32 → Arr F S24x4x6x256 .f32 → Arr F S24x4x6x256 .f32),
    binary main_v76 main_v78 main_v80 (subf : Arr F S24x4x6x256 .f32 → Arr F S24x4x6x256 .f32 → Arr F S24x4x6x256 .f32),
    nullary main_cst_14 (constant S_ .f32 0x3F800000#32),
    unary main_cst_14 main_v81 (broadcastInDim S24x4x6x256 ![] bcast_S_S24x4x6x256 : Arr F S_ .f32 → Arr F S24x4x6x256 .f32),
    binary main_v81 main_v79 main_v82 (subf : Arr F S24x4x6x256 .f32 → Arr F S24x4x6x256 .f32 → Arr F S24x4x6x256 .f32),
    nullary main_cst_15 (constant S_ .f32 0x3F800000#32),
    unary main_cst_15 main_v83 (broadcastInDim S24x4x6x256 ![] bcast_S_S24x4x6x256 : Arr F S_ .f32 → Arr F S24x4x6x256 .f32),
    binary main_v83 main_v80 main_v84 (subf : Arr F S24x4x6x256 .f32 → Arr F S24x4x6x256 .f32 → Arr F S24x4x6x256 .f32),
    unary main_v77 main_v85 (fptosi 32 : Arr F S24x4x6x256 .f32 → Arr F S24x4x6x256 .i32),
    unary main_v78 main_v86 (fptosi 32 : Arr F S24x4x6x256 .f32 → Arr F S24x4x6x256 .i32),
    nullary main_c_16 (constantI S_ 32 1#32),
    unary main_c_16 main_v87 (broadcastInDim S24x4x6x256 ![] bcast_S_S24x4x6x256 : Arr F S_ .i32 → Arr F S24x4x6x256 .i32),
    binary main_v85 main_v87 main_v88 (addi : Arr F S24x4x6x256 .i32 → Arr F S24x4x6x256 .i32 → Arr F S24x4x6x256 .i32),
    nullary main_c_17 (constantI S_ 32 1#32),
    unary main_c_17 main_v89 (broadcastInDim S24x4x6x256 ![] bcast_S_S24x4x6x256 : Arr F S_ .i32 → Arr F S24x4x6x256 .i32),
    binary main_v85 main_v89 main_v90 (addi : Arr F S24x4x6x256 .i32 → Arr F S24x4x6x256 .i32 → Arr F S24x4x6x256 .i32),
    unary main_v85 main_v91 (broadcastInDim S24x4x1x6x256 ![0, 1, 3, 4] bcast_S24x4x6x256_S24x4x1x6x256_0_1_3_4 : Arr F S24x4x6x256 .i32 → Arr F S24x4x1x6x256 .i32),
    unary main_v88 main_v92 (broadcastInDim S24x4x1x6x256 ![0, 1, 3, 4] bcast_S24x4x6x256_S24x4x1x6x256_0_1_3_4 : Arr F S24x4x6x256 .i32 → Arr F S24x4x1x6x256 .i32),
    unary main_v85 main_v93 (broadcastInDim S24x4x1x6x256 ![0, 1, 3, 4] bcast_S24x4x6x256_S24x4x1x6x256_0_1_3_4 : Arr F S24x4x6x256 .i32 → Arr F S24x4x1x6x256 .i32),
    unary main_v90 main_v94 (broadcastInDim S24x4x1x6x256 ![0, 1, 3, 4] bcast_S24x4x6x256_S24x4x1x6x256_0_1_3_4 : Arr F S24x4x6x256 .i32 → Arr F S24x4x1x6x256 .i32),
    nary ![main_v91, main_v92, main_v93, main_v94] main_v95 (fun u => fn_main_v95 (F := F) (u 0) (u 1) (u 2) (u 3)),
    nullary main_c_18 (constantI S_ 32 1#32),
    unary main_c_18 main_v96 (broadcastInDim S24x4x6x256 ![] bcast_S_S24x4x6x256 : Arr F S_ .i32 → Arr F S24x4x6x256 .i32),
    binary main_v86 main_v96 main_v97 (addi : Arr F S24x4x6x256 .i32 → Arr F S24x4x6x256 .i32 → Arr F S24x4x6x256 .i32),
    nullary main_c_19 (constantI S_ 32 1#32) ]

/-- @main's operations 121 … 150 of 218 (window `main_part2`). -/
abbrev ops_part2_0 : List (HloOp τ sig (Elt F)) :=
  [ unary main_c_19 main_v98 (broadcastInDim S24x4x6x256 ![] bcast_S_S24x4x6x256 : Arr F S_ .i32 → Arr F S24x4x6x256 .i32),
    binary main_v86 main_v98 main_v99 (addi : Arr F S24x4x6x256 .i32 → Arr F S24x4x6x256 .i32 → Arr F S24x4x6x256 .i32),
    unary main_v86 main_v100 (broadcastInDim S24x4x1x6x256 ![0, 1, 3, 4] bcast_S24x4x6x256_S24x4x1x6x256_0_1_3_4 : Arr F S24x4x6x256 .i32 → Arr F S24x4x1x6x256 .i32),
    unary main_v86 main_v101 (broadcastInDim S24x4x1x6x256 ![0, 1, 3, 4] bcast_S24x4x6x256_S24x4x1x6x256_0_1_3_4 : Arr F S24x4x6x256 .i32 → Arr F S24x4x1x6x256 .i32),
    unary main_v97 main_v102 (broadcastInDim S24x4x1x6x256 ![0, 1, 3, 4] bcast_S24x4x6x256_S24x4x1x6x256_0_1_3_4 : Arr F S24x4x6x256 .i32 → Arr F S24x4x1x6x256 .i32),
    unary main_v99 main_v103 (broadcastInDim S24x4x1x6x256 ![0, 1, 3, 4] bcast_S24x4x6x256_S24x4x1x6x256_0_1_3_4 : Arr F S24x4x6x256 .i32 → Arr F S24x4x1x6x256 .i32),
    nary ![main_v100, main_v101, main_v102, main_v103] main_v104 (fun u => fn_main_v104 (F := F) (u 0) (u 1) (u 2) (u 3)),
    binary main_v84 main_v82 main_v105 (mulf : Arr F S24x4x6x256 .f32 → Arr F S24x4x6x256 .f32 → Arr F S24x4x6x256 .f32),
    binary main_v84 main_v79 main_v106 (mulf : Arr F S24x4x6x256 .f32 → Arr F S24x4x6x256 .f32 → Arr F S24x4x6x256 .f32),
    binary main_v80 main_v82 main_v107 (mulf : Arr F S24x4x6x256 .f32 → Arr F S24x4x6x256 .f32 → Arr F S24x4x6x256 .f32),
    binary main_v80 main_v79 main_v108 (mulf : Arr F S24x4x6x256 .f32 → Arr F S24x4x6x256 .f32 → Arr F S24x4x6x256 .f32),
    unary main_v105 main_v109 (broadcastInDim S24x4x1x6x256 ![0, 1, 3, 4] bcast_S24x4x6x256_S24x4x1x6x256_0_1_3_4 : Arr F S24x4x6x256 .f32 → Arr F S24x4x1x6x256 .f32),
    unary main_v106 main_v110 (broadcastInDim S24x4x1x6x256 ![0, 1, 3, 4] bcast_S24x4x6x256_S24x4x1x6x256_0_1_3_4 : Arr F S24x4x6x256 .f32 → Arr F S24x4x1x6x256 .f32),
    unary main_v107 main_v111 (broadcastInDim S24x4x1x6x256 ![0, 1, 3, 4] bcast_S24x4x6x256_S24x4x1x6x256_0_1_3_4 : Arr F S24x4x6x256 .f32 → Arr F S24x4x1x6x256 .f32),
    unary main_v108 main_v112 (broadcastInDim S24x4x1x6x256 ![0, 1, 3, 4] bcast_S24x4x6x256_S24x4x1x6x256_0_1_3_4 : Arr F S24x4x6x256 .f32 → Arr F S24x4x1x6x256 .f32),
    nary ![main_v109, main_v110, main_v111, main_v112] main_v113 (fun u => fn_main_v113 (F := F) (u 0) (u 1) (u 2) (u 3)),
    nullary main_c_20 (constantI S_ 32 0#32),
    unary main_c_20 main_v114 (broadcastInDim S24x4x4x6x256 ![] bcast_S_S24x4x4x6x256 : Arr F S_ .i32 → Arr F S24x4x4x6x256 .i32),
    binary main_v95 main_v114 main_v115 (cmpi .sge : Arr F S24x4x4x6x256 .i32 → Arr F S24x4x4x6x256 .i32 → Arr F S24x4x4x6x256 .i1),
    unary main_v58 main_v116 (broadcastInDim S4x1x1x1 ![0, 2, 3] bcast_S4x1x1_S4x1x1x1_0_2_3 : Arr F S4x1x1 .i32 → Arr F S4x1x1x1 .i32),
    nullary main_c_21 (constantI S_ 32 1#32),
    unary main_c_21 main_v117 (broadcastInDim S4x1x1x1 ![] bcast_S_S4x1x1x1 : Arr F S_ .i32 → Arr F S4x1x1x1 .i32),
    binary main_v116 main_v117 main_v118 (subi : Arr F S4x1x1x1 .i32 → Arr F S4x1x1x1 .i32 → Arr F S4x1x1x1 .i32),
    unary main_v118 main_v119 (broadcastInDim S1x4x1x1x1 ![1, 2, 3, 4] bcast_S4x1x1x1_S1x4x1x1x1_1_2_3_4 : Arr F S4x1x1x1 .i32 → Arr F S1x4x1x1x1 .i32),
    unary main_v119 main_v120 (broadcastInDim S24x4x4x6x256 ![0, 1, 2, 3, 4] bcast_S1x4x1x1x1_S24x4x4x6x256_0_1_2_3_4 : Arr F S1x4x1x1x1 .i32 → Arr F S24x4x4x6x256 .i32),
    binary main_v95 main_v120 main_v121 (cmpi .sle : Arr F S24x4x4x6x256 .i32 → Arr F S24x4x4x6x256 .i32 → Arr F S24x4x4x6x256 .i1),
    binary main_v115 main_v121 main_v122 (andi : Arr F S24x4x4x6x256 .i1 → Arr F S24x4x4x6x256 .i1 → Arr F S24x4x4x6x256 .i1),
    nullary main_c_22 (constantI S_ 32 0#32),
    unary main_c_22 main_v123 (broadcastInDim S24x4x4x6x256 ![] bcast_S_S24x4x4x6x256 : Arr F S_ .i32 → Arr F S24x4x4x6x256 .i32),
    binary main_v104 main_v123 main_v124 (cmpi .sge : Arr F S24x4x4x6x256 .i32 → Arr F S24x4x4x6x256 .i32 → Arr F S24x4x4x6x256 .i1) ]

/-- @main's operations 151 … 180 of 218 (window `main_part2`). -/
abbrev ops_part2_1 : List (HloOp τ sig (Elt F)) :=
  [ binary main_v122 main_v124 main_v125 (andi : Arr F S24x4x4x6x256 .i1 → Arr F S24x4x4x6x256 .i1 → Arr F S24x4x4x6x256 .i1),
    unary main_v60 main_v126 (broadcastInDim S4x1x1x1 ![0, 2, 3] bcast_S4x1x1_S4x1x1x1_0_2_3 : Arr F S4x1x1 .i32 → Arr F S4x1x1x1 .i32),
    nullary main_c_23 (constantI S_ 32 1#32),
    unary main_c_23 main_v127 (broadcastInDim S4x1x1x1 ![] bcast_S_S4x1x1x1 : Arr F S_ .i32 → Arr F S4x1x1x1 .i32),
    binary main_v126 main_v127 main_v128 (subi : Arr F S4x1x1x1 .i32 → Arr F S4x1x1x1 .i32 → Arr F S4x1x1x1 .i32),
    unary main_v128 main_v129 (broadcastInDim S1x4x1x1x1 ![1, 2, 3, 4] bcast_S4x1x1x1_S1x4x1x1x1_1_2_3_4 : Arr F S4x1x1x1 .i32 → Arr F S1x4x1x1x1 .i32),
    unary main_v129 main_v130 (broadcastInDim S24x4x4x6x256 ![0, 1, 2, 3, 4] bcast_S1x4x1x1x1_S24x4x4x6x256_0_1_2_3_4 : Arr F S1x4x1x1x1 .i32 → Arr F S24x4x4x6x256 .i32),
    binary main_v104 main_v130 main_v131 (cmpi .sle : Arr F S24x4x4x6x256 .i32 → Arr F S24x4x4x6x256 .i32 → Arr F S24x4x4x6x256 .i1),
    binary main_v125 main_v131 main_v132 (andi : Arr F S24x4x4x6x256 .i1 → Arr F S24x4x4x6x256 .i1 → Arr F S24x4x4x6x256 .i1),
    unary main_v132 main_v133 (broadcastInDim S24x4x4x6x256x1 ![0, 1, 2, 3, 4] bcast_S24x4x4x6x256_S24x4x4x6x256x1_0_1_2_3_4 : Arr F S24x4x4x6x256 .i1 → Arr F S24x4x4x6x256x1 .i1),
    unary main_v50 main_v134 (broadcastInDim S24x4x4x6x256x1 ![0, 1, 2, 3, 4] bcast_S24x4x4x6x256_S24x4x4x6x256x1_0_1_2_3_4 : Arr F S24x4x4x6x256 .f32 → Arr F S24x4x4x6x256x1 .f32),
    unary main_v134 main_v135 (broadcastInDim S24x4x4x6x256x48 ![0, 1, 2, 3, 4, 5] bcast_S24x4x4x6x256x1_S24x4x4x6x256x48_0_1_2_3_4_5 : Arr F S24x4x4x6x256x1 .f32 → Arr F S24x4x4x6x256x48 .f32),
    binary main_v46 main_v135 main_v136 (mulf : Arr F S24x4x4x6x256x48 .f32 → Arr F S24x4x4x6x256x48 .f32 → Arr F S24x4x4x6x256x48 .f32),
    nullary main_cst_24 (constant S_ .f32 0x00000000#32),
    TRef.unary (TRef.of (T := ⟨S_, .f32⟩) main_cst_24) (TRef.of (T := ⟨S_, .f32⟩) main_call2_v0) id,
    TRef.unary (TRef.of (T := ⟨S24x4x4x6x256x1, .i1⟩) main_v133) (TRef.of (T := ⟨S24x4x4x6x256x48, .i1⟩) main_call2_v1) (broadcastInDim S24x4x4x6x256x48 ![0, 1, 2, 3, 4, 5] bcast_S24x4x4x6x256x1_S24x4x4x6x256x48_0_1_2_3_4_5),
    TRef.unary (TRef.of (T := ⟨S_, .f32⟩) main_call2_v0) (TRef.of (T := ⟨S24x4x4x6x256x48, .f32⟩) main_call2_v2) (broadcastInDim S24x4x4x6x256x48 ![] bcast_S_S24x4x4x6x256x48),
    TRef.ternary (TRef.of (T := ⟨S24x4x4x6x256x48, .i1⟩) main_call2_v1) (TRef.of (T := ⟨S24x4x4x6x256x48, .f32⟩) main_v136) (TRef.of (T := ⟨S24x4x4x6x256x48, .f32⟩) main_call2_v2) (TRef.of (T := ⟨S24x4x4x6x256x48, .f32⟩) main_v137) select,
    unary main_v137 main_v138 ((extractStridedSlice S24x4x1x6x256x48 ![0, 0, 0, 0, 0, 0] · slices_S24x4x4x6x256x48_S24x4x1x6x256x48_0_0_0_0_0_0) : Arr F S24x4x4x6x256x48 .f32 → Arr F S24x4x1x6x256x48 .f32),
    reshape main_v138 main_v139 (rfl : (.f32 : EltTy) = .f32) shapeCasts_S24x4x1x6x256x48_S24x4x6x256x48,
    unary main_v137 main_v140 ((extractStridedSlice S24x4x1x6x256x48 ![0, 0, 1, 0, 0, 0] · slices_S24x4x4x6x256x48_S24x4x1x6x256x48_0_0_1_0_0_0) : Arr F S24x4x4x6x256x48 .f32 → Arr F S24x4x1x6x256x48 .f32),
    reshape main_v140 main_v141 (rfl : (.f32 : EltTy) = .f32) shapeCasts_S24x4x1x6x256x48_S24x4x6x256x48,
    unary main_v137 main_v142 ((extractStridedSlice S24x4x1x6x256x48 ![0, 0, 2, 0, 0, 0] · slices_S24x4x4x6x256x48_S24x4x1x6x256x48_0_0_2_0_0_0) : Arr F S24x4x4x6x256x48 .f32 → Arr F S24x4x1x6x256x48 .f32),
    reshape main_v142 main_v143 (rfl : (.f32 : EltTy) = .f32) shapeCasts_S24x4x1x6x256x48_S24x4x6x256x48,
    unary main_v137 main_v144 ((extractStridedSlice S24x4x1x6x256x48 ![0, 0, 3, 0, 0, 0] · slices_S24x4x4x6x256x48_S24x4x1x6x256x48_0_0_3_0_0_0) : Arr F S24x4x4x6x256x48 .f32 → Arr F S24x4x1x6x256x48 .f32),
    reshape main_v144 main_v145 (rfl : (.f32 : EltTy) = .f32) shapeCasts_S24x4x1x6x256x48_S24x4x6x256x48,
    unary main_v113 main_v146 (broadcastInDim S24x4x4x6x256x1 ![0, 1, 2, 3, 4] bcast_S24x4x4x6x256_S24x4x4x6x256x1_0_1_2_3_4 : Arr F S24x4x4x6x256 .f32 → Arr F S24x4x4x6x256x1 .f32),
    unary main_v146 main_v147 (broadcastInDim S24x4x4x6x256x48 ![0, 1, 2, 3, 4, 5] bcast_S24x4x4x6x256x1_S24x4x4x6x256x48_0_1_2_3_4_5 : Arr F S24x4x4x6x256x1 .f32 → Arr F S24x4x4x6x256x48 .f32),
    binary main_v147 main_v137 main_v148 (mulf : Arr F S24x4x4x6x256x48 .f32 → Arr F S24x4x4x6x256x48 .f32 → Arr F S24x4x4x6x256x48 .f32),
    nullary main_cst_25 (constant S_ .f32 0x00000000#32) ]

/-- @main's operations 181 … 183 of 218 (window `main_part2`). -/
abbrev ops_part2_2 : List (HloOp τ sig (Elt F)) :=
  [ binary main_v148 main_cst_25 main_v149 ((fun x v => Host.reduceAdd x v reducesTo_S24x4x4x6x256x48_S24x4x6x256x48_d2 h_S_) : Arr F S24x4x4x6x256x48 .f32 → Arr F S_ .f32 → Arr F S24x4x6x256x48 .f32),
    unary main_v84 main_v150 (broadcastInDim S24x4x6x256x1 ![0, 1, 2, 3] bcast_S24x4x6x256_S24x4x6x256x1_0_1_2_3 : Arr F S24x4x6x256 .f32 → Arr F S24x4x6x256x1 .f32),
    binary main_v141 main_v139 main_v151 (subf : Arr F S24x4x6x256x48 .f32 → Arr F S24x4x6x256x48 .f32 → Arr F S24x4x6x256x48 .f32) ]

/-- Window `main_part2`'s operations. Not an abbreviation: `main_eq` below splits `ops` into the windows and no further. -/
def ops_part2 : List (HloOp τ sig (Elt F)) :=
  ops_part2_0 ++ (ops_part2_1 ++ (ops_part2_2))

/-- @main's operations 184 … 218 of 218 (window `main_part3`). -/
abbrev ops_part3 : List (HloOp τ sig (Elt F)) :=
  [ unary main_v150 main_v152 (broadcastInDim S24x4x6x256x48 ![0, 1, 2, 3, 4] bcast_S24x4x6x256x1_S24x4x6x256x48_0_1_2_3_4 : Arr F S24x4x6x256x1 .f32 → Arr F S24x4x6x256x48 .f32),
    binary main_v152 main_v151 main_v153 (mulf : Arr F S24x4x6x256x48 .f32 → Arr F S24x4x6x256x48 .f32 → Arr F S24x4x6x256x48 .f32),
    unary main_v80 main_v154 (broadcastInDim S24x4x6x256x1 ![0, 1, 2, 3] bcast_S24x4x6x256_S24x4x6x256x1_0_1_2_3 : Arr F S24x4x6x256 .f32 → Arr F S24x4x6x256x1 .f32),
    binary main_v145 main_v143 main_v155 (subf : Arr F S24x4x6x256x48 .f32 → Arr F S24x4x6x256x48 .f32 → Arr F S24x4x6x256x48 .f32),
    unary main_v154 main_v156 (broadcastInDim S24x4x6x256x48 ![0, 1, 2, 3, 4] bcast_S24x4x6x256x1_S24x4x6x256x48_0_1_2_3_4 : Arr F S24x4x6x256x1 .f32 → Arr F S24x4x6x256x48 .f32),
    binary main_v156 main_v155 main_v157 (mulf : Arr F S24x4x6x256x48 .f32 → Arr F S24x4x6x256x48 .f32 → Arr F S24x4x6x256x48 .f32),
    binary main_v153 main_v157 main_v158 (addf : Arr F S24x4x6x256x48 .f32 → Arr F S24x4x6x256x48 .f32 → Arr F S24x4x6x256x48 .f32),
    unary main_v82 main_v159 (broadcastInDim S24x4x6x256x1 ![0, 1, 2, 3] bcast_S24x4x6x256_S24x4x6x256x1_0_1_2_3 : Arr F S24x4x6x256 .f32 → Arr F S24x4x6x256x1 .f32),
    binary main_v143 main_v139 main_v160 (subf : Arr F S24x4x6x256x48 .f32 → Arr F S24x4x6x256x48 .f32 → Arr F S24x4x6x256x48 .f32),
    unary main_v159 main_v161 (broadcastInDim S24x4x6x256x48 ![0, 1, 2, 3, 4] bcast_S24x4x6x256x1_S24x4x6x256x48_0_1_2_3_4 : Arr F S24x4x6x256x1 .f32 → Arr F S24x4x6x256x48 .f32),
    binary main_v161 main_v160 main_v162 (mulf : Arr F S24x4x6x256x48 .f32 → Arr F S24x4x6x256x48 .f32 → Arr F S24x4x6x256x48 .f32),
    unary main_v79 main_v163 (broadcastInDim S24x4x6x256x1 ![0, 1, 2, 3] bcast_S24x4x6x256_S24x4x6x256x1_0_1_2_3 : Arr F S24x4x6x256 .f32 → Arr F S24x4x6x256x1 .f32),
    binary main_v145 main_v141 main_v164 (subf : Arr F S24x4x6x256x48 .f32 → Arr F S24x4x6x256x48 .f32 → Arr F S24x4x6x256x48 .f32),
    unary main_v163 main_v165 (broadcastInDim S24x4x6x256x48 ![0, 1, 2, 3, 4] bcast_S24x4x6x256x1_S24x4x6x256x48_0_1_2_3_4 : Arr F S24x4x6x256x1 .f32 → Arr F S24x4x6x256x48 .f32),
    binary main_v165 main_v164 main_v166 (mulf : Arr F S24x4x6x256x48 .f32 → Arr F S24x4x6x256x48 .f32 → Arr F S24x4x6x256x48 .f32),
    binary main_v162 main_v166 main_v167 (addf : Arr F S24x4x6x256x48 .f32 → Arr F S24x4x6x256x48 .f32 → Arr F S24x4x6x256x48 .f32),
    binary main_v149 main_v5 main_v168 ((fun l r => Host.dotGeneral dot_S24x4x6x256x48_S24x48x256_S24x256x4x6_4_1_12_n_03_02 (some .fp32) l r) : Arr F S24x4x6x256x48 .f32 → Arr F S24x48x256 .f32 → Arr F S24x256x4x6 .f32),
    unary main_v168 main_v169 ((transpose S24x4x6x256 [0, 2, 3, 1] · transposes_S24x256x4x6_S24x4x6x256_0_2_3_1) : Arr F S24x256x4x6 .f32 → Arr F S24x4x6x256 .f32),
    unary main_v61 main_v170 (broadcastInDim S1x4x1x1 ![1, 2, 3] bcast_S4x1x1_S1x4x1x1_1_2_3 : Arr F S4x1x1 .f32 → Arr F S1x4x1x1 .f32),
    unary main_v170 main_v171 (broadcastInDim S24x4x6x256 ![0, 1, 2, 3] bcast_S1x4x1x1_S24x4x6x256_0_1_2_3 : Arr F S1x4x1x1 .f32 → Arr F S24x4x6x256 .f32),
    binary main_v54 main_v171 main_v172 (mulf : Arr F S24x4x6x256 .f32 → Arr F S24x4x6x256 .f32 → Arr F S24x4x6x256 .f32),
    binary main_v158 main_v5 main_v173 ((fun l r => Host.dotGeneral dot_S24x4x6x256x48_S24x48x256_S24x256x4x6_4_1_12_n_03_02 (some .fp32) l r) : Arr F S24x4x6x256x48 .f32 → Arr F S24x48x256 .f32 → Arr F S24x256x4x6 .f32),
    unary main_v173 main_v174 ((transpose S24x4x6x256 [0, 2, 3, 1] · transposes_S24x256x4x6_S24x4x6x256_0_2_3_1) : Arr F S24x256x4x6 .f32 → Arr F S24x4x6x256 .f32),
    binary main_v172 main_v174 main_v175 (mulf : Arr F S24x4x6x256 .f32 → Arr F S24x4x6x256 .f32 → Arr F S24x4x6x256 .f32),
    unary main_v62 main_v176 (broadcastInDim S1x4x1x1 ![1, 2, 3] bcast_S4x1x1_S1x4x1x1_1_2_3 : Arr F S4x1x1 .f32 → Arr F S1x4x1x1 .f32),
    unary main_v176 main_v177 (broadcastInDim S24x4x6x256 ![0, 1, 2, 3] bcast_S1x4x1x1_S24x4x6x256_0_1_2_3 : Arr F S1x4x1x1 .f32 → Arr F S24x4x6x256 .f32),
    binary main_v54 main_v177 main_v178 (mulf : Arr F S24x4x6x256 .f32 → Arr F S24x4x6x256 .f32 → Arr F S24x4x6x256 .f32),
    binary main_v167 main_v5 main_v179 ((fun l r => Host.dotGeneral dot_S24x4x6x256x48_S24x48x256_S24x256x4x6_4_1_12_n_03_02 (some .fp32) l r) : Arr F S24x4x6x256x48 .f32 → Arr F S24x48x256 .f32 → Arr F S24x256x4x6 .f32),
    unary main_v179 main_v180 ((transpose S24x4x6x256 [0, 2, 3, 1] · transposes_S24x256x4x6_S24x4x6x256_0_2_3_1) : Arr F S24x256x4x6 .f32 → Arr F S24x4x6x256 .f32),
    binary main_v178 main_v180 main_v181 (mulf : Arr F S24x4x6x256 .f32 → Arr F S24x4x6x256 .f32 → Arr F S24x4x6x256 .f32),
    unary main_v175 main_v182 (broadcastInDim S24x4x6x1x256 ![0, 1, 2, 4] bcast_S24x4x6x256_S24x4x6x1x256_0_1_2_4 : Arr F S24x4x6x256 .f32 → Arr F S24x4x6x1x256 .f32),
    unary main_v181 main_v183 (broadcastInDim S24x4x6x1x256 ![0, 1, 2, 4] bcast_S24x4x6x256_S24x4x6x1x256_0_1_2_4 : Arr F S24x4x6x256 .f32 → Arr F S24x4x6x1x256 .f32),
    binary main_v182 main_v183 main_v184 (fn_main_v184 (F := F)),
    reshape main_v184 main_v185 (rfl : (.f32 : EltTy) = .f32) shapeCasts_S24x4x6x2x256_S24x24x2x256,
    unary main_v169 main_v186 ((transpose S24x6x4x256 [0, 2, 1, 3] · transposes_S24x4x6x256_S24x6x4x256_0_2_1_3) : Arr F S24x4x6x256 .f32 → Arr F S24x6x4x256 .f32) ]

/-- @main's 218 operations, in order (a called function's operations stand in its call's place, spelt `TRef.…`). -/
def ops : List (HloOp τ sig (Elt F)) :=
  ops_part0 ++ (ops_part1 ++ (ops_part2 ++ (ops_part3)))

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨unary_bufs_sub .., unary_bufs_sub .., reshape_bufs_sub .., unary_bufs_sub .., unary_bufs_sub .., binary_bufs_sub .., reshape_bufs_sub .., nullary_bufs_sub .., nullary_bufs_sub .., unary_bufs_sub .., binary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., binary_bufs_sub .., ternary_bufs_sub .., nullary_bufs_sub .., unary_bufs_sub .., binary_bufs_sub .., unary_bufs_sub .., ternary_bufs_sub .., reshape_bufs_sub .., unary_bufs_sub .., reshape_bufs_sub .., unary_bufs_sub ..⟩
set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_sub : (ops_part1 : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., unary_bufs_sub .., unary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., unary_bufs_sub .., nary_bufs_sub .., nullary_bufs_sub .., unary_bufs_sub .., binary_bufs_sub .., nullary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_0_sub : (ops_part2_0 : List (HloOp τ sig (Elt F))).Forall fun op => op.bufs ⊆ tcRefs τ sig :=
  ⟨unary_bufs_sub .., binary_bufs_sub .., unary_bufs_sub .., unary_bufs_sub .., unary_bufs_sub .., unary_bufs_sub .., nary_bufs_sub .., binary_bufs_sub .., binary_bufs_sub .., binary_bufs_sub .., binary_bufs_sub .., unary_bufs_sub .., unary_bufs_sub .., unary_bufs_sub .., unary_bufs_sub .., nary_bufs_sub .., nullary_bufs_sub .., unary_bufs_sub .., binary_bufs_sub .., unary_bufs_sub .., nullary_bufs_sub .., unary_bufs_sub .., binary_bufs_sub .., unary_bufs_sub .., unary_bufs_sub .., binary_bufs_sub .., binary_bufs_sub .., nullary_bufs_sub .., unary_bufs_sub .., binary_bufs_sub ..⟩
set_option maxRecDepth 8192 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_1_sub : (ops_part2_1 : List (HloOp τ sig (Elt F))).Forall fun op => op.bufs ⊆ tcRefs τ sig :=
  ⟨binary_bufs_sub .., unary_bufs_sub .., nullary_bufs_sub .., unary_bufs_sub .., binary_bufs_sub .., unary_bufs_sub .., unary_bufs_sub .., binary_bufs_sub .., binary_bufs_sub .., unary_bufs_sub .., unary_bufs_sub .., unary_bufs_sub .., binary_bufs_sub .., nullary_bufs_sub .., unary_bufs_sub .., unary_bufs_sub .., unary_bufs_sub .., ternary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub ..⟩
set_option maxRecDepth 8192 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_2_sub : (ops_part2_2 : List (HloOp τ sig (Elt F))).Forall fun op => op.bufs ⊆ tcRefs τ sig :=
  ⟨binary_bufs_sub .., unary_bufs_sub .., binary_bufs_sub ..⟩
set_option maxRecDepth 8192 in
theorem ops_part2_2_fresh : (ops_part2_2 : List (HloOp τ sig (Elt F))).Forall fun op => op.fresh = ∅ :=
  ⟨rfl, rfl, rfl⟩
set_option maxRecDepth 8192 in
theorem ops_part3_sub : (ops_part3 : List (HloOp τ sig (Elt F))).Forall fun op => op.bufs ⊆ tcRefs τ sig :=
  ⟨unary_bufs_sub .., binary_bufs_sub .., unary_bufs_sub .., binary_bufs_sub .., unary_bufs_sub .., binary_bufs_sub .., binary_bufs_sub .., unary_bufs_sub .., binary_bufs_sub .., unary_bufs_sub .., binary_bufs_sub .., unary_bufs_sub .., binary_bufs_sub .., unary_bufs_sub .., binary_bufs_sub .., binary_bufs_sub .., binary_bufs_sub .., unary_bufs_sub .., unary_bufs_sub .., unary_bufs_sub .., binary_bufs_sub .., binary_bufs_sub .., unary_bufs_sub .., binary_bufs_sub .., unary_bufs_sub .., unary_bufs_sub .., binary_bufs_sub .., binary_bufs_sub .., unary_bufs_sub .., binary_bufs_sub .., unary_bufs_sub .., unary_bufs_sub .., binary_bufs_sub .., reshape_bufs_sub .., unary_bufs_sub ..⟩
set_option maxRecDepth 8192 in
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part2, List.mem_append, or_assoc] at h
    rcases h with h | h | h | h | h | h
    exacts [List.forall_iff_forall_mem.mp ops_part0_sub op h, List.forall_iff_forall_mem.mp ops_part1_sub op h, List.forall_iff_forall_mem.mp ops_part2_0_sub op h, List.forall_iff_forall_mem.mp ops_part2_1_sub op h, List.forall_iff_forall_mem.mp ops_part2_2_sub op h, List.forall_iff_forall_mem.mp ops_part3_sub op h]
theorem ops_fresh : ∀ op ∈ (ops : List (HloOp τ sig (Elt F))), op.fresh = ∅ := fun op h => by
    simp only [ops, ops_part2, List.mem_append, or_assoc] at h
    rcases h with h | h | h | h | h | h
    exacts [List.forall_iff_forall_mem.mp ops_part0_fresh op h, List.forall_iff_forall_mem.mp ops_part1_fresh op h, List.forall_iff_forall_mem.mp ops_part2_0_fresh op h, List.forall_iff_forall_mem.mp ops_part2_1_fresh op h, List.forall_iff_forall_mem.mp ops_part2_2_fresh op h, List.forall_iff_forall_mem.mp ops_part3_fresh op h]

/-- The buffers the operations write, in order. -/
def opsW : List (Ref sig .tc) := [main_v0, main_v1, main_v2, main_v3, main_v4, main_v5, main_v6, main_v7, main_c, main_v8, main_v9, main_v10, main_v11, main_v12, main_v13, main_v14, main_c_0, main_v15, main_v16, main_c_1, main_v17, main_v18, main_c_2, main_v19, main_v20, main_c_3, main_v21, main_v22, main_c_4, main_v23, main_v24, main_c_5, main_v25, main_v26, main_c_6, main_v27, main_v28, main_v29, main_c_7, main_v30, main_v31, main_v32, main_cst, main_v33, main_v34, main_c_8, main_v35, main_v36, main_v37, main_v38, main_v39, main_c_9, main_v40, main_v41, main_v42, main_v43, main_v44, main_v45, main_v46, main_v47, main_v48, main_v49, main_v50, main_v51, main_v52, main_v53, main_v54, main_v55, main_v56, main_c_10, main_v57, main_v58, main_c_11, main_v59, main_v60, main_v61, main_v62, main_v63, main_v64, main_v65, main_v66, main_v67, main_cst_12, main_v68, main_v69, main_v70, main_v71, main_v72, main_v73, main_v74, main_cst_13, main_v75, main_v76, main_v77, main_v78, main_v79, main_v80, main_cst_14, main_v81, main_v82, main_cst_15, main_v83, main_v84, main_v85, main_v86, main_c_16, main_v87, main_v88, main_c_17, main_v89, main_v90, main_v91, main_v92, main_v93, main_v94, main_v95, main_c_18, main_v96, main_v97, main_c_19, main_v98, main_v99, main_v100, main_v101, main_v102, main_v103, main_v104, main_v105, main_v106, main_v107, main_v108, main_v109, main_v110, main_v111, main_v112, main_v113, main_c_20, main_v114, main_v115, main_v116, main_c_21, main_v117, main_v118, main_v119, main_v120, main_v121, main_v122, main_c_22, main_v123, main_v124, main_v125, main_v126, main_c_23, main_v127, main_v128, main_v129, main_v130, main_v131, main_v132, main_v133, main_v134, main_v135, main_v136, main_cst_24, main_call2_v0, main_call2_v1, main_call2_v2, main_v137, main_v138, main_v139, main_v140, main_v141, main_v142, main_v143, main_v144, main_v145, main_v146, main_v147, main_v148, main_cst_25, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186]

theorem ops_W : (ops : List (HloOp τ sig (Elt F))).map HloOp.writes = opsW.map fun w => {Proc.devRef (τ := τ) .tc w} := rfl

theorem ops_drop_W (i : ℕ) : ((ops : List (HloOp τ sig (Elt F))).drop i).map HloOp.writes = (opsW.drop i).map fun w => {Proc.devRef (τ := τ) .tc w} := by
  rw [List.map_drop, List.map_drop, ops_W]

/-- What the first `i` operations leave in a buffer that no later one writes is what all leave there. -/
theorem upto_eq (i : ℕ) {r : Ref sig .tc} (hr : r ∉ opsW.drop i) (V : Valuation τ sig (Elt F)) :
    upto ops V i (Proc.devRef .tc r) = after ops V (Proc.devRef .tc r) := by
  have h := after_append (ops.take i) (ops.drop i) V
  rw [List.take_append_drop] at h
  rw [h]
  exact (after_unwritten _ (ops_drop_W i) hr _).symm

/-- A buffer that one operation writes, and no later one, holds what that operation leaves there. -/
theorem read {op : HloOp τ sig (Elt F)} {rest : List (HloOp τ sig (Elt F))} {y : Ref sig .tc} (i : ℕ) (hseg : ops.drop i = op :: rest) (hy : y ∉ opsW.drop (i + 1))
    (V : Valuation τ sig (Elt F)) : after ops V (Proc.devRef .tc y) = op.result (upto ops V i) (Proc.devRef .tc y) :=
  after_last_write (opsW.drop (i + 1)) hseg (by
    have h := ops_drop_W (F := F) (i + 1)
    rwa [← List.drop_drop, hseg] at h) hy V

theorem at_arg (V : Valuation τ sig (Elt F)) (x : Ref sig .tc) (h : x ∉ opsW := by decide +kernel) :
    after ops V (Proc.devRef .tc x) = V (Proc.devRef .tc x) := after_unwritten opsW ops_W h V

section
variable {x0 x1 x2 x3 y : Ref sig .tc} {rest : List (HloOp τ sig (Elt F))}

theorem read_nullary {v : y.ty.Contents (Elt F)} {hY} (i : ℕ) (hseg : ops.drop i = nullary y v hY :: rest)
    (V : Valuation τ sig (Elt F))
    (hy : y ∉ opsW.drop (i + 1) := by decide +kernel) : after ops V (Proc.devRef .tc y) = v :=
  (read i hseg hy V).trans (nullary_result' ..)

theorem read_unary {f : x0.ty.Contents (Elt F) → y.ty.Contents (Elt F)} {hX hY} (i : ℕ) (hseg : ops.drop i = unary x0 y f hX hY :: rest)
    (V : Valuation τ sig (Elt F)) {v0 : x0.ty.Contents (Elt F)}
    (e0 : after ops V (Proc.devRef .tc x0) = v0)
    (hy : y ∉ opsW.drop (i + 1) := by decide +kernel) (h0 : x0 ∉ opsW.drop i := by decide +kernel) : after ops V (Proc.devRef .tc y) = f v0 :=
  (read i hseg hy V).trans ((unary_result' ..).trans (congrArg f ((upto_eq i h0 V).trans e0)))

theorem read_reshape {he : x0.ty.elt = y.ty.elt} {hn : x0.ty.shape.ShapeCasts y.ty.shape} {hX hY} (i : ℕ) (hseg : ops.drop i = reshape x0 y he hn hX hY :: rest)
    (V : Valuation τ sig (Elt F)) {v0 : x0.ty.Contents (Elt F)}
    (e0 : after ops V (Proc.devRef .tc x0) = v0)
    (hy : y ∉ opsW.drop (i + 1) := by decide +kernel) (h0 : x0 ∉ opsW.drop i := by decide +kernel) : after ops V (Proc.devRef .tc y) = fun j => he ▸ shapeCast y.ty.shape v0 hn j :=
  (read i hseg hy V).trans ((reshape_result' ..).trans (by rw [upto_eq i h0 V, e0]))

theorem read_binary {f : x0.ty.Contents (Elt F) → x1.ty.Contents (Elt F) → y.ty.Contents (Elt F)} {hX hX' hY} (i : ℕ)
    (hseg : ops.drop i = binary x0 x1 y f hX hX' hY :: rest)
    (V : Valuation τ sig (Elt F)) {v0 : x0.ty.Contents (Elt F)} {v1 : x1.ty.Contents (Elt F)}
    (e0 : after ops V (Proc.devRef .tc x0) = v0) (e1 : after ops V (Proc.devRef .tc x1) = v1)
    (hy : y ∉ opsW.drop (i + 1) := by decide +kernel) (h0 : x0 ∉ opsW.drop i := by decide +kernel) (h1 : x1 ∉ opsW.drop i := by decide +kernel) : after ops V (Proc.devRef .tc y) = f v0 v1 :=
  (read i hseg hy V).trans ((binary_result' ..).trans (congrArg₂ f ((upto_eq i h0 V).trans e0) ((upto_eq i h1 V).trans e1)))

theorem read_ternary {f : x0.ty.Contents (Elt F) → x1.ty.Contents (Elt F) → x2.ty.Contents (Elt F) → y.ty.Contents (Elt F)} {hX hX' hX'' hY} (i : ℕ)
    (hseg : ops.drop i = ternary x0 x1 x2 y f hX hX' hX'' hY :: rest)
    (V : Valuation τ sig (Elt F)) {v0 : x0.ty.Contents (Elt F)} {v1 : x1.ty.Contents (Elt F)} {v2 : x2.ty.Contents (Elt F)}
    (e0 : after ops V (Proc.devRef .tc x0) = v0) (e1 : after ops V (Proc.devRef .tc x1) = v1) (e2 : after ops V (Proc.devRef .tc x2) = v2)
    (hy : y ∉ opsW.drop (i + 1) := by decide +kernel) (h0 : x0 ∉ opsW.drop i := by decide +kernel) (h1 : x1 ∉ opsW.drop i := by decide +kernel) (h2 : x2 ∉ opsW.drop i := by decide +kernel) :
    after ops V (Proc.devRef .tc y) = f v0 v1 v2 := by
  rw [read i hseg hy V]
  refine (ternary_result' ..).trans ?_
  rw [(upto_eq i h0 V).trans e0, (upto_eq i h1 V).trans e1, (upto_eq i h2 V).trans e2]

theorem read_nary4 {f : ((k : Fin 4) → ((![x0, x1, x2, x3] : Fin 4 → Ref sig .tc) k).ty.Contents (Elt F)) → y.ty.Contents (Elt F)} {hX hY} (i : ℕ)
    (hseg : ops.drop i = nary ![x0, x1, x2, x3] y f hX hY :: rest)
    (V : Valuation τ sig (Elt F)) {v0 : x0.ty.Contents (Elt F)} {v1 : x1.ty.Contents (Elt F)}
    {v2 : x2.ty.Contents (Elt F)} {v3 : x3.ty.Contents (Elt F)}
    (e0 : after ops V (Proc.devRef .tc x0) = v0) (e1 : after ops V (Proc.devRef .tc x1) = v1) (e2 : after ops V (Proc.devRef .tc x2) = v2)
    (e3 : after ops V (Proc.devRef .tc x3) = v3)
    (hy : y ∉ opsW.drop (i + 1) := by decide +kernel) (h0 : x0 ∉ opsW.drop i := by decide +kernel) (h1 : x1 ∉ opsW.drop i := by decide +kernel) (h2 : x2 ∉ opsW.drop i := by decide +kernel) (h3 : x3 ∉ opsW.drop i := by decide +kernel) :
    after ops V (Proc.devRef .tc y) = f (Fin.cons v0 (Fin.cons v1 (Fin.cons v2 (Fin.cons v3 (fun i => i.elim0))))) := by
  rw [read i hseg hy V]
  refine (nary4_result' ..).trans ?_
  rw [(upto_eq i h0 V).trans e0, (upto_eq i h1 V).trans e1, (upto_eq i h2 V).trans e2, (upto_eq i h3 V).trans e3]

end

variable (V : Valuation τ sig (Elt F))

/-- What all the operations leave in a buffer. -/
abbrev got (b : Ref sig .tc) := after ops V (Proc.devRef .tc b)

/-- What a buffer held before. -/
abbrev was (b : Ref sig .tc) := V (Proc.devRef .tc b)

theorem at_main_v0 :
    got V main_v0 = val_main_v0 (F := F) (was V main_arg3) :=
  (read_unary (x0 := main_arg3) (y := main_v0) 0 rfl V (at_arg V main_arg3)).trans rfl

theorem at_main_v1 :
    got V main_v1 = val_main_v1 (F := F) (was V main_arg2) :=
  (read_unary (x0 := main_arg2) (y := main_v1) 1 rfl V (at_arg V main_arg2)).trans rfl

theorem at_main_v2 :
    got V main_v2 = val_main_v2 (F := F) (was V main_arg2) :=
  (read_reshape (x0 := main_v1) (y := main_v2) 2 rfl V (at_main_v1 V)).trans rfl

theorem at_main_v3 :
    got V main_v3 = val_main_v3 (F := F) (was V main_arg2) :=
  (read_unary (x0 := main_v2) (y := main_v3) 3 rfl V (at_main_v2 V)).trans rfl

theorem at_main_v4 :
    got V main_v4 = val_main_v4 (F := F) (was V main_arg2) :=
  (read_unary (x0 := main_v3) (y := main_v4) 4 rfl V (at_main_v3 V)).trans rfl

theorem at_main_v5 :
    got V main_v5 = val_main_v5 (F := F) (was V main_arg2) (was V main_arg3) :=
  (read_binary (x0 := main_v0) (x1 := main_v4) (y := main_v5) 5 rfl V (at_main_v0 V) (at_main_v4 V)).trans rfl

theorem at_main_v6 :
    got V main_v6 = val_main_v6 (F := F) (was V main_arg4) :=
  (read_reshape (x0 := main_arg4) (y := main_v6) 6 rfl V (at_arg V main_arg4)).trans rfl

theorem at_main_v7 :
    got V main_v7 = val_main_v7 (F := F) :=
  (read_nullary  (y := main_v7) 7 rfl V ).trans rfl

theorem at_main_c :
    got V main_c = val_main_c (F := F) :=
  (read_nullary  (y := main_c) 8 rfl V ).trans rfl

theorem at_main_v8 :
    got V main_v8 = val_main_v8 (F := F) :=
  (read_unary (x0 := main_c) (y := main_v8) 9 rfl V (at_main_c V)).trans rfl

theorem at_main_v9 :
    got V main_v9 = val_main_v9 (F := F) :=
  (read_binary (x0 := main_v8) (x1 := main_v7) (y := main_v9) 10 rfl V (at_main_v8 V) (at_main_v7 V)).trans rfl

theorem at_main_v10 :
    got V main_v10 = val_main_v10 (F := F) :=
  (read_unary (x0 := main_v9) (y := main_v10) 11 rfl V (at_main_v9 V)).trans rfl

theorem at_main_v11 :
    got V main_v11 = val_main_v11 (F := F) :=
  (read_unary (x0 := main_v10) (y := main_v11) 12 rfl V (at_main_v10 V)).trans rfl

theorem at_main_v12 :
    got V main_v12 = val_main_v12 (F := F) (was V main_arg4) :=
  (read_unary (x0 := main_v6) (y := main_v12) 13 rfl V (at_main_v6 V)).trans rfl

theorem at_main_v13 :
    got V main_v13 = val_main_v13 (F := F) :=
  (read_unary (x0 := main_v11) (y := main_v13) 14 rfl V (at_main_v11 V)).trans rfl

theorem at_main_v14 :
    got V main_v14 = val_main_v14 (F := F) (was V main_arg4) :=
  (read_binary (x0 := main_v12) (x1 := main_v13) (y := main_v14) 15 rfl V (at_main_v12 V) (at_main_v13 V)).trans rfl

theorem at_main_c_0 :
    got V main_c_0 = val_main_c_0 (F := F) :=
  (read_nullary  (y := main_c_0) 16 rfl V ).trans rfl

theorem at_main_v15 :
    got V main_v15 = val_main_v15 (F := F) :=
  (read_unary (x0 := main_c_0) (y := main_v15) 17 rfl V (at_main_c_0 V)).trans rfl

theorem at_main_v16 :
    got V main_v16 = val_main_v16 (F := F) (was V main_arg4) :=
  (read_binary (x0 := main_v14) (x1 := main_v15) (y := main_v16) 18 rfl V (at_main_v14 V) (at_main_v15 V)).trans rfl

theorem at_main_c_1 :
    got V main_c_1 = val_main_c_1 (F := F) :=
  (read_nullary  (y := main_c_1) 19 rfl V ).trans rfl

theorem at_main_v17 :
    got V main_v17 = val_main_v17 (F := F) :=
  (read_unary (x0 := main_c_1) (y := main_v17) 20 rfl V (at_main_c_1 V)).trans rfl

theorem at_main_v18 :
    got V main_v18 = val_main_v18 (F := F) (was V main_arg4) :=
  (read_binary (x0 := main_v16) (x1 := main_v17) (y := main_v18) 21 rfl V (at_main_v16 V) (at_main_v17 V)).trans rfl

theorem at_main_c_2 :
    got V main_c_2 = val_main_c_2 (F := F) :=
  (read_nullary  (y := main_c_2) 22 rfl V ).trans rfl

theorem at_main_v19 :
    got V main_v19 = val_main_v19 (F := F) :=
  (read_unary (x0 := main_c_2) (y := main_v19) 23 rfl V (at_main_c_2 V)).trans rfl

theorem at_main_v20 :
    got V main_v20 = val_main_v20 (F := F) (was V main_arg4) :=
  (read_binary (x0 := main_v16) (x1 := main_v19) (y := main_v20) 24 rfl V (at_main_v16 V) (at_main_v19 V)).trans rfl

theorem at_main_c_3 :
    got V main_c_3 = val_main_c_3 (F := F) :=
  (read_nullary  (y := main_c_3) 25 rfl V ).trans rfl

theorem at_main_v21 :
    got V main_v21 = val_main_v21 (F := F) :=
  (read_unary (x0 := main_c_3) (y := main_v21) 26 rfl V (at_main_c_3 V)).trans rfl

theorem at_main_v22 :
    got V main_v22 = val_main_v22 (F := F) (was V main_arg4) :=
  (read_binary (x0 := main_v20) (x1 := main_v21) (y := main_v22) 27 rfl V (at_main_v20 V) (at_main_v21 V)).trans rfl

theorem at_main_c_4 :
    got V main_c_4 = val_main_c_4 (F := F) :=
  (read_nullary  (y := main_c_4) 28 rfl V ).trans rfl

theorem at_main_v23 :
    got V main_v23 = val_main_v23 (F := F) :=
  (read_unary (x0 := main_c_4) (y := main_v23) 29 rfl V (at_main_c_4 V)).trans rfl

theorem at_main_v24 :
    got V main_v24 = val_main_v24 (F := F) (was V main_arg4) :=
  (read_binary (x0 := main_v16) (x1 := main_v23) (y := main_v24) 30 rfl V (at_main_v16 V) (at_main_v23 V)).trans rfl

theorem at_main_c_5 :
    got V main_c_5 = val_main_c_5 (F := F) :=
  (read_nullary  (y := main_c_5) 31 rfl V ).trans rfl

theorem at_main_v25 :
    got V main_v25 = val_main_v25 (F := F) :=
  (read_unary (x0 := main_c_5) (y := main_v25) 32 rfl V (at_main_c_5 V)).trans rfl

theorem at_main_v26 :
    got V main_v26 = val_main_v26 (F := F) (was V main_arg4) :=
  (read_binary (x0 := main_v22) (x1 := main_v25) (y := main_v26) 33 rfl V (at_main_v22 V) (at_main_v25 V)).trans rfl

theorem at_main_c_6 :
    got V main_c_6 = val_main_c_6 (F := F) :=
  (read_nullary  (y := main_c_6) 34 rfl V ).trans rfl

theorem at_main_v27 :
    got V main_v27 = val_main_v27 (F := F) :=
  (read_unary (x0 := main_c_6) (y := main_v27) 35 rfl V (at_main_c_6 V)).trans rfl

theorem at_main_v28 :
    got V main_v28 = val_main_v28 (F := F) (was V main_arg4) :=
  (read_binary (x0 := main_v26) (x1 := main_v27) (y := main_v28) 36 rfl V (at_main_v26 V) (at_main_v27 V)).trans rfl

theorem at_main_v29 :
    got V main_v29 = val_main_v29 (F := F) (was V main_arg4) :=
  (read_unary (x0 := main_v28) (y := main_v29) 37 rfl V (at_main_v28 V)).trans rfl

theorem at_main_c_7 :
    got V main_c_7 = val_main_c_7 (F := F) :=
  (read_nullary  (y := main_c_7) 38 rfl V ).trans rfl

theorem at_main_v30 :
    got V main_v30 = val_main_v30 (F := F) :=
  (read_unary (x0 := main_c_7) (y := main_v30) 39 rfl V (at_main_c_7 V)).trans rfl

theorem at_main_v31 :
    got V main_v31 = val_main_v31 (F := F) (was V main_arg4) :=
  (read_binary (x0 := main_v22) (x1 := main_v30) (y := main_v31) 40 rfl V (at_main_v22 V) (at_main_v30 V)).trans rfl

theorem at_main_v32 :
    got V main_v32 = val_main_v32 (F := F) (was V main_arg4) :=
  (read_unary (x0 := main_v24) (y := main_v32) 41 rfl V (at_main_v24 V)).trans rfl

theorem at_main_cst :
    got V main_cst = val_main_cst (F := F) :=
  (read_nullary  (y := main_cst) 42 rfl V ).trans rfl

theorem at_main_v33 :
    got V main_v33 = val_main_v33 (F := F) :=
  (read_unary (x0 := main_cst) (y := main_v33) 43 rfl V (at_main_cst V)).trans rfl

theorem at_main_v34 :
    got V main_v34 = val_main_v34 (F := F) (was V main_arg4) :=
  (read_binary (x0 := main_v32) (x1 := main_v33) (y := main_v34) 44 rfl V (at_main_v32 V) (at_main_v33 V)).trans rfl

theorem at_main_c_8 :
    got V main_c_8 = val_main_c_8 (F := F) :=
  (read_nullary  (y := main_c_8) 45 rfl V ).trans rfl

theorem at_main_v35 :
    got V main_v35 = val_main_v35 (F := F) :=
  (read_unary (x0 := main_c_8) (y := main_v35) 46 rfl V (at_main_c_8 V)).trans rfl

theorem at_main_v36 :
    got V main_v36 = val_main_v36 (F := F) (was V main_arg4) :=
  (read_binary (x0 := main_v35) (x1 := main_v24) (y := main_v36) 47 rfl V (at_main_v35 V) (at_main_v24 V)).trans rfl

theorem at_main_v37 :
    got V main_v37 = val_main_v37 (F := F) (was V main_arg4) :=
  (read_unary (x0 := main_v36) (y := main_v37) 48 rfl V (at_main_v36 V)).trans rfl

theorem at_main_v38 :
    got V main_v38 = val_main_v38 (F := F) (was V main_arg4) :=
  (read_binary (x0 := main_v37) (x1 := main_v29) (y := main_v38) 49 rfl V (at_main_v37 V) (at_main_v29 V)).trans rfl

theorem at_main_v39 :
    got V main_v39 = val_main_v39 (F := F) (was V main_arg4) :=
  (read_ternary (x0 := main_v31) (x1 := main_v34) (x2 := main_v38) (y := main_v39) 50 rfl V (at_main_v31 V) (at_main_v34 V) (at_main_v38 V)).trans rfl

theorem at_main_c_9 :
    got V main_c_9 = val_main_c_9 (F := F) :=
  (read_nullary  (y := main_c_9) 51 rfl V ).trans rfl

theorem at_main_v40 :
    got V main_v40 = val_main_v40 (F := F) :=
  (read_unary (x0 := main_c_9) (y := main_v40) 52 rfl V (at_main_c_9 V)).trans rfl

theorem at_main_v41 :
    got V main_v41 = val_main_v41 (F := F) (was V main_arg4) :=
  (read_binary (x0 := main_v18) (x1 := main_v40) (y := main_v41) 53 rfl V (at_main_v18 V) (at_main_v40 V)).trans rfl

theorem at_main_v42 :
    got V main_v42 = val_main_v42 (F := F) (was V main_arg4) :=
  (read_unary (x0 := main_v39) (y := main_v42) 54 rfl V (at_main_v39 V)).trans rfl

theorem at_main_v43 :
    got V main_v43 = val_main_v43 (F := F) (was V main_arg4) :=
  (read_ternary (x0 := main_v41) (x1 := main_v42) (x2 := main_v39) (y := main_v43) 55 rfl V (at_main_v41 V) (at_main_v42 V) (at_main_v39 V)).trans rfl

theorem at_main_v44 :
    got V main_v44 = val_main_v44 (F := F) (was V main_arg4) :=
  (read_reshape (x0 := main_v43) (y := main_v44) 56 rfl V (at_main_v43 V)).trans rfl

theorem at_main_v45 :
    got V main_v45 = val_main_v45 (F := F) (was V main_arg4) :=
  (read_unary (x0 := main_v44) (y := main_v45) 57 rfl V (at_main_v44 V)).trans rfl

theorem at_main_v46 :
    got V main_v46 = val_main_v46 (F := F) (was V main_arg4) :=
  (read_reshape (x0 := main_v45) (y := main_v46) 58 rfl V (at_main_v45 V)).trans rfl

theorem at_main_v47 :
    got V main_v47 = val_main_v47 (F := F) (was V main_arg5) :=
  (read_unary (x0 := main_arg5) (y := main_v47) 59 rfl V (at_arg V main_arg5)).trans rfl

theorem at_main_v48 :
    got V main_v48 = val_main_v48 (F := F) (was V main_arg5) :=
  (read_reshape (x0 := main_v47) (y := main_v48) 60 rfl V (at_main_v47 V)).trans rfl

theorem at_main_v49 :
    got V main_v49 = val_main_v49 (F := F) (was V main_arg5) :=
  (read_unary (x0 := main_v48) (y := main_v49) 61 rfl V (at_main_v48 V)).trans rfl

theorem at_main_v50 :
    got V main_v50 = val_main_v50 (F := F) (was V main_arg5) :=
  (read_reshape (x0 := main_v49) (y := main_v50) 62 rfl V (at_main_v49 V)).trans rfl

theorem at_main_v51 :
    got V main_v51 = val_main_v51 (F := F) (was V main_arg0) :=
  (read_unary (x0 := main_arg0) (y := main_v51) 63 rfl V (at_arg V main_arg0)).trans rfl

theorem at_main_v52 :
    got V main_v52 = val_main_v52 (F := F) (was V main_arg0) :=
  (read_reshape (x0 := main_v51) (y := main_v52) 64 rfl V (at_main_v51 V)).trans rfl

theorem at_main_v53 :
    got V main_v53 = val_main_v53 (F := F) (was V main_arg1) :=
  (read_unary (x0 := main_arg1) (y := main_v53) 65 rfl V (at_arg V main_arg1)).trans rfl

theorem at_main_v54 :
    got V main_v54 = val_main_v54 (F := F) (was V main_arg1) :=
  (read_reshape (x0 := main_v53) (y := main_v54) 66 rfl V (at_main_v53 V)).trans rfl

theorem at_main_v55 :
    got V main_v55 = val_main_v55 (F := F) :=
  (read_nullary  (y := main_v55) 67 rfl V ).trans rfl

theorem at_main_v56 :
    got V main_v56 = val_main_v56 (F := F) :=
  (read_unary (x0 := main_v55) (y := main_v56) 68 rfl V (at_main_v55 V)).trans rfl

theorem at_main_c_10 :
    got V main_c_10 = val_main_c_10 (F := F) :=
  (read_nullary  (y := main_c_10) 69 rfl V ).trans rfl

theorem at_main_v57 :
    got V main_v57 = val_main_v57 (F := F) :=
  (read_unary (x0 := main_c_10) (y := main_v57) 70 rfl V (at_main_c_10 V)).trans rfl

theorem at_main_v58 :
    got V main_v58 = val_main_v58 (F := F) :=
  (read_binary (x0 := main_v57) (x1 := main_v56) (y := main_v58) 71 rfl V (at_main_v57 V) (at_main_v56 V)).trans rfl

theorem at_main_c_11 :
    got V main_c_11 = val_main_c_11 (F := F) :=
  (read_nullary  (y := main_c_11) 72 rfl V ).trans rfl

theorem at_main_v59 :
    got V main_v59 = val_main_v59 (F := F) :=
  (read_unary (x0 := main_c_11) (y := main_v59) 73 rfl V (at_main_c_11 V)).trans rfl

theorem at_main_v60 :
    got V main_v60 = val_main_v60 (F := F) :=
  (read_binary (x0 := main_v59) (x1 := main_v56) (y := main_v60) 74 rfl V (at_main_v59 V) (at_main_v56 V)).trans rfl

theorem at_main_v61 :
    got V main_v61 = val_main_v61 (F := F) :=
  (read_unary (x0 := main_v58) (y := main_v61) 75 rfl V (at_main_v58 V)).trans rfl

theorem at_main_v62 :
    got V main_v62 = val_main_v62 (F := F) :=
  (read_unary (x0 := main_v60) (y := main_v62) 76 rfl V (at_main_v60 V)).trans rfl

theorem at_main_v63 :
    got V main_v63 = val_main_v63 (F := F) (was V main_arg0) :=
  (read_unary (x0 := main_v52) (y := main_v63) 77 rfl V (at_main_v52 V)).trans rfl

theorem at_main_v64 :
    got V main_v64 = val_main_v64 (F := F) (was V main_arg0) :=
  (read_reshape (x0 := main_v63) (y := main_v64) 78 rfl V (at_main_v63 V)).trans rfl

theorem at_main_v65 :
    got V main_v65 = val_main_v65 (F := F) :=
  (read_unary (x0 := main_v61) (y := main_v65) 79 rfl V (at_main_v61 V)).trans rfl

theorem at_main_v66 :
    got V main_v66 = val_main_v66 (F := F) :=
  (read_unary (x0 := main_v65) (y := main_v66) 80 rfl V (at_main_v65 V)).trans rfl

theorem at_main_v67 :
    got V main_v67 = val_main_v67 (F := F) (was V main_arg0) :=
  (read_binary (x0 := main_v64) (x1 := main_v66) (y := main_v67) 81 rfl V (at_main_v64 V) (at_main_v66 V)).trans rfl

theorem at_main_cst_12 :
    got V main_cst_12 = val_main_cst_12 (F := F) :=
  (read_nullary  (y := main_cst_12) 82 rfl V ).trans rfl

theorem at_main_v68 :
    got V main_v68 = val_main_v68 (F := F) :=
  (read_unary (x0 := main_cst_12) (y := main_v68) 83 rfl V (at_main_cst_12 V)).trans rfl

theorem at_main_v69 :
    got V main_v69 = val_main_v69 (F := F) (was V main_arg0) :=
  (read_binary (x0 := main_v67) (x1 := main_v68) (y := main_v69) 84 rfl V (at_main_v67 V) (at_main_v68 V)).trans rfl

theorem at_main_v70 :
    got V main_v70 = val_main_v70 (F := F) (was V main_arg0) :=
  (read_unary (x0 := main_v52) (y := main_v70) 85 rfl V (at_main_v52 V)).trans rfl

theorem at_main_v71 :
    got V main_v71 = val_main_v71 (F := F) (was V main_arg0) :=
  (read_reshape (x0 := main_v70) (y := main_v71) 86 rfl V (at_main_v70 V)).trans rfl

theorem at_main_v72 :
    got V main_v72 = val_main_v72 (F := F) :=
  (read_unary (x0 := main_v62) (y := main_v72) 87 rfl V (at_main_v62 V)).trans rfl

theorem at_main_v73 :
    got V main_v73 = val_main_v73 (F := F) :=
  (read_unary (x0 := main_v72) (y := main_v73) 88 rfl V (at_main_v72 V)).trans rfl

theorem at_main_v74 :
    got V main_v74 = val_main_v74 (F := F) (was V main_arg0) :=
  (read_binary (x0 := main_v71) (x1 := main_v73) (y := main_v74) 89 rfl V (at_main_v71 V) (at_main_v73 V)).trans rfl

theorem at_main_cst_13 :
    got V main_cst_13 = val_main_cst_13 (F := F) :=
  (read_nullary  (y := main_cst_13) 90 rfl V ).trans rfl

theorem at_main_v75 :
    got V main_v75 = val_main_v75 (F := F) :=
  (read_unary (x0 := main_cst_13) (y := main_v75) 91 rfl V (at_main_cst_13 V)).trans rfl

theorem at_main_v76 :
    got V main_v76 = val_main_v76 (F := F) (was V main_arg0) :=
  (read_binary (x0 := main_v74) (x1 := main_v75) (y := main_v76) 92 rfl V (at_main_v74 V) (at_main_v75 V)).trans rfl

theorem at_main_v77 :
    got V main_v77 = val_main_v77 (F := F) (was V main_arg0) :=
  (read_unary (x0 := main_v69) (y := main_v77) 93 rfl V (at_main_v69 V)).trans rfl

theorem at_main_v78 :
    got V main_v78 = val_main_v78 (F := F) (was V main_arg0) :=
  (read_unary (x0 := main_v76) (y := main_v78) 94 rfl V (at_main_v76 V)).trans rfl

theorem at_main_v79 :
    got V main_v79 = val_main_v79 (F := F) (was V main_arg0) :=
  (read_binary (x0 := main_v69) (x1 := main_v77) (y := main_v79) 95 rfl V (at_main_v69 V) (at_main_v77 V)).trans rfl

theorem at_main_v80 :
    got V main_v80 = val_main_v80 (F := F) (was V main_arg0) :=
  (read_binary (x0 := main_v76) (x1 := main_v78) (y := main_v80) 96 rfl V (at_main_v76 V) (at_main_v78 V)).trans rfl

theorem at_main_cst_14 :
    got V main_cst_14 = val_main_cst_14 (F := F) :=
  (read_nullary  (y := main_cst_14) 97 rfl V ).trans rfl

theorem at_main_v81 :
    got V main_v81 = val_main_v81 (F := F) :=
  (read_unary (x0 := main_cst_14) (y := main_v81) 98 rfl V (at_main_cst_14 V)).trans rfl

theorem at_main_v82 :
    got V main_v82 = val_main_v82 (F := F) (was V main_arg0) :=
  (read_binary (x0 := main_v81) (x1 := main_v79) (y := main_v82) 99 rfl V (at_main_v81 V) (at_main_v79 V)).trans rfl

theorem at_main_cst_15 :
    got V main_cst_15 = val_main_cst_15 (F := F) :=
  (read_nullary  (y := main_cst_15) 100 rfl V ).trans rfl

theorem at_main_v83 :
    got V main_v83 = val_main_v83 (F := F) :=
  (read_unary (x0 := main_cst_15) (y := main_v83) 101 rfl V (at_main_cst_15 V)).trans rfl

theorem at_main_v84 :
    got V main_v84 = val_main_v84 (F := F) (was V main_arg0) :=
  (read_binary (x0 := main_v83) (x1 := main_v80) (y := main_v84) 102 rfl V (at_main_v83 V) (at_main_v80 V)).trans rfl

theorem at_main_v85 :
    got V main_v85 = val_main_v85 (F := F) (was V main_arg0) :=
  (read_unary (x0 := main_v77) (y := main_v85) 103 rfl V (at_main_v77 V)).trans rfl

theorem at_main_v86 :
    got V main_v86 = val_main_v86 (F := F) (was V main_arg0) :=
  (read_unary (x0 := main_v78) (y := main_v86) 104 rfl V (at_main_v78 V)).trans rfl

theorem at_main_c_16 :
    got V main_c_16 = val_main_c_16 (F := F) :=
  (read_nullary  (y := main_c_16) 105 rfl V ).trans rfl

theorem at_main_v87 :
    got V main_v87 = val_main_v87 (F := F) :=
  (read_unary (x0 := main_c_16) (y := main_v87) 106 rfl V (at_main_c_16 V)).trans rfl

theorem at_main_v88 :
    got V main_v88 = val_main_v88 (F := F) (was V main_arg0) :=
  (read_binary (x0 := main_v85) (x1 := main_v87) (y := main_v88) 107 rfl V (at_main_v85 V) (at_main_v87 V)).trans rfl

theorem at_main_c_17 :
    got V main_c_17 = val_main_c_17 (F := F) :=
  (read_nullary  (y := main_c_17) 108 rfl V ).trans rfl

theorem at_main_v89 :
    got V main_v89 = val_main_v89 (F := F) :=
  (read_unary (x0 := main_c_17) (y := main_v89) 109 rfl V (at_main_c_17 V)).trans rfl

theorem at_main_v90 :
    got V main_v90 = val_main_v90 (F := F) (was V main_arg0) :=
  (read_binary (x0 := main_v85) (x1 := main_v89) (y := main_v90) 110 rfl V (at_main_v85 V) (at_main_v89 V)).trans rfl

theorem at_main_v91 :
    got V main_v91 = val_main_v91 (F := F) (was V main_arg0) :=
  (read_unary (x0 := main_v85) (y := main_v91) 111 rfl V (at_main_v85 V)).trans rfl

theorem at_main_v92 :
    got V main_v92 = val_main_v92 (F := F) (was V main_arg0) :=
  (read_unary (x0 := main_v88) (y := main_v92) 112 rfl V (at_main_v88 V)).trans rfl

theorem at_main_v93 :
    got V main_v93 = val_main_v93 (F := F) (was V main_arg0) :=
  (read_unary (x0 := main_v85) (y := main_v93) 113 rfl V (at_main_v85 V)).trans rfl

theorem at_main_v94 :
    got V main_v94 = val_main_v94 (F := F) (was V main_arg0) :=
  (read_unary (x0 := main_v90) (y := main_v94) 114 rfl V (at_main_v90 V)).trans rfl

theorem at_main_v95 :
    got V main_v95 = val_main_v95 (F := F) (was V main_arg0) :=
  (read_nary4 (x0 := main_v91) (x1 := main_v92) (x2 := main_v93) (x3 := main_v94) (y := main_v95) 115 rfl V (at_main_v91 V) (at_main_v92 V) (at_main_v93 V) (at_main_v94 V)).trans rfl

theorem at_main_c_18 :
    got V main_c_18 = val_main_c_18 (F := F) :=
  (read_nullary  (y := main_c_18) 116 rfl V ).trans rfl

theorem at_main_v96 :
    got V main_v96 = val_main_v96 (F := F) :=
  (read_unary (x0 := main_c_18) (y := main_v96) 117 rfl V (at_main_c_18 V)).trans rfl

theorem at_main_v97 :
    got V main_v97 = val_main_v97 (F := F) (was V main_arg0) :=
  (read_binary (x0 := main_v86) (x1 := main_v96) (y := main_v97) 118 rfl V (at_main_v86 V) (at_main_v96 V)).trans rfl

theorem at_main_c_19 :
    got V main_c_19 = val_main_c_19 (F := F) :=
  (read_nullary  (y := main_c_19) 119 rfl V ).trans rfl

theorem at_main_v98 :
    got V main_v98 = val_main_v98 (F := F) :=
  (read_unary (x0 := main_c_19) (y := main_v98) 120 rfl V (at_main_c_19 V)).trans rfl

theorem at_main_v99 :
    got V main_v99 = val_main_v99 (F := F) (was V main_arg0) :=
  (read_binary (x0 := main_v86) (x1 := main_v98) (y := main_v99) 121 rfl V (at_main_v86 V) (at_main_v98 V)).trans rfl

theorem at_main_v100 :
    got V main_v100 = val_main_v100 (F := F) (was V main_arg0) :=
  (read_unary (x0 := main_v86) (y := main_v100) 122 rfl V (at_main_v86 V)).trans rfl

theorem at_main_v101 :
    got V main_v101 = val_main_v101 (F := F) (was V main_arg0) :=
  (read_unary (x0 := main_v86) (y := main_v101) 123 rfl V (at_main_v86 V)).trans rfl

theorem at_main_v102 :
    got V main_v102 = val_main_v102 (F := F) (was V main_arg0) :=
  (read_unary (x0 := main_v97) (y := main_v102) 124 rfl V (at_main_v97 V)).trans rfl

theorem at_main_v103 :
    got V main_v103 = val_main_v103 (F := F) (was V main_arg0) :=
  (read_unary (x0 := main_v99) (y := main_v103) 125 rfl V (at_main_v99 V)).trans rfl

theorem at_main_v104 :
    got V main_v104 = val_main_v104 (F := F) (was V main_arg0) :=
  (read_nary4 (x0 := main_v100) (x1 := main_v101) (x2 := main_v102) (x3 := main_v103) (y := main_v104) 126 rfl V (at_main_v100 V) (at_main_v101 V) (at_main_v102 V) (at_main_v103 V)).trans rfl

theorem at_main_v105 :
    got V main_v105 = val_main_v105 (F := F) (was V main_arg0) :=
  (read_binary (x0 := main_v84) (x1 := main_v82) (y := main_v105) 127 rfl V (at_main_v84 V) (at_main_v82 V)).trans rfl

theorem at_main_v106 :
    got V main_v106 = val_main_v106 (F := F) (was V main_arg0) :=
  (read_binary (x0 := main_v84) (x1 := main_v79) (y := main_v106) 128 rfl V (at_main_v84 V) (at_main_v79 V)).trans rfl

theorem at_main_v107 :
    got V main_v107 = val_main_v107 (F := F) (was V main_arg0) :=
  (read_binary (x0 := main_v80) (x1 := main_v82) (y := main_v107) 129 rfl V (at_main_v80 V) (at_main_v82 V)).trans rfl

theorem at_main_v108 :
    got V main_v108 = val_main_v108 (F := F) (was V main_arg0) :=
  (read_binary (x0 := main_v80) (x1 := main_v79) (y := main_v108) 130 rfl V (at_main_v80 V) (at_main_v79 V)).trans rfl

theorem at_main_v109 :
    got V main_v109 = val_main_v109 (F := F) (was V main_arg0) :=
  (read_unary (x0 := main_v105) (y := main_v109) 131 rfl V (at_main_v105 V)).trans rfl

theorem at_main_v110 :
    got V main_v110 = val_main_v110 (F := F) (was V main_arg0) :=
  (read_unary (x0 := main_v106) (y := main_v110) 132 rfl V (at_main_v106 V)).trans rfl

theorem at_main_v111 :
    got V main_v111 = val_main_v111 (F := F) (was V main_arg0) :=
  (read_unary (x0 := main_v107) (y := main_v111) 133 rfl V (at_main_v107 V)).trans rfl

theorem at_main_v112 :
    got V main_v112 = val_main_v112 (F := F) (was V main_arg0) :=
  (read_unary (x0 := main_v108) (y := main_v112) 134 rfl V (at_main_v108 V)).trans rfl

theorem at_main_v113 :
    got V main_v113 = val_main_v113 (F := F) (was V main_arg0) :=
  (read_nary4 (x0 := main_v109) (x1 := main_v110) (x2 := main_v111) (x3 := main_v112) (y := main_v113) 135 rfl V (at_main_v109 V) (at_main_v110 V) (at_main_v111 V) (at_main_v112 V)).trans rfl

theorem at_main_c_20 :
    got V main_c_20 = val_main_c_20 (F := F) :=
  (read_nullary  (y := main_c_20) 136 rfl V ).trans rfl

theorem at_main_v114 :
    got V main_v114 = val_main_v114 (F := F) :=
  (read_unary (x0 := main_c_20) (y := main_v114) 137 rfl V (at_main_c_20 V)).trans rfl

theorem at_main_v115 :
    got V main_v115 = val_main_v115 (F := F) (was V main_arg0) :=
  (read_binary (x0 := main_v95) (x1 := main_v114) (y := main_v115) 138 rfl V (at_main_v95 V) (at_main_v114 V)).trans rfl

theorem at_main_v116 :
    got V main_v116 = val_main_v116 (F := F) :=
  (read_unary (x0 := main_v58) (y := main_v116) 139 rfl V (at_main_v58 V)).trans rfl

theorem at_main_c_21 :
    got V main_c_21 = val_main_c_21 (F := F) :=
  (read_nullary  (y := main_c_21) 140 rfl V ).trans rfl

theorem at_main_v117 :
    got V main_v117 = val_main_v117 (F := F) :=
  (read_unary (x0 := main_c_21) (y := main_v117) 141 rfl V (at_main_c_21 V)).trans rfl

theorem at_main_v118 :
    got V main_v118 = val_main_v118 (F := F) :=
  (read_binary (x0 := main_v116) (x1 := main_v117) (y := main_v118) 142 rfl V (at_main_v116 V) (at_main_v117 V)).trans rfl

theorem at_main_v119 :
    got V main_v119 = val_main_v119 (F := F) :=
  (read_unary (x0 := main_v118) (y := main_v119) 143 rfl V (at_main_v118 V)).trans rfl

theorem at_main_v120 :
    got V main_v120 = val_main_v120 (F := F) :=
  (read_unary (x0 := main_v119) (y := main_v120) 144 rfl V (at_main_v119 V)).trans rfl

theorem at_main_v121 :
    got V main_v121 = val_main_v121 (F := F) (was V main_arg0) :=
  (read_binary (x0 := main_v95) (x1 := main_v120) (y := main_v121) 145 rfl V (at_main_v95 V) (at_main_v120 V)).trans rfl

theorem at_main_v122 :
    got V main_v122 = val_main_v122 (F := F) (was V main_arg0) :=
  (read_binary (x0 := main_v115) (x1 := main_v121) (y := main_v122) 146 rfl V (at_main_v115 V) (at_main_v121 V)).trans rfl

theorem at_main_c_22 :
    got V main_c_22 = val_main_c_22 (F := F) :=
  (read_nullary  (y := main_c_22) 147 rfl V ).trans rfl

theorem at_main_v123 :
    got V main_v123 = val_main_v123 (F := F) :=
  (read_unary (x0 := main_c_22) (y := main_v123) 148 rfl V (at_main_c_22 V)).trans rfl

theorem at_main_v124 :
    got V main_v124 = val_main_v124 (F := F) (was V main_arg0) :=
  (read_binary (x0 := main_v104) (x1 := main_v123) (y := main_v124) 149 rfl V (at_main_v104 V) (at_main_v123 V)).trans rfl

theorem at_main_v125 :
    got V main_v125 = val_main_v125 (F := F) (was V main_arg0) :=
  (read_binary (x0 := main_v122) (x1 := main_v124) (y := main_v125) 150 rfl V (at_main_v122 V) (at_main_v124 V)).trans rfl

theorem at_main_v126 :
    got V main_v126 = val_main_v126 (F := F) :=
  (read_unary (x0 := main_v60) (y := main_v126) 151 rfl V (at_main_v60 V)).trans rfl

theorem at_main_c_23 :
    got V main_c_23 = val_main_c_23 (F := F) :=
  (read_nullary  (y := main_c_23) 152 rfl V ).trans rfl

theorem at_main_v127 :
    got V main_v127 = val_main_v127 (F := F) :=
  (read_unary (x0 := main_c_23) (y := main_v127) 153 rfl V (at_main_c_23 V)).trans rfl

theorem at_main_v128 :
    got V main_v128 = val_main_v128 (F := F) :=
  (read_binary (x0 := main_v126) (x1 := main_v127) (y := main_v128) 154 rfl V (at_main_v126 V) (at_main_v127 V)).trans rfl

theorem at_main_v129 :
    got V main_v129 = val_main_v129 (F := F) :=
  (read_unary (x0 := main_v128) (y := main_v129) 155 rfl V (at_main_v128 V)).trans rfl

theorem at_main_v130 :
    got V main_v130 = val_main_v130 (F := F) :=
  (read_unary (x0 := main_v129) (y := main_v130) 156 rfl V (at_main_v129 V)).trans rfl

theorem at_main_v131 :
    got V main_v131 = val_main_v131 (F := F) (was V main_arg0) :=
  (read_binary (x0 := main_v104) (x1 := main_v130) (y := main_v131) 157 rfl V (at_main_v104 V) (at_main_v130 V)).trans rfl

theorem at_main_v132 :
    got V main_v132 = val_main_v132 (F := F) (was V main_arg0) :=
  (read_binary (x0 := main_v125) (x1 := main_v131) (y := main_v132) 158 rfl V (at_main_v125 V) (at_main_v131 V)).trans rfl

theorem at_main_v133 :
    got V main_v133 = val_main_v133 (F := F) (was V main_arg0) :=
  (read_unary (x0 := main_v132) (y := main_v133) 159 rfl V (at_main_v132 V)).trans rfl

theorem at_main_v134 :
    got V main_v134 = val_main_v134 (F := F) (was V main_arg5) :=
  (read_unary (x0 := main_v50) (y := main_v134) 160 rfl V (at_main_v50 V)).trans rfl

theorem at_main_v135 :
    got V main_v135 = val_main_v135 (F := F) (was V main_arg5) :=
  (read_unary (x0 := main_v134) (y := main_v135) 161 rfl V (at_main_v134 V)).trans rfl

theorem at_main_v136 :
    got V main_v136 = val_main_v136 (F := F) (was V main_arg4) (was V main_arg5) :=
  (read_binary (x0 := main_v46) (x1 := main_v135) (y := main_v136) 162 rfl V (at_main_v46 V) (at_main_v135 V)).trans rfl

theorem at_main_cst_24 :
    got V main_cst_24 = val_main_cst_24 (F := F) :=
  (read_nullary  (y := main_cst_24) 163 rfl V ).trans rfl

theorem at_main_call2_v0 :
    got V main_call2_v0 = val_main_call2_v0 (F := F) :=
  (read_unary (x0 := main_cst_24) (y := main_call2_v0) 164 rfl V (at_main_cst_24 V)).trans rfl

theorem at_main_call2_v1 :
    got V main_call2_v1 = val_main_call2_v1 (F := F) (was V main_arg0) :=
  (read_unary (x0 := main_v133) (y := main_call2_v1) 165 rfl V (at_main_v133 V)).trans rfl

theorem at_main_call2_v2 :
    got V main_call2_v2 = val_main_call2_v2 (F := F) :=
  (read_unary (x0 := main_call2_v0) (y := main_call2_v2) 166 rfl V (at_main_call2_v0 V)).trans rfl

theorem at_main_v137 :
    got V main_v137 = val_main_v137 (F := F) (was V main_arg0) (was V main_arg4) (was V main_arg5) :=
  (read_ternary (x0 := main_call2_v1) (x1 := main_v136) (x2 := main_call2_v2) (y := main_v137) 167 rfl V (at_main_call2_v1 V) (at_main_v136 V) (at_main_call2_v2 V)).trans rfl

theorem at_main_v138 :
    got V main_v138 = val_main_v138 (F := F) (was V main_arg0) (was V main_arg4) (was V main_arg5) :=
  (read_unary (x0 := main_v137) (y := main_v138) 168 rfl V (at_main_v137 V)).trans rfl

theorem at_main_v139 :
    got V main_v139 = val_main_v139 (F := F) (was V main_arg0) (was V main_arg4) (was V main_arg5) :=
  (read_reshape (x0 := main_v138) (y := main_v139) 169 rfl V (at_main_v138 V)).trans rfl

theorem at_main_v140 :
    got V main_v140 = val_main_v140 (F := F) (was V main_arg0) (was V main_arg4) (was V main_arg5) :=
  (read_unary (x0 := main_v137) (y := main_v140) 170 rfl V (at_main_v137 V)).trans rfl

theorem at_main_v141 :
    got V main_v141 = val_main_v141 (F := F) (was V main_arg0) (was V main_arg4) (was V main_arg5) :=
  (read_reshape (x0 := main_v140) (y := main_v141) 171 rfl V (at_main_v140 V)).trans rfl

theorem at_main_v142 :
    got V main_v142 = val_main_v142 (F := F) (was V main_arg0) (was V main_arg4) (was V main_arg5) :=
  (read_unary (x0 := main_v137) (y := main_v142) 172 rfl V (at_main_v137 V)).trans rfl

theorem at_main_v143 :
    got V main_v143 = val_main_v143 (F := F) (was V main_arg0) (was V main_arg4) (was V main_arg5) :=
  (read_reshape (x0 := main_v142) (y := main_v143) 173 rfl V (at_main_v142 V)).trans rfl

theorem at_main_v144 :
    got V main_v144 = val_main_v144 (F := F) (was V main_arg0) (was V main_arg4) (was V main_arg5) :=
  (read_unary (x0 := main_v137) (y := main_v144) 174 rfl V (at_main_v137 V)).trans rfl

theorem at_main_v145 :
    got V main_v145 = val_main_v145 (F := F) (was V main_arg0) (was V main_arg4) (was V main_arg5) :=
  (read_reshape (x0 := main_v144) (y := main_v145) 175 rfl V (at_main_v144 V)).trans rfl

theorem at_main_v146 :
    got V main_v146 = val_main_v146 (F := F) (was V main_arg0) :=
  (read_unary (x0 := main_v113) (y := main_v146) 176 rfl V (at_main_v113 V)).trans rfl

theorem at_main_v147 :
    got V main_v147 = val_main_v147 (F := F) (was V main_arg0) :=
  (read_unary (x0 := main_v146) (y := main_v147) 177 rfl V (at_main_v146 V)).trans rfl

theorem at_main_v148 :
    got V main_v148 = val_main_v148 (F := F) (was V main_arg0) (was V main_arg4) (was V main_arg5) :=
  (read_binary (x0 := main_v147) (x1 := main_v137) (y := main_v148) 178 rfl V (at_main_v147 V) (at_main_v137 V)).trans rfl

theorem at_main_cst_25 :
    got V main_cst_25 = val_main_cst_25 (F := F) :=
  (read_nullary  (y := main_cst_25) 179 rfl V ).trans rfl

theorem at_main_v149 :
    got V main_v149 = val_main_v149 (F := F) (was V main_arg0) (was V main_arg4) (was V main_arg5) :=
  (read_binary (x0 := main_v148) (x1 := main_cst_25) (y := main_v149) 180 rfl V (at_main_v148 V) (at_main_cst_25 V)).trans rfl

theorem at_main_v150 :
    got V main_v150 = val_main_v150 (F := F) (was V main_arg0) :=
  (read_unary (x0 := main_v84) (y := main_v150) 181 rfl V (at_main_v84 V)).trans rfl

theorem at_main_v151 :
    got V main_v151 = val_main_v151 (F := F) (was V main_arg0) (was V main_arg4) (was V main_arg5) :=
  (read_binary (x0 := main_v141) (x1 := main_v139) (y := main_v151) 182 rfl V (at_main_v141 V) (at_main_v139 V)).trans rfl

theorem at_main_v152 :
    got V main_v152 = val_main_v152 (F := F) (was V main_arg0) :=
  (read_unary (x0 := main_v150) (y := main_v152) 183 rfl V (at_main_v150 V)).trans rfl

theorem at_main_v153 :
    got V main_v153 = val_main_v153 (F := F) (was V main_arg0) (was V main_arg4) (was V main_arg5) :=
  (read_binary (x0 := main_v152) (x1 := main_v151) (y := main_v153) 184 rfl V (at_main_v152 V) (at_main_v151 V)).trans rfl

theorem at_main_v154 :
    got V main_v154 = val_main_v154 (F := F) (was V main_arg0) :=
  (read_unary (x0 := main_v80) (y := main_v154) 185 rfl V (at_main_v80 V)).trans rfl

theorem at_main_v155 :
    got V main_v155 = val_main_v155 (F := F) (was V main_arg0) (was V main_arg4) (was V main_arg5) :=
  (read_binary (x0 := main_v145) (x1 := main_v143) (y := main_v155) 186 rfl V (at_main_v145 V) (at_main_v143 V)).trans rfl

theorem at_main_v156 :
    got V main_v156 = val_main_v156 (F := F) (was V main_arg0) :=
  (read_unary (x0 := main_v154) (y := main_v156) 187 rfl V (at_main_v154 V)).trans rfl

theorem at_main_v157 :
    got V main_v157 = val_main_v157 (F := F) (was V main_arg0) (was V main_arg4) (was V main_arg5) :=
  (read_binary (x0 := main_v156) (x1 := main_v155) (y := main_v157) 188 rfl V (at_main_v156 V) (at_main_v155 V)).trans rfl

theorem at_main_v158 :
    got V main_v158 = val_main_v158 (F := F) (was V main_arg0) (was V main_arg4) (was V main_arg5) :=
  (read_binary (x0 := main_v153) (x1 := main_v157) (y := main_v158) 189 rfl V (at_main_v153 V) (at_main_v157 V)).trans rfl

theorem at_main_v159 :
    got V main_v159 = val_main_v159 (F := F) (was V main_arg0) :=
  (read_unary (x0 := main_v82) (y := main_v159) 190 rfl V (at_main_v82 V)).trans rfl

theorem at_main_v160 :
    got V main_v160 = val_main_v160 (F := F) (was V main_arg0) (was V main_arg4) (was V main_arg5) :=
  (read_binary (x0 := main_v143) (x1 := main_v139) (y := main_v160) 191 rfl V (at_main_v143 V) (at_main_v139 V)).trans rfl

theorem at_main_v161 :
    got V main_v161 = val_main_v161 (F := F) (was V main_arg0) :=
  (read_unary (x0 := main_v159) (y := main_v161) 192 rfl V (at_main_v159 V)).trans rfl

theorem at_main_v162 :
    got V main_v162 = val_main_v162 (F := F) (was V main_arg0) (was V main_arg4) (was V main_arg5) :=
  (read_binary (x0 := main_v161) (x1 := main_v160) (y := main_v162) 193 rfl V (at_main_v161 V) (at_main_v160 V)).trans rfl

theorem at_main_v163 :
    got V main_v163 = val_main_v163 (F := F) (was V main_arg0) :=
  (read_unary (x0 := main_v79) (y := main_v163) 194 rfl V (at_main_v79 V)).trans rfl

theorem at_main_v164 :
    got V main_v164 = val_main_v164 (F := F) (was V main_arg0) (was V main_arg4) (was V main_arg5) :=
  (read_binary (x0 := main_v145) (x1 := main_v141) (y := main_v164) 195 rfl V (at_main_v145 V) (at_main_v141 V)).trans rfl

theorem at_main_v165 :
    got V main_v165 = val_main_v165 (F := F) (was V main_arg0) :=
  (read_unary (x0 := main_v163) (y := main_v165) 196 rfl V (at_main_v163 V)).trans rfl

theorem at_main_v166 :
    got V main_v166 = val_main_v166 (F := F) (was V main_arg0) (was V main_arg4) (was V main_arg5) :=
  (read_binary (x0 := main_v165) (x1 := main_v164) (y := main_v166) 197 rfl V (at_main_v165 V) (at_main_v164 V)).trans rfl

theorem at_main_v167 :
    got V main_v167 = val_main_v167 (F := F) (was V main_arg0) (was V main_arg4) (was V main_arg5) :=
  (read_binary (x0 := main_v162) (x1 := main_v166) (y := main_v167) 198 rfl V (at_main_v162 V) (at_main_v166 V)).trans rfl

theorem at_main_v168 :
    got V main_v168 = val_main_v168 (F := F) (was V main_arg0) (was V main_arg2) (was V main_arg3) (was V main_arg4) (was V main_arg5) :=
  (read_binary (x0 := main_v149) (x1 := main_v5) (y := main_v168) 199 rfl V (at_main_v149 V) (at_main_v5 V)).trans rfl

theorem at_main_v169 :
    got V main_v169 = val_main_v169 (F := F) (was V main_arg0) (was V main_arg2) (was V main_arg3) (was V main_arg4) (was V main_arg5) :=
  (read_unary (x0 := main_v168) (y := main_v169) 200 rfl V (at_main_v168 V)).trans rfl

theorem at_main_v170 :
    got V main_v170 = val_main_v170 (F := F) :=
  (read_unary (x0 := main_v61) (y := main_v170) 201 rfl V (at_main_v61 V)).trans rfl

theorem at_main_v171 :
    got V main_v171 = val_main_v171 (F := F) :=
  (read_unary (x0 := main_v170) (y := main_v171) 202 rfl V (at_main_v170 V)).trans rfl

theorem at_main_v172 :
    got V main_v172 = val_main_v172 (F := F) (was V main_arg1) :=
  (read_binary (x0 := main_v54) (x1 := main_v171) (y := main_v172) 203 rfl V (at_main_v54 V) (at_main_v171 V)).trans rfl

theorem at_main_v173 :
    got V main_v173 = val_main_v173 (F := F) (was V main_arg0) (was V main_arg2) (was V main_arg3) (was V main_arg4) (was V main_arg5) :=
  (read_binary (x0 := main_v158) (x1 := main_v5) (y := main_v173) 204 rfl V (at_main_v158 V) (at_main_v5 V)).trans rfl

theorem at_main_v174 :
    got V main_v174 = val_main_v174 (F := F) (was V main_arg0) (was V main_arg2) (was V main_arg3) (was V main_arg4) (was V main_arg5) :=
  (read_unary (x0 := main_v173) (y := main_v174) 205 rfl V (at_main_v173 V)).trans rfl

theorem at_main_v175 :
    got V main_v175 = val_main_v175 (F := F) (was V main_arg0) (was V main_arg1) (was V main_arg2) (was V main_arg3) (was V main_arg4) (was V main_arg5) :=
  (read_binary (x0 := main_v172) (x1 := main_v174) (y := main_v175) 206 rfl V (at_main_v172 V) (at_main_v174 V)).trans rfl

theorem at_main_v176 :
    got V main_v176 = val_main_v176 (F := F) :=
  (read_unary (x0 := main_v62) (y := main_v176) 207 rfl V (at_main_v62 V)).trans rfl

theorem at_main_v177 :
    got V main_v177 = val_main_v177 (F := F) :=
  (read_unary (x0 := main_v176) (y := main_v177) 208 rfl V (at_main_v176 V)).trans rfl

theorem at_main_v178 :
    got V main_v178 = val_main_v178 (F := F) (was V main_arg1) :=
  (read_binary (x0 := main_v54) (x1 := main_v177) (y := main_v178) 209 rfl V (at_main_v54 V) (at_main_v177 V)).trans rfl

theorem at_main_v179 :
    got V main_v179 = val_main_v179 (F := F) (was V main_arg0) (was V main_arg2) (was V main_arg3) (was V main_arg4) (was V main_arg5) :=
  (read_binary (x0 := main_v167) (x1 := main_v5) (y := main_v179) 210 rfl V (at_main_v167 V) (at_main_v5 V)).trans rfl

theorem at_main_v180 :
    got V main_v180 = val_main_v180 (F := F) (was V main_arg0) (was V main_arg2) (was V main_arg3) (was V main_arg4) (was V main_arg5) :=
  (read_unary (x0 := main_v179) (y := main_v180) 211 rfl V (at_main_v179 V)).trans rfl

theorem at_main_v181 :
    got V main_v181 = val_main_v181 (F := F) (was V main_arg0) (was V main_arg1) (was V main_arg2) (was V main_arg3) (was V main_arg4) (was V main_arg5) :=
  (read_binary (x0 := main_v178) (x1 := main_v180) (y := main_v181) 212 rfl V (at_main_v178 V) (at_main_v180 V)).trans rfl

theorem at_main_v182 :
    got V main_v182 = val_main_v182 (F := F) (was V main_arg0) (was V main_arg1) (was V main_arg2) (was V main_arg3) (was V main_arg4) (was V main_arg5) :=
  (read_unary (x0 := main_v175) (y := main_v182) 213 rfl V (at_main_v175 V)).trans rfl

theorem at_main_v183 :
    got V main_v183 = val_main_v183 (F := F) (was V main_arg0) (was V main_arg1) (was V main_arg2) (was V main_arg3) (was V main_arg4) (was V main_arg5) :=
  (read_unary (x0 := main_v181) (y := main_v183) 214 rfl V (at_main_v181 V)).trans rfl

theorem at_main_v184 :
    got V main_v184 = val_main_v184 (F := F) (was V main_arg0) (was V main_arg1) (was V main_arg2) (was V main_arg3) (was V main_arg4) (was V main_arg5) :=
  (read_binary (x0 := main_v182) (x1 := main_v183) (y := main_v184) 215 rfl V (at_main_v182 V) (at_main_v183 V)).trans rfl

theorem at_main_v185 :
    got V main_v185 = val_main_v185 (F := F) (was V main_arg0) (was V main_arg1) (was V main_arg2) (was V main_arg3) (was V main_arg4) (was V main_arg5) :=
  (read_reshape (x0 := main_v184) (y := main_v185) 216 rfl V (at_main_v184 V)).trans rfl

theorem at_main_v186 :
    got V main_v186 = val_main_v186 (F := F) (was V main_arg0) (was V main_arg2) (was V main_arg3) (was V main_arg4) (was V main_arg5) :=
  (read_unary (x0 := main_v169) (y := main_v186) 217 rfl V (at_main_v169 V)).trans rfl

/-- The reference's run: every buffer at what the list of operations leaves in it. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  (θ_run defs _ _).mono (fun _ h c b => h c b)
    (run_seq scopedRefs_eq scopedSems_eq defs main (fun _ => ops) main_eq (fun _ => ops_sub) m ρ fun _ => ops_fresh)

end Cert.ReferenceIdeal.Stage

end
-- ==== Proof.RefFrame.lean ====
/-
  The reference's frame: it ends with its arguments unchanged and every counter at zero.
-/
module

public import proofs.«01_k».proof.Proof.RefRun
public import Idealize.ShloMosaic.Lib.Quiescent

@[expose] public section

set_option maxRecDepth 16384

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F]

/-- A buffer that no operation writes is unchanged. -/
theorem keeps (m : (ℓ : Loc nD τ sig) → Buf (Elt F) ℓ) (c : Dev nD) (b : Ref sig .tc) (h : b ∉ opsW) :
    after ops (launchContents m c) (Proc.devRef .tc b) = m ((c.tc : Thread nD τ).loc b) :=
  (at_arg _ b h).trans rfl

/-- The reference ends with its arguments unchanged and every counter at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
      ⟨(h c main_arg0).trans (keeps m c main_arg0 (by decide +kernel)), (h c main_arg1).trans (keeps m c main_arg1 (by decide +kernel)),
       (h c main_arg2).trans (keeps m c main_arg2 (by decide +kernel)), (h c main_arg3).trans (keeps m c main_arg3 (by decide +kernel)),
       (h c main_arg4).trans (keeps m c main_arg4 (by decide +kernel)), (h c main_arg5).trans (keeps m c main_arg5 (by decide +kernel))⟩,
      sem_eq_zero_of_no_sems rfl r.2⟩) (run m ρ)

end Cert.ReferenceIdeal.Stage

end
-- ==== Proof.Decode.lean ====
/-
  The number a byte of a code word stands for, at the idealized numbers.
-/
module

public import Idealize.ShloMosaic.Lib.Pointwise

@[expose] public section

noncomputable section

namespace Cert.Decode

open Idealize.ShloMosaic

/-- The fp8 (e4m3) number in byte `j` of the word `w`. -/
def code (w : BitVec 32) (j : ℕ) : EReal := Ideal.ofBits .fp8e4m3 (w.extractLsb' (8 * j) 8)

end Cert.Decode

end
-- ==== Proof.ValueAcc.lean ====
/-
  The accumulator of one head at the idealized numbers: what a chunk of rows stores is, element by element, the sum over
  the twelve words of the decoded byte times its element of `g`.
-/
module

public import proofs.«01_k».proof.Proof.KernelIdealLoops
public import proofs.«01_k».proof.Proof.Decode
public import Idealize.ShloMosaic.Lib.Pointwise
public import Idealize.ShloMosaic.Lib.BitcastPair
public import Idealize.ShloMosaic.Lib.Writes
public import Idealize.ShloMosaic.Lib.Pipeline.ValueKit

@[expose] public section

set_option maxRecDepth 16384
set_option maxHeartbeats 4000000

noncomputable section

namespace Cert.KernelIdeal.Hand

open Cert.KernelIdeal Cert.KernelIdeal.Gen Cert.Decode
open Idealize.ShloMosaic Idealize.ShloMosaic.Tactic Idealize.ShloMosaic.Pointwise

/-- The element of a head's `g` block at row `r`, lane `c` (zero outside the block). -/
def gN (v : Vec Ideal S1x48x256 .bf16) (r c : ℕ) : EReal :=
  if h : r < 48 ∧ c < 256 then v (ix3 0 ⟨r, h.1⟩ ⟨c, h.2⟩) else 0

/-- The code word of head `h`, word `k`, row `r`, lane `c` (zero outside the block). -/
def wN (W : S2x12x192x128.Idx → BitVec 32) (h k r c : ℕ) : BitVec 32 :=
  if p : h < 2 ∧ k < 12 ∧ r < 192 ∧ c < 128 then W (ix4 ⟨h, p.1⟩ ⟨k, p.2.1⟩ ⟨r, p.2.2.1⟩ ⟨c, p.2.2.2⟩) else 0

/-- The accumulator's element at row `R`, lane `c`. -/
def accv (v : Vec Ideal S1x48x256 .bf16) (W : S2x12x192x128.Idx → BitVec 32) (h R c : ℕ) : EReal :=
  ∑ k : Fin 12, code (wN W h k.val (R / 4) c) (R % 4) * gN v (4 * k.val + R % 4) (128 * (R / 24 % 2) + c)

theorem accv_piece (v : Vec Ideal S1x48x256 .bf16) (W : S2x12x192x128.Idx → BitVec 32) (h n o r c : ℕ) (ho : o % 8 = 0)
    (ho' : o < 96) (hr : r < 8) :
    accv v W h (96 * n + o + r) c = ∑ k : Fin 12, code (wN W h k.val (24 * n + (o + r) / 4) c) ((o + r) % 4) * gN v (4 * k.val + r % 4) (128 * (o / 24 % 2) + c) := by
  unfold accv
  have h1 : (96 * n + o + r) / 4 = 24 * n + (o + r) / 4 := by omega
  have h2 : (96 * n + o + r) % 4 = (o + r) % 4 := by omega
  have h2' : (o + r) % 4 = r % 4 := by omega
  have h3 : (96 * n + o + r) / 24 % 2 = o / 24 % 2 := by omega
  rw [h1, h2, h3]; simp only [h2']

/-- Four rows of a byte vector per word: row `r` is byte `r % 4` of the word in row `r / 4`. -/
theorem dec (v : Vec Ideal S1x1x24x128 .i32) (r : Fin 96) (l : Fin 128) :
    Ideal.ofBits .fp8e4m3 (bitcast S96x128 8 (shapeCast S24x128 v shapeCasts_S1x1x24x128_S24x128) bitcasts_S24x128_w32_S96x128_w8 (ix2 r l))
      = code (v (ix4 0 0 ⟨r.val / 4, by omega⟩ l)) (r.val % 4) := by
  unfold code
  congr 1
  apply BitVec.eq_of_getLsbD_eq
  intro q hq
  rw [bitcast_getLsbD _ _ _ q hq (by decide)]
  have hrow : S96x128.row (ix2 r l) = r.val := rfl
  have e : (bitcasts_S24x128_w32_S96x128_w8).srcIdx (ix2 r l) ((S96x128.row (ix2 r l) * 8 + q) / 32) (fun a ha => (Nat.div_lt_iff_lt_mul (by decide)).2 ((bitcasts_S24x128_w32_S96x128_w8).pos_lt (ix2 r l) q hq a ha))
      = (ix2 (⟨r.val / 4, by omega⟩ : Fin 24) l : S24x128.Idx) := by
    funext a
    match a with
    | ⟨0, _⟩ => exact Fin.ext ((Shape.Bitcasts.srcIdx_row _ _ _ _ _ rfl).trans (by rw [hrow]; show (r.val * 8 + q) / 32 = r.val / 4; omega))
    | ⟨1, _⟩ => exact Fin.ext ((Shape.Bitcasts.srcIdx_other _ _ _ _ _ (show ¬ (1 + 2 = 2) by decide)).trans rfl)
  rw [e, hrow]
  have e2 : (r.val * 8 + q) % 32 = 8 * (r.val % 4) + q := by omega
  rw [e2, BitVec.getLsbD_extractLsb']
  simp only [hq, decide_true, Bool.true_and]
  congr 1
  pointwise

theorem two_tiles (v : Vec Ideal S1x48x256 .bf16) (o c : ℕ) (ho : o + 4 ≤ 48) (hc : c + 128 ≤ 256) (hs : S48x256.Slices ![o, c] S4x128) (r : Fin 8) (l : Fin 128) :
    concatenate S8x128 0 [⟨S4x128, extractStridedSlice S4x128 ![o, c] (k0_pay150 v) hs⟩, ⟨S4x128, extractStridedSlice S4x128 ![o, c] (k0_pay150 v) hs⟩] concatenates_S4x128_S4x128_S8x128_d0 (ix2 r l)
      = gN v (o + r.val % 4) (c + l.val) := by
  pointwise [k0_pay150]
  have hb : o + r.val % 4 < 48 ∧ c + l.val < 256 := by omega
  rw [gN, dif_pos hb]
  split
  · congr 2; exact Fin.ext (by show o + r.val = o + r.val % 4; omega)
  · congr 2; exact Fin.ext (by show o + (r.val - 4) = o + r.val % 4; omega)

theorem gt151 (v : Vec Ideal S1x48x256 .bf16) (r : Fin 8) (l : Fin 128) : k0_pay151 (F := Ideal) v (ix2 r l) = gN v (0 + r.val % 4) (0 + l.val) :=
  two_tiles v 0 0 (by decide) (by decide) _ r l
theorem gt152 (v : Vec Ideal S1x48x256 .bf16) (r : Fin 8) (l : Fin 128) : k0_pay152 (F := Ideal) v (ix2 r l) = gN v (0 + r.val % 4) (128 + l.val) :=
  two_tiles v 0 128 (by decide) (by decide) _ r l
theorem gt153 (v : Vec Ideal S1x48x256 .bf16) (r : Fin 8) (l : Fin 128) : k0_pay153 (F := Ideal) v (ix2 r l) = gN v (4 + r.val % 4) (0 + l.val) :=
  two_tiles v 4 0 (by decide) (by decide) _ r l
theorem gt154 (v : Vec Ideal S1x48x256 .bf16) (r : Fin 8) (l : Fin 128) : k0_pay154 (F := Ideal) v (ix2 r l) = gN v (4 + r.val % 4) (128 + l.val) :=
  two_tiles v 4 128 (by decide) (by decide) _ r l
theorem gt155 (v : Vec Ideal S1x48x256 .bf16) (r : Fin 8) (l : Fin 128) : k0_pay155 (F := Ideal) v (ix2 r l) = gN v (8 + r.val % 4) (0 + l.val) :=
  two_tiles v 8 0 (by decide) (by decide) _ r l
theorem gt156 (v : Vec Ideal S1x48x256 .bf16) (r : Fin 8) (l : Fin 128) : k0_pay156 (F := Ideal) v (ix2 r l) = gN v (8 + r.val % 4) (128 + l.val) :=
  two_tiles v 8 128 (by decide) (by decide) _ r l
theorem gt157 (v : Vec Ideal S1x48x256 .bf16) (r : Fin 8) (l : Fin 128) : k0_pay157 (F := Ideal) v (ix2 r l) = gN v (12 + r.val % 4) (0 + l.val) :=
  two_tiles v 12 0 (by decide) (by decide) _ r l
theorem gt158 (v : Vec Ideal S1x48x256 .bf16) (r : Fin 8) (l : Fin 128) : k0_pay158 (F := Ideal) v (ix2 r l) = gN v (12 + r.val % 4) (128 + l.val) :=
  two_tiles v 12 128 (by decide) (by decide) _ r l
theorem gt159 (v : Vec Ideal S1x48x256 .bf16) (r : Fin 8) (l : Fin 128) : k0_pay159 (F := Ideal) v (ix2 r l) = gN v (16 + r.val % 4) (0 + l.val) :=
  two_tiles v 16 0 (by decide) (by decide) _ r l
theorem gt160 (v : Vec Ideal S1x48x256 .bf16) (r : Fin 8) (l : Fin 128) : k0_pay160 (F := Ideal) v (ix2 r l) = gN v (16 + r.val % 4) (128 + l.val) :=
  two_tiles v 16 128 (by decide) (by decide) _ r l
theorem gt161 (v : Vec Ideal S1x48x256 .bf16) (r : Fin 8) (l : Fin 128) : k0_pay161 (F := Ideal) v (ix2 r l) = gN v (20 + r.val % 4) (0 + l.val) :=
  two_tiles v 20 0 (by decide) (by decide) _ r l
theorem gt162 (v : Vec Ideal S1x48x256 .bf16) (r : Fin 8) (l : Fin 128) : k0_pay162 (F := Ideal) v (ix2 r l) = gN v (20 + r.val % 4) (128 + l.val) :=
  two_tiles v 20 128 (by decide) (by decide) _ r l
theorem gt163 (v : Vec Ideal S1x48x256 .bf16) (r : Fin 8) (l : Fin 128) : k0_pay163 (F := Ideal) v (ix2 r l) = gN v (24 + r.val % 4) (0 + l.val) :=
  two_tiles v 24 0 (by decide) (by decide) _ r l
theorem gt164 (v : Vec Ideal S1x48x256 .bf16) (r : Fin 8) (l : Fin 128) : k0_pay164 (F := Ideal) v (ix2 r l) = gN v (24 + r.val % 4) (128 + l.val) :=
  two_tiles v 24 128 (by decide) (by decide) _ r l
theorem gt165 (v : Vec Ideal S1x48x256 .bf16) (r : Fin 8) (l : Fin 128) : k0_pay165 (F := Ideal) v (ix2 r l) = gN v (28 + r.val % 4) (0 + l.val) :=
  two_tiles v 28 0 (by decide) (by decide) _ r l
theorem gt166 (v : Vec Ideal S1x48x256 .bf16) (r : Fin 8) (l : Fin 128) : k0_pay166 (F := Ideal) v (ix2 r l) = gN v (28 + r.val % 4) (128 + l.val) :=
  two_tiles v 28 128 (by decide) (by decide) _ r l
theorem gt167 (v : Vec Ideal S1x48x256 .bf16) (r : Fin 8) (l : Fin 128) : k0_pay167 (F := Ideal) v (ix2 r l) = gN v (32 + r.val % 4) (0 + l.val) :=
  two_tiles v 32 0 (by decide) (by decide) _ r l
theorem gt168 (v : Vec Ideal S1x48x256 .bf16) (r : Fin 8) (l : Fin 128) : k0_pay168 (F := Ideal) v (ix2 r l) = gN v (32 + r.val % 4) (128 + l.val) :=
  two_tiles v 32 128 (by decide) (by decide) _ r l
theorem gt169 (v : Vec Ideal S1x48x256 .bf16) (r : Fin 8) (l : Fin 128) : k0_pay169 (F := Ideal) v (ix2 r l) = gN v (36 + r.val % 4) (0 + l.val) :=
  two_tiles v 36 0 (by decide) (by decide) _ r l
theorem gt170 (v : Vec Ideal S1x48x256 .bf16) (r : Fin 8) (l : Fin 128) : k0_pay170 (F := Ideal) v (ix2 r l) = gN v (36 + r.val % 4) (128 + l.val) :=
  two_tiles v 36 128 (by decide) (by decide) _ r l
theorem gt171 (v : Vec Ideal S1x48x256 .bf16) (r : Fin 8) (l : Fin 128) : k0_pay171 (F := Ideal) v (ix2 r l) = gN v (40 + r.val % 4) (0 + l.val) :=
  two_tiles v 40 0 (by decide) (by decide) _ r l
theorem gt172 (v : Vec Ideal S1x48x256 .bf16) (r : Fin 8) (l : Fin 128) : k0_pay172 (F := Ideal) v (ix2 r l) = gN v (40 + r.val % 4) (128 + l.val) :=
  two_tiles v 40 128 (by decide) (by decide) _ r l
theorem gt173 (v : Vec Ideal S1x48x256 .bf16) (r : Fin 8) (l : Fin 128) : k0_pay173 (F := Ideal) v (ix2 r l) = gN v (44 + r.val % 4) (0 + l.val) :=
  two_tiles v 44 0 (by decide) (by decide) _ r l
theorem gt174 (v : Vec Ideal S1x48x256 .bf16) (r : Fin 8) (l : Fin 128) : k0_pay174 (F := Ideal) v (ix2 r l) = gN v (44 + r.val % 4) (128 + l.val) :=
  two_tiles v 44 128 (by decide) (by decide) _ r l

/-- A load of a chunk's words, at an index. -/
theorem ld5 (arg5 : Memref sig .tc .vmem S2x12x192x128 .i32) (X : BufTy.Contents (Elt Ideal) arg5.view.ty) (h : Fin 2) (w : ℕ) (hw : w < 12) (k : Fin 8) (off : Fin 4 → ℕ)
    (hoff : off = ![h.val, w, 24 * k.val, 0]) (inb) (a : Fin 24) (l : Fin 128) :
    View.readAt (Elt Ideal) arg5.view (Rect.unit (s := S2x12x192x128) off ![1, 1, 24, 128] inb).toLoadRect X (ix4 0 0 a l)
      = wN (arg5.view.read (Elt Ideal) X) h.val w (24 * k.val + a.val) l.val := by
  subst hoff
  have hb : h.val < 2 ∧ w < 12 ∧ 24 * k.val + a.val < 192 ∧ l.val < 128 := by omega
  rw [wN, dif_pos hb]
  rw [View.readAt_apply]
  congr 1
  funext b
  refine Fin.ext ((ValueKit.rect_emb_unit_val _ _ _ _ b).trans ?_)
  match b with
  | ⟨0, _⟩ => rfl
  | ⟨1, _⟩ => rfl
  | ⟨2, _⟩ => rfl
  | ⟨3, _⟩ => exact Nat.zero_add _

theorem off3 : ∀ (h : Fin k0_t1_loop.trips) (k : Fin k0_t2_loop.trips), k0_off3 h k = ![h.val, 0, 24 * k.val, 0] := by decide +kernel
theorem off4 : ∀ (h : Fin k0_t1_loop.trips) (k : Fin k0_t2_loop.trips), k0_off4 h k = ![h.val, 1, 24 * k.val, 0] := by decide +kernel
theorem off5 : ∀ (h : Fin k0_t1_loop.trips) (k : Fin k0_t2_loop.trips), k0_off5 h k = ![h.val, 2, 24 * k.val, 0] := by decide +kernel
theorem off6 : ∀ (h : Fin k0_t1_loop.trips) (k : Fin k0_t2_loop.trips), k0_off6 h k = ![h.val, 3, 24 * k.val, 0] := by decide +kernel
theorem off7 : ∀ (h : Fin k0_t1_loop.trips) (k : Fin k0_t2_loop.trips), k0_off7 h k = ![h.val, 4, 24 * k.val, 0] := by decide +kernel
theorem off8 : ∀ (h : Fin k0_t1_loop.trips) (k : Fin k0_t2_loop.trips), k0_off8 h k = ![h.val, 5, 24 * k.val, 0] := by decide +kernel
theorem off9 : ∀ (h : Fin k0_t1_loop.trips) (k : Fin k0_t2_loop.trips), k0_off9 h k = ![h.val, 6, 24 * k.val, 0] := by decide +kernel
theorem off10 : ∀ (h : Fin k0_t1_loop.trips) (k : Fin k0_t2_loop.trips), k0_off10 h k = ![h.val, 7, 24 * k.val, 0] := by decide +kernel
theorem off11 : ∀ (h : Fin k0_t1_loop.trips) (k : Fin k0_t2_loop.trips), k0_off11 h k = ![h.val, 8, 24 * k.val, 0] := by decide +kernel
theorem off12 : ∀ (h : Fin k0_t1_loop.trips) (k : Fin k0_t2_loop.trips), k0_off12 h k = ![h.val, 9, 24 * k.val, 0] := by decide +kernel
theorem off13 : ∀ (h : Fin k0_t1_loop.trips) (k : Fin k0_t2_loop.trips), k0_off13 h k = ![h.val, 10, 24 * k.val, 0] := by decide +kernel
theorem off14 : ∀ (h : Fin k0_t1_loop.trips) (k : Fin k0_t2_loop.trips), k0_off14 h k = ![h.val, 11, 24 * k.val, 0] := by decide +kernel
theorem ld5_0 (arg5 : Memref sig .tc .vmem S2x12x192x128 .i32) (X : BufTy.Contents (Elt Ideal) arg5.view.ty) (h : Fin k0_t1_loop.trips) (k : Fin k0_t2_loop.trips) (inb) (a : Fin 24) (l : Fin 128) :
    View.readAt (Elt Ideal) arg5.view (Rect.unit (s := S2x12x192x128) (k0_off3 h k) ![1, 1, 24, 128] inb).toLoadRect X (ix4 0 0 a l)
      = wN (arg5.view.read (Elt Ideal) X) h.val 0 (24 * k.val + a.val) l.val :=
  ld5 arg5 X h 0 (by decide) k _ (off3 h k) inb a l
theorem ld5_1 (arg5 : Memref sig .tc .vmem S2x12x192x128 .i32) (X : BufTy.Contents (Elt Ideal) arg5.view.ty) (h : Fin k0_t1_loop.trips) (k : Fin k0_t2_loop.trips) (inb) (a : Fin 24) (l : Fin 128) :
    View.readAt (Elt Ideal) arg5.view (Rect.unit (s := S2x12x192x128) (k0_off4 h k) ![1, 1, 24, 128] inb).toLoadRect X (ix4 0 0 a l)
      = wN (arg5.view.read (Elt Ideal) X) h.val 1 (24 * k.val + a.val) l.val :=
  ld5 arg5 X h 1 (by decide) k _ (off4 h k) inb a l
theorem ld5_2 (arg5 : Memref sig .tc .vmem S2x12x192x128 .i32) (X : BufTy.Contents (Elt Ideal) arg5.view.ty) (h : Fin k0_t1_loop.trips) (k : Fin k0_t2_loop.trips) (inb) (a : Fin 24) (l : Fin 128) :
    View.readAt (Elt Ideal) arg5.view (Rect.unit (s := S2x12x192x128) (k0_off5 h k) ![1, 1, 24, 128] inb).toLoadRect X (ix4 0 0 a l)
      = wN (arg5.view.read (Elt Ideal) X) h.val 2 (24 * k.val + a.val) l.val :=
  ld5 arg5 X h 2 (by decide) k _ (off5 h k) inb a l
theorem ld5_3 (arg5 : Memref sig .tc .vmem S2x12x192x128 .i32) (X : BufTy.Contents (Elt Ideal) arg5.view.ty) (h : Fin k0_t1_loop.trips) (k : Fin k0_t2_loop.trips) (inb) (a : Fin 24) (l : Fin 128) :
    View.readAt (Elt Ideal) arg5.view (Rect.unit (s := S2x12x192x128) (k0_off6 h k) ![1, 1, 24, 128] inb).toLoadRect X (ix4 0 0 a l)
      = wN (arg5.view.read (Elt Ideal) X) h.val 3 (24 * k.val + a.val) l.val :=
  ld5 arg5 X h 3 (by decide) k _ (off6 h k) inb a l
theorem ld5_4 (arg5 : Memref sig .tc .vmem S2x12x192x128 .i32) (X : BufTy.Contents (Elt Ideal) arg5.view.ty) (h : Fin k0_t1_loop.trips) (k : Fin k0_t2_loop.trips) (inb) (a : Fin 24) (l : Fin 128) :
    View.readAt (Elt Ideal) arg5.view (Rect.unit (s := S2x12x192x128) (k0_off7 h k) ![1, 1, 24, 128] inb).toLoadRect X (ix4 0 0 a l)
      = wN (arg5.view.read (Elt Ideal) X) h.val 4 (24 * k.val + a.val) l.val :=
  ld5 arg5 X h 4 (by decide) k _ (off7 h k) inb a l
theorem ld5_5 (arg5 : Memref sig .tc .vmem S2x12x192x128 .i32) (X : BufTy.Contents (Elt Ideal) arg5.view.ty) (h : Fin k0_t1_loop.trips) (k : Fin k0_t2_loop.trips) (inb) (a : Fin 24) (l : Fin 128) :
    View.readAt (Elt Ideal) arg5.view (Rect.unit (s := S2x12x192x128) (k0_off8 h k) ![1, 1, 24, 128] inb).toLoadRect X (ix4 0 0 a l)
      = wN (arg5.view.read (Elt Ideal) X) h.val 5 (24 * k.val + a.val) l.val :=
  ld5 arg5 X h 5 (by decide) k _ (off8 h k) inb a l
theorem ld5_6 (arg5 : Memref sig .tc .vmem S2x12x192x128 .i32) (X : BufTy.Contents (Elt Ideal) arg5.view.ty) (h : Fin k0_t1_loop.trips) (k : Fin k0_t2_loop.trips) (inb) (a : Fin 24) (l : Fin 128) :
    View.readAt (Elt Ideal) arg5.view (Rect.unit (s := S2x12x192x128) (k0_off9 h k) ![1, 1, 24, 128] inb).toLoadRect X (ix4 0 0 a l)
      = wN (arg5.view.read (Elt Ideal) X) h.val 6 (24 * k.val + a.val) l.val :=
  ld5 arg5 X h 6 (by decide) k _ (off9 h k) inb a l
theorem ld5_7 (arg5 : Memref sig .tc .vmem S2x12x192x128 .i32) (X : BufTy.Contents (Elt Ideal) arg5.view.ty) (h : Fin k0_t1_loop.trips) (k : Fin k0_t2_loop.trips) (inb) (a : Fin 24) (l : Fin 128) :
    View.readAt (Elt Ideal) arg5.view (Rect.unit (s := S2x12x192x128) (k0_off10 h k) ![1, 1, 24, 128] inb).toLoadRect X (ix4 0 0 a l)
      = wN (arg5.view.read (Elt Ideal) X) h.val 7 (24 * k.val + a.val) l.val :=
  ld5 arg5 X h 7 (by decide) k _ (off10 h k) inb a l
theorem ld5_8 (arg5 : Memref sig .tc .vmem S2x12x192x128 .i32) (X : BufTy.Contents (Elt Ideal) arg5.view.ty) (h : Fin k0_t1_loop.trips) (k : Fin k0_t2_loop.trips) (inb) (a : Fin 24) (l : Fin 128) :
    View.readAt (Elt Ideal) arg5.view (Rect.unit (s := S2x12x192x128) (k0_off11 h k) ![1, 1, 24, 128] inb).toLoadRect X (ix4 0 0 a l)
      = wN (arg5.view.read (Elt Ideal) X) h.val 8 (24 * k.val + a.val) l.val :=
  ld5 arg5 X h 8 (by decide) k _ (off11 h k) inb a l
theorem ld5_9 (arg5 : Memref sig .tc .vmem S2x12x192x128 .i32) (X : BufTy.Contents (Elt Ideal) arg5.view.ty) (h : Fin k0_t1_loop.trips) (k : Fin k0_t2_loop.trips) (inb) (a : Fin 24) (l : Fin 128) :
    View.readAt (Elt Ideal) arg5.view (Rect.unit (s := S2x12x192x128) (k0_off12 h k) ![1, 1, 24, 128] inb).toLoadRect X (ix4 0 0 a l)
      = wN (arg5.view.read (Elt Ideal) X) h.val 9 (24 * k.val + a.val) l.val :=
  ld5 arg5 X h 9 (by decide) k _ (off12 h k) inb a l
theorem ld5_10 (arg5 : Memref sig .tc .vmem S2x12x192x128 .i32) (X : BufTy.Contents (Elt Ideal) arg5.view.ty) (h : Fin k0_t1_loop.trips) (k : Fin k0_t2_loop.trips) (inb) (a : Fin 24) (l : Fin 128) :
    View.readAt (Elt Ideal) arg5.view (Rect.unit (s := S2x12x192x128) (k0_off13 h k) ![1, 1, 24, 128] inb).toLoadRect X (ix4 0 0 a l)
      = wN (arg5.view.read (Elt Ideal) X) h.val 10 (24 * k.val + a.val) l.val :=
  ld5 arg5 X h 10 (by decide) k _ (off13 h k) inb a l
theorem ld5_11 (arg5 : Memref sig .tc .vmem S2x12x192x128 .i32) (X : BufTy.Contents (Elt Ideal) arg5.view.ty) (h : Fin k0_t1_loop.trips) (k : Fin k0_t2_loop.trips) (inb) (a : Fin 24) (l : Fin 128) :
    View.readAt (Elt Ideal) arg5.view (Rect.unit (s := S2x12x192x128) (k0_off14 h k) ![1, 1, 24, 128] inb).toLoadRect X (ix4 0 0 a l)
      = wN (arg5.view.read (Elt Ideal) X) h.val 11 (24 * k.val + a.val) l.val :=
  ld5 arg5 X h 11 (by decide) k _ (off14 h k) inb a l
theorem off15_0 : ∀ k : Fin k0_t2_loop.trips, k0_off15 k 0#32 = ![96 * k.val + 0, 0] := by decide +kernel
theorem off15_8 : ∀ k : Fin k0_t2_loop.trips, k0_off15 k 8#32 = ![96 * k.val + 8, 0] := by decide +kernel
theorem off15_16 : ∀ k : Fin k0_t2_loop.trips, k0_off15 k 16#32 = ![96 * k.val + 16, 0] := by decide +kernel
theorem off15_24 : ∀ k : Fin k0_t2_loop.trips, k0_off15 k 24#32 = ![96 * k.val + 24, 0] := by decide +kernel
theorem off15_32 : ∀ k : Fin k0_t2_loop.trips, k0_off15 k 32#32 = ![96 * k.val + 32, 0] := by decide +kernel
theorem off15_40 : ∀ k : Fin k0_t2_loop.trips, k0_off15 k 40#32 = ![96 * k.val + 40, 0] := by decide +kernel
theorem off15_48 : ∀ k : Fin k0_t2_loop.trips, k0_off15 k 48#32 = ![96 * k.val + 48, 0] := by decide +kernel
theorem off15_56 : ∀ k : Fin k0_t2_loop.trips, k0_off15 k 56#32 = ![96 * k.val + 56, 0] := by decide +kernel
theorem off15_64 : ∀ k : Fin k0_t2_loop.trips, k0_off15 k 64#32 = ![96 * k.val + 64, 0] := by decide +kernel
theorem off15_72 : ∀ k : Fin k0_t2_loop.trips, k0_off15 k 72#32 = ![96 * k.val + 72, 0] := by decide +kernel
theorem off15_80 : ∀ k : Fin k0_t2_loop.trips, k0_off15 k 80#32 = ![96 * k.val + 80, 0] := by decide +kernel
theorem off15_88 : ∀ k : Fin k0_t2_loop.trips, k0_off15 k 88#32 = ![96 * k.val + 88, 0] := by decide +kernel

end Cert.KernelIdeal.Hand

end
-- ==== Proof.ValueTiles.lean ====
/-
  The pieces a chunk of rows stores into the accumulator, read at an element.
-/
module

public import proofs.«01_k».proof.Proof.KernelIdealLoops
public import proofs.«01_k».proof.Proof.ValueAcc
public import Idealize.ShloMosaic.Lib.Pointwise
public import Idealize.ShloMosaic.Lib.BitcastPair
public import Idealize.ShloMosaic.Lib.Writes
public import Idealize.ShloMosaic.Lib.Pipeline.ValueKit

@[expose] public section

set_option maxRecDepth 16384
set_option maxHeartbeats 40000000

noncomputable section

namespace Cert.KernelIdeal.Hand

open Cert.KernelIdeal Cert.KernelIdeal.Gen Cert.Decode
open Idealize.ShloMosaic Idealize.ShloMosaic.Tactic Idealize.ShloMosaic.Pointwise

/-- The twelve tiles of eight rows a chunk stores. -/
theorem pieces (v29 : Vec Ideal S1x48x256 .bf16) (arg5 : Memref sig .tc .vmem S2x12x192x128 .i32) (X : BufTy.Contents (Elt Ideal) arg5.view.ty) (h : Fin k0_t1_loop.trips) (k : Fin k0_t2_loop.trips) :
    (∀ (r : Fin 8) (l : Fin 128), k0_pay138 (trip_k0_t2.sl.r_114 arg5 h v29 X k) (ix2 r l) = accv v29 (arg5.view.read (Elt Ideal) X) h.val (96 * k.val + 0 + r.val) l.val) ∧
    (∀ (r : Fin 8) (l : Fin 128), k0_pay139 (trip_k0_t2.sl.r_115 arg5 h v29 X k) (ix2 r l) = accv v29 (arg5.view.read (Elt Ideal) X) h.val (96 * k.val + 8 + r.val) l.val) ∧
    (∀ (r : Fin 8) (l : Fin 128), k0_pay140 (trip_k0_t2.sl.r_116 arg5 h v29 X k) (ix2 r l) = accv v29 (arg5.view.read (Elt Ideal) X) h.val (96 * k.val + 16 + r.val) l.val) ∧
    (∀ (r : Fin 8) (l : Fin 128), (trip_k0_t2.sl.v1013 arg5 h v29 X k) (ix2 r l) = accv v29 (arg5.view.read (Elt Ideal) X) h.val (96 * k.val + 24 + r.val) l.val) ∧
    (∀ (r : Fin 8) (l : Fin 128), (trip_k0_t2.sl.v1021 arg5 h v29 X k) (ix2 r l) = accv v29 (arg5.view.read (Elt Ideal) X) h.val (96 * k.val + 32 + r.val) l.val) ∧
    (∀ (r : Fin 8) (l : Fin 128), (trip_k0_t2.sl.v1029 arg5 h v29 X k) (ix2 r l) = accv v29 (arg5.view.read (Elt Ideal) X) h.val (96 * k.val + 40 + r.val) l.val) ∧
    (∀ (r : Fin 8) (l : Fin 128), (trip_k0_t2.sl.v1037 arg5 h v29 X k) (ix2 r l) = accv v29 (arg5.view.read (Elt Ideal) X) h.val (96 * k.val + 48 + r.val) l.val) ∧
    (∀ (r : Fin 8) (l : Fin 128), (trip_k0_t2.sl.v1045 arg5 h v29 X k) (ix2 r l) = accv v29 (arg5.view.read (Elt Ideal) X) h.val (96 * k.val + 56 + r.val) l.val) ∧
    (∀ (r : Fin 8) (l : Fin 128), k0_pay146 (trip_k0_t2.sl.r_123 arg5 h v29 X k) (ix2 r l) = accv v29 (arg5.view.read (Elt Ideal) X) h.val (96 * k.val + 64 + r.val) l.val) ∧
    (∀ (r : Fin 8) (l : Fin 128), k0_pay147 (trip_k0_t2.sl.r_124 arg5 h v29 X k) (ix2 r l) = accv v29 (arg5.view.read (Elt Ideal) X) h.val (96 * k.val + 72 + r.val) l.val) ∧
    (∀ (r : Fin 8) (l : Fin 128), k0_pay148 (trip_k0_t2.sl.r_125 arg5 h v29 X k) (ix2 r l) = accv v29 (arg5.view.read (Elt Ideal) X) h.val (96 * k.val + 80 + r.val) l.val) ∧
    (∀ (r : Fin 8) (l : Fin 128), k0_pay149 (trip_k0_t2.sl.r_126 arg5 h v29 X k) (ix2 r l) = accv v29 (arg5.view.read (Elt Ideal) X) h.val (96 * k.val + 88 + r.val) l.val) := by
  refine ⟨fun r l => ?_, fun r l => ?_, fun r l => ?_, fun r l => ?_, fun r l => ?_, fun r l => ?_, fun r l => ?_, fun r l => ?_, fun r l => ?_, fun r l => ?_, fun r l => ?_, fun r l => ?_⟩
  on_goal 1 => rw [accv_piece _ _ _ _ 0 r.val _ (by decide) (by decide) r.isLt]
  on_goal 2 => rw [accv_piece _ _ _ _ 8 r.val _ (by decide) (by decide) r.isLt]
  on_goal 3 => rw [accv_piece _ _ _ _ 16 r.val _ (by decide) (by decide) r.isLt]
  on_goal 4 => rw [accv_piece _ _ _ _ 24 r.val _ (by decide) (by decide) r.isLt]
  on_goal 5 => rw [accv_piece _ _ _ _ 32 r.val _ (by decide) (by decide) r.isLt]
  on_goal 6 => rw [accv_piece _ _ _ _ 40 r.val _ (by decide) (by decide) r.isLt]
  on_goal 7 => rw [accv_piece _ _ _ _ 48 r.val _ (by decide) (by decide) r.isLt]
  on_goal 8 => rw [accv_piece _ _ _ _ 56 r.val _ (by decide) (by decide) r.isLt]
  on_goal 9 => rw [accv_piece _ _ _ _ 64 r.val _ (by decide) (by decide) r.isLt]
  on_goal 10 => rw [accv_piece _ _ _ _ 72 r.val _ (by decide) (by decide) r.isLt]
  on_goal 11 => rw [accv_piece _ _ _ _ 80 r.val _ (by decide) (by decide) r.isLt]
  on_goal 12 => rw [accv_piece _ _ _ _ 88 r.val _ (by decide) (by decide) r.isLt]
  all_goals
    sl_unfold_run_names
    pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149]
    simp only [dec, ld5_0, ld5_1, ld5_2, ld5_3, ld5_4, ld5_5, ld5_6, ld5_7, ld5_8, ld5_9, ld5_10, ld5_11, gt151, gt152, gt153, gt154, gt155, gt156, gt157, gt158, gt159, gt160, gt161, gt162, gt163, gt164, gt165, gt166, gt167, gt168, gt169, gt170, gt171, gt172, gt173, gt174]
    simp only [Fin.sum_univ_castSucc, Fin.sum_univ_zero, zero_add, Nat.reduceAdd, Fin.val_castSucc, Fin.val_last, Nat.reduceMul, Nat.reduceDiv, Nat.reduceMod]

end Cert.KernelIdeal.Hand

end
-- ==== Proof.ValueDot.lean ====
/-
  The accumulator after the chunks, and the dot products.
-/
module

public import proofs.«01_k».proof.Proof.KernelIdealLoops
public import proofs.«01_k».proof.Proof.ValueTiles
public import Idealize.ShloMosaic.Lib.Pointwise
public import Idealize.ShloMosaic.Lib.BitcastPair
public import Idealize.ShloMosaic.Lib.Writes
public import Idealize.ShloMosaic.Lib.Pipeline.ValueKit

@[expose] public section

set_option maxRecDepth 16384
set_option maxHeartbeats 4000000

noncomputable section

namespace Cert.KernelIdeal.Hand

open Cert.KernelIdeal Cert.KernelIdeal.Gen Cert.Decode
open Idealize.ShloMosaic Idealize.ShloMosaic.Tactic Idealize.ShloMosaic.Pointwise

/-- A stored tile at its row offset. -/
theorem pieceAt {G : ℕ → ℕ → EReal} {off : Fin 2 → ℕ} {o : ℕ} (hoff : off = ![o, 0]) (inb) {P : S8x128.Idx → EReal}
    (hP : ∀ (r : Fin 8) (l : Fin 128), P (ix2 r l) = G (o + r.val) l.val) (x : S8x128.Idx) :
    P x = (fun y : S768x128.Idx => G (y 0).val (y 1).val) ((Rect.unit (s := S768x128) off S8x128.size inb).emb x) := by
  subst hoff
  obtain ⟨r, l, rfl⟩ : ∃ (r : Fin 8) (l : Fin 128), x = ix2 r l := ⟨x 0, x 1, by idx_ext⟩
  rw [hP]
  show G _ _ = G _ _
  congr 1
  · exact (ValueKit.rect_emb_unit_val (s := S768x128) ![o, 0] S8x128.size inb (ix2 r l) (0 : Fin 2)).symm
  · exact ((ValueKit.rect_emb_unit_val (s := S768x128) ![o, 0] S8x128.size inb (ix2 r l) (1 : Fin 2)).trans (Nat.zero_add _)).symm

/-- The pieces one chunk stores hold the accumulator's elements. -/
theorem trip2_pieces (𝒱 : Variants) (c : Dev nD) (bd : Option 𝒱.V) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole) (a b : BitVec 32) (h : Fin k0_t1_loop.trips) (n : BitVec 32) (v29 : Vec Ideal S1x48x256 .bf16) (X5 : BufTy.Contents (Elt Ideal) arg5.view.ty) (k : Fin k0_t2_loop.trips) :
    ∀ p ∈ tripL_k0_t2 (F := Ideal) 𝒱 c bd i arg1 harg1 arg2 harg2 arg3 harg3 arg4 harg4 arg5 harg5 arg6 harg6 arg7 harg7 arg8 harg8 arg9 harg9 arg10 harg10 a b h n v29 X5 k, ∀ x : p.1.shape.Idx,
      p.2 x = (fun y : S768x128.Idx => accv v29 (arg5.view.read (Elt Ideal) X5) h.val (y 0).val (y 1).val) (p.1.emb x) := by
  unfold tripL_k0_t2 trip_k0_t2
  simp only [List.forall_mem_cons, List.not_mem_nil, false_imp_iff, implies_true, and_true]
  obtain ⟨h0, h8, h16, h24, h32, h40, h48, h56, h64, h72, h80, h88⟩ := pieces v29 arg5 X5 h k
  refine ⟨pieceAt (off15_88 k) _ h88, pieceAt (off15_80 k) _ h80, pieceAt (off15_72 k) _ h72, pieceAt (off15_64 k) _ h64, pieceAt (off15_56 k) _ h56, pieceAt (off15_48 k) _ h48, pieceAt (off15_40 k) _ h40, pieceAt (off15_32 k) _ h32, pieceAt (off15_24 k) _ h24, pieceAt (off15_16 k) _ h16, pieceAt (off15_8 k) _ h8, pieceAt (off15_0 k) _ h0⟩

end Cert.KernelIdeal.Hand

end
-- ==== Proof.Geometry.lean ====
/-
  The geometry of one sampled point at the idealized numbers, and what one point's results are.
-/
module

public import Idealize.ShloMosaic.PureOps.Ideal

@[expose] public section

noncomputable section

namespace Cert.Decode

open Idealize.ShloMosaic

/-- The width of level `l`. -/
def kw (l : ℕ) : EReal := Ideal.ofBits .f32 (if l = 3 then 0x42200000#32 else if l = 2 then 0x42A00000#32 else if l = 1 then 0x43200000#32 else 0x43A00000#32)

/-- The height of level `l`. -/
def kh (l : ℕ) : EReal := Ideal.ofBits .f32 (if l = 3 then 0x41C80000#32 else if l = 2 then 0x42480000#32 else if l = 1 then 0x42C80000#32 else 0x43480000#32)

/-- A point's coordinate in pixels. -/
def kp (x w : EReal) : EReal := x * w - Ideal.ofBits .f32 0x3F000000#32

/-- The pixel below it. -/
def kf (x w : EReal) : EReal := Ideal.liftRound Int.floor (kp x w)

/-- How far it lies above that pixel. -/
def kl (x w : EReal) : EReal := kp x w - kf x w

/-- One minus that. -/
def kc (x w : EReal) : EReal := Ideal.ofBits .f32 0x3F800000#32 - kl x w

/-- Whether the pixel below lies on the level. -/
def kv0 (x w : EReal) : BitVec 1 := Ideal.cmp .oge (kf x w) (Ideal.ofBits .f32 0x00000000#32) &&& Ideal.cmp .ole (kf x w) (w - Ideal.ofBits .f32 0x3F800000#32)

/-- Whether the pixel after it lies on the level. -/
def kv1 (x w : EReal) : BitVec 1 := Ideal.cmp .oge (kf x w) (Ideal.ofBits .f32 0xBF800000#32) &&& Ideal.cmp .ole (kf x w) (w - Ideal.ofBits .f32 0x40000000#32)

/-- A corner's dot product, or zero off the level. -/
def kd (m : BitVec 1) (d g : EReal) : EReal := if m = 1#1 then d * g else Ideal.ofBits .f32 0x00000000#32

/-- The four corners' dot products. -/
def k00 (x y w h g d : EReal) : EReal := kd (kv0 x w &&& kv0 y h) d g
def k01 (x y w h g d : EReal) : EReal := kd (kv1 x w &&& kv0 y h) d g
def k10 (x y w h g d : EReal) : EReal := kd (kv0 x w &&& kv1 y h) d g
def k11 (x y w h g d : EReal) : EReal := kd (kv1 x w &&& kv1 y h) d g

/-- The gradient of the attention weight. -/
def kda (x y w h g d0 d1 d2 d3 : EReal) : EReal :=
  kc y h * kc x w * k00 x y w h g d0 + kc y h * kl x w * k01 x y w h g d1 + kl y h * kc x w * k10 x y w h g d2 + kl y h * kl x w * k11 x y w h g d3

/-- The gradient of the point's first coordinate. -/
def kdx (x y w h g a d0 d1 d2 d3 : EReal) : EReal :=
  a * w * (kc y h * (k01 x y w h g d1 - k00 x y w h g d0) + kl y h * (k11 x y w h g d3 - k10 x y w h g d2))

/-- The gradient of the point's second coordinate. -/
def kdy (x y w h g a d0 d1 d2 d3 : EReal) : EReal :=
  a * h * (kc x w * (k10 x y w h g d2 - k00 x y w h g d0) + kl x w * (k11 x y w h g d3 - k01 x y w h g d1))

end Cert.Decode

end
-- ==== Proof.ValueRows.lean ====
/-
  The arrays of one head that the outputs are computed from, read at a row and a lane.
-/
module

public import proofs.«01_k».proof.Proof.ValueDot
public import proofs.«01_k».proof.Proof.Geometry

@[expose] public section

set_option maxRecDepth 16384
set_option maxHeartbeats 4000000

noncomputable section

namespace Cert.KernelIdeal.Hand

open Cert.KernelIdeal Cert.KernelIdeal.Gen Cert.Decode
open Idealize.ShloMosaic Idealize.ShloMosaic.Tactic Idealize.ShloMosaic.Pointwise

/-- The location of point `n` of head `h` on axis `ax` for query `q` (zero outside the block). -/
def locN (X : S2x24x2x256.Idx → EReal) (h n ax q : ℕ) : EReal :=
  if p : h < 2 ∧ n < 24 ∧ ax < 2 ∧ q < 256 then X (ix4 ⟨h, p.1⟩ ⟨n, p.2.1⟩ ⟨ax, p.2.2.1⟩ ⟨q, p.2.2.2⟩) else 0

/-- The attention weight of point `p` on level `l` of head `h` for query `q` (zero outside the block). -/
def attN (X : S2x6x4x256.Idx → EReal) (h p l q : ℕ) : EReal :=
  if b : h < 2 ∧ p < 6 ∧ l < 4 ∧ q < 256 then X (ix4 ⟨h, b.1⟩ ⟨p, b.2.1⟩ ⟨l, b.2.2.1⟩ ⟨q, b.2.2.2⟩) else 0

/-- The scale of row `R`, lane `c` of head `h` (zero outside the block). -/
def scN (X : S2x192x128.Idx → BitVec 32) (h R c : ℕ) : EReal :=
  if b : h < 2 ∧ R < 192 ∧ c < 128 then Ideal.ofBits .f32 (X (ix3 ⟨h, b.1⟩ ⟨R, b.2.1⟩ ⟨c, b.2.2⟩)) else 0

/-- The scale of `g` for query `q` (zero outside the row). -/
def gsN (v : S1x256.Idx → EReal) (q : ℕ) : EReal := if b : q < 256 then v (ix2 0 ⟨q, b⟩) else 0

/-- The dot product of row `R`, lane `c`: the four rows of the accumulator, times the row's scale. -/
def dotN (v : Vec Ideal S1x48x256 .bf16) (W : S2x12x192x128.Idx → BitVec 32) (S : S2x192x128.Idx → BitVec 32) (h R c : ℕ) : EReal :=
  (accv v W h (4 * R + 0) c + accv v W h (4 * R + 1) c + accv v W h (4 * R + 2) c + accv v W h (4 * R + 3) c) * scN S h R c

/-- Eight tiles of six rows, one after the other. -/
theorem cat8 (f : ℕ → ℕ → EReal) (v0 v1 v2 v3 v4 v5 v6 v7 : S1x6x1x128.Idx → EReal)
    (h0 : ∀ (a : Fin 6) (l : Fin 128), v0 (ix4 0 a 0 l) = f (0 + a.val) l.val)
    (h1 : ∀ (a : Fin 6) (l : Fin 128), v1 (ix4 0 a 0 l) = f (6 + a.val) l.val)
    (h2 : ∀ (a : Fin 6) (l : Fin 128), v2 (ix4 0 a 0 l) = f (12 + a.val) l.val)
    (h3 : ∀ (a : Fin 6) (l : Fin 128), v3 (ix4 0 a 0 l) = f (18 + a.val) l.val)
    (h4 : ∀ (a : Fin 6) (l : Fin 128), v4 (ix4 0 a 0 l) = f (24 + a.val) l.val)
    (h5 : ∀ (a : Fin 6) (l : Fin 128), v5 (ix4 0 a 0 l) = f (30 + a.val) l.val)
    (h6 : ∀ (a : Fin 6) (l : Fin 128), v6 (ix4 0 a 0 l) = f (36 + a.val) l.val)
    (h7 : ∀ (a : Fin 6) (l : Fin 128), v7 (ix4 0 a 0 l) = f (42 + a.val) l.val)
    (hc) (r : Fin 48) (l : Fin 128) :
    concatenate S48x128 0 [⟨S6x128, shapeCast S6x128 v0 shapeCasts_S1x6x1x128_S6x128⟩, ⟨S6x128, shapeCast S6x128 v1 shapeCasts_S1x6x1x128_S6x128⟩, ⟨S6x128, shapeCast S6x128 v2 shapeCasts_S1x6x1x128_S6x128⟩, ⟨S6x128, shapeCast S6x128 v3 shapeCasts_S1x6x1x128_S6x128⟩, ⟨S6x128, shapeCast S6x128 v4 shapeCasts_S1x6x1x128_S6x128⟩, ⟨S6x128, shapeCast S6x128 v5 shapeCasts_S1x6x1x128_S6x128⟩, ⟨S6x128, shapeCast S6x128 v6 shapeCasts_S1x6x1x128_S6x128⟩, ⟨S6x128, shapeCast S6x128 v7 shapeCasts_S1x6x1x128_S6x128⟩] hc (ix2 r l) = f r.val l.val := by
  pointwise
  have hr := r.isLt
  split_ifs <;> first
    | (refine (h0 _ _).trans (congrArg₂ f ?_ rfl); show 0 + (r.val - 0) = r.val; omega)
    | (refine (h0 _ _).trans (congrArg₂ f ?_ rfl); show 0 + r.val = r.val; omega)
    | (refine (h1 _ _).trans (congrArg₂ f ?_ rfl); show 6 + (r.val - 6) = r.val; omega)
    | (refine (h1 _ _).trans (congrArg₂ f ?_ rfl); show 6 + r.val = r.val; omega)
    | (refine (h2 _ _).trans (congrArg₂ f ?_ rfl); show 12 + (r.val - 12) = r.val; omega)
    | (refine (h2 _ _).trans (congrArg₂ f ?_ rfl); show 12 + r.val = r.val; omega)
    | (refine (h3 _ _).trans (congrArg₂ f ?_ rfl); show 18 + (r.val - 18) = r.val; omega)
    | (refine (h3 _ _).trans (congrArg₂ f ?_ rfl); show 18 + r.val = r.val; omega)
    | (refine (h4 _ _).trans (congrArg₂ f ?_ rfl); show 24 + (r.val - 24) = r.val; omega)
    | (refine (h4 _ _).trans (congrArg₂ f ?_ rfl); show 24 + r.val = r.val; omega)
    | (refine (h5 _ _).trans (congrArg₂ f ?_ rfl); show 30 + (r.val - 30) = r.val; omega)
    | (refine (h5 _ _).trans (congrArg₂ f ?_ rfl); show 30 + r.val = r.val; omega)
    | (refine (h6 _ _).trans (congrArg₂ f ?_ rfl); show 36 + (r.val - 36) = r.val; omega)
    | (refine (h6 _ _).trans (congrArg₂ f ?_ rfl); show 36 + r.val = r.val; omega)
    | (refine (h7 _ _).trans (congrArg₂ f ?_ rfl); show 42 + (r.val - 42) = r.val; omega)
    | (refine (h7 _ _).trans (congrArg₂ f ?_ rfl); show 42 + r.val = r.val; omega)
    | (exfalso; omega)

/-- Four tiles of twelve rows, one after the other. -/
theorem cat4 (f : ℕ → ℕ → EReal) (v0 v1 v2 v3 : S12x128.Idx → EReal)
    (h0 : ∀ (a : Fin 12) (l : Fin 128), v0 (ix2 a l) = f (0 + a.val) l.val)
    (h1 : ∀ (a : Fin 12) (l : Fin 128), v1 (ix2 a l) = f (12 + a.val) l.val)
    (h2 : ∀ (a : Fin 12) (l : Fin 128), v2 (ix2 a l) = f (24 + a.val) l.val)
    (h3 : ∀ (a : Fin 12) (l : Fin 128), v3 (ix2 a l) = f (36 + a.val) l.val)
    (hc) (r : Fin 48) (l : Fin 128) :
    concatenate S48x128 0 [⟨S12x128, v0⟩, ⟨S12x128, v1⟩, ⟨S12x128, v2⟩, ⟨S12x128, v3⟩] hc (ix2 r l) = f r.val l.val := by
  pointwise
  have hr := r.isLt
  split_ifs <;> first
    | (refine (h0 _ _).trans (congrArg₂ f ?_ rfl); show 0 + (r.val - 0) = r.val; omega)
    | (refine (h0 _ _).trans (congrArg₂ f ?_ rfl); show 0 + r.val = r.val; omega)
    | (refine (h1 _ _).trans (congrArg₂ f ?_ rfl); show 12 + (r.val - 12) = r.val; omega)
    | (refine (h1 _ _).trans (congrArg₂ f ?_ rfl); show 12 + r.val = r.val; omega)
    | (refine (h2 _ _).trans (congrArg₂ f ?_ rfl); show 24 + (r.val - 24) = r.val; omega)
    | (refine (h2 _ _).trans (congrArg₂ f ?_ rfl); show 24 + r.val = r.val; omega)
    | (refine (h3 _ _).trans (congrArg₂ f ?_ rfl); show 36 + (r.val - 36) = r.val; omega)
    | (refine (h3 _ _).trans (congrArg₂ f ?_ rfl); show 36 + r.val = r.val; omega)
    | (exfalso; omega)

/-- A load of six points' locations, at an index. -/
theorem ld1 (arg1 : Memref sig .tc .vmem S2x24x2x256 .f32) (X : BufTy.Contents (Elt Ideal) arg1.view.ty) (h : Fin 2) (n ax c : ℕ)
    (hn : n + 6 ≤ 24) (hax : ax < 2) (hc : c + 128 ≤ 256) (off : Fin 4 → ℕ) (hoff : off = ![h.val, n, ax, c]) (inb) (a : Fin 6) (l : Fin 128) :
    View.readAt (Elt Ideal) arg1.view (Rect.unit (s := S2x24x2x256) off S1x6x1x128.size inb).toLoadRect X (ix4 0 a 0 l)
      = locN (arg1.view.read (Elt Ideal) X) h.val (n + a.val) ax (c + l.val) := by
  subst hoff
  have hb : h.val < 2 ∧ n + a.val < 24 ∧ ax < 2 ∧ c + l.val < 256 := by omega
  rw [locN, dif_pos hb, View.readAt_apply]
  congr 1
  funext b
  refine Fin.ext ((ValueKit.rect_emb_unit_val _ _ _ _ b).trans ?_)
  match b with
  | ⟨0, _⟩ => rfl
  | ⟨1, _⟩ => rfl
  | ⟨2, _⟩ => rfl
  | ⟨3, _⟩ => rfl

/-- A load of six points' attention weights, at an index. -/
theorem ld2 (arg2 : Memref sig .tc .vmem S2x6x4x256 .f32) (X : BufTy.Contents (Elt Ideal) arg2.view.ty) (h : Fin 2) (w c : ℕ)
    (hw : w < 4) (hc : c + 128 ≤ 256) (off : Fin 4 → ℕ) (hoff : off = ![h.val, 0, w, c]) (inb) (a : Fin 6) (l : Fin 128) :
    View.readAt (Elt Ideal) arg2.view (Rect.unit (s := S2x6x4x256) off S1x6x1x128.size inb).toLoadRect X (ix4 0 a 0 l)
      = attN (arg2.view.read (Elt Ideal) X) h.val a.val w (c + l.val) := by
  subst hoff
  have hb : h.val < 2 ∧ a.val < 6 ∧ w < 4 ∧ c + l.val < 256 := by omega
  rw [attN, dif_pos hb, View.readAt_apply]
  congr 1
  funext b
  refine Fin.ext ((ValueKit.rect_emb_unit_val _ _ _ _ b).trans ?_)
  match b with
  | ⟨0, _⟩ => rfl
  | ⟨1, _⟩ => exact Nat.zero_add _
  | ⟨2, _⟩ => rfl
  | ⟨3, _⟩ => rfl

/-- The load of a head's scales, at an index. -/
theorem ld6 (arg6 : Memref sig .tc .vmem S2x192x128 .i32) (X : BufTy.Contents (Elt Ideal) arg6.view.ty) (h : Fin 2) (off : Fin 3 → ℕ) (hoff : off = ![h.val, 0, 0])
    (inb) (R : Fin 192) (l : Fin 128) :
    Ideal.ofBits .f32 (View.readAt (Elt Ideal) arg6.view (Rect.unit (s := S2x192x128) off S1x192x128.size inb).toLoadRect X (ix3 0 R l))
      = scN (arg6.view.read (Elt Ideal) X) h.val R.val l.val := by
  subst hoff
  have hb : h.val < 2 ∧ R.val < 192 ∧ l.val < 128 := by omega
  rw [scN, dif_pos hb, View.readAt_apply]
  congr 2
  funext b
  refine Fin.ext ((ValueKit.rect_emb_unit_val _ _ _ _ b).trans ?_)
  match b with
  | ⟨0, _⟩ => rfl
  | ⟨1, _⟩ => exact Nat.zero_add _
  | ⟨2, _⟩ => exact Nat.zero_add _

/-- The scale of `g`, at a row and a lane. -/
theorem gs_at (v : Vec Ideal S1x256 .f32) (r : Fin 48) (l : Fin 128) :
    k0_pay1 (F := Ideal) v (ix2 r l) = gsN v (128 * (r.val / 6 % 2) + l.val) := by
  have hr := r.isLt
  have hb : 128 * (r.val / 6 % 2) + l.val < 256 := by omega
  pointwise [k0_pay1]
  rw [gsN, dif_pos hb]
  split_ifs <;> (congr 2; refine Fin.ext ?_; first | (show l.val = _; dsimp only; omega) | (show 128 + l.val = _; dsimp only; omega))

/-- The level of a row, as the program computes it. -/
theorem level_at (r : Fin 48) :
    Scalar.select
      (IntOp.andi
        (IntOp.cmpi CmpIPredicate.ne
          (IntOp.subi (BitVec.setWidth 32 (IntOp.cmpi CmpIPredicate.sgt (BitVec.ofNat 32 r.val) 0#32))
            (BitVec.setWidth 32 (IntOp.cmpi CmpIPredicate.slt (BitVec.ofNat 32 r.val) 0#32)))
          (Scalar.subi (Scalar.extui (Scalar.cmpi CmpIPredicate.sgt 12#32 0#32))
            (Scalar.extui (Scalar.cmpi CmpIPredicate.slt 12#32 0#32))))
        (IntOp.cmpi CmpIPredicate.ne (IntOp.remsi ArithUnit.vector (BitVec.ofNat 32 r.val) 12#32) 0#32))
      (IntOp.subi (IntOp.divsi ArithUnit.vector (BitVec.ofNat 32 r.val) 12#32) 1#32)
      (IntOp.divsi ArithUnit.vector (BitVec.ofNat 32 r.val) 12#32) = BitVec.ofNat 32 (r.val / 12) := by
  revert r
  decide +kernel

/-- The levels' widths, at a row. -/
theorem w_at (r : Fin 48) (l : Fin 128) :
    k0_pay192 (F := Ideal) (iota Kind.tc S48x128 32 [0] iota_S48x128_d0_w32) (12#32) (divsi (iota Kind.tc S48x128 32 [0] iota_S48x128_d0_w32) (broadcast S48x128 12#32)) (ix2 r l) = kw (r.val / 12) := by
  pointwise [k0_pay192]
  rw [level_at]
  have hr : r.val / 12 < 4 := by have := r.isLt; omega
  generalize r.val / 12 = n at hr ⊢
  interval_cases n <;> rfl

/-- The levels' heights, at a row. -/
theorem h_at (r : Fin 48) (l : Fin 128) :
    k0_pay196 (F := Ideal) (iota Kind.tc S48x128 32 [0] iota_S48x128_d0_w32) (12#32) k0_pay193 k0_pay194 k0_pay195 (ix2 r l) = kh (r.val / 12) := by
  pointwise [k0_pay196, k0_pay193, k0_pay194, k0_pay195]
  rw [level_at]
  have hr : r.val / 12 < 4 := by have := r.isLt; omega
  generalize r.val / 12 = n at hr ⊢
  interval_cases n <;> rfl

end Cert.KernelIdeal.Hand

end
-- ==== Proof.ValueHead.lean ====
/-
  One head of a grid point: the dot products, and the pieces of the two results.
-/
module

public import proofs.«01_k».proof.Proof.ValueRows
public import Idealize.ShloMosaic.Lib.WritesUnit

@[expose] public section

set_option maxRecDepth 16384
set_option maxHeartbeats 4000000

noncomputable section

namespace Cert.KernelIdeal.Hand

open Cert.KernelIdeal Cert.KernelIdeal.Gen Cert.Decode
open Idealize.ShloMosaic Idealize.ShloMosaic.Tactic Idealize.ShloMosaic.Pointwise

/-- The pieces of the chunks before the `n`-th hold the accumulator's elements. -/
theorem pb2_pieces (𝒱 : Variants) (c : Dev nD) (bd : Option 𝒱.V) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole) (a b : BitVec 32) (h : Fin k0_t1_loop.trips) (e : BitVec 32) (v29 : Vec Ideal S1x48x256 .bf16) (X5 : BufTy.Contents (Elt Ideal) arg5.view.ty) :
    ∀ n : ℕ, n ≤ k0_t2_loop.trips → ∀ p ∈ pb_k0_t2 (F := Ideal) 𝒱 c bd i arg1 harg1 arg2 harg2 arg3 harg3 arg4 harg4 arg5 harg5 arg6 harg6 arg7 harg7 arg8 harg8 arg9 harg9 arg10 harg10 a b h e v29 X5 n, ∀ x : p.1.shape.Idx,
      p.2 x = (fun y : S768x128.Idx => accv v29 (arg5.view.read (Elt Ideal) X5) h.val (y 0).val (y 1).val) (p.1.emb x)
  | 0, _, p, hp, x => absurd hp List.not_mem_nil
  | n + 1, hn, p, hp, x => by
    rw [pb_k0_t2_succ (F := Ideal) 𝒱 c bd i arg1 harg1 arg2 harg2 arg3 harg3 arg4 harg4 arg5 harg5 arg6 harg6 arg7 harg7 arg8 harg8 arg9 harg9 arg10 harg10 a b h e v29 X5 ⟨n, hn⟩] at hp
    rcases List.mem_append.1 hp with hp | hp
    · exact trip2_pieces 𝒱 c bd i arg1 harg1 arg2 harg2 arg3 harg3 arg4 harg4 arg5 harg5 arg6 harg6 arg7 harg7 arg8 harg8 arg9 harg9 arg10 harg10 a b h e v29 X5 ⟨n, hn⟩ p hp x
    · exact pb2_pieces 𝒱 c bd i arg1 harg1 arg2 harg2 arg3 harg3 arg4 harg4 arg5 harg5 arg6 harg6 arg7 harg7 arg8 harg8 arg9 harg9 arg10 harg10 a b h e v29 X5 n (Nat.le_of_succ_le hn) p hp x

/-- The accumulator read back after the chunks. -/
abbrev accRead (𝒱 : Variants) (c : Dev nD) (bd : Option 𝒱.V) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole) (v29 : Vec Ideal S1x48x256 .bf16) (X5 : BufTy.Contents (Elt Ideal) arg5.view.ty) (k : Fin k0_t1_loop.trips) (B : LoadRect S768x128) : B.shape.Idx → EReal :=
  arg9.view.readCov (pb_k0_t2 (F := Ideal) 𝒱 c bd i arg1 harg1 arg2 harg2 arg3 harg3 arg4 harg4 arg5 harg5 arg6 harg6 arg7 harg7 arg8 harg8 arg9 harg9 arg10 harg10 (0#32) (1#32) k (Scf.iv 0#32 1#32 ↑k) v29 X5 (Scf.trips k0_t2_loop.lb k0_t2_loop.ub k0_t2_loop.st)) B

/-- It holds the accumulator's elements. -/
theorem accRead_at (𝒱 : Variants) (c : Dev nD) (bd : Option 𝒱.V) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole) (v29 : Vec Ideal S1x48x256 .bf16) (X5 : BufTy.Contents (Elt Ideal) arg5.view.ty) (k : Fin k0_t1_loop.trips) (j : ℕ) (off : Fin 2 → ℕ) (hoff : off = ![j, 0]) (inb) (R : Fin 192) (l : Fin 128) :
    accRead 𝒱 c bd i arg1 harg1 arg2 harg2 arg3 harg3 arg4 harg4 arg5 harg5 arg6 harg6 arg7 harg7 arg8 harg8 arg9 harg9 arg10 harg10 v29 X5 k { off := off, size := S192x128.size, stride := ![4, 1], inb := inb } (ix2 R l) = accv v29 (arg5.view.read (Elt Ideal) X5) k.val (4 * R.val + j) l.val := by
  subst hoff
  refine (View.read_writes_apply_of_pieces (Val := Elt Ideal) arg9.view _ (fun y : S768x128.Idx => accv v29 (arg5.view.read (Elt Ideal) X5) k.val (y 0).val (y 1).val) _ (pb2_pieces 𝒱 c bd i arg1 harg1 arg2 harg2 arg3 harg3 arg4 harg4 arg5 harg5 arg6 harg6 arg7 harg7 arg8 harg8 arg9 harg9 arg10 harg10 (0#32) (1#32) k (Scf.iv 0#32 1#32 ↑k) v29 X5 (Scf.trips k0_t2_loop.lb k0_t2_loop.ub k0_t2_loop.st) (le_refl _)) _
    (View.cover_of_tiledL (pb_k0_t2 (F := Ideal) 𝒱 c bd i arg1 harg1 arg2 harg2 arg3 harg3 arg4 harg4 arg5 harg5 arg6 harg6 arg7 harg7 arg8 harg8 arg9 harg9 arg10 harg10 (0#32) (1#32) k (Scf.iv 0#32 1#32 ↑k) v29 X5 (Scf.trips k0_t2_loop.lb k0_t2_loop.ub k0_t2_loop.st)) S8x128.size (by sl_kernel_rfl) _)).trans ?_
  show accv _ _ _ (j + 4 * R.val) (0 + 1 * l.val) = _
  congr 1 <;> omega

/-- The dot products of a head, as stored. -/
def dotArr (𝒱 : Variants) (c : Dev nD) (bd : Option 𝒱.V) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole) (X4 : BufTy.Contents (Elt Ideal) arg4.view.ty) (X5 : BufTy.Contents (Elt Ideal) arg5.view.ty) (X6 : BufTy.Contents (Elt Ideal) arg6.view.ty) (k : Fin k0_t1_loop.trips) (v29 : Vec Ideal S1x48x256 .bf16) (v89 : Vec Ideal S1x192x128 .i32) : FVec Ideal S192x128 .f32 :=
  k0_pay175 (F := Ideal)
    (accRead 𝒱 c bd i arg1 harg1 arg2 harg2 arg3 harg3 arg4 harg4 arg5 harg5 arg6 harg6 arg7 harg7 arg8 harg8 arg9 harg9 arg10 harg10 v29 X5 k { off := ![0, 0], size := S192x128.size, stride := ![4, 1], inb := inb_S768x128_S192x128_0_0_s_4_1 })
    (accRead 𝒱 c bd i arg1 harg1 arg2 harg2 arg3 harg3 arg4 harg4 arg5 harg5 arg6 harg6 arg7 harg7 arg8 harg8 arg9 harg9 arg10 harg10 v29 X5 k { off := ![1, 0], size := S192x128.size, stride := ![4, 1], inb := inb_S768x128_S192x128_1_0_s_4_1 })
    (accRead 𝒱 c bd i arg1 harg1 arg2 harg2 arg3 harg3 arg4 harg4 arg5 harg5 arg6 harg6 arg7 harg7 arg8 harg8 arg9 harg9 arg10 harg10 v29 X5 k { off := ![2, 0], size := S192x128.size, stride := ![4, 1], inb := inb_S768x128_S192x128_2_0_s_4_1 })
    (accRead 𝒱 c bd i arg1 harg1 arg2 harg2 arg3 harg3 arg4 harg4 arg5 harg5 arg6 harg6 arg7 harg7 arg8 harg8 arg9 harg9 arg10 harg10 v29 X5 k { off := ![3, 0], size := S192x128.size, stride := ![4, 1], inb := inb_S768x128_S192x128_3_0_s_4_1 })
    v89

/-- The dot products at a row and a lane. -/
theorem dotArr_at (𝒱 : Variants) (c : Dev nD) (bd : Option 𝒱.V) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole) (X4 : BufTy.Contents (Elt Ideal) arg4.view.ty) (X5 : BufTy.Contents (Elt Ideal) arg5.view.ty) (X6 : BufTy.Contents (Elt Ideal) arg6.view.ty) (k : Fin k0_t1_loop.trips) (v29 : Vec Ideal S1x48x256 .bf16) (inb) (R : Fin 192) (l : Fin 128) :
    dotArr 𝒱 c bd i arg1 harg1 arg2 harg2 arg3 harg3 arg4 harg4 arg5 harg5 arg6 harg6 arg7 harg7 arg8 harg8 arg9 harg9 arg10 harg10 X4 X5 X6 k v29 (View.readAt (Elt Ideal) arg6.view (Rect.unit (s := S2x192x128) (k0_off16 k) S1x192x128.size inb).toLoadRect X6) (ix2 R l)
      = dotN v29 (arg5.view.read (Elt Ideal) X5) (arg6.view.read (Elt Ideal) X6) k.val R.val l.val := by
  have h16 : ∀ k : Fin k0_t1_loop.trips, k0_off16 k = ![k.val, 0, 0] := by decide +kernel
  unfold dotArr
  pointwise [k0_pay175]
  unfold dotN
  rw [← ld6 arg6 X6 k _ (h16 k) inb R l]
  rw [accRead_at 𝒱 c bd i arg1 harg1 arg2 harg2 arg3 harg3 arg4 harg4 arg5 harg5 arg6 harg6 arg7 harg7 arg8 harg8 arg9 harg9 arg10 harg10 v29 X5 k 0 _ rfl, accRead_at 𝒱 c bd i arg1 harg1 arg2 harg2 arg3 harg3 arg4 harg4 arg5 harg5 arg6 harg6 arg7 harg7 arg8 harg8 arg9 harg9 arg10 harg10 v29 X5 k 1 _ rfl, accRead_at 𝒱 c bd i arg1 harg1 arg2 harg2 arg3 harg3 arg4 harg4 arg5 harg5 arg6 harg6 arg7 harg7 arg8 harg8 arg9 harg9 arg10 harg10 v29 X5 k 2 _ rfl, accRead_at 𝒱 c bd i arg1 harg1 arg2 harg2 arg3 harg3 arg4 harg4 arg5 harg5 arg6 harg6 arg7 harg7 arg8 harg8 arg9 harg9 arg10 harg10 v29 X5 k 3 _ rfl]

/-- Twelve rows of the dot products, read back. -/
theorem dotRead_at (arg10 : Memref sig .tc .vmem S192x128 .f32) (P : FVec Ideal S192x128 .f32) (inb0) (f : ℕ → ℕ → EReal) (hP : ∀ (R : Fin 192) (l : Fin 128), P (ix2 R l) = f R.val l.val)
    (o : ℕ) (off : Fin 2 → ℕ) (hoff : off = ![o, 0]) (ho : o + 12 ≤ 192) (inb) (a : Fin 12) (l : Fin 128) :
    arg10.view.readCov [(⟨Rect.unit (s := S192x128) ![0, 0] S192x128.size inb0, P⟩ : View.Piece (Elt Ideal) S192x128 .f32)] (Rect.unit (s := S192x128) off S12x128.size inb).toLoadRect (ix2 a l) = f (o + a.val) l.val := by
  subst hoff
  refine Eq.trans ?_ (hP ⟨o + a.val, by omega⟩ l)
  refine View.read_writes_cons_unit_of_mem (Val := Elt Ideal) arg10.view _ inb0 P [] _ (ix2 ⟨o + a.val, by omega⟩ l) rfl fun b => ?_
  match b with
  | ⟨0, _⟩ => show o + 1 * a.val = 0 + (o + a.val); omega
  | ⟨1, _⟩ => show 0 + 1 * l.val = 0 + l.val; omega

end Cert.KernelIdeal.Hand

end
-- ==== Proof.ValueArrays.lean ====
/-
  What one head writes into the two results: every piece holds the gradients of its points.
-/
module

public import proofs.«01_k».proof.Proof.ValueHead

@[expose] public section

set_option maxRecDepth 16384
set_option maxHeartbeats 4000000

noncomputable section

namespace Cert.KernelIdeal.Hand

open Cert.KernelIdeal Cert.KernelIdeal.Gen Cert.Decode
open Idealize.ShloMosaic Idealize.ShloMosaic.Tactic Idealize.ShloMosaic.Pointwise

/-- The `g` block of head `h`. -/
def headG (X : S2x48x256.Idx → EReal) (h : ℕ) : Vec Ideal S1x48x256 .bf16 :=
  fun j => if p : h < 2 then X (ix3 ⟨h, p⟩ (j 1) (j 2)) else 0

/-- The gradient of the attention weight of row `r`, lane `l` of head `h`. -/
def resA (v19 : S1x256.Idx → EReal) (X1 : S2x24x2x256.Idx → EReal) (X2 : S2x6x4x256.Idx → EReal) (X4 : S2x48x256.Idx → EReal) (W : S2x12x192x128.Idx → BitVec 32) (S : S2x192x128.Idx → BitVec 32) (h r l : ℕ) : EReal :=
  kda (locN X1 h (r / 12 * 6 + r % 6) 0 (128 * (r / 6 % 2) + l)) (locN X1 h (r / 12 * 6 + r % 6) 1 (128 * (r / 6 % 2) + l)) (kw (r / 12)) (kh (r / 12)) (gsN v19 (128 * (r / 6 % 2) + l)) (dotN (headG X4 h) W S h (r / 12 * 48 + 0 + r % 12) l) (dotN (headG X4 h) W S h (r / 12 * 48 + 12 + r % 12) l) (dotN (headG X4 h) W S h (r / 12 * 48 + 24 + r % 12) l) (dotN (headG X4 h) W S h (r / 12 * 48 + 36 + r % 12) l)

/-- The gradient of the location of row `r`, lane `l` of head `h` on axis `ax`. -/
def resL (v19 : S1x256.Idx → EReal) (X1 : S2x24x2x256.Idx → EReal) (X2 : S2x6x4x256.Idx → EReal) (X4 : S2x48x256.Idx → EReal) (W : S2x12x192x128.Idx → BitVec 32) (S : S2x192x128.Idx → BitVec 32) (ax h r l : ℕ) : EReal :=
  if ax = 0 then kdx (locN X1 h (r / 12 * 6 + r % 6) 0 (128 * (r / 6 % 2) + l)) (locN X1 h (r / 12 * 6 + r % 6) 1 (128 * (r / 6 % 2) + l)) (kw (r / 12)) (kh (r / 12)) (gsN v19 (128 * (r / 6 % 2) + l)) (attN X2 h (r % 6) (r / 12) (128 * (r / 6 % 2) + l)) (dotN (headG X4 h) W S h (r / 12 * 48 + 0 + r % 12) l) (dotN (headG X4 h) W S h (r / 12 * 48 + 12 + r % 12) l) (dotN (headG X4 h) W S h (r / 12 * 48 + 24 + r % 12) l) (dotN (headG X4 h) W S h (r / 12 * 48 + 36 + r % 12) l)
  else kdy (locN X1 h (r / 12 * 6 + r % 6) 0 (128 * (r / 6 % 2) + l)) (locN X1 h (r / 12 * 6 + r % 6) 1 (128 * (r / 6 % 2) + l)) (kw (r / 12)) (kh (r / 12)) (gsN v19 (128 * (r / 6 % 2) + l)) (attN X2 h (r % 6) (r / 12) (128 * (r / 6 % 2) + l)) (dotN (headG X4 h) W S h (r / 12 * 48 + 0 + r % 12) l) (dotN (headG X4 h) W S h (r / 12 * 48 + 12 + r % 12) l) (dotN (headG X4 h) W S h (r / 12 * 48 + 24 + r % 12) l) (dotN (headG X4 h) W S h (r / 12 * 48 + 36 + r % 12) l)

/-- The load of a head's `g` block. -/
theorem ld4 (arg4 : Memref sig .tc .vmem S2x48x256 .bf16) (X : BufTy.Contents (Elt Ideal) arg4.view.ty) (k : Fin k0_t1_loop.trips) (inb) :
    View.readAt (Elt Ideal) arg4.view (Rect.unit (s := S2x48x256) (k0_off2 k) S1x48x256.size inb).toLoadRect X = headG (arg4.view.read (Elt Ideal) X) k.val := by
  have h2 : ∀ k : Fin k0_t1_loop.trips, k0_off2 k = ![k.val, 0, 0] := by decide +kernel
  have h2 := h2 k
  generalize k0_off2 k = off at h2 inb
  subst h2
  funext j
  have hb : k.val < 2 := k.isLt
  rw [headG, dif_pos hb, View.readAt_apply]
  congr 1
  funext b
  refine Fin.ext ((ValueKit.rect_emb_unit_val _ _ _ _ b).trans ?_)
  match b with
  | ⟨0, _⟩ => show k.val + (j 0).val = k.val; have : (j 0).val < 1 := (j 0).isLt; omega
  | ⟨1, _⟩ => exact Nat.zero_add _
  | ⟨2, _⟩ => exact Nat.zero_add _

theorem off17 : ∀ k : Fin k0_t1_loop.trips, k0_off17 k = ![k.val, 0, 0, 0] := by decide +kernel
theorem off18 : ∀ k : Fin k0_t1_loop.trips, k0_off18 k = ![k.val, 0, 0, 128] := by decide +kernel
theorem off19 : ∀ k : Fin k0_t1_loop.trips, k0_off19 k = ![k.val, 6, 0, 0] := by decide +kernel
theorem off20 : ∀ k : Fin k0_t1_loop.trips, k0_off20 k = ![k.val, 6, 0, 128] := by decide +kernel
theorem off21 : ∀ k : Fin k0_t1_loop.trips, k0_off21 k = ![k.val, 12, 0, 0] := by decide +kernel
theorem off22 : ∀ k : Fin k0_t1_loop.trips, k0_off22 k = ![k.val, 12, 0, 128] := by decide +kernel
theorem off23 : ∀ k : Fin k0_t1_loop.trips, k0_off23 k = ![k.val, 18, 0, 0] := by decide +kernel
theorem off24 : ∀ k : Fin k0_t1_loop.trips, k0_off24 k = ![k.val, 18, 0, 128] := by decide +kernel
theorem off25 : ∀ k : Fin k0_t1_loop.trips, k0_off25 k = ![k.val, 0, 1, 0] := by decide +kernel
theorem off26 : ∀ k : Fin k0_t1_loop.trips, k0_off26 k = ![k.val, 0, 1, 128] := by decide +kernel
theorem off27 : ∀ k : Fin k0_t1_loop.trips, k0_off27 k = ![k.val, 6, 1, 0] := by decide +kernel
theorem off28 : ∀ k : Fin k0_t1_loop.trips, k0_off28 k = ![k.val, 6, 1, 128] := by decide +kernel
theorem off29 : ∀ k : Fin k0_t1_loop.trips, k0_off29 k = ![k.val, 12, 1, 0] := by decide +kernel
theorem off30 : ∀ k : Fin k0_t1_loop.trips, k0_off30 k = ![k.val, 12, 1, 128] := by decide +kernel
theorem off31 : ∀ k : Fin k0_t1_loop.trips, k0_off31 k = ![k.val, 18, 1, 0] := by decide +kernel
theorem off32 : ∀ k : Fin k0_t1_loop.trips, k0_off32 k = ![k.val, 18, 1, 128] := by decide +kernel
theorem off33 : ∀ k : Fin k0_t1_loop.trips, k0_off33 k = ![k.val, 0, 0, 0] := by decide +kernel
theorem off34 : ∀ k : Fin k0_t1_loop.trips, k0_off34 k = ![k.val, 0, 0, 128] := by decide +kernel
theorem off35 : ∀ k : Fin k0_t1_loop.trips, k0_off35 k = ![k.val, 0, 1, 0] := by decide +kernel
theorem off36 : ∀ k : Fin k0_t1_loop.trips, k0_off36 k = ![k.val, 0, 1, 128] := by decide +kernel
theorem off37 : ∀ k : Fin k0_t1_loop.trips, k0_off37 k = ![k.val, 0, 2, 0] := by decide +kernel
theorem off38 : ∀ k : Fin k0_t1_loop.trips, k0_off38 k = ![k.val, 0, 2, 128] := by decide +kernel
theorem off39 : ∀ k : Fin k0_t1_loop.trips, k0_off39 k = ![k.val, 0, 3, 0] := by decide +kernel
theorem off40 : ∀ k : Fin k0_t1_loop.trips, k0_off40 k = ![k.val, 0, 3, 128] := by decide +kernel

/-- The first coordinates. -/
def XA (arg1 : Memref sig .tc .vmem S2x24x2x256 .f32) (X1 : BufTy.Contents (Elt Ideal) arg1.view.ty) (k : Fin k0_t1_loop.trips) : FVec Ideal S48x128 .f32 :=
  concatenate S48x128 0 [⟨S6x128, shapeCast S6x128 (View.readAt (Elt Ideal) arg1.view (Rect.unit (s := S2x24x2x256) (k0_off17 k) S1x6x1x128.size (k0_off17_inb k)).toLoadRect X1) shapeCasts_S1x6x1x128_S6x128⟩, ⟨S6x128, shapeCast S6x128 (View.readAt (Elt Ideal) arg1.view (Rect.unit (s := S2x24x2x256) (k0_off18 k) S1x6x1x128.size (k0_off18_inb k)).toLoadRect X1) shapeCasts_S1x6x1x128_S6x128⟩, ⟨S6x128, shapeCast S6x128 (View.readAt (Elt Ideal) arg1.view (Rect.unit (s := S2x24x2x256) (k0_off19 k) S1x6x1x128.size (k0_off19_inb k)).toLoadRect X1) shapeCasts_S1x6x1x128_S6x128⟩, ⟨S6x128, shapeCast S6x128 (View.readAt (Elt Ideal) arg1.view (Rect.unit (s := S2x24x2x256) (k0_off20 k) S1x6x1x128.size (k0_off20_inb k)).toLoadRect X1) shapeCasts_S1x6x1x128_S6x128⟩, ⟨S6x128, shapeCast S6x128 (View.readAt (Elt Ideal) arg1.view (Rect.unit (s := S2x24x2x256) (k0_off21 k) S1x6x1x128.size (k0_off21_inb k)).toLoadRect X1) shapeCasts_S1x6x1x128_S6x128⟩, ⟨S6x128, shapeCast S6x128 (View.readAt (Elt Ideal) arg1.view (Rect.unit (s := S2x24x2x256) (k0_off22 k) S1x6x1x128.size (k0_off22_inb k)).toLoadRect X1) shapeCasts_S1x6x1x128_S6x128⟩, ⟨S6x128, shapeCast S6x128 (View.readAt (Elt Ideal) arg1.view (Rect.unit (s := S2x24x2x256) (k0_off23 k) S1x6x1x128.size (k0_off23_inb k)).toLoadRect X1) shapeCasts_S1x6x1x128_S6x128⟩, ⟨S6x128, shapeCast S6x128 (View.readAt (Elt Ideal) arg1.view (Rect.unit (s := S2x24x2x256) (k0_off24 k) S1x6x1x128.size (k0_off24_inb k)).toLoadRect X1) shapeCasts_S1x6x1x128_S6x128⟩] concatenates_S6x128_S6x128_S6x128_S6x128_S6x128_S6x128_S6x128_S6x128_S48x128_d0

theorem XA_at (arg1 : Memref sig .tc .vmem S2x24x2x256 .f32) (X1 : BufTy.Contents (Elt Ideal) arg1.view.ty) (k : Fin k0_t1_loop.trips) (r : Fin 48) (l : Fin 128) :
    XA arg1 X1 k (ix2 r l) = locN (arg1.view.read (Elt Ideal) X1) k.val (r.val / 12 * 6 + r.val % 6) 0 (128 * (r.val / 6 % 2) + l.val) := by
  unfold XA
  refine cat8 (fun r l => locN (arg1.view.read (Elt Ideal) X1) k.val (r / 12 * 6 + r % 6) 0 (128 * (r / 6 % 2) + l)) _ _ _ _ _ _ _ _ ?_ ?_ ?_ ?_ ?_ ?_ ?_ ?_ _ r l
  · intro a l; refine (ld1 arg1 X1 k 0 0 0 (by decide) (by decide) (by decide) _ (off17 k) _ a l).trans ?_; congr 1 <;> omega
  · intro a l; refine (ld1 arg1 X1 k 0 0 128 (by decide) (by decide) (by decide) _ (off18 k) _ a l).trans ?_; congr 1 <;> omega
  · intro a l; refine (ld1 arg1 X1 k 6 0 0 (by decide) (by decide) (by decide) _ (off19 k) _ a l).trans ?_; congr 1 <;> omega
  · intro a l; refine (ld1 arg1 X1 k 6 0 128 (by decide) (by decide) (by decide) _ (off20 k) _ a l).trans ?_; congr 1 <;> omega
  · intro a l; refine (ld1 arg1 X1 k 12 0 0 (by decide) (by decide) (by decide) _ (off21 k) _ a l).trans ?_; congr 1 <;> omega
  · intro a l; refine (ld1 arg1 X1 k 12 0 128 (by decide) (by decide) (by decide) _ (off22 k) _ a l).trans ?_; congr 1 <;> omega
  · intro a l; refine (ld1 arg1 X1 k 18 0 0 (by decide) (by decide) (by decide) _ (off23 k) _ a l).trans ?_; congr 1 <;> omega
  · intro a l; refine (ld1 arg1 X1 k 18 0 128 (by decide) (by decide) (by decide) _ (off24 k) _ a l).trans ?_; congr 1 <;> omega

/-- The second coordinates. -/
def YA (arg1 : Memref sig .tc .vmem S2x24x2x256 .f32) (X1 : BufTy.Contents (Elt Ideal) arg1.view.ty) (k : Fin k0_t1_loop.trips) : FVec Ideal S48x128 .f32 :=
  concatenate S48x128 0 [⟨S6x128, shapeCast S6x128 (View.readAt (Elt Ideal) arg1.view (Rect.unit (s := S2x24x2x256) (k0_off25 k) S1x6x1x128.size (k0_off25_inb k)).toLoadRect X1) shapeCasts_S1x6x1x128_S6x128⟩, ⟨S6x128, shapeCast S6x128 (View.readAt (Elt Ideal) arg1.view (Rect.unit (s := S2x24x2x256) (k0_off26 k) S1x6x1x128.size (k0_off26_inb k)).toLoadRect X1) shapeCasts_S1x6x1x128_S6x128⟩, ⟨S6x128, shapeCast S6x128 (View.readAt (Elt Ideal) arg1.view (Rect.unit (s := S2x24x2x256) (k0_off27 k) S1x6x1x128.size (k0_off27_inb k)).toLoadRect X1) shapeCasts_S1x6x1x128_S6x128⟩, ⟨S6x128, shapeCast S6x128 (View.readAt (Elt Ideal) arg1.view (Rect.unit (s := S2x24x2x256) (k0_off28 k) S1x6x1x128.size (k0_off28_inb k)).toLoadRect X1) shapeCasts_S1x6x1x128_S6x128⟩, ⟨S6x128, shapeCast S6x128 (View.readAt (Elt Ideal) arg1.view (Rect.unit (s := S2x24x2x256) (k0_off29 k) S1x6x1x128.size (k0_off29_inb k)).toLoadRect X1) shapeCasts_S1x6x1x128_S6x128⟩, ⟨S6x128, shapeCast S6x128 (View.readAt (Elt Ideal) arg1.view (Rect.unit (s := S2x24x2x256) (k0_off30 k) S1x6x1x128.size (k0_off30_inb k)).toLoadRect X1) shapeCasts_S1x6x1x128_S6x128⟩, ⟨S6x128, shapeCast S6x128 (View.readAt (Elt Ideal) arg1.view (Rect.unit (s := S2x24x2x256) (k0_off31 k) S1x6x1x128.size (k0_off31_inb k)).toLoadRect X1) shapeCasts_S1x6x1x128_S6x128⟩, ⟨S6x128, shapeCast S6x128 (View.readAt (Elt Ideal) arg1.view (Rect.unit (s := S2x24x2x256) (k0_off32 k) S1x6x1x128.size (k0_off32_inb k)).toLoadRect X1) shapeCasts_S1x6x1x128_S6x128⟩] concatenates_S6x128_S6x128_S6x128_S6x128_S6x128_S6x128_S6x128_S6x128_S48x128_d0

theorem YA_at (arg1 : Memref sig .tc .vmem S2x24x2x256 .f32) (X1 : BufTy.Contents (Elt Ideal) arg1.view.ty) (k : Fin k0_t1_loop.trips) (r : Fin 48) (l : Fin 128) :
    YA arg1 X1 k (ix2 r l) = locN (arg1.view.read (Elt Ideal) X1) k.val (r.val / 12 * 6 + r.val % 6) 1 (128 * (r.val / 6 % 2) + l.val) := by
  unfold YA
  refine cat8 (fun r l => locN (arg1.view.read (Elt Ideal) X1) k.val (r / 12 * 6 + r % 6) 1 (128 * (r / 6 % 2) + l)) _ _ _ _ _ _ _ _ ?_ ?_ ?_ ?_ ?_ ?_ ?_ ?_ _ r l
  · intro a l; refine (ld1 arg1 X1 k 0 1 0 (by decide) (by decide) (by decide) _ (off25 k) _ a l).trans ?_; congr 1 <;> omega
  · intro a l; refine (ld1 arg1 X1 k 0 1 128 (by decide) (by decide) (by decide) _ (off26 k) _ a l).trans ?_; congr 1 <;> omega
  · intro a l; refine (ld1 arg1 X1 k 6 1 0 (by decide) (by decide) (by decide) _ (off27 k) _ a l).trans ?_; congr 1 <;> omega
  · intro a l; refine (ld1 arg1 X1 k 6 1 128 (by decide) (by decide) (by decide) _ (off28 k) _ a l).trans ?_; congr 1 <;> omega
  · intro a l; refine (ld1 arg1 X1 k 12 1 0 (by decide) (by decide) (by decide) _ (off29 k) _ a l).trans ?_; congr 1 <;> omega
  · intro a l; refine (ld1 arg1 X1 k 12 1 128 (by decide) (by decide) (by decide) _ (off30 k) _ a l).trans ?_; congr 1 <;> omega
  · intro a l; refine (ld1 arg1 X1 k 18 1 0 (by decide) (by decide) (by decide) _ (off31 k) _ a l).trans ?_; congr 1 <;> omega
  · intro a l; refine (ld1 arg1 X1 k 18 1 128 (by decide) (by decide) (by decide) _ (off32 k) _ a l).trans ?_; congr 1 <;> omega

/-- The attention weights. -/
def AA (arg2 : Memref sig .tc .vmem S2x6x4x256 .f32) (X2 : BufTy.Contents (Elt Ideal) arg2.view.ty) (k : Fin k0_t1_loop.trips) : FVec Ideal S48x128 .f32 :=
  concatenate S48x128 0 [⟨S6x128, shapeCast S6x128 (View.readAt (Elt Ideal) arg2.view (Rect.unit (s := S2x6x4x256) (k0_off33 k) S1x6x1x128.size (k0_off33_inb k)).toLoadRect X2) shapeCasts_S1x6x1x128_S6x128⟩, ⟨S6x128, shapeCast S6x128 (View.readAt (Elt Ideal) arg2.view (Rect.unit (s := S2x6x4x256) (k0_off34 k) S1x6x1x128.size (k0_off34_inb k)).toLoadRect X2) shapeCasts_S1x6x1x128_S6x128⟩, ⟨S6x128, shapeCast S6x128 (View.readAt (Elt Ideal) arg2.view (Rect.unit (s := S2x6x4x256) (k0_off35 k) S1x6x1x128.size (k0_off35_inb k)).toLoadRect X2) shapeCasts_S1x6x1x128_S6x128⟩, ⟨S6x128, shapeCast S6x128 (View.readAt (Elt Ideal) arg2.view (Rect.unit (s := S2x6x4x256) (k0_off36 k) S1x6x1x128.size (k0_off36_inb k)).toLoadRect X2) shapeCasts_S1x6x1x128_S6x128⟩, ⟨S6x128, shapeCast S6x128 (View.readAt (Elt Ideal) arg2.view (Rect.unit (s := S2x6x4x256) (k0_off37 k) S1x6x1x128.size (k0_off37_inb k)).toLoadRect X2) shapeCasts_S1x6x1x128_S6x128⟩, ⟨S6x128, shapeCast S6x128 (View.readAt (Elt Ideal) arg2.view (Rect.unit (s := S2x6x4x256) (k0_off38 k) S1x6x1x128.size (k0_off38_inb k)).toLoadRect X2) shapeCasts_S1x6x1x128_S6x128⟩, ⟨S6x128, shapeCast S6x128 (View.readAt (Elt Ideal) arg2.view (Rect.unit (s := S2x6x4x256) (k0_off39 k) S1x6x1x128.size (k0_off39_inb k)).toLoadRect X2) shapeCasts_S1x6x1x128_S6x128⟩, ⟨S6x128, shapeCast S6x128 (View.readAt (Elt Ideal) arg2.view (Rect.unit (s := S2x6x4x256) (k0_off40 k) S1x6x1x128.size (k0_off40_inb k)).toLoadRect X2) shapeCasts_S1x6x1x128_S6x128⟩] concatenates_S6x128_S6x128_S6x128_S6x128_S6x128_S6x128_S6x128_S6x128_S48x128_d0

theorem AA_at (arg2 : Memref sig .tc .vmem S2x6x4x256 .f32) (X2 : BufTy.Contents (Elt Ideal) arg2.view.ty) (k : Fin k0_t1_loop.trips) (r : Fin 48) (l : Fin 128) :
    AA arg2 X2 k (ix2 r l) = attN (arg2.view.read (Elt Ideal) X2) k.val (r.val % 6) (r.val / 12) (128 * (r.val / 6 % 2) + l.val) := by
  unfold AA
  refine cat8 (fun r l => attN (arg2.view.read (Elt Ideal) X2) k.val (r % 6) (r / 12) (128 * (r / 6 % 2) + l)) _ _ _ _ _ _ _ _ ?_ ?_ ?_ ?_ ?_ ?_ ?_ ?_ _ r l
  · intro a l; refine (ld2 arg2 X2 k 0 0 (by decide) (by decide) _ (off33 k) _ a l).trans ?_; congr 1 <;> omega
  · intro a l; refine (ld2 arg2 X2 k 0 128 (by decide) (by decide) _ (off34 k) _ a l).trans ?_; congr 1 <;> omega
  · intro a l; refine (ld2 arg2 X2 k 1 0 (by decide) (by decide) _ (off35 k) _ a l).trans ?_; congr 1 <;> omega
  · intro a l; refine (ld2 arg2 X2 k 1 128 (by decide) (by decide) _ (off36 k) _ a l).trans ?_; congr 1 <;> omega
  · intro a l; refine (ld2 arg2 X2 k 2 0 (by decide) (by decide) _ (off37 k) _ a l).trans ?_; congr 1 <;> omega
  · intro a l; refine (ld2 arg2 X2 k 2 128 (by decide) (by decide) _ (off38 k) _ a l).trans ?_; congr 1 <;> omega
  · intro a l; refine (ld2 arg2 X2 k 3 0 (by decide) (by decide) _ (off39 k) _ a l).trans ?_; congr 1 <;> omega
  · intro a l; refine (ld2 arg2 X2 k 3 128 (by decide) (by decide) _ (off40 k) _ a l).trans ?_; congr 1 <;> omega

/-- The levels' widths and heights. -/
abbrev WA : FVec Ideal S48x128 .f32 := k0_pay192 (F := Ideal) (iota Kind.tc S48x128 32 [0] iota_S48x128_d0_w32) (12#32) (divsi (iota Kind.tc S48x128 32 [0] iota_S48x128_d0_w32) (broadcast S48x128 12#32))
abbrev HA : FVec Ideal S48x128 .f32 := k0_pay196 (F := Ideal) (iota Kind.tc S48x128 32 [0] iota_S48x128_d0_w32) (12#32) k0_pay193 k0_pay194 k0_pay195

theorem WA_at (r : Fin 48) (l : Fin 128) : WA (ix2 r l) = kw (r.val / 12) := w_at r l
theorem HA_at (r : Fin 48) (l : Fin 128) : HA (ix2 r l) = kh (r.val / 12) := h_at r l

/-- Corner 0's dot products in the order of the rows. -/
abbrev D0 (arg10 : Memref sig .tc .vmem S192x128 .f32) (P : FVec Ideal S192x128 .f32) : FVec Ideal S48x128 .f32 :=
  concatenate S48x128 0 [⟨S12x128, (arg10.view.readCov [(⟨Rect.unit (s := S192x128) ![0, 0] S192x128.size inb_S192x128_S192x128_0_0, P⟩ : View.Piece (Elt Ideal) S192x128 .f32)] (Rect.unit (s := S192x128) ![0, 0] S12x128.size inb_S192x128_S12x128_0_0).toLoadRect)⟩, ⟨S12x128, (arg10.view.readCov [(⟨Rect.unit (s := S192x128) ![0, 0] S192x128.size inb_S192x128_S192x128_0_0, P⟩ : View.Piece (Elt Ideal) S192x128 .f32)] (Rect.unit (s := S192x128) ![48, 0] S12x128.size inb_S192x128_S12x128_48_0).toLoadRect)⟩, ⟨S12x128, (arg10.view.readCov [(⟨Rect.unit (s := S192x128) ![0, 0] S192x128.size inb_S192x128_S192x128_0_0, P⟩ : View.Piece (Elt Ideal) S192x128 .f32)] (Rect.unit (s := S192x128) ![96, 0] S12x128.size inb_S192x128_S12x128_96_0).toLoadRect)⟩, ⟨S12x128, (arg10.view.readCov [(⟨Rect.unit (s := S192x128) ![0, 0] S192x128.size inb_S192x128_S192x128_0_0, P⟩ : View.Piece (Elt Ideal) S192x128 .f32)] (Rect.unit (s := S192x128) ![144, 0] S12x128.size inb_S192x128_S12x128_144_0).toLoadRect)⟩] concatenates_S12x128_S12x128_S12x128_S12x128_S48x128_d0

theorem D0_at (arg10 : Memref sig .tc .vmem S192x128 .f32) (P : FVec Ideal S192x128 .f32) (f : ℕ → ℕ → EReal) (hP : ∀ (R : Fin 192) (l : Fin 128), P (ix2 R l) = f R.val l.val) (r : Fin 48) (l : Fin 128) :
    D0 arg10 P (ix2 r l) = f (r.val / 12 * 48 + 0 + r.val % 12) l.val := by
  refine cat4 (fun r l => f (r / 12 * 48 + 0 + r % 12) l) _ _ _ _ ?_ ?_ ?_ ?_ _ r l
  · intro a l; refine (dotRead_at arg10 P _ f hP 0 _ rfl (by decide) _ a l).trans ?_; congr 1; omega
  · intro a l; refine (dotRead_at arg10 P _ f hP 48 _ rfl (by decide) _ a l).trans ?_; congr 1; omega
  · intro a l; refine (dotRead_at arg10 P _ f hP 96 _ rfl (by decide) _ a l).trans ?_; congr 1; omega
  · intro a l; refine (dotRead_at arg10 P _ f hP 144 _ rfl (by decide) _ a l).trans ?_; congr 1; omega

/-- Corner 1's dot products in the order of the rows. -/
abbrev D1 (arg10 : Memref sig .tc .vmem S192x128 .f32) (P : FVec Ideal S192x128 .f32) : FVec Ideal S48x128 .f32 :=
  concatenate S48x128 0 [⟨S12x128, (arg10.view.readCov [(⟨Rect.unit (s := S192x128) ![0, 0] S192x128.size inb_S192x128_S192x128_0_0, P⟩ : View.Piece (Elt Ideal) S192x128 .f32)] (Rect.unit (s := S192x128) ![12, 0] S12x128.size inb_S192x128_S12x128_12_0).toLoadRect)⟩, ⟨S12x128, (arg10.view.readCov [(⟨Rect.unit (s := S192x128) ![0, 0] S192x128.size inb_S192x128_S192x128_0_0, P⟩ : View.Piece (Elt Ideal) S192x128 .f32)] (Rect.unit (s := S192x128) ![60, 0] S12x128.size inb_S192x128_S12x128_60_0).toLoadRect)⟩, ⟨S12x128, (arg10.view.readCov [(⟨Rect.unit (s := S192x128) ![0, 0] S192x128.size inb_S192x128_S192x128_0_0, P⟩ : View.Piece (Elt Ideal) S192x128 .f32)] (Rect.unit (s := S192x128) ![108, 0] S12x128.size inb_S192x128_S12x128_108_0).toLoadRect)⟩, ⟨S12x128, (arg10.view.readCov [(⟨Rect.unit (s := S192x128) ![0, 0] S192x128.size inb_S192x128_S192x128_0_0, P⟩ : View.Piece (Elt Ideal) S192x128 .f32)] (Rect.unit (s := S192x128) ![156, 0] S12x128.size inb_S192x128_S12x128_156_0).toLoadRect)⟩] concatenates_S12x128_S12x128_S12x128_S12x128_S48x128_d0

theorem D1_at (arg10 : Memref sig .tc .vmem S192x128 .f32) (P : FVec Ideal S192x128 .f32) (f : ℕ → ℕ → EReal) (hP : ∀ (R : Fin 192) (l : Fin 128), P (ix2 R l) = f R.val l.val) (r : Fin 48) (l : Fin 128) :
    D1 arg10 P (ix2 r l) = f (r.val / 12 * 48 + 12 + r.val % 12) l.val := by
  refine cat4 (fun r l => f (r / 12 * 48 + 12 + r % 12) l) _ _ _ _ ?_ ?_ ?_ ?_ _ r l
  · intro a l; refine (dotRead_at arg10 P _ f hP 12 _ rfl (by decide) _ a l).trans ?_; congr 1; omega
  · intro a l; refine (dotRead_at arg10 P _ f hP 60 _ rfl (by decide) _ a l).trans ?_; congr 1; omega
  · intro a l; refine (dotRead_at arg10 P _ f hP 108 _ rfl (by decide) _ a l).trans ?_; congr 1; omega
  · intro a l; refine (dotRead_at arg10 P _ f hP 156 _ rfl (by decide) _ a l).trans ?_; congr 1; omega

/-- Corner 2's dot products in the order of the rows. -/
abbrev D2 (arg10 : Memref sig .tc .vmem S192x128 .f32) (P : FVec Ideal S192x128 .f32) : FVec Ideal S48x128 .f32 :=
  concatenate S48x128 0 [⟨S12x128, (arg10.view.readCov [(⟨Rect.unit (s := S192x128) ![0, 0] S192x128.size inb_S192x128_S192x128_0_0, P⟩ : View.Piece (Elt Ideal) S192x128 .f32)] (Rect.unit (s := S192x128) ![24, 0] S12x128.size inb_S192x128_S12x128_24_0).toLoadRect)⟩, ⟨S12x128, (arg10.view.readCov [(⟨Rect.unit (s := S192x128) ![0, 0] S192x128.size inb_S192x128_S192x128_0_0, P⟩ : View.Piece (Elt Ideal) S192x128 .f32)] (Rect.unit (s := S192x128) ![72, 0] S12x128.size inb_S192x128_S12x128_72_0).toLoadRect)⟩, ⟨S12x128, (arg10.view.readCov [(⟨Rect.unit (s := S192x128) ![0, 0] S192x128.size inb_S192x128_S192x128_0_0, P⟩ : View.Piece (Elt Ideal) S192x128 .f32)] (Rect.unit (s := S192x128) ![120, 0] S12x128.size inb_S192x128_S12x128_120_0).toLoadRect)⟩, ⟨S12x128, (arg10.view.readCov [(⟨Rect.unit (s := S192x128) ![0, 0] S192x128.size inb_S192x128_S192x128_0_0, P⟩ : View.Piece (Elt Ideal) S192x128 .f32)] (Rect.unit (s := S192x128) ![168, 0] S12x128.size inb_S192x128_S12x128_168_0).toLoadRect)⟩] concatenates_S12x128_S12x128_S12x128_S12x128_S48x128_d0

theorem D2_at (arg10 : Memref sig .tc .vmem S192x128 .f32) (P : FVec Ideal S192x128 .f32) (f : ℕ → ℕ → EReal) (hP : ∀ (R : Fin 192) (l : Fin 128), P (ix2 R l) = f R.val l.val) (r : Fin 48) (l : Fin 128) :
    D2 arg10 P (ix2 r l) = f (r.val / 12 * 48 + 24 + r.val % 12) l.val := by
  refine cat4 (fun r l => f (r / 12 * 48 + 24 + r % 12) l) _ _ _ _ ?_ ?_ ?_ ?_ _ r l
  · intro a l; refine (dotRead_at arg10 P _ f hP 24 _ rfl (by decide) _ a l).trans ?_; congr 1; omega
  · intro a l; refine (dotRead_at arg10 P _ f hP 72 _ rfl (by decide) _ a l).trans ?_; congr 1; omega
  · intro a l; refine (dotRead_at arg10 P _ f hP 120 _ rfl (by decide) _ a l).trans ?_; congr 1; omega
  · intro a l; refine (dotRead_at arg10 P _ f hP 168 _ rfl (by decide) _ a l).trans ?_; congr 1; omega

/-- Corner 3's dot products in the order of the rows. -/
abbrev D3 (arg10 : Memref sig .tc .vmem S192x128 .f32) (P : FVec Ideal S192x128 .f32) : FVec Ideal S48x128 .f32 :=
  concatenate S48x128 0 [⟨S12x128, (arg10.view.readCov [(⟨Rect.unit (s := S192x128) ![0, 0] S192x128.size inb_S192x128_S192x128_0_0, P⟩ : View.Piece (Elt Ideal) S192x128 .f32)] (Rect.unit (s := S192x128) ![36, 0] S12x128.size inb_S192x128_S12x128_36_0).toLoadRect)⟩, ⟨S12x128, (arg10.view.readCov [(⟨Rect.unit (s := S192x128) ![0, 0] S192x128.size inb_S192x128_S192x128_0_0, P⟩ : View.Piece (Elt Ideal) S192x128 .f32)] (Rect.unit (s := S192x128) ![84, 0] S12x128.size inb_S192x128_S12x128_84_0).toLoadRect)⟩, ⟨S12x128, (arg10.view.readCov [(⟨Rect.unit (s := S192x128) ![0, 0] S192x128.size inb_S192x128_S192x128_0_0, P⟩ : View.Piece (Elt Ideal) S192x128 .f32)] (Rect.unit (s := S192x128) ![132, 0] S12x128.size inb_S192x128_S12x128_132_0).toLoadRect)⟩, ⟨S12x128, (arg10.view.readCov [(⟨Rect.unit (s := S192x128) ![0, 0] S192x128.size inb_S192x128_S192x128_0_0, P⟩ : View.Piece (Elt Ideal) S192x128 .f32)] (Rect.unit (s := S192x128) ![180, 0] S12x128.size inb_S192x128_S12x128_180_0).toLoadRect)⟩] concatenates_S12x128_S12x128_S12x128_S12x128_S48x128_d0

theorem D3_at (arg10 : Memref sig .tc .vmem S192x128 .f32) (P : FVec Ideal S192x128 .f32) (f : ℕ → ℕ → EReal) (hP : ∀ (R : Fin 192) (l : Fin 128), P (ix2 R l) = f R.val l.val) (r : Fin 48) (l : Fin 128) :
    D3 arg10 P (ix2 r l) = f (r.val / 12 * 48 + 36 + r.val % 12) l.val := by
  refine cat4 (fun r l => f (r / 12 * 48 + 36 + r % 12) l) _ _ _ _ ?_ ?_ ?_ ?_ _ r l
  · intro a l; refine (dotRead_at arg10 P _ f hP 36 _ rfl (by decide) _ a l).trans ?_; congr 1; omega
  · intro a l; refine (dotRead_at arg10 P _ f hP 84 _ rfl (by decide) _ a l).trans ?_; congr 1; omega
  · intro a l; refine (dotRead_at arg10 P _ f hP 132 _ rfl (by decide) _ a l).trans ?_; congr 1; omega
  · intro a l; refine (dotRead_at arg10 P _ f hP 180 _ rfl (by decide) _ a l).trans ?_; congr 1; omega

/-- The gradients of the second coordinates. -/
def DYA (arg10 : Memref sig .tc .vmem S192x128 .f32) (P : FVec Ideal S192x128 .f32) (G X Y A : FVec Ideal S48x128 .f32) : FVec Ideal S48x128 .f32 :=
  k0_pay215 A HA (k0_pay201 X WA) (k0_pay207 (k0_pay201 X WA)) (k0_pay209 G HA (k0_pay200 Y (iota Kind.tc S48x128 32 [0] iota_S48x128_d0_w32) (12#32) k0_pay193 k0_pay194 k0_pay195) (k0_pay203 X WA) (arg10.view.readCov [(⟨Rect.unit (s := S192x128) ![0, 0] S192x128.size inb_S192x128_S192x128_0_0, P⟩ : View.Piece (Elt Ideal) S192x128 .f32)] (Rect.unit (s := S192x128) ![0, 0] S12x128.size inb_S192x128_S12x128_0_0).toLoadRect) (arg10.view.readCov [(⟨Rect.unit (s := S192x128) ![0, 0] S192x128.size inb_S192x128_S192x128_0_0, P⟩ : View.Piece (Elt Ideal) S192x128 .f32)] (Rect.unit (s := S192x128) ![48, 0] S12x128.size inb_S192x128_S12x128_48_0).toLoadRect) (arg10.view.readCov [(⟨Rect.unit (s := S192x128) ![0, 0] S192x128.size inb_S192x128_S192x128_0_0, P⟩ : View.Piece (Elt Ideal) S192x128 .f32)] (Rect.unit (s := S192x128) ![96, 0] S12x128.size inb_S192x128_S12x128_96_0).toLoadRect) (arg10.view.readCov [(⟨Rect.unit (s := S192x128) ![0, 0] S192x128.size inb_S192x128_S192x128_0_0, P⟩ : View.Piece (Elt Ideal) S192x128 .f32)] (Rect.unit (s := S192x128) ![144, 0] S12x128.size inb_S192x128_S12x128_144_0).toLoadRect)) (k0_pay210 G (k0_pay204 WA (k0_pay199 X WA)) (k0_pay205 HA (k0_pay200 Y (iota Kind.tc S48x128 32 [0] iota_S48x128_d0_w32) (12#32) k0_pay193 k0_pay194 k0_pay195)) (arg10.view.readCov [(⟨Rect.unit (s := S192x128) ![0, 0] S192x128.size inb_S192x128_S192x128_0_0, P⟩ : View.Piece (Elt Ideal) S192x128 .f32)] (Rect.unit (s := S192x128) ![12, 0] S12x128.size inb_S192x128_S12x128_12_0).toLoadRect) (arg10.view.readCov [(⟨Rect.unit (s := S192x128) ![0, 0] S192x128.size inb_S192x128_S192x128_0_0, P⟩ : View.Piece (Elt Ideal) S192x128 .f32)] (Rect.unit (s := S192x128) ![60, 0] S12x128.size inb_S192x128_S12x128_60_0).toLoadRect) (arg10.view.readCov [(⟨Rect.unit (s := S192x128) ![0, 0] S192x128.size inb_S192x128_S192x128_0_0, P⟩ : View.Piece (Elt Ideal) S192x128 .f32)] (Rect.unit (s := S192x128) ![108, 0] S12x128.size inb_S192x128_S12x128_108_0).toLoadRect) (arg10.view.readCov [(⟨Rect.unit (s := S192x128) ![0, 0] S192x128.size inb_S192x128_S192x128_0_0, P⟩ : View.Piece (Elt Ideal) S192x128 .f32)] (Rect.unit (s := S192x128) ![156, 0] S12x128.size inb_S192x128_S12x128_156_0).toLoadRect)) (k0_pay211 G (k0_pay203 X WA) (k0_pay206 HA (k0_pay200 Y (iota Kind.tc S48x128 32 [0] iota_S48x128_d0_w32) (12#32) k0_pay193 k0_pay194 k0_pay195)) (arg10.view.readCov [(⟨Rect.unit (s := S192x128) ![0, 0] S192x128.size inb_S192x128_S192x128_0_0, P⟩ : View.Piece (Elt Ideal) S192x128 .f32)] (Rect.unit (s := S192x128) ![24, 0] S12x128.size inb_S192x128_S12x128_24_0).toLoadRect) (arg10.view.readCov [(⟨Rect.unit (s := S192x128) ![0, 0] S192x128.size inb_S192x128_S192x128_0_0, P⟩ : View.Piece (Elt Ideal) S192x128 .f32)] (Rect.unit (s := S192x128) ![72, 0] S12x128.size inb_S192x128_S12x128_72_0).toLoadRect) (arg10.view.readCov [(⟨Rect.unit (s := S192x128) ![0, 0] S192x128.size inb_S192x128_S192x128_0_0, P⟩ : View.Piece (Elt Ideal) S192x128 .f32)] (Rect.unit (s := S192x128) ![120, 0] S12x128.size inb_S192x128_S12x128_120_0).toLoadRect) (arg10.view.readCov [(⟨Rect.unit (s := S192x128) ![0, 0] S192x128.size inb_S192x128_S192x128_0_0, P⟩ : View.Piece (Elt Ideal) S192x128 .f32)] (Rect.unit (s := S192x128) ![168, 0] S12x128.size inb_S192x128_S12x128_168_0).toLoadRect)) (k0_pay212 G (k0_pay204 WA (k0_pay199 X WA)) (k0_pay206 HA (k0_pay200 Y (iota Kind.tc S48x128 32 [0] iota_S48x128_d0_w32) (12#32) k0_pay193 k0_pay194 k0_pay195)) (arg10.view.readCov [(⟨Rect.unit (s := S192x128) ![0, 0] S192x128.size inb_S192x128_S192x128_0_0, P⟩ : View.Piece (Elt Ideal) S192x128 .f32)] (Rect.unit (s := S192x128) ![36, 0] S12x128.size inb_S192x128_S12x128_36_0).toLoadRect) (arg10.view.readCov [(⟨Rect.unit (s := S192x128) ![0, 0] S192x128.size inb_S192x128_S192x128_0_0, P⟩ : View.Piece (Elt Ideal) S192x128 .f32)] (Rect.unit (s := S192x128) ![84, 0] S12x128.size inb_S192x128_S12x128_84_0).toLoadRect) (arg10.view.readCov [(⟨Rect.unit (s := S192x128) ![0, 0] S192x128.size inb_S192x128_S192x128_0_0, P⟩ : View.Piece (Elt Ideal) S192x128 .f32)] (Rect.unit (s := S192x128) ![132, 0] S12x128.size inb_S192x128_S12x128_132_0).toLoadRect) (arg10.view.readCov [(⟨Rect.unit (s := S192x128) ![0, 0] S192x128.size inb_S192x128_S192x128_0_0, P⟩ : View.Piece (Elt Ideal) S192x128 .f32)] (Rect.unit (s := S192x128) ![180, 0] S12x128.size inb_S192x128_S12x128_180_0).toLoadRect))

/-- The gradients of the first coordinates. -/
def DXA (arg10 : Memref sig .tc .vmem S192x128 .f32) (P : FVec Ideal S192x128 .f32) (G X Y A : FVec Ideal S48x128 .f32) : FVec Ideal S48x128 .f32 :=
  k0_pay214 G A WA (k0_pay202 Y (iota Kind.tc S48x128 32 [0] iota_S48x128_d0_w32) (12#32) k0_pay193 k0_pay194 k0_pay195) (k0_pay203 X WA) (k0_pay204 WA (k0_pay199 X WA)) (k0_pay205 HA (k0_pay200 Y (iota Kind.tc S48x128 32 [0] iota_S48x128_d0_w32) (12#32) k0_pay193 k0_pay194 k0_pay195)) (k0_pay206 HA (k0_pay200 Y (iota Kind.tc S48x128 32 [0] iota_S48x128_d0_w32) (12#32) k0_pay193 k0_pay194 k0_pay195)) (k0_pay208 (k0_pay202 Y (iota Kind.tc S48x128 32 [0] iota_S48x128_d0_w32) (12#32) k0_pay193 k0_pay194 k0_pay195)) (k0_pay209 G HA (k0_pay200 Y (iota Kind.tc S48x128 32 [0] iota_S48x128_d0_w32) (12#32) k0_pay193 k0_pay194 k0_pay195) (k0_pay203 X WA) (arg10.view.readCov [(⟨Rect.unit (s := S192x128) ![0, 0] S192x128.size inb_S192x128_S192x128_0_0, P⟩ : View.Piece (Elt Ideal) S192x128 .f32)] (Rect.unit (s := S192x128) ![0, 0] S12x128.size inb_S192x128_S12x128_0_0).toLoadRect) (arg10.view.readCov [(⟨Rect.unit (s := S192x128) ![0, 0] S192x128.size inb_S192x128_S192x128_0_0, P⟩ : View.Piece (Elt Ideal) S192x128 .f32)] (Rect.unit (s := S192x128) ![48, 0] S12x128.size inb_S192x128_S12x128_48_0).toLoadRect) (arg10.view.readCov [(⟨Rect.unit (s := S192x128) ![0, 0] S192x128.size inb_S192x128_S192x128_0_0, P⟩ : View.Piece (Elt Ideal) S192x128 .f32)] (Rect.unit (s := S192x128) ![96, 0] S12x128.size inb_S192x128_S12x128_96_0).toLoadRect) (arg10.view.readCov [(⟨Rect.unit (s := S192x128) ![0, 0] S192x128.size inb_S192x128_S192x128_0_0, P⟩ : View.Piece (Elt Ideal) S192x128 .f32)] (Rect.unit (s := S192x128) ![144, 0] S12x128.size inb_S192x128_S12x128_144_0).toLoadRect)) (arg10.view.readCov [(⟨Rect.unit (s := S192x128) ![0, 0] S192x128.size inb_S192x128_S192x128_0_0, P⟩ : View.Piece (Elt Ideal) S192x128 .f32)] (Rect.unit (s := S192x128) ![12, 0] S12x128.size inb_S192x128_S12x128_12_0).toLoadRect) (arg10.view.readCov [(⟨Rect.unit (s := S192x128) ![0, 0] S192x128.size inb_S192x128_S192x128_0_0, P⟩ : View.Piece (Elt Ideal) S192x128 .f32)] (Rect.unit (s := S192x128) ![60, 0] S12x128.size inb_S192x128_S12x128_60_0).toLoadRect) (arg10.view.readCov [(⟨Rect.unit (s := S192x128) ![0, 0] S192x128.size inb_S192x128_S192x128_0_0, P⟩ : View.Piece (Elt Ideal) S192x128 .f32)] (Rect.unit (s := S192x128) ![108, 0] S12x128.size inb_S192x128_S12x128_108_0).toLoadRect) (arg10.view.readCov [(⟨Rect.unit (s := S192x128) ![0, 0] S192x128.size inb_S192x128_S192x128_0_0, P⟩ : View.Piece (Elt Ideal) S192x128 .f32)] (Rect.unit (s := S192x128) ![156, 0] S12x128.size inb_S192x128_S12x128_156_0).toLoadRect) (arg10.view.readCov [(⟨Rect.unit (s := S192x128) ![0, 0] S192x128.size inb_S192x128_S192x128_0_0, P⟩ : View.Piece (Elt Ideal) S192x128 .f32)] (Rect.unit (s := S192x128) ![24, 0] S12x128.size inb_S192x128_S12x128_24_0).toLoadRect) (arg10.view.readCov [(⟨Rect.unit (s := S192x128) ![0, 0] S192x128.size inb_S192x128_S192x128_0_0, P⟩ : View.Piece (Elt Ideal) S192x128 .f32)] (Rect.unit (s := S192x128) ![72, 0] S12x128.size inb_S192x128_S12x128_72_0).toLoadRect) (arg10.view.readCov [(⟨Rect.unit (s := S192x128) ![0, 0] S192x128.size inb_S192x128_S192x128_0_0, P⟩ : View.Piece (Elt Ideal) S192x128 .f32)] (Rect.unit (s := S192x128) ![120, 0] S12x128.size inb_S192x128_S12x128_120_0).toLoadRect) (arg10.view.readCov [(⟨Rect.unit (s := S192x128) ![0, 0] S192x128.size inb_S192x128_S192x128_0_0, P⟩ : View.Piece (Elt Ideal) S192x128 .f32)] (Rect.unit (s := S192x128) ![168, 0] S12x128.size inb_S192x128_S12x128_168_0).toLoadRect) (arg10.view.readCov [(⟨Rect.unit (s := S192x128) ![0, 0] S192x128.size inb_S192x128_S192x128_0_0, P⟩ : View.Piece (Elt Ideal) S192x128 .f32)] (Rect.unit (s := S192x128) ![36, 0] S12x128.size inb_S192x128_S12x128_36_0).toLoadRect) (arg10.view.readCov [(⟨Rect.unit (s := S192x128) ![0, 0] S192x128.size inb_S192x128_S192x128_0_0, P⟩ : View.Piece (Elt Ideal) S192x128 .f32)] (Rect.unit (s := S192x128) ![84, 0] S12x128.size inb_S192x128_S12x128_84_0).toLoadRect) (arg10.view.readCov [(⟨Rect.unit (s := S192x128) ![0, 0] S192x128.size inb_S192x128_S192x128_0_0, P⟩ : View.Piece (Elt Ideal) S192x128 .f32)] (Rect.unit (s := S192x128) ![132, 0] S12x128.size inb_S192x128_S12x128_132_0).toLoadRect) (arg10.view.readCov [(⟨Rect.unit (s := S192x128) ![0, 0] S192x128.size inb_S192x128_S192x128_0_0, P⟩ : View.Piece (Elt Ideal) S192x128 .f32)] (Rect.unit (s := S192x128) ![180, 0] S12x128.size inb_S192x128_S12x128_180_0).toLoadRect)

/-- The gradients of the attention weights. -/
def DAA (arg10 : Memref sig .tc .vmem S192x128 .f32) (P : FVec Ideal S192x128 .f32) (G X Y : FVec Ideal S48x128 .f32) : FVec Ideal S48x128 .f32 :=
  k0_pay213 G (k0_pay201 X WA) (k0_pay202 Y (iota Kind.tc S48x128 32 [0] iota_S48x128_d0_w32) (12#32) k0_pay193 k0_pay194 k0_pay195) (k0_pay203 X WA) (k0_pay204 WA (k0_pay199 X WA)) (k0_pay205 HA (k0_pay200 Y (iota Kind.tc S48x128 32 [0] iota_S48x128_d0_w32) (12#32) k0_pay193 k0_pay194 k0_pay195)) (k0_pay206 HA (k0_pay200 Y (iota Kind.tc S48x128 32 [0] iota_S48x128_d0_w32) (12#32) k0_pay193 k0_pay194 k0_pay195)) (k0_pay207 (k0_pay201 X WA)) (k0_pay208 (k0_pay202 Y (iota Kind.tc S48x128 32 [0] iota_S48x128_d0_w32) (12#32) k0_pay193 k0_pay194 k0_pay195)) (k0_pay209 G HA (k0_pay200 Y (iota Kind.tc S48x128 32 [0] iota_S48x128_d0_w32) (12#32) k0_pay193 k0_pay194 k0_pay195) (k0_pay203 X WA) (arg10.view.readCov [(⟨Rect.unit (s := S192x128) ![0, 0] S192x128.size inb_S192x128_S192x128_0_0, P⟩ : View.Piece (Elt Ideal) S192x128 .f32)] (Rect.unit (s := S192x128) ![0, 0] S12x128.size inb_S192x128_S12x128_0_0).toLoadRect) (arg10.view.readCov [(⟨Rect.unit (s := S192x128) ![0, 0] S192x128.size inb_S192x128_S192x128_0_0, P⟩ : View.Piece (Elt Ideal) S192x128 .f32)] (Rect.unit (s := S192x128) ![48, 0] S12x128.size inb_S192x128_S12x128_48_0).toLoadRect) (arg10.view.readCov [(⟨Rect.unit (s := S192x128) ![0, 0] S192x128.size inb_S192x128_S192x128_0_0, P⟩ : View.Piece (Elt Ideal) S192x128 .f32)] (Rect.unit (s := S192x128) ![96, 0] S12x128.size inb_S192x128_S12x128_96_0).toLoadRect) (arg10.view.readCov [(⟨Rect.unit (s := S192x128) ![0, 0] S192x128.size inb_S192x128_S192x128_0_0, P⟩ : View.Piece (Elt Ideal) S192x128 .f32)] (Rect.unit (s := S192x128) ![144, 0] S12x128.size inb_S192x128_S12x128_144_0).toLoadRect)) (arg10.view.readCov [(⟨Rect.unit (s := S192x128) ![0, 0] S192x128.size inb_S192x128_S192x128_0_0, P⟩ : View.Piece (Elt Ideal) S192x128 .f32)] (Rect.unit (s := S192x128) ![12, 0] S12x128.size inb_S192x128_S12x128_12_0).toLoadRect) (arg10.view.readCov [(⟨Rect.unit (s := S192x128) ![0, 0] S192x128.size inb_S192x128_S192x128_0_0, P⟩ : View.Piece (Elt Ideal) S192x128 .f32)] (Rect.unit (s := S192x128) ![60, 0] S12x128.size inb_S192x128_S12x128_60_0).toLoadRect) (arg10.view.readCov [(⟨Rect.unit (s := S192x128) ![0, 0] S192x128.size inb_S192x128_S192x128_0_0, P⟩ : View.Piece (Elt Ideal) S192x128 .f32)] (Rect.unit (s := S192x128) ![108, 0] S12x128.size inb_S192x128_S12x128_108_0).toLoadRect) (arg10.view.readCov [(⟨Rect.unit (s := S192x128) ![0, 0] S192x128.size inb_S192x128_S192x128_0_0, P⟩ : View.Piece (Elt Ideal) S192x128 .f32)] (Rect.unit (s := S192x128) ![156, 0] S12x128.size inb_S192x128_S12x128_156_0).toLoadRect) (arg10.view.readCov [(⟨Rect.unit (s := S192x128) ![0, 0] S192x128.size inb_S192x128_S192x128_0_0, P⟩ : View.Piece (Elt Ideal) S192x128 .f32)] (Rect.unit (s := S192x128) ![24, 0] S12x128.size inb_S192x128_S12x128_24_0).toLoadRect) (arg10.view.readCov [(⟨Rect.unit (s := S192x128) ![0, 0] S192x128.size inb_S192x128_S192x128_0_0, P⟩ : View.Piece (Elt Ideal) S192x128 .f32)] (Rect.unit (s := S192x128) ![72, 0] S12x128.size inb_S192x128_S12x128_72_0).toLoadRect) (arg10.view.readCov [(⟨Rect.unit (s := S192x128) ![0, 0] S192x128.size inb_S192x128_S192x128_0_0, P⟩ : View.Piece (Elt Ideal) S192x128 .f32)] (Rect.unit (s := S192x128) ![120, 0] S12x128.size inb_S192x128_S12x128_120_0).toLoadRect) (arg10.view.readCov [(⟨Rect.unit (s := S192x128) ![0, 0] S192x128.size inb_S192x128_S192x128_0_0, P⟩ : View.Piece (Elt Ideal) S192x128 .f32)] (Rect.unit (s := S192x128) ![168, 0] S12x128.size inb_S192x128_S12x128_168_0).toLoadRect) (arg10.view.readCov [(⟨Rect.unit (s := S192x128) ![0, 0] S192x128.size inb_S192x128_S192x128_0_0, P⟩ : View.Piece (Elt Ideal) S192x128 .f32)] (Rect.unit (s := S192x128) ![36, 0] S12x128.size inb_S192x128_S12x128_36_0).toLoadRect) (arg10.view.readCov [(⟨Rect.unit (s := S192x128) ![0, 0] S192x128.size inb_S192x128_S192x128_0_0, P⟩ : View.Piece (Elt Ideal) S192x128 .f32)] (Rect.unit (s := S192x128) ![84, 0] S12x128.size inb_S192x128_S12x128_84_0).toLoadRect) (arg10.view.readCov [(⟨Rect.unit (s := S192x128) ![0, 0] S192x128.size inb_S192x128_S192x128_0_0, P⟩ : View.Piece (Elt Ideal) S192x128 .f32)] (Rect.unit (s := S192x128) ![132, 0] S12x128.size inb_S192x128_S12x128_132_0).toLoadRect) (arg10.view.readCov [(⟨Rect.unit (s := S192x128) ![0, 0] S192x128.size inb_S192x128_S192x128_0_0, P⟩ : View.Piece (Elt Ideal) S192x128 .f32)] (Rect.unit (s := S192x128) ![180, 0] S12x128.size inb_S192x128_S12x128_180_0).toLoadRect)

theorem DYA_eq (arg10 : Memref sig .tc .vmem S192x128 .f32) (P : FVec Ideal S192x128 .f32) (G X Y A : FVec Ideal S48x128 .f32) (j : S48x128.Idx) :
    DYA arg10 P G X Y A j = kdy (X j) (Y j) (WA j) (HA j) (G j) (A j) (D0 arg10 P j) (D1 arg10 P j) (D2 arg10 P j) (D3 arg10 P j) := rfl

theorem DXA_eq (arg10 : Memref sig .tc .vmem S192x128 .f32) (P : FVec Ideal S192x128 .f32) (G X Y A : FVec Ideal S48x128 .f32) (j : S48x128.Idx) :
    DXA arg10 P G X Y A j = kdx (X j) (Y j) (WA j) (HA j) (G j) (A j) (D0 arg10 P j) (D1 arg10 P j) (D2 arg10 P j) (D3 arg10 P j) := rfl

theorem DAA_eq (arg10 : Memref sig .tc .vmem S192x128 .f32) (P : FVec Ideal S192x128 .f32) (G X Y : FVec Ideal S48x128 .f32) (j : S48x128.Idx) :
    DAA arg10 P G X Y j = kda (X j) (Y j) (WA j) (HA j) (G j) (D0 arg10 P j) (D1 arg10 P j) (D2 arg10 P j) (D3 arg10 P j) := rfl

theorem DYA_at (𝒱 : Variants) (c : Dev nD) (bd : Option 𝒱.V) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole) (v19 : Vec Ideal S1x256 .f32) (X1 : BufTy.Contents (Elt Ideal) arg1.view.ty) (X2 : BufTy.Contents (Elt Ideal) arg2.view.ty) (X4 : BufTy.Contents (Elt Ideal) arg4.view.ty) (X5 : BufTy.Contents (Elt Ideal) arg5.view.ty) (X6 : BufTy.Contents (Elt Ideal) arg6.view.ty) (k : Fin k0_t1_loop.trips) (r : Fin 48) (l : Fin 128) :
    DYA arg10 (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (k0_pay1 v19) (XA arg1 X1 k) (YA arg1 X1 k) (AA arg2 X2 k) (ix2 r l) = resL v19 (arg1.view.read (Elt Ideal) X1) (arg2.view.read (Elt Ideal) X2) (arg4.view.read (Elt Ideal) X4) (arg5.view.read (Elt Ideal) X5) (arg6.view.read (Elt Ideal) X6) 1 k.val r.val l.val := by
  have hP : ∀ (R : Fin 192) (l : Fin 128), (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (ix2 R l) = dotN (headG (arg4.view.read (Elt Ideal) X4) k.val) (arg5.view.read (Elt Ideal) X5) (arg6.view.read (Elt Ideal) X6) k.val R.val l.val := fun R l => by
    rw [dotArr_at, ld4]
  rw [DYA_eq, resL, if_neg (show ¬ (1 : ℕ) = 0 by decide), XA_at, YA_at, WA_at, HA_at, gs_at, AA_at, D0_at arg10 _ _ hP, D1_at arg10 _ _ hP, D2_at arg10 _ _ hP, D3_at arg10 _ _ hP]

theorem DXA_at (𝒱 : Variants) (c : Dev nD) (bd : Option 𝒱.V) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole) (v19 : Vec Ideal S1x256 .f32) (X1 : BufTy.Contents (Elt Ideal) arg1.view.ty) (X2 : BufTy.Contents (Elt Ideal) arg2.view.ty) (X4 : BufTy.Contents (Elt Ideal) arg4.view.ty) (X5 : BufTy.Contents (Elt Ideal) arg5.view.ty) (X6 : BufTy.Contents (Elt Ideal) arg6.view.ty) (k : Fin k0_t1_loop.trips) (r : Fin 48) (l : Fin 128) :
    DXA arg10 (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (k0_pay1 v19) (XA arg1 X1 k) (YA arg1 X1 k) (AA arg2 X2 k) (ix2 r l) = resL v19 (arg1.view.read (Elt Ideal) X1) (arg2.view.read (Elt Ideal) X2) (arg4.view.read (Elt Ideal) X4) (arg5.view.read (Elt Ideal) X5) (arg6.view.read (Elt Ideal) X6) 0 k.val r.val l.val := by
  have hP : ∀ (R : Fin 192) (l : Fin 128), (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (ix2 R l) = dotN (headG (arg4.view.read (Elt Ideal) X4) k.val) (arg5.view.read (Elt Ideal) X5) (arg6.view.read (Elt Ideal) X6) k.val R.val l.val := fun R l => by
    rw [dotArr_at, ld4]
  rw [DXA_eq, resL, if_pos rfl, XA_at, YA_at, WA_at, HA_at, gs_at, AA_at, D0_at arg10 _ _ hP, D1_at arg10 _ _ hP, D2_at arg10 _ _ hP, D3_at arg10 _ _ hP]

theorem DAA_at (𝒱 : Variants) (c : Dev nD) (bd : Option 𝒱.V) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole) (v19 : Vec Ideal S1x256 .f32) (X1 : BufTy.Contents (Elt Ideal) arg1.view.ty) (X2 : BufTy.Contents (Elt Ideal) arg2.view.ty) (X4 : BufTy.Contents (Elt Ideal) arg4.view.ty) (X5 : BufTy.Contents (Elt Ideal) arg5.view.ty) (X6 : BufTy.Contents (Elt Ideal) arg6.view.ty) (k : Fin k0_t1_loop.trips) (r : Fin 48) (l : Fin 128) :
    DAA arg10 (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (k0_pay1 v19) (XA arg1 X1 k) (YA arg1 X1 k) (ix2 r l) = resA v19 (arg1.view.read (Elt Ideal) X1) (arg2.view.read (Elt Ideal) X2) (arg4.view.read (Elt Ideal) X4) (arg5.view.read (Elt Ideal) X5) (arg6.view.read (Elt Ideal) X6) k.val r.val l.val := by
  have hP : ∀ (R : Fin 192) (l : Fin 128), (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (ix2 R l) = dotN (headG (arg4.view.read (Elt Ideal) X4) k.val) (arg5.view.read (Elt Ideal) X5) (arg6.view.read (Elt Ideal) X6) k.val R.val l.val := fun R l => by
    rw [dotArr_at, ld4]
  rw [DAA_eq, resA, XA_at, YA_at, WA_at, HA_at, gs_at, D0_at arg10 _ _ hP, D1_at arg10 _ _ hP, D2_at arg10 _ _ hP, D3_at arg10 _ _ hP]

/-- A slice of six rows stored into the locations' gradients, at the place it is stored. -/
theorem put7 (A : FVec Ideal S48x128 .f32) (f : ℕ → ℕ → ℕ → ℕ → EReal) (h : Fin 2) (t ax : ℕ) (ht : t < 8) (hax : ax < 2) (hA : ∀ (r : Fin 48) (l : Fin 128), A (ix2 r l) = f ax h.val r.val l.val)
    (off : Fin 4 → ℕ) (hoff : off = ![h.val, 6 * (t / 2), ax, 128 * (t % 2)]) (o : ℕ) (ho : o = 6 * t) (inb) (hs) (x : S1x6x1x128.Idx) :
    shapeCast S1x6x1x128 (extractStridedSlice S6x128 ![o, 0] A hs) shapeCasts_S6x128_S1x6x1x128 x
      = (fun y : S2x24x2x256.Idx => f (y 2).val (y 0).val ((y 1).val / 6 * 12 + (y 3).val / 128 * 6 + (y 1).val % 6) ((y 3).val % 128)) ((Rect.unit (s := S2x24x2x256) off S1x6x1x128.size inb).emb x) := by
  subst hoff ho
  obtain ⟨a, l, rfl⟩ : ∃ (a : Fin 6) (l : Fin 128), x = ix4 0 a 0 l := ⟨x 1, x 3, by idx_ext⟩
  have e : ∀ b : Fin 4, (((Rect.unit (s := S2x24x2x256) ![h.val, 6 * (t / 2), ax, 128 * (t % 2)] S1x6x1x128.size inb).emb (ix4 0 a 0 l) b : ℕ)) = (![h.val, 6 * (t / 2), ax, 128 * (t % 2)] : Fin 4 → ℕ) b + ((ix4 0 a 0 l : S1x6x1x128.Idx) b : ℕ) :=
    fun b => ValueKit.rect_emb_unit_val (s := S2x24x2x256) _ _ _ _ b
  have e0 := e 0
  have e1 := e 1
  have e2 := e 2
  have e3 := e 3
  have ha := a.isLt
  have hl := l.isLt
  refine Eq.trans ?_ ((hA ⟨6 * t + a.val, by omega⟩ l).trans ?_)
  · pointwise
  · dsimp only
    rw [show _ = h.val from e0, show _ = 6 * (t / 2) + a.val from e1, show _ = ax from e2, show _ = 128 * (t % 2) + l.val from e3]
    congr 1 <;> omega

/-- A slice of six rows stored into the attention's gradients, at the place it is stored. -/
theorem put8 (A : FVec Ideal S48x128 .f32) (f : ℕ → ℕ → ℕ → EReal) (h : Fin 2) (t : ℕ) (ht : t < 8) (hA : ∀ (r : Fin 48) (l : Fin 128), A (ix2 r l) = f h.val r.val l.val)
    (off : Fin 4 → ℕ) (hoff : off = ![h.val, 0, t / 2, 128 * (t % 2)]) (o : ℕ) (ho : o = 6 * t) (inb) (hs) (x : S1x6x1x128.Idx) :
    shapeCast S1x6x1x128 (extractStridedSlice S6x128 ![o, 0] A hs) shapeCasts_S6x128_S1x6x1x128 x
      = (fun y : S2x6x4x256.Idx => f (y 0).val ((y 2).val * 12 + (y 3).val / 128 * 6 + (y 1).val) ((y 3).val % 128)) ((Rect.unit (s := S2x6x4x256) off S1x6x1x128.size inb).emb x) := by
  subst hoff ho
  obtain ⟨a, l, rfl⟩ : ∃ (a : Fin 6) (l : Fin 128), x = ix4 0 a 0 l := ⟨x 1, x 3, by idx_ext⟩
  have e : ∀ b : Fin 4, (((Rect.unit (s := S2x6x4x256) ![h.val, 0, t / 2, 128 * (t % 2)] S1x6x1x128.size inb).emb (ix4 0 a 0 l) b : ℕ)) = (![h.val, 0, t / 2, 128 * (t % 2)] : Fin 4 → ℕ) b + ((ix4 0 a 0 l : S1x6x1x128.Idx) b : ℕ) :=
    fun b => ValueKit.rect_emb_unit_val (s := S2x6x4x256) _ _ _ _ b
  have e0 := e 0
  have e1 := e 1
  have e2 := e 2
  have e3 := e 3
  have ha := a.isLt
  have hl := l.isLt
  refine Eq.trans ?_ ((hA ⟨6 * t + a.val, by omega⟩ l).trans ?_)
  · pointwise
  · dsimp only
    rw [show _ = h.val from e0, show _ = 0 + a.val from e1, show _ = t / 2 from e2, show _ = 128 * (t % 2) + l.val from e3]
    congr 1 <;> omega

end Cert.KernelIdeal.Hand

end
-- ==== Proof.ValuePieces.lean ====
/-
  Every piece one head writes into the two results holds the gradients of its points.
-/
module

public import proofs.«01_k».proof.Proof.ValueArrays

@[expose] public section

set_option maxRecDepth 16384
set_option maxHeartbeats 4000000

noncomputable section

namespace Cert.KernelIdeal.Hand

open Cert.KernelIdeal Cert.KernelIdeal.Gen Cert.Decode
open Idealize.ShloMosaic Idealize.ShloMosaic.Tactic Idealize.ShloMosaic.Pointwise

/-- The pieces of the locations' gradients. -/
theorem trip7 (𝒱 : Variants) (c : Dev nD) (bd : Option 𝒱.V) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole) (v19 : Vec Ideal S1x256 .f32) (X1 : BufTy.Contents (Elt Ideal) arg1.view.ty) (X2 : BufTy.Contents (Elt Ideal) arg2.view.ty) (X4 : BufTy.Contents (Elt Ideal) arg4.view.ty) (X5 : BufTy.Contents (Elt Ideal) arg5.view.ty) (X6 : BufTy.Contents (Elt Ideal) arg6.view.ty) (k : Fin k0_t1_loop.trips) :
    ∀ p ∈ (trip (F := Ideal) 𝒱 c bd i arg1 harg1 arg2 harg2 arg3 harg3 arg4 harg4 arg5 harg5 arg6 harg6 arg7 harg7 arg8 harg8 arg9 harg9 arg10 harg10 v19 X1 X2 X4 X5 X6 k).1, ∀ x : p.1.shape.Idx,
      p.2 x = (fun y : S2x24x2x256.Idx => resL v19 (arg1.view.read (Elt Ideal) X1) (arg2.view.read (Elt Ideal) X2) (arg4.view.read (Elt Ideal) X4) (arg5.view.read (Elt Ideal) X5) (arg6.view.read (Elt Ideal) X6) (y 2).val (y 0).val ((y 1).val / 6 * 12 + (y 3).val / 128 * 6 + (y 1).val % 6) ((y 3).val % 128)) (p.1.emb x) := by
  unfold trip
  simp only [List.forall_mem_cons, List.not_mem_nil, false_imp_iff, implies_true, and_true]
  exact ⟨
    fun x => put7 (DYA arg10 (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (k0_pay1 v19) (XA arg1 X1 k) (YA arg1 X1 k) (AA arg2 X2 k)) (resL v19 (arg1.view.read (Elt Ideal) X1) (arg2.view.read (Elt Ideal) X2) (arg4.view.read (Elt Ideal) X4) (arg5.view.read (Elt Ideal) X5) (arg6.view.read (Elt Ideal) X6)) k 7 1 (by decide) (by decide) (DYA_at 𝒱 c bd i arg1 harg1 arg2 harg2 arg3 harg3 arg4 harg4 arg5 harg5 arg6 harg6 arg7 harg7 arg8 harg8 arg9 harg9 arg10 harg10 v19 X1 X2 X4 X5 X6 k) _ (off32 k) 42 rfl _ (by decide) x,
    fun x => put7 (DXA arg10 (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (k0_pay1 v19) (XA arg1 X1 k) (YA arg1 X1 k) (AA arg2 X2 k)) (resL v19 (arg1.view.read (Elt Ideal) X1) (arg2.view.read (Elt Ideal) X2) (arg4.view.read (Elt Ideal) X4) (arg5.view.read (Elt Ideal) X5) (arg6.view.read (Elt Ideal) X6)) k 7 0 (by decide) (by decide) (DXA_at 𝒱 c bd i arg1 harg1 arg2 harg2 arg3 harg3 arg4 harg4 arg5 harg5 arg6 harg6 arg7 harg7 arg8 harg8 arg9 harg9 arg10 harg10 v19 X1 X2 X4 X5 X6 k) _ (off24 k) 42 rfl _ (by decide) x,
    fun x => put7 (DYA arg10 (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (k0_pay1 v19) (XA arg1 X1 k) (YA arg1 X1 k) (AA arg2 X2 k)) (resL v19 (arg1.view.read (Elt Ideal) X1) (arg2.view.read (Elt Ideal) X2) (arg4.view.read (Elt Ideal) X4) (arg5.view.read (Elt Ideal) X5) (arg6.view.read (Elt Ideal) X6)) k 6 1 (by decide) (by decide) (DYA_at 𝒱 c bd i arg1 harg1 arg2 harg2 arg3 harg3 arg4 harg4 arg5 harg5 arg6 harg6 arg7 harg7 arg8 harg8 arg9 harg9 arg10 harg10 v19 X1 X2 X4 X5 X6 k) _ (off31 k) 36 rfl _ (by decide) x,
    fun x => put7 (DXA arg10 (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (k0_pay1 v19) (XA arg1 X1 k) (YA arg1 X1 k) (AA arg2 X2 k)) (resL v19 (arg1.view.read (Elt Ideal) X1) (arg2.view.read (Elt Ideal) X2) (arg4.view.read (Elt Ideal) X4) (arg5.view.read (Elt Ideal) X5) (arg6.view.read (Elt Ideal) X6)) k 6 0 (by decide) (by decide) (DXA_at 𝒱 c bd i arg1 harg1 arg2 harg2 arg3 harg3 arg4 harg4 arg5 harg5 arg6 harg6 arg7 harg7 arg8 harg8 arg9 harg9 arg10 harg10 v19 X1 X2 X4 X5 X6 k) _ (off23 k) 36 rfl _ (by decide) x,
    fun x => put7 (DYA arg10 (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (k0_pay1 v19) (XA arg1 X1 k) (YA arg1 X1 k) (AA arg2 X2 k)) (resL v19 (arg1.view.read (Elt Ideal) X1) (arg2.view.read (Elt Ideal) X2) (arg4.view.read (Elt Ideal) X4) (arg5.view.read (Elt Ideal) X5) (arg6.view.read (Elt Ideal) X6)) k 5 1 (by decide) (by decide) (DYA_at 𝒱 c bd i arg1 harg1 arg2 harg2 arg3 harg3 arg4 harg4 arg5 harg5 arg6 harg6 arg7 harg7 arg8 harg8 arg9 harg9 arg10 harg10 v19 X1 X2 X4 X5 X6 k) _ (off30 k) 30 rfl _ (by decide) x,
    fun x => put7 (DXA arg10 (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (k0_pay1 v19) (XA arg1 X1 k) (YA arg1 X1 k) (AA arg2 X2 k)) (resL v19 (arg1.view.read (Elt Ideal) X1) (arg2.view.read (Elt Ideal) X2) (arg4.view.read (Elt Ideal) X4) (arg5.view.read (Elt Ideal) X5) (arg6.view.read (Elt Ideal) X6)) k 5 0 (by decide) (by decide) (DXA_at 𝒱 c bd i arg1 harg1 arg2 harg2 arg3 harg3 arg4 harg4 arg5 harg5 arg6 harg6 arg7 harg7 arg8 harg8 arg9 harg9 arg10 harg10 v19 X1 X2 X4 X5 X6 k) _ (off22 k) 30 rfl _ (by decide) x,
    fun x => put7 (DYA arg10 (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (k0_pay1 v19) (XA arg1 X1 k) (YA arg1 X1 k) (AA arg2 X2 k)) (resL v19 (arg1.view.read (Elt Ideal) X1) (arg2.view.read (Elt Ideal) X2) (arg4.view.read (Elt Ideal) X4) (arg5.view.read (Elt Ideal) X5) (arg6.view.read (Elt Ideal) X6)) k 4 1 (by decide) (by decide) (DYA_at 𝒱 c bd i arg1 harg1 arg2 harg2 arg3 harg3 arg4 harg4 arg5 harg5 arg6 harg6 arg7 harg7 arg8 harg8 arg9 harg9 arg10 harg10 v19 X1 X2 X4 X5 X6 k) _ (off29 k) 24 rfl _ (by decide) x,
    fun x => put7 (DXA arg10 (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (k0_pay1 v19) (XA arg1 X1 k) (YA arg1 X1 k) (AA arg2 X2 k)) (resL v19 (arg1.view.read (Elt Ideal) X1) (arg2.view.read (Elt Ideal) X2) (arg4.view.read (Elt Ideal) X4) (arg5.view.read (Elt Ideal) X5) (arg6.view.read (Elt Ideal) X6)) k 4 0 (by decide) (by decide) (DXA_at 𝒱 c bd i arg1 harg1 arg2 harg2 arg3 harg3 arg4 harg4 arg5 harg5 arg6 harg6 arg7 harg7 arg8 harg8 arg9 harg9 arg10 harg10 v19 X1 X2 X4 X5 X6 k) _ (off21 k) 24 rfl _ (by decide) x,
    fun x => put7 (DYA arg10 (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (k0_pay1 v19) (XA arg1 X1 k) (YA arg1 X1 k) (AA arg2 X2 k)) (resL v19 (arg1.view.read (Elt Ideal) X1) (arg2.view.read (Elt Ideal) X2) (arg4.view.read (Elt Ideal) X4) (arg5.view.read (Elt Ideal) X5) (arg6.view.read (Elt Ideal) X6)) k 3 1 (by decide) (by decide) (DYA_at 𝒱 c bd i arg1 harg1 arg2 harg2 arg3 harg3 arg4 harg4 arg5 harg5 arg6 harg6 arg7 harg7 arg8 harg8 arg9 harg9 arg10 harg10 v19 X1 X2 X4 X5 X6 k) _ (off28 k) 18 rfl _ (by decide) x,
    fun x => put7 (DXA arg10 (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (k0_pay1 v19) (XA arg1 X1 k) (YA arg1 X1 k) (AA arg2 X2 k)) (resL v19 (arg1.view.read (Elt Ideal) X1) (arg2.view.read (Elt Ideal) X2) (arg4.view.read (Elt Ideal) X4) (arg5.view.read (Elt Ideal) X5) (arg6.view.read (Elt Ideal) X6)) k 3 0 (by decide) (by decide) (DXA_at 𝒱 c bd i arg1 harg1 arg2 harg2 arg3 harg3 arg4 harg4 arg5 harg5 arg6 harg6 arg7 harg7 arg8 harg8 arg9 harg9 arg10 harg10 v19 X1 X2 X4 X5 X6 k) _ (off20 k) 18 rfl _ (by decide) x,
    fun x => put7 (DYA arg10 (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (k0_pay1 v19) (XA arg1 X1 k) (YA arg1 X1 k) (AA arg2 X2 k)) (resL v19 (arg1.view.read (Elt Ideal) X1) (arg2.view.read (Elt Ideal) X2) (arg4.view.read (Elt Ideal) X4) (arg5.view.read (Elt Ideal) X5) (arg6.view.read (Elt Ideal) X6)) k 2 1 (by decide) (by decide) (DYA_at 𝒱 c bd i arg1 harg1 arg2 harg2 arg3 harg3 arg4 harg4 arg5 harg5 arg6 harg6 arg7 harg7 arg8 harg8 arg9 harg9 arg10 harg10 v19 X1 X2 X4 X5 X6 k) _ (off27 k) 12 rfl _ (by decide) x,
    fun x => put7 (DXA arg10 (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (k0_pay1 v19) (XA arg1 X1 k) (YA arg1 X1 k) (AA arg2 X2 k)) (resL v19 (arg1.view.read (Elt Ideal) X1) (arg2.view.read (Elt Ideal) X2) (arg4.view.read (Elt Ideal) X4) (arg5.view.read (Elt Ideal) X5) (arg6.view.read (Elt Ideal) X6)) k 2 0 (by decide) (by decide) (DXA_at 𝒱 c bd i arg1 harg1 arg2 harg2 arg3 harg3 arg4 harg4 arg5 harg5 arg6 harg6 arg7 harg7 arg8 harg8 arg9 harg9 arg10 harg10 v19 X1 X2 X4 X5 X6 k) _ (off19 k) 12 rfl _ (by decide) x,
    fun x => put7 (DYA arg10 (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (k0_pay1 v19) (XA arg1 X1 k) (YA arg1 X1 k) (AA arg2 X2 k)) (resL v19 (arg1.view.read (Elt Ideal) X1) (arg2.view.read (Elt Ideal) X2) (arg4.view.read (Elt Ideal) X4) (arg5.view.read (Elt Ideal) X5) (arg6.view.read (Elt Ideal) X6)) k 1 1 (by decide) (by decide) (DYA_at 𝒱 c bd i arg1 harg1 arg2 harg2 arg3 harg3 arg4 harg4 arg5 harg5 arg6 harg6 arg7 harg7 arg8 harg8 arg9 harg9 arg10 harg10 v19 X1 X2 X4 X5 X6 k) _ (off26 k) 6 rfl _ (by decide) x,
    fun x => put7 (DXA arg10 (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (k0_pay1 v19) (XA arg1 X1 k) (YA arg1 X1 k) (AA arg2 X2 k)) (resL v19 (arg1.view.read (Elt Ideal) X1) (arg2.view.read (Elt Ideal) X2) (arg4.view.read (Elt Ideal) X4) (arg5.view.read (Elt Ideal) X5) (arg6.view.read (Elt Ideal) X6)) k 1 0 (by decide) (by decide) (DXA_at 𝒱 c bd i arg1 harg1 arg2 harg2 arg3 harg3 arg4 harg4 arg5 harg5 arg6 harg6 arg7 harg7 arg8 harg8 arg9 harg9 arg10 harg10 v19 X1 X2 X4 X5 X6 k) _ (off18 k) 6 rfl _ (by decide) x,
    fun x => put7 (DYA arg10 (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (k0_pay1 v19) (XA arg1 X1 k) (YA arg1 X1 k) (AA arg2 X2 k)) (resL v19 (arg1.view.read (Elt Ideal) X1) (arg2.view.read (Elt Ideal) X2) (arg4.view.read (Elt Ideal) X4) (arg5.view.read (Elt Ideal) X5) (arg6.view.read (Elt Ideal) X6)) k 0 1 (by decide) (by decide) (DYA_at 𝒱 c bd i arg1 harg1 arg2 harg2 arg3 harg3 arg4 harg4 arg5 harg5 arg6 harg6 arg7 harg7 arg8 harg8 arg9 harg9 arg10 harg10 v19 X1 X2 X4 X5 X6 k) _ (off25 k) 0 rfl _ (by decide) x,
    fun x => put7 (DXA arg10 (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (k0_pay1 v19) (XA arg1 X1 k) (YA arg1 X1 k) (AA arg2 X2 k)) (resL v19 (arg1.view.read (Elt Ideal) X1) (arg2.view.read (Elt Ideal) X2) (arg4.view.read (Elt Ideal) X4) (arg5.view.read (Elt Ideal) X5) (arg6.view.read (Elt Ideal) X6)) k 0 0 (by decide) (by decide) (DXA_at 𝒱 c bd i arg1 harg1 arg2 harg2 arg3 harg3 arg4 harg4 arg5 harg5 arg6 harg6 arg7 harg7 arg8 harg8 arg9 harg9 arg10 harg10 v19 X1 X2 X4 X5 X6 k) _ (off17 k) 0 rfl _ (by decide) x⟩

/-- The pieces of the attention's gradients. -/
theorem trip8 (𝒱 : Variants) (c : Dev nD) (bd : Option 𝒱.V) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole) (v19 : Vec Ideal S1x256 .f32) (X1 : BufTy.Contents (Elt Ideal) arg1.view.ty) (X2 : BufTy.Contents (Elt Ideal) arg2.view.ty) (X4 : BufTy.Contents (Elt Ideal) arg4.view.ty) (X5 : BufTy.Contents (Elt Ideal) arg5.view.ty) (X6 : BufTy.Contents (Elt Ideal) arg6.view.ty) (k : Fin k0_t1_loop.trips) :
    ∀ p ∈ (trip (F := Ideal) 𝒱 c bd i arg1 harg1 arg2 harg2 arg3 harg3 arg4 harg4 arg5 harg5 arg6 harg6 arg7 harg7 arg8 harg8 arg9 harg9 arg10 harg10 v19 X1 X2 X4 X5 X6 k).2.1, ∀ x : p.1.shape.Idx,
      p.2 x = (fun y : S2x6x4x256.Idx => resA v19 (arg1.view.read (Elt Ideal) X1) (arg2.view.read (Elt Ideal) X2) (arg4.view.read (Elt Ideal) X4) (arg5.view.read (Elt Ideal) X5) (arg6.view.read (Elt Ideal) X6) (y 0).val ((y 2).val * 12 + (y 3).val / 128 * 6 + (y 1).val) ((y 3).val % 128)) (p.1.emb x) := by
  unfold trip
  simp only [List.forall_mem_cons, List.not_mem_nil, false_imp_iff, implies_true, and_true]
  exact ⟨
    fun x => put8 (DAA arg10 (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (k0_pay1 v19) (XA arg1 X1 k) (YA arg1 X1 k)) (resA v19 (arg1.view.read (Elt Ideal) X1) (arg2.view.read (Elt Ideal) X2) (arg4.view.read (Elt Ideal) X4) (arg5.view.read (Elt Ideal) X5) (arg6.view.read (Elt Ideal) X6)) k 7 (by decide) (DAA_at 𝒱 c bd i arg1 harg1 arg2 harg2 arg3 harg3 arg4 harg4 arg5 harg5 arg6 harg6 arg7 harg7 arg8 harg8 arg9 harg9 arg10 harg10 v19 X1 X2 X4 X5 X6 k) _ (off40 k) 42 rfl _ (by decide) x,
    fun x => put8 (DAA arg10 (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (k0_pay1 v19) (XA arg1 X1 k) (YA arg1 X1 k)) (resA v19 (arg1.view.read (Elt Ideal) X1) (arg2.view.read (Elt Ideal) X2) (arg4.view.read (Elt Ideal) X4) (arg5.view.read (Elt Ideal) X5) (arg6.view.read (Elt Ideal) X6)) k 6 (by decide) (DAA_at 𝒱 c bd i arg1 harg1 arg2 harg2 arg3 harg3 arg4 harg4 arg5 harg5 arg6 harg6 arg7 harg7 arg8 harg8 arg9 harg9 arg10 harg10 v19 X1 X2 X4 X5 X6 k) _ (off39 k) 36 rfl _ (by decide) x,
    fun x => put8 (DAA arg10 (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (k0_pay1 v19) (XA arg1 X1 k) (YA arg1 X1 k)) (resA v19 (arg1.view.read (Elt Ideal) X1) (arg2.view.read (Elt Ideal) X2) (arg4.view.read (Elt Ideal) X4) (arg5.view.read (Elt Ideal) X5) (arg6.view.read (Elt Ideal) X6)) k 5 (by decide) (DAA_at 𝒱 c bd i arg1 harg1 arg2 harg2 arg3 harg3 arg4 harg4 arg5 harg5 arg6 harg6 arg7 harg7 arg8 harg8 arg9 harg9 arg10 harg10 v19 X1 X2 X4 X5 X6 k) _ (off38 k) 30 rfl _ (by decide) x,
    fun x => put8 (DAA arg10 (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (k0_pay1 v19) (XA arg1 X1 k) (YA arg1 X1 k)) (resA v19 (arg1.view.read (Elt Ideal) X1) (arg2.view.read (Elt Ideal) X2) (arg4.view.read (Elt Ideal) X4) (arg5.view.read (Elt Ideal) X5) (arg6.view.read (Elt Ideal) X6)) k 4 (by decide) (DAA_at 𝒱 c bd i arg1 harg1 arg2 harg2 arg3 harg3 arg4 harg4 arg5 harg5 arg6 harg6 arg7 harg7 arg8 harg8 arg9 harg9 arg10 harg10 v19 X1 X2 X4 X5 X6 k) _ (off37 k) 24 rfl _ (by decide) x,
    fun x => put8 (DAA arg10 (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (k0_pay1 v19) (XA arg1 X1 k) (YA arg1 X1 k)) (resA v19 (arg1.view.read (Elt Ideal) X1) (arg2.view.read (Elt Ideal) X2) (arg4.view.read (Elt Ideal) X4) (arg5.view.read (Elt Ideal) X5) (arg6.view.read (Elt Ideal) X6)) k 3 (by decide) (DAA_at 𝒱 c bd i arg1 harg1 arg2 harg2 arg3 harg3 arg4 harg4 arg5 harg5 arg6 harg6 arg7 harg7 arg8 harg8 arg9 harg9 arg10 harg10 v19 X1 X2 X4 X5 X6 k) _ (off36 k) 18 rfl _ (by decide) x,
    fun x => put8 (DAA arg10 (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (k0_pay1 v19) (XA arg1 X1 k) (YA arg1 X1 k)) (resA v19 (arg1.view.read (Elt Ideal) X1) (arg2.view.read (Elt Ideal) X2) (arg4.view.read (Elt Ideal) X4) (arg5.view.read (Elt Ideal) X5) (arg6.view.read (Elt Ideal) X6)) k 2 (by decide) (DAA_at 𝒱 c bd i arg1 harg1 arg2 harg2 arg3 harg3 arg4 harg4 arg5 harg5 arg6 harg6 arg7 harg7 arg8 harg8 arg9 harg9 arg10 harg10 v19 X1 X2 X4 X5 X6 k) _ (off35 k) 12 rfl _ (by decide) x,
    fun x => put8 (DAA arg10 (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (k0_pay1 v19) (XA arg1 X1 k) (YA arg1 X1 k)) (resA v19 (arg1.view.read (Elt Ideal) X1) (arg2.view.read (Elt Ideal) X2) (arg4.view.read (Elt Ideal) X4) (arg5.view.read (Elt Ideal) X5) (arg6.view.read (Elt Ideal) X6)) k 1 (by decide) (DAA_at 𝒱 c bd i arg1 harg1 arg2 harg2 arg3 harg3 arg4 harg4 arg5 harg5 arg6 harg6 arg7 harg7 arg8 harg8 arg9 harg9 arg10 harg10 v19 X1 X2 X4 X5 X6 k) _ (off34 k) 6 rfl _ (by decide) x,
    fun x => put8 (DAA arg10 (dotArr 𝒱 c bd i arg1 harg1 arg2 harg2 arg3 harg3 arg4 harg4 arg5 harg5 arg6 harg6 arg7 harg7 arg8 harg8 arg9 harg9 arg10 harg10 X4 X5 X6 k (View.readAt (Elt Ideal) arg4.view (Rect.unit (s := S2x48x256) (k0_off2 k) S1x48x256.size (k0_off2_inb k)).toLoadRect X4) (View.readAt (Elt Ideal) arg6.view (Rect.unit (s := S2x192x128) (k0_off16 k) S1x192x128.size (k0_off16_inb k)).toLoadRect X6)) (k0_pay1 v19) (XA arg1 X1 k) (YA arg1 X1 k)) (resA v19 (arg1.view.read (Elt Ideal) X1) (arg2.view.read (Elt Ideal) X2) (arg4.view.read (Elt Ideal) X4) (arg5.view.read (Elt Ideal) X5) (arg6.view.read (Elt Ideal) X6)) k 0 (by decide) (DAA_at 𝒱 c bd i arg1 harg1 arg2 harg2 arg3 harg3 arg4 harg4 arg5 harg5 arg6 harg6 arg7 harg7 arg8 harg8 arg9 harg9 arg10 harg10 v19 X1 X2 X4 X5 X6 k) _ (off33 k) 0 rfl _ (by decide) x⟩

/-- The pieces of the heads before the `n`-th. -/
theorem pb7 (𝒱 : Variants) (c : Dev nD) (bd : Option 𝒱.V) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole) (v19 : Vec Ideal S1x256 .f32) (X1 : BufTy.Contents (Elt Ideal) arg1.view.ty) (X2 : BufTy.Contents (Elt Ideal) arg2.view.ty) (X4 : BufTy.Contents (Elt Ideal) arg4.view.ty) (X5 : BufTy.Contents (Elt Ideal) arg5.view.ty) (X6 : BufTy.Contents (Elt Ideal) arg6.view.ty) :
    ∀ n : ℕ, n ≤ k0_t1_loop.trips → ∀ p ∈ (pb (F := Ideal) 𝒱 c bd i arg1 harg1 arg2 harg2 arg3 harg3 arg4 harg4 arg5 harg5 arg6 harg6 arg7 harg7 arg8 harg8 arg9 harg9 arg10 harg10 v19 X1 X2 X4 X5 X6 n).1, ∀ x : p.1.shape.Idx,
      p.2 x = (fun y : S2x24x2x256.Idx => resL v19 (arg1.view.read (Elt Ideal) X1) (arg2.view.read (Elt Ideal) X2) (arg4.view.read (Elt Ideal) X4) (arg5.view.read (Elt Ideal) X5) (arg6.view.read (Elt Ideal) X6) (y 2).val (y 0).val ((y 1).val / 6 * 12 + (y 3).val / 128 * 6 + (y 1).val % 6) ((y 3).val % 128)) (p.1.emb x)
  | 0, _, p, hp, x => absurd hp List.not_mem_nil
  | n + 1, hn, p, hp, x => by
    rw [pb_succ (F := Ideal) 𝒱 c bd i arg1 harg1 arg2 harg2 arg3 harg3 arg4 harg4 arg5 harg5 arg6 harg6 arg7 harg7 arg8 harg8 arg9 harg9 arg10 harg10 v19 X1 X2 X4 X5 X6 ⟨n, hn⟩] at hp
    rcases List.mem_append.1 hp with hp | hp
    · exact trip7 𝒱 c bd i arg1 harg1 arg2 harg2 arg3 harg3 arg4 harg4 arg5 harg5 arg6 harg6 arg7 harg7 arg8 harg8 arg9 harg9 arg10 harg10 v19 X1 X2 X4 X5 X6 ⟨n, hn⟩ p hp x
    · exact pb7 𝒱 c bd i arg1 harg1 arg2 harg2 arg3 harg3 arg4 harg4 arg5 harg5 arg6 harg6 arg7 harg7 arg8 harg8 arg9 harg9 arg10 harg10 v19 X1 X2 X4 X5 X6 n (Nat.le_of_succ_le hn) p hp x

/-- The pieces of the heads before the `n`-th. -/
theorem pb8 (𝒱 : Variants) (c : Dev nD) (bd : Option 𝒱.V) (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole) (v19 : Vec Ideal S1x256 .f32) (X1 : BufTy.Contents (Elt Ideal) arg1.view.ty) (X2 : BufTy.Contents (Elt Ideal) arg2.view.ty) (X4 : BufTy.Contents (Elt Ideal) arg4.view.ty) (X5 : BufTy.Contents (Elt Ideal) arg5.view.ty) (X6 : BufTy.Contents (Elt Ideal) arg6.view.ty) :
    ∀ n : ℕ, n ≤ k0_t1_loop.trips → ∀ p ∈ (pb (F := Ideal) 𝒱 c bd i arg1 harg1 arg2 harg2 arg3 harg3 arg4 harg4 arg5 harg5 arg6 harg6 arg7 harg7 arg8 harg8 arg9 harg9 arg10 harg10 v19 X1 X2 X4 X5 X6 n).2, ∀ x : p.1.shape.Idx,
      p.2 x = (fun y : S2x6x4x256.Idx => resA v19 (arg1.view.read (Elt Ideal) X1) (arg2.view.read (Elt Ideal) X2) (arg4.view.read (Elt Ideal) X4) (arg5.view.read (Elt Ideal) X5) (arg6.view.read (Elt Ideal) X6) (y 0).val ((y 2).val * 12 + (y 3).val / 128 * 6 + (y 1).val) ((y 3).val % 128)) (p.1.emb x)
  | 0, _, p, hp, x => absurd hp List.not_mem_nil
  | n + 1, hn, p, hp, x => by
    rw [pb_succ (F := Ideal) 𝒱 c bd i arg1 harg1 arg2 harg2 arg3 harg3 arg4 harg4 arg5 harg5 arg6 harg6 arg7 harg7 arg8 harg8 arg9 harg9 arg10 harg10 v19 X1 X2 X4 X5 X6 ⟨n, hn⟩] at hp
    rcases List.mem_append.1 hp with hp | hp
    · exact trip8 𝒱 c bd i arg1 harg1 arg2 harg2 arg3 harg3 arg4 harg4 arg5 harg5 arg6 harg6 arg7 harg7 arg8 harg8 arg9 harg9 arg10 harg10 v19 X1 X2 X4 X5 X6 ⟨n, hn⟩ p hp x
    · exact pb8 𝒱 c bd i arg1 harg1 arg2 harg2 arg3 harg3 arg4 harg4 arg5 harg5 arg6 harg6 arg7 harg7 arg8 harg8 arg9 harg9 arg10 harg10 v19 X1 X2 X4 X5 X6 n (Nat.le_of_succ_le hn) p hp x

end Cert.KernelIdeal.Hand

end
-- ==== Proof.Spec.lean ====
/-
  The arguments read by head, level, corner, point and query, and one sampled point's results of them.
-/
module

public import proofs.«01_k».proof.Proof.Decode
public import proofs.«01_k».proof.Proof.Geometry
public import Idealize.ShloMosaic.Lib.Pointwise

@[expose] public section

noncomputable section

namespace Cert.Decode

open Idealize.ShloMosaic

/-- The location of point `r % 6` on level `r / 6` of head `n` for query `q` on axis `ax`. -/
def tX (a : (⟨6, ![3, 256, 8, 4, 6, 2]⟩ : Shape).Idx → EReal) (n r ax q : ℕ) : EReal :=
  a (ix6 (Fin.ofNat 3 (n / 8)) (Fin.ofNat 256 q) (Fin.ofNat 8 (n % 8)) (Fin.ofNat 4 (r / 6)) (Fin.ofNat 6 (r % 6)) (Fin.ofNat 2 ax))

/-- The attention weight of point `p` on level `l` of head `n` for query `q`. -/
def tA (a : (⟨5, ![3, 256, 8, 4, 6]⟩ : Shape).Idx → EReal) (n l p q : ℕ) : EReal :=
  a (ix5 (Fin.ofNat 3 (n / 8)) (Fin.ofNat 256 q) (Fin.ofNat 8 (n % 8)) (Fin.ofNat 4 l) (Fin.ofNat 6 p))

/-- The scale of `g` of head `n` for query `q`. -/
def tGS (a : (⟨2, ![3, 256]⟩ : Shape).Idx → EReal) (n q : ℕ) : EReal := a (ix2 (Fin.ofNat 3 (n / 8)) (Fin.ofNat 256 q))

/-- The element `d` of `g` of head `n` for query `q`. -/
def tG (a : (⟨3, ![24, 48, 256]⟩ : Shape).Idx → EReal) (n d q : ℕ) : EReal := a (ix3 (Fin.ofNat 24 n) (Fin.ofNat 48 d) (Fin.ofNat 256 q))

/-- The code word `k` of head `n` at row `R`, lane `c`. -/
def tW (a : (⟨1, ![7077888]⟩ : Shape).Idx → BitVec 32) (n k R c : ℕ) : BitVec 32 := a (ix1 (Fin.ofNat 7077888 (((n * 12 + k) * 192 + R) * 128 + c)))

/-- The bits of the scale of head `n` at row `R`, lane `c`. -/
def tS (a : (⟨1, ![589824]⟩ : Shape).Idx → BitVec 32) (n R c : ℕ) : BitVec 32 := a (ix1 (Fin.ofNat 589824 ((n * 192 + R) * 128 + c)))

/-- The row of corner `cr` of point `p` on level `l` for query `q`. -/
abbrev rowOf (l cr p q : ℕ) : ℕ := l * 48 + 12 * cr + (q / 128 * 6 + p)

/-- The dot product of one corner's codes with `g`, byte by byte, times the corner's scale. -/
def dotT (a3 : (⟨3, ![24, 48, 256]⟩ : Shape).Idx → EReal) (a4 : (⟨1, ![7077888]⟩ : Shape).Idx → BitVec 32) (a5 : (⟨1, ![589824]⟩ : Shape).Idx → BitVec 32)
    (n l cr p q : ℕ) : EReal :=
  ((∑ k : Fin 12, code (tW a4 n k.val (rowOf l cr p q) (q % 128)) 0 * tG a3 n (4 * k.val + 0) q)
    + (∑ k : Fin 12, code (tW a4 n k.val (rowOf l cr p q) (q % 128)) 1 * tG a3 n (4 * k.val + 1) q)
    + (∑ k : Fin 12, code (tW a4 n k.val (rowOf l cr p q) (q % 128)) 2 * tG a3 n (4 * k.val + 2) q)
    + (∑ k : Fin 12, code (tW a4 n k.val (rowOf l cr p q) (q % 128)) 3 * tG a3 n (4 * k.val + 3) q))
  * Ideal.ofBits .f32 (tS a5 n (rowOf l cr p q) (q % 128))

variable (a0 : (⟨6, ![3, 256, 8, 4, 6, 2]⟩ : Shape).Idx → EReal) (a1 : (⟨5, ![3, 256, 8, 4, 6]⟩ : Shape).Idx → EReal) (a2 : (⟨2, ![3, 256]⟩ : Shape).Idx → EReal)
  (a3 : (⟨3, ![24, 48, 256]⟩ : Shape).Idx → EReal) (a4 : (⟨1, ![7077888]⟩ : Shape).Idx → BitVec 32) (a5 : (⟨1, ![589824]⟩ : Shape).Idx → BitVec 32)

/-- The gradient of an attention weight. -/
def outA (n l p q : ℕ) : EReal :=
  kda (tX a0 n (l * 6 + p) 0 q) (tX a0 n (l * 6 + p) 1 q) (kw l) (kh l) (tGS a2 n q)
    (dotT a3 a4 a5 n l 0 p q) (dotT a3 a4 a5 n l 1 p q) (dotT a3 a4 a5 n l 2 p q) (dotT a3 a4 a5 n l 3 p q)

/-- The gradient of a location on axis `ax`. -/
def outL (ax n l p q : ℕ) : EReal :=
  if ax = 0 then kdx (tX a0 n (l * 6 + p) 0 q) (tX a0 n (l * 6 + p) 1 q) (kw l) (kh l) (tGS a2 n q) (tA a1 n l p q)
    (dotT a3 a4 a5 n l 0 p q) (dotT a3 a4 a5 n l 1 p q) (dotT a3 a4 a5 n l 2 p q) (dotT a3 a4 a5 n l 3 p q)
  else kdy (tX a0 n (l * 6 + p) 0 q) (tX a0 n (l * 6 + p) 1 q) (kw l) (kh l) (tGS a2 n q) (tA a1 n l p q)
    (dotT a3 a4 a5 n l 0 p q) (dotT a3 a4 a5 n l 1 p q) (dotT a3 a4 a5 n l 2 p q) (dotT a3 a4 a5 n l 3 p q)

end Cert.Decode

end
-- ==== Proof.ValueOut.lean ====
/-
  What the kernel leaves in its two results: every element is the gradient of its point, of the arguments.
-/
module

public import proofs.«01_k».proof.Proof.ValuePieces
public import proofs.«01_k».proof.Proof.Spec
public import proofs.«01_k».proof.Proof.KernelIdealFrame
public import Idealize.ShloMosaic.Lib.Pipeline.ValueKit
public import Idealize.ShloMosaic.Lib.Claim

@[expose] public section

set_option maxRecDepth 16384
set_option maxHeartbeats 4000000

noncomputable section

namespace Cert.KernelIdeal.Hand

open Cert.KernelIdeal Cert.KernelIdeal.Gen Cert.Decode
open Idealize.ShloMosaic Idealize.ShloMosaic.Tactic Idealize.ShloMosaic.Pointwise

open Idealize.ShloMosaic.TcCoe Idealize.SL Idealize.SL.Sem Idealize.ShloMosaic.ValueKit

/-- The row of the scales of `g` that grid point `i` reads. -/
def gsRow (i : grid0.Coords) (x : S3x256.Idx → EReal) : S1x256.Idx → EReal := fun z => x (ix2 (Fin.ofNat 3 ((i 0).val / 4)) (z 1))

/-- The offset of that row. -/
theorem off1 : ∀ i : grid0.Coords, k0_off1 i = ![(i 0).val / 4, 0] := by decide +kernel

/-- The load of that row. -/
theorem ld3 (i : grid0.Coords) (arg3 : Memref sig .tc .vmem S3x256 .f32) (X : BufTy.Contents (Elt Ideal) arg3.view.ty) (inb) :
    View.readAt (Elt Ideal) arg3.view (Rect.unit (s := S3x256) (k0_off1 i) S1x256.size inb).toLoadRect X = gsRow i (arg3.view.read (Elt Ideal) X) := by
  revert inb
  rw [off1]
  intro inb
  funext z
  have hi : (i 0).val < 12 := (i 0).isLt
  show arg3.view.read (Elt Ideal) X _ = arg3.view.read (Elt Ideal) X _
  congr 1
  funext a
  apply Fin.ext
  match a with
  | ⟨0, _⟩ =>
    show (i 0).val / 4 + 1 * (z 0).val = (Fin.ofNat 3 ((i 0).val / 4)).val
    have hz : (z 0).val < 1 := (z 0).isLt
    simp only [Fin.ofNat]; omega
  | ⟨1, _⟩ =>
    show 0 + 1 * (z 1).val = (z 1).val
    omega

/-- One grid point's block of a result, element by element. -/
theorem out6_at (c : Dev nD)  (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole) (x0 : Vec Ideal S2x24x2x256 .f32) (x1 : Vec Ideal S2x6x4x256 .f32) (x2 : Vec Ideal S3x256 .f32) (x3 : Vec Ideal S2x48x256 .bf16) (x4 : Vec Ideal S2x12x192x128 .i32) (x5 : Vec Ideal S2x192x128 .i32) (y : S2x24x2x256.Idx) :
    out0_A_6 (F := Ideal) c i arg1 harg1 arg2 harg2 arg3 harg3 arg4 harg4 arg5 harg5 arg6 harg6 arg7 harg7 arg8 harg8 arg9 harg9 arg10 harg10 x0 x1 x2 x3 x4 x5 y = resL (gsRow i x2) x0 x1 x3 x4 x5 (y 2).val (y 0).val ((y 1).val / 6 * 12 + (y 3).val / 128 * 6 + (y 1).val % 6) ((y 3).val % 128) := by
  unfold out0_A_6
  refine View.read_writes_apply_of_pieces _ _ (fun y : S2x24x2x256.Idx => resL (gsRow i x2) x0 x1 x3 x4 x5 (y 2).val (y 0).val ((y 1).val / 6 * 12 + (y 3).val / 128 * 6 + (y 1).val % 6) ((y 3).val % 128)) _ (fun p hp x => ?_) y (cover0_A_6 c i arg1 harg1 arg2 harg2 arg3 harg3 arg4 harg4 arg5 harg5 arg6 harg6 arg7 harg7 arg8 harg8 arg9 harg9 arg10 harg10 x0 x1 x2 x3 x4 x5 y)
  have e := pb7 Variants.none c none i arg1 harg1 arg2 harg2 arg3 harg3 arg4 harg4 arg5 harg5 arg6 harg6 arg7 harg7 arg8 harg8 arg9 harg9 arg10 harg10 (View.readAt (Elt Ideal) arg3.view (Rect.unit (s := S3x256) (k0_off1 i) S1x256.size (k0_off1_inb i)).toLoadRect (harg3.unread x2)) (harg1.unread x0) (harg2.unread x1) (harg4.unread x3) (harg5.unread x4) (harg6.unread x5) k0_t1_loop.trips le_rfl p hp x
  rw [ld3, harg1.read_unread, harg2.read_unread, harg3.read_unread, harg4.read_unread, harg5.read_unread, harg6.read_unread] at e
  exact e

/-- One grid point's block of a result, element by element. -/
theorem out7_at (c : Dev nD)  (i : grid0.Coords) (arg1 : Memref sig .tc .vmem S2x24x2x256 .f32) (harg1 : arg1.IsWhole) (arg2 : Memref sig .tc .vmem S2x6x4x256 .f32) (harg2 : arg2.IsWhole) (arg3 : Memref sig .tc .vmem S3x256 .f32) (harg3 : arg3.IsWhole) (arg4 : Memref sig .tc .vmem S2x48x256 .bf16) (harg4 : arg4.IsWhole) (arg5 : Memref sig .tc .vmem S2x12x192x128 .i32) (harg5 : arg5.IsWhole) (arg6 : Memref sig .tc .vmem S2x192x128 .i32) (harg6 : arg6.IsWhole) (arg7 : Memref sig .tc .vmem S2x24x2x256 .f32) (harg7 : arg7.IsWhole) (arg8 : Memref sig .tc .vmem S2x6x4x256 .f32) (harg8 : arg8.IsWhole) (arg9 : Memref sig .tc .vmem S768x128 .f32) (harg9 : arg9.IsWhole) (arg10 : Memref sig .tc .vmem S192x128 .f32) (harg10 : arg10.IsWhole) (x0 : Vec Ideal S2x24x2x256 .f32) (x1 : Vec Ideal S2x6x4x256 .f32) (x2 : Vec Ideal S3x256 .f32) (x3 : Vec Ideal S2x48x256 .bf16) (x4 : Vec Ideal S2x12x192x128 .i32) (x5 : Vec Ideal S2x192x128 .i32) (y : S2x6x4x256.Idx) :
    out0_A_7 (F := Ideal) c i arg1 harg1 arg2 harg2 arg3 harg3 arg4 harg4 arg5 harg5 arg6 harg6 arg7 harg7 arg8 harg8 arg9 harg9 arg10 harg10 x0 x1 x2 x3 x4 x5 y = resA (gsRow i x2) x0 x1 x3 x4 x5 (y 0).val ((y 2).val * 12 + (y 3).val / 128 * 6 + (y 1).val) ((y 3).val % 128) := by
  unfold out0_A_7
  refine View.read_writes_apply_of_pieces _ _ (fun y : S2x6x4x256.Idx => resA (gsRow i x2) x0 x1 x3 x4 x5 (y 0).val ((y 2).val * 12 + (y 3).val / 128 * 6 + (y 1).val) ((y 3).val % 128)) _ (fun p hp x => ?_) y (cover0_A_7 c i arg1 harg1 arg2 harg2 arg3 harg3 arg4 harg4 arg5 harg5 arg6 harg6 arg7 harg7 arg8 harg8 arg9 harg9 arg10 harg10 x0 x1 x2 x3 x4 x5 y)
  have e := pb8 Variants.none c none i arg1 harg1 arg2 harg2 arg3 harg3 arg4 harg4 arg5 harg5 arg6 harg6 arg7 harg7 arg8 harg8 arg9 harg9 arg10 harg10 (View.readAt (Elt Ideal) arg3.view (Rect.unit (s := S3x256) (k0_off1 i) S1x256.size (k0_off1_inb i)).toLoadRect (harg3.unread x2)) (harg1.unread x0) (harg2.unread x1) (harg4.unread x3) (harg5.unread x4) (harg6.unread x5) k0_t1_loop.trips le_rfl p hp x
  rw [ld3, harg1.read_unread, harg2.read_unread, harg3.read_unread, harg4.read_unread, harg5.read_unread, harg6.read_unread] at e
  exact e

/-- One accumulator row of the arguments. -/
theorem accv_eq (X4 : S2x48x256.Idx → EReal) (W : S2x12x192x128.Idx → BitVec 32) (S : S2x192x128.Idx → BitVec 32)
    (a3 : S24x48x256.Idx → EReal) (a4 : S7077888.Idx → BitVec 32) (a5 : S589824.Idx → BitVec 32) (t : ℕ)
    (H3 : ∀ (h : Fin 2) (d : Fin 48) (q : Fin 256), X4 (ix3 h d q) = tG a3 (2 * t + h) d q)
    (H4 : ∀ (h : Fin 2) (k : Fin 12) (R : Fin 192) (c : Fin 128), W (ix4 h k R c) = tW a4 (2 * t + h) k R c) (h R j c q : ℕ) (hh : h < 2) (hR : R < 192) (hj : j < 4) (hc : c < 128) (hq : q < 256) (e : 128 * (R / 6 % 2) + c = q) :
    accv (headG X4 h) W h (4 * R + j) c = ∑ k : Fin 12, code (tW a4 (2 * t + h) k.val R c) j * tG a3 (2 * t + h) (4 * k.val + j) q := by
  unfold accv
  refine Finset.sum_congr rfl fun k _ => ?_
  have hk := k.isLt
  rw [show (4 * R + j) / 4 = R by omega, show (4 * R + j) % 4 = j by omega, show (4 * R + j) / 24 % 2 = R / 6 % 2 by omega, e,
    wN, dif_pos ⟨hh, hk, hR, hc⟩, gN, dif_pos (show 4 * k.val + j < 48 ∧ q < 256 by omega), headG, dif_pos hh]
  rw [H4]
  exact congrArg _ (H3 ⟨h, hh⟩ ⟨4 * k.val + j, _⟩ ⟨q, hq⟩)

/-- One corner's dot product of the arguments. -/
theorem dotN_eq (X4 : S2x48x256.Idx → EReal) (W : S2x12x192x128.Idx → BitVec 32) (S : S2x192x128.Idx → BitVec 32)
    (a3 : S24x48x256.Idx → EReal) (a4 : S7077888.Idx → BitVec 32) (a5 : S589824.Idx → BitVec 32) (t : ℕ)
    (H3 : ∀ (h : Fin 2) (d : Fin 48) (q : Fin 256), X4 (ix3 h d q) = tG a3 (2 * t + h) d q)
    (H4 : ∀ (h : Fin 2) (k : Fin 12) (R : Fin 192) (c : Fin 128), W (ix4 h k R c) = tW a4 (2 * t + h) k R c)
    (H5 : ∀ (h : Fin 2) (R : Fin 192) (c : Fin 128), S (ix3 h R c) = tS a5 (2 * t + h) R c) (h l cr p q : ℕ) (hh : h < 2) (hl : l < 4) (hcr : cr < 4) (hp : p < 6) (hq : q < 256) :
    dotN (headG X4 h) W S h (rowOf l cr p q) (q % 128) = dotT a3 a4 a5 (2 * t + h) l cr p q := by
  have hR : rowOf l cr p q < 192 := by unfold rowOf; omega
  have hc : q % 128 < 128 := by omega
  have e : 128 * (rowOf l cr p q / 6 % 2) + q % 128 = q := by unfold rowOf; omega
  unfold dotN dotT
  rw [accv_eq X4 W S a3 a4 a5 t H3 H4 h _ 0 _ q hh hR (by decide) hc hq e, accv_eq X4 W S a3 a4 a5 t H3 H4 h _ 1 _ q hh hR (by decide) hc hq e,
    accv_eq X4 W S a3 a4 a5 t H3 H4 h _ 2 _ q hh hR (by decide) hc hq e, accv_eq X4 W S a3 a4 a5 t H3 H4 h _ 3 _ q hh hR (by decide) hc hq e,
    scN, dif_pos ⟨hh, hR, hc⟩, H5]

/-- One point's location. -/
theorem locN_eq (X1 : S2x24x2x256.Idx → EReal) (a0 : S3x256x8x4x6x2.Idx → EReal) (t : ℕ)
    (H0 : ∀ (h : Fin 2) (r : Fin 24) (ax : Fin 2) (q : Fin 256), X1 (ix4 h r ax q) = tX a0 (2 * t + h) r ax q)
    (h r ax q : ℕ) (hh : h < 2) (hr : r < 24) (hax : ax < 2) (hq : q < 256) : locN X1 h r ax q = tX a0 (2 * t + h) r ax q := by
  rw [locN, dif_pos ⟨hh, hr, hax, hq⟩, H0]

/-- One element of a block is the gradient of its point. -/
theorem resA_eq (v19 : S1x256.Idx → EReal) (X1 : S2x24x2x256.Idx → EReal) (X2 : S2x6x4x256.Idx → EReal) (X4 : S2x48x256.Idx → EReal) (W : S2x12x192x128.Idx → BitVec 32) (S : S2x192x128.Idx → BitVec 32)
    (a0 : S3x256x8x4x6x2.Idx → EReal) (a1 : S3x256x8x4x6.Idx → EReal) (a2 : S3x256.Idx → EReal) (a3 : S24x48x256.Idx → EReal) (a4 : S7077888.Idx → BitVec 32) (a5 : S589824.Idx → BitVec 32) (t : ℕ)
    (H0 : ∀ (h : Fin 2) (r : Fin 24) (ax : Fin 2) (q : Fin 256), X1 (ix4 h r ax q) = tX a0 (2 * t + h) r ax q)
    (H1 : ∀ (h : Fin 2) (p : Fin 6) (l : Fin 4) (q : Fin 256), X2 (ix4 h p l q) = tA a1 (2 * t + h) l p q)
    (H2 : ∀ (h : Fin 2) (q : Fin 256), v19 (ix2 0 q) = tGS a2 (2 * t + h) q)
    (H3 : ∀ (h : Fin 2) (d : Fin 48) (q : Fin 256), X4 (ix3 h d q) = tG a3 (2 * t + h) d q)
    (H4 : ∀ (h : Fin 2) (k : Fin 12) (R : Fin 192) (c : Fin 128), W (ix4 h k R c) = tW a4 (2 * t + h) k R c)
    (H5 : ∀ (h : Fin 2) (R : Fin 192) (c : Fin 128), S (ix3 h R c) = tS a5 (2 * t + h) R c)
    (h l p q r : ℕ) (hh : h < 2) (hl : l < 4) (hp : p < 6) (hq : q < 256) (hr : r = l * 12 + q / 128 * 6 + p) :
    resA v19 X1 X2 X4 W S h r (q % 128) = outA a0 a2 a3 a4 a5 (2 * t + h) l p q := by
  have e1 : r / 12 = l := by omega
  have e2 : r % 6 = p := by omega
  have e3 : 128 * (r / 6 % 2) + q % 128 = q := by omega
  have e4 : l * 48 + 0 + r % 12 = rowOf l 0 p q := by unfold rowOf; omega
  have e5 : l * 48 + 12 + r % 12 = rowOf l 1 p q := by unfold rowOf; omega
  have e6 : l * 48 + 24 + r % 12 = rowOf l 2 p q := by unfold rowOf; omega
  have e7 : l * 48 + 36 + r % 12 = rowOf l 3 p q := by unfold rowOf; omega
  have hgs : gsN v19 q = tGS a2 (2 * t + h) q := by rw [gsN, dif_pos hq]; exact H2 ⟨h, hh⟩ ⟨q, hq⟩
  have ha : attN X2 h p l q = tA a1 (2 * t + h) l p q := by rw [attN, dif_pos ⟨hh, hp, hl, hq⟩, H1]
  unfold resA outA
  rw [e1, e2, e3, e4, e5, e6, e7, locN_eq X1 a0 t H0 h _ 0 q hh (by omega) (by decide) hq, locN_eq X1 a0 t H0 h _ 1 q hh (by omega) (by decide) hq, hgs,
    dotN_eq X4 W S a3 a4 a5 t H3 H4 H5 h l 0 p q hh hl (by decide) hp hq, dotN_eq X4 W S a3 a4 a5 t H3 H4 H5 h l 1 p q hh hl (by decide) hp hq, dotN_eq X4 W S a3 a4 a5 t H3 H4 H5 h l 2 p q hh hl (by decide) hp hq, dotN_eq X4 W S a3 a4 a5 t H3 H4 H5 h l 3 p q hh hl (by decide) hp hq]

/-- One element of a block is the gradient of its point. -/
theorem resL_eq (v19 : S1x256.Idx → EReal) (X1 : S2x24x2x256.Idx → EReal) (X2 : S2x6x4x256.Idx → EReal) (X4 : S2x48x256.Idx → EReal) (W : S2x12x192x128.Idx → BitVec 32) (S : S2x192x128.Idx → BitVec 32)
    (a0 : S3x256x8x4x6x2.Idx → EReal) (a1 : S3x256x8x4x6.Idx → EReal) (a2 : S3x256.Idx → EReal) (a3 : S24x48x256.Idx → EReal) (a4 : S7077888.Idx → BitVec 32) (a5 : S589824.Idx → BitVec 32) (t : ℕ)
    (H0 : ∀ (h : Fin 2) (r : Fin 24) (ax : Fin 2) (q : Fin 256), X1 (ix4 h r ax q) = tX a0 (2 * t + h) r ax q)
    (H1 : ∀ (h : Fin 2) (p : Fin 6) (l : Fin 4) (q : Fin 256), X2 (ix4 h p l q) = tA a1 (2 * t + h) l p q)
    (H2 : ∀ (h : Fin 2) (q : Fin 256), v19 (ix2 0 q) = tGS a2 (2 * t + h) q)
    (H3 : ∀ (h : Fin 2) (d : Fin 48) (q : Fin 256), X4 (ix3 h d q) = tG a3 (2 * t + h) d q)
    (H4 : ∀ (h : Fin 2) (k : Fin 12) (R : Fin 192) (c : Fin 128), W (ix4 h k R c) = tW a4 (2 * t + h) k R c)
    (H5 : ∀ (h : Fin 2) (R : Fin 192) (c : Fin 128), S (ix3 h R c) = tS a5 (2 * t + h) R c)
    (ax h l p q r : ℕ) (hh : h < 2) (hl : l < 4) (hp : p < 6) (hq : q < 256) (hr : r = l * 12 + q / 128 * 6 + p) :
    resL v19 X1 X2 X4 W S ax h r (q % 128) = outL a0 a1 a2 a3 a4 a5 ax (2 * t + h) l p q := by
  have e1 : r / 12 = l := by omega
  have e2 : r % 6 = p := by omega
  have e3 : 128 * (r / 6 % 2) + q % 128 = q := by omega
  have e4 : l * 48 + 0 + r % 12 = rowOf l 0 p q := by unfold rowOf; omega
  have e5 : l * 48 + 12 + r % 12 = rowOf l 1 p q := by unfold rowOf; omega
  have e6 : l * 48 + 24 + r % 12 = rowOf l 2 p q := by unfold rowOf; omega
  have e7 : l * 48 + 36 + r % 12 = rowOf l 3 p q := by unfold rowOf; omega
  have hgs : gsN v19 q = tGS a2 (2 * t + h) q := by rw [gsN, dif_pos hq]; exact H2 ⟨h, hh⟩ ⟨q, hq⟩
  have ha : attN X2 h p l q = tA a1 (2 * t + h) l p q := by rw [attN, dif_pos ⟨hh, hp, hl, hq⟩, H1]
  unfold resL outL
  rw [e1, e2, e3, e4, e5, e6, e7, locN_eq X1 a0 t H0 h _ 0 q hh (by omega) (by decide) hq, locN_eq X1 a0 t H0 h _ 1 q hh (by omega) (by decide) hq, hgs, ha,
    dotN_eq X4 W S a3 a4 a5 t H3 H4 H5 h l 0 p q hh hl (by decide) hp hq, dotN_eq X4 W S a3 a4 a5 t H3 H4 H5 h l 1 p q hh hl (by decide) hp hq, dotN_eq X4 W S a3 a4 a5 t H3 H4 H5 h l 2 p q hh hl (by decide) hp hq, dotN_eq X4 W S a3 a4 a5 t H3 H4 H5 h l 3 p q hh hl (by decide) hp hq]

end Cert.KernelIdeal.Hand

end
-- ==== Proof.ValueFinal.lean ====
/-
  The kernel's run: its two results hold every point's gradients, of the arguments.
-/
module

public import proofs.«01_k».proof.Proof.ValueOut
public import Idealize.ShloMosaic.Lib.ValueIdxRank6
public import Idealize.ShloMosaic.Lib.Pipeline.Value

@[expose] public section

set_option maxRecDepth 16384
set_option maxHeartbeats 4000000

noncomputable section

namespace Cert.KernelIdeal.Hand

open Cert.KernelIdeal Cert.KernelIdeal.Gen Cert.Decode
open Idealize.ShloMosaic Idealize.ShloMosaic.Tactic Idealize.ShloMosaic.Pointwise
open Idealize.ShloMosaic.TcCoe Idealize.SL Idealize.SL.Sem Idealize.ShloMosaic.ValueKit

variable (m : (ℓ : Loc nD τ sig) → Buf (Elt Ideal) ℓ) (ρ : Dev nD → PrngReg) (c : Dev nD)

/-- The arguments. -/
abbrev B0 : S3x256x8x4x6x2.Idx → EReal := m ((c.tc : Thread nD τ).loc main_arg0)
abbrev B1 : S3x256x8x4x6.Idx → EReal := m ((c.tc : Thread nD τ).loc main_arg1)
abbrev B2 : S3x256.Idx → EReal := m ((c.tc : Thread nD τ).loc main_arg2)
abbrev B3 : S24x48x256.Idx → EReal := m ((c.tc : Thread nD τ).loc main_arg3)
abbrev B4 : S7077888.Idx → BitVec 32 := m ((c.tc : Thread nD τ).loc main_arg4)
abbrev B5 : S589824.Idx → BitVec 32 := m ((c.tc : Thread nD τ).loc main_arg5)

/-- The windows' places in their arrays. -/
theorem idx : ∀ t : Fin cfg0.N, win0_0.index t = ![(grid0.coords t 0).val, 0, 0, 0] ∧ win0_1.index t = ![(grid0.coords t 0).val, 0, 0, 0]
    ∧ win0_2.index t = ![0, 0] ∧ win0_3.index t = ![(grid0.coords t 0).val, 0, 0] ∧ win0_4.index t = ![(grid0.coords t 0).val, 0, 0, 0]
    ∧ win0_5.index t = ![(grid0.coords t 0).val, 0, 0] ∧ win0_6.index t = ![(grid0.coords t 0).val, 0, 0, 0] ∧ win0_7.index t = ![(grid0.coords t 0).val, 0, 0, 0] := by
  decide +kernel

/-- The places of a block of window 0. -/
theorem emb0 (t : Fin cfg0.N) (h : Fin 2) (r : Fin 24) (ax : Fin 2) (q : Fin 256) :
    (win0_0.blk t).view.emb (ix4 h r ax q) = ix4 (Fin.ofNat 24 (2 * (grid0.coords t 0).val + h.val)) r ax q := by
  have ht : (grid0.coords t 0).val < 12 := (grid0.coords t 0).isLt
  have hh := h.isLt
  funext a
  apply Fin.ext
  match a with
  | ⟨0, _⟩ => show ((win0_0.rect t).emb (ix4 h r ax q) (0 : Fin 4)).val = _; rw [Pipeline.Window.rect_emb_val win0_0 t _ (0 : Fin 4)]; rw [(idx t).1]; simp [Fin.ofNat]; omega
  | ⟨1, _⟩ => show ((win0_0.rect t).emb (ix4 h r ax q) (1 : Fin 4)).val = _; rw [Pipeline.Window.rect_emb_val win0_0 t _ (1 : Fin 4)]; rw [(idx t).1]; simp [Fin.ofNat]
  | ⟨2, _⟩ => show ((win0_0.rect t).emb (ix4 h r ax q) (2 : Fin 4)).val = _; rw [Pipeline.Window.rect_emb_val win0_0 t _ (2 : Fin 4)]; rw [(idx t).1]; simp [Fin.ofNat]
  | ⟨3, _⟩ => show ((win0_0.rect t).emb (ix4 h r ax q) (3 : Fin 4)).val = _; rw [Pipeline.Window.rect_emb_val win0_0 t _ (3 : Fin 4)]; rw [(idx t).1]; simp [Fin.ofNat]

/-- The places of a block of window 1. -/
theorem emb1 (t : Fin cfg0.N) (h : Fin 2) (p : Fin 6) (l : Fin 4) (q : Fin 256) :
    (win0_1.blk t).view.emb (ix4 h p l q) = ix4 (Fin.ofNat 24 (2 * (grid0.coords t 0).val + h.val)) p l q := by
  have ht : (grid0.coords t 0).val < 12 := (grid0.coords t 0).isLt
  have hh := h.isLt
  funext a
  apply Fin.ext
  match a with
  | ⟨0, _⟩ => show ((win0_1.rect t).emb (ix4 h p l q) (0 : Fin 4)).val = _; rw [Pipeline.Window.rect_emb_val win0_1 t _ (0 : Fin 4)]; rw [(idx t).2.1]; simp [Fin.ofNat]; omega
  | ⟨1, _⟩ => show ((win0_1.rect t).emb (ix4 h p l q) (1 : Fin 4)).val = _; rw [Pipeline.Window.rect_emb_val win0_1 t _ (1 : Fin 4)]; rw [(idx t).2.1]; simp [Fin.ofNat]
  | ⟨2, _⟩ => show ((win0_1.rect t).emb (ix4 h p l q) (2 : Fin 4)).val = _; rw [Pipeline.Window.rect_emb_val win0_1 t _ (2 : Fin 4)]; rw [(idx t).2.1]; simp [Fin.ofNat]
  | ⟨3, _⟩ => show ((win0_1.rect t).emb (ix4 h p l q) (3 : Fin 4)).val = _; rw [Pipeline.Window.rect_emb_val win0_1 t _ (3 : Fin 4)]; rw [(idx t).2.1]; simp [Fin.ofNat]

/-- The places of a block of window 3. -/
theorem emb3 (t : Fin cfg0.N) (h : Fin 2) (d : Fin 48) (q : Fin 256) :
    (win0_3.blk t).view.emb (ix3 h d q) = ix3 (Fin.ofNat 24 (2 * (grid0.coords t 0).val + h.val)) d q := by
  have ht : (grid0.coords t 0).val < 12 := (grid0.coords t 0).isLt
  have hh := h.isLt
  funext a
  apply Fin.ext
  match a with
  | ⟨0, _⟩ => show ((win0_3.rect t).emb (ix3 h d q) (0 : Fin 3)).val = _; rw [Pipeline.Window.rect_emb_val win0_3 t _ (0 : Fin 3)]; rw [(idx t).2.2.2.1]; simp [Fin.ofNat]; omega
  | ⟨1, _⟩ => show ((win0_3.rect t).emb (ix3 h d q) (1 : Fin 3)).val = _; rw [Pipeline.Window.rect_emb_val win0_3 t _ (1 : Fin 3)]; rw [(idx t).2.2.2.1]; simp [Fin.ofNat]
  | ⟨2, _⟩ => show ((win0_3.rect t).emb (ix3 h d q) (2 : Fin 3)).val = _; rw [Pipeline.Window.rect_emb_val win0_3 t _ (2 : Fin 3)]; rw [(idx t).2.2.2.1]; simp [Fin.ofNat]

/-- The places of a block of window 4. -/
theorem emb4 (t : Fin cfg0.N) (h : Fin 2) (k : Fin 12) (R : Fin 192) (l : Fin 128) :
    (win0_4.blk t).view.emb (ix4 h k R l) = ix4 (Fin.ofNat 24 (2 * (grid0.coords t 0).val + h.val)) k R l := by
  have ht : (grid0.coords t 0).val < 12 := (grid0.coords t 0).isLt
  have hh := h.isLt
  funext a
  apply Fin.ext
  match a with
  | ⟨0, _⟩ => show ((win0_4.rect t).emb (ix4 h k R l) (0 : Fin 4)).val = _; rw [Pipeline.Window.rect_emb_val win0_4 t _ (0 : Fin 4)]; rw [(idx t).2.2.2.2.1]; simp [Fin.ofNat]; omega
  | ⟨1, _⟩ => show ((win0_4.rect t).emb (ix4 h k R l) (1 : Fin 4)).val = _; rw [Pipeline.Window.rect_emb_val win0_4 t _ (1 : Fin 4)]; rw [(idx t).2.2.2.2.1]; simp [Fin.ofNat]
  | ⟨2, _⟩ => show ((win0_4.rect t).emb (ix4 h k R l) (2 : Fin 4)).val = _; rw [Pipeline.Window.rect_emb_val win0_4 t _ (2 : Fin 4)]; rw [(idx t).2.2.2.2.1]; simp [Fin.ofNat]
  | ⟨3, _⟩ => show ((win0_4.rect t).emb (ix4 h k R l) (3 : Fin 4)).val = _; rw [Pipeline.Window.rect_emb_val win0_4 t _ (3 : Fin 4)]; rw [(idx t).2.2.2.2.1]; simp [Fin.ofNat]

/-- The places of a block of window 5. -/
theorem emb5 (t : Fin cfg0.N) (h : Fin 2) (R : Fin 192) (l : Fin 128) :
    (win0_5.blk t).view.emb (ix3 h R l) = ix3 (Fin.ofNat 24 (2 * (grid0.coords t 0).val + h.val)) R l := by
  have ht : (grid0.coords t 0).val < 12 := (grid0.coords t 0).isLt
  have hh := h.isLt
  funext a
  apply Fin.ext
  match a with
  | ⟨0, _⟩ => show ((win0_5.rect t).emb (ix3 h R l) (0 : Fin 3)).val = _; rw [Pipeline.Window.rect_emb_val win0_5 t _ (0 : Fin 3)]; rw [(idx t).2.2.2.2.2.1]; simp [Fin.ofNat]; omega
  | ⟨1, _⟩ => show ((win0_5.rect t).emb (ix3 h R l) (1 : Fin 3)).val = _; rw [Pipeline.Window.rect_emb_val win0_5 t _ (1 : Fin 3)]; rw [(idx t).2.2.2.2.2.1]; simp [Fin.ofNat]
  | ⟨2, _⟩ => show ((win0_5.rect t).emb (ix3 h R l) (2 : Fin 3)).val = _; rw [Pipeline.Window.rect_emb_val win0_5 t _ (2 : Fin 3)]; rw [(idx t).2.2.2.2.2.1]; simp [Fin.ofNat]

/-- The locations as the kernel takes them. -/
theorem res0 (x : S3x256x8x4x6x2.Idx → EReal) (h h') (n r : Fin 24) (ax : Fin 2) (q : Fin 256) :
    shapeCast S24x24x2x256 (transpose S3x8x4x6x2x256 [0, 2, 3, 4, 5, 1] x h) h' (ix4 n r ax q) = tX x n r ax q := by
  have hn := n.isLt; have hr := r.isLt; have hax := ax.isLt; have hq := q.isLt
  rw [shapeCast_apply _ h' _ (ix6 (Fin.ofNat 3 (n.val / 8)) (Fin.ofNat 8 (n.val % 8)) (Fin.ofNat 4 (r.val / 6)) (Fin.ofNat 6 (r.val % 6)) ax q)
    (by rw [Shape.rowMajor_val_six, Shape.rowMajor_val_four]
        show ((((n.val / 8 % 3 * 8 + n.val % 8 % 8) * 4 + r.val / 6 % 4) * 6 + r.val % 6 % 6) * 2 + ax.val) * 256 + q.val = ((n.val * 24 + r.val) * 2 + ax.val) * 256 + q.val
        omega)]
  refine (transpose_apply [0, 2, 3, 4, 5, 1] x h _ (ix6 (Fin.ofNat 3 (n.val / 8)) q (Fin.ofNat 8 (n.val % 8)) (Fin.ofNat 4 (r.val / 6)) (Fin.ofNat 6 (r.val % 6)) ax) (fun b => match b with
    | ⟨0, _⟩ => rfl | ⟨1, _⟩ => rfl | ⟨2, _⟩ => rfl | ⟨3, _⟩ => rfl | ⟨4, _⟩ => rfl | ⟨5, _⟩ => rfl)).trans ?_
  unfold tX
  rw [show Fin.ofNat 256 q.val = q from Fin.ext (Nat.mod_eq_of_lt hq), show Fin.ofNat 2 ax.val = ax from Fin.ext (Nat.mod_eq_of_lt hax)]

/-- The attention weights as the kernel takes them. -/
theorem res1 (x : S3x256x8x4x6.Idx → EReal) (h h') (n : Fin 24) (p : Fin 6) (l : Fin 4) (q : Fin 256) :
    shapeCast S24x6x4x256 (transpose S3x8x6x4x256 [0, 2, 4, 3, 1] x h) h' (ix4 n p l q) = tA x n l p q := by
  have hn := n.isLt; have hp := p.isLt; have hl := l.isLt; have hq := q.isLt
  rw [shapeCast_apply _ h' _ (ix5 (Fin.ofNat 3 (n.val / 8)) (Fin.ofNat 8 (n.val % 8)) p l q)
    (by rw [Shape.rowMajor_val_five, Shape.rowMajor_val_four]
        show (((n.val / 8 % 3 * 8 + n.val % 8 % 8) * 6 + p.val) * 4 + l.val) * 256 + q.val = ((n.val * 6 + p.val) * 4 + l.val) * 256 + q.val
        omega)]
  refine (transpose_apply [0, 2, 4, 3, 1] x h _ (ix5 (Fin.ofNat 3 (n.val / 8)) q (Fin.ofNat 8 (n.val % 8)) l p) (fun b => match b with
    | ⟨0, _⟩ => rfl | ⟨1, _⟩ => rfl | ⟨2, _⟩ => rfl | ⟨3, _⟩ => rfl | ⟨4, _⟩ => rfl)).trans ?_
  unfold tA
  rw [show Fin.ofNat 256 q.val = q from Fin.ext (Nat.mod_eq_of_lt hq), show Fin.ofNat 4 l.val = l from Fin.ext (Nat.mod_eq_of_lt hl), show Fin.ofNat 6 p.val = p from Fin.ext (Nat.mod_eq_of_lt hp)]

/-- The code words as the kernel takes them. -/
theorem res4 (x : S7077888.Idx → BitVec 32) (h') (n : Fin 24) (k : Fin 12) (R : Fin 192) (l : Fin 128) :
    shapeCast S24x12x192x128 x h' (ix4 n k R l) = tW x n k R l := by
  have hn := n.isLt; have hk := k.isLt; have hR := R.isLt; have hl := l.isLt
  exact shapeCast_apply _ h' _ _ (by
    rw [Shape.rowMajor_val_one, Shape.rowMajor_val_four]
    show (((n.val * 12 + k.val) * 192 + R.val) * 128 + l.val) % 7077888 = ((n.val * 12 + k.val) * 192 + R.val) * 128 + l.val
    omega)

/-- The scales' bits as the kernel takes them. -/
theorem res5 (x : S589824.Idx → BitVec 32) (h') (n : Fin 24) (R : Fin 192) (l : Fin 128) :
    shapeCast S24x192x128 x h' (ix3 n R l) = tS x n R l := by
  have hn := n.isLt; have hR := R.isLt; have hl := l.isLt
  exact shapeCast_apply _ h' _ _ (by
    rw [Shape.rowMajor_val_one, Shape.rowMajor_val_three]
    show ((n.val * 192 + R.val) * 128 + l.val) % 589824 = (n.val * 192 + R.val) * 128 + l.val
    omega)

/-- A head's number is within bounds. -/
theorem hd (t : Fin cfg0.N) (h : Fin 2) : (Fin.ofNat 24 (2 * (grid0.coords t 0).val + h.val)).val = 2 * (grid0.coords t 0).val + h.val := by
  have ht : (grid0.coords t 0).val < 12 := (grid0.coords t 0).isLt
  have hh := h.isLt
  exact Nat.mod_eq_of_lt (by omega)

/-- The block of locations. -/
theorem rd0 (t : Fin cfg0.N) (h : Fin 2) (r : Fin 24) (ax : Fin 2) (q : Fin 256) :
    (iblk m c 0 t : S2x24x2x256.Idx → EReal) (ix4 h r ax q) = tX (B0 m c) (2 * (grid0.coords t 0).val + h) r ax q := by
  show V m c main_v1 ((win0_0.blk t).view.emb (ix4 h r ax q)) = _
  rw [emb0]
  entry_read
  have e := res0 (B0 m c) transposes_S3x256x8x4x6x2_S3x8x4x6x2x256_0_2_3_4_5_1 shapeCasts_S3x8x4x6x2x256_S24x24x2x256 (Fin.ofNat 24 (2 * (grid0.coords t 0).val + h.val)) r ax q
  rw [hd t h] at e
  exact e

/-- The block of attention weights. -/
theorem rd1 (t : Fin cfg0.N) (h : Fin 2) (p : Fin 6) (l : Fin 4) (q : Fin 256) :
    (iblk m c 1 t : S2x6x4x256.Idx → EReal) (ix4 h p l q) = tA (B1 m c) (2 * (grid0.coords t 0).val + h) l p q := by
  show V m c main_v3 ((win0_1.blk t).view.emb (ix4 h p l q)) = _
  rw [emb1]
  entry_read
  have e := res1 (B1 m c) transposes_S3x256x8x4x6_S3x8x6x4x256_0_2_4_3_1 shapeCasts_S3x8x6x4x256_S24x6x4x256 (Fin.ofNat 24 (2 * (grid0.coords t 0).val + h.val)) p l q
  rw [hd t h] at e
  exact e

/-- The scales of `g`, whole at every point. -/
theorem rd2 (t : Fin cfg0.N) (x : S3x256.Idx) : (iblk m c 2 t : S3x256.Idx → EReal) x = B2 m c x := by
  show V m c main_arg2 ((win0_2.blk t).view.emb x) = _
  rw [V_main_arg2]
  refine congrArg _ (funext fun a => Fin.ext ?_)
  match a with
  | ⟨0, _⟩ => show ((win0_2.rect t).emb x (0 : Fin 2)).val = (x 0).val; rw [Pipeline.Window.rect_emb_val win0_2 t _ (0 : Fin 2)]; rw [(idx t).2.2.1]; simp
  | ⟨1, _⟩ => show ((win0_2.rect t).emb x (1 : Fin 2)).val = (x 1).val; rw [Pipeline.Window.rect_emb_val win0_2 t _ (1 : Fin 2)]; rw [(idx t).2.2.1]; simp

/-- The block of `g`. -/
theorem rd3 (t : Fin cfg0.N) (h : Fin 2) (d : Fin 48) (q : Fin 256) :
    (iblk m c 3 t : S2x48x256.Idx → EReal) (ix3 h d q) = tG (B3 m c) (2 * (grid0.coords t 0).val + h) d q := by
  have hd := d.isLt; have hq := q.isLt
  show V m c main_arg3 ((win0_3.blk t).view.emb (ix3 h d q)) = _
  rw [emb3, V_main_arg3]
  unfold tG
  rw [show Fin.ofNat 256 q.val = q from Fin.ext (Nat.mod_eq_of_lt hq), show Fin.ofNat 48 d.val = d from Fin.ext (Nat.mod_eq_of_lt hd)]

/-- The block of code words. -/
theorem rd4 (t : Fin cfg0.N) (h : Fin 2) (k : Fin 12) (R : Fin 192) (l : Fin 128) :
    (iblk m c 4 t : S2x12x192x128.Idx → BitVec 32) (ix4 h k R l) = tW (B4 m c) (2 * (grid0.coords t 0).val + h) k R l := by
  show V m c main_v4 ((win0_4.blk t).view.emb (ix4 h k R l)) = _
  rw [emb4]
  entry_read
  have e := res4 (B4 m c) shapeCasts_S7077888_S24x12x192x128 (Fin.ofNat 24 (2 * (grid0.coords t 0).val + h.val)) k R l
  rw [hd t h] at e
  exact e

/-- The block of scales. -/
theorem rd5 (t : Fin cfg0.N) (h : Fin 2) (R : Fin 192) (l : Fin 128) :
    (iblk m c 5 t : S2x192x128.Idx → BitVec 32) (ix3 h R l) = tS (B5 m c) (2 * (grid0.coords t 0).val + h) R l := by
  show V m c main_v5 ((win0_5.blk t).view.emb (ix3 h R l)) = _
  rw [emb5]
  entry_read
  have e := res5 (B5 m c) shapeCasts_S589824_S24x192x128 (Fin.ofNat 24 (2 * (grid0.coords t 0).val + h.val)) R l
  rw [hd t h] at e
  exact e

/-- The row of the scales of `g`. -/
theorem rdg (t : Fin cfg0.N) (h : Fin 2) (q : Fin 256) :
    gsRow (grid0.coords t) (iblk m c 2 t) (ix2 0 q) = tGS (B2 m c) (2 * (grid0.coords t 0).val + h) q := by
  have ht : (grid0.coords t 0).val < 12 := (grid0.coords t 0).isLt
  have hh := h.isLt; have hq := q.isLt
  unfold gsRow tGS
  rw [rd2 m c t, show Fin.ofNat 256 q.val = q from Fin.ext (Nat.mod_eq_of_lt hq), show (2 * (grid0.coords t 0).val + h.val) / 8 = (grid0.coords t 0).val / 4 by omega]
  rfl

/-- The result 0 of the kernel. -/
def fin6 : S24x24x2x256.Idx → EReal := fun y => outL (B0 m c) (B1 m c) (B2 m c) (B3 m c) (B4 m c) (B5 m c) (y 2).val (y 0).val ((y 1).val / 6) ((y 1).val % 6) (y 3).val

/-- After the run the array of window 6 holds it. -/
theorem arr6 : (dats m 0 c).arrAt 6 (cfgs 0).N = fin6 m c := by
  refine (dats m 0 c).arrAt_eq_of_covers 6 _ (by decide +kernel) fun t hf y => ?_
  blk_simp
  rw [after0_6]
  show (outsAt0 m c t).1 y = fin6 m c ((win0_6.blk t).view.emb y)
  unfold outsAt0
  dsimp only
  rw [out6_at]
  have h0 : (y 0).val < 2 := (y 0).isLt
  have h1 : (y 1).val < 24 := (y 1).isLt
  have h2 : (y 2).val < 2 := (y 2).isLt
  have h3 : (y 3).val < 256 := (y 3).isLt
  rw [resL_eq _ _ _ _ _ _ (B0 m c) (B1 m c) (B2 m c) (B3 m c) (B4 m c) (B5 m c) (grid0.coords t 0).val (rd0 m c t) (rd1 m c t) (rdg m c t) (rd3 m c t) (rd4 m c t) (rd5 m c t) (y 2).val (y 0).val ((y 1).val / 6) ((y 1).val % 6) (y 3).val _ h0 (by omega) (by omega) h3 (by omega)]
  have q0 : ((win0_6.blk t).view.emb y (0 : Fin 4)).val = 2 * (grid0.coords t 0).val + (y 0).val := by
    show ((win0_6.rect t).emb y (0 : Fin 4)).val = _
    rw [Pipeline.Window.rect_emb_val win0_6 t y (0 : Fin 4), (idx t).2.2.2.2.2.2.1]
    simp [Nat.mul_comm]
  have q1 : ((win0_6.blk t).view.emb y (1 : Fin 4)).val = (y 1).val := by
    show ((win0_6.rect t).emb y (1 : Fin 4)).val = _
    rw [Pipeline.Window.rect_emb_val win0_6 t y (1 : Fin 4), (idx t).2.2.2.2.2.2.1]
    simp [Nat.mul_comm]
  have q2 : ((win0_6.blk t).view.emb y (2 : Fin 4)).val = (y 2).val := by
    show ((win0_6.rect t).emb y (2 : Fin 4)).val = _
    rw [Pipeline.Window.rect_emb_val win0_6 t y (2 : Fin 4), (idx t).2.2.2.2.2.2.1]
    simp [Nat.mul_comm]
  have q3 : ((win0_6.blk t).view.emb y (3 : Fin 4)).val = (y 3).val := by
    show ((win0_6.rect t).emb y (3 : Fin 4)).val = _
    rw [Pipeline.Window.rect_emb_val win0_6 t y (3 : Fin 4), (idx t).2.2.2.2.2.2.1]
    simp [Nat.mul_comm]
  show _ = outL (B0 m c) (B1 m c) (B2 m c) (B3 m c) (B4 m c) (B5 m c) ((win0_6.blk t).view.emb y (2 : Fin 4)).val ((win0_6.blk t).view.emb y (0 : Fin 4)).val (((win0_6.blk t).view.emb y (1 : Fin 4)).val / 6) (((win0_6.blk t).view.emb y (1 : Fin 4)).val % 6) ((win0_6.blk t).view.emb y (3 : Fin 4)).val
  rw [q0, q1, q2, q3]

/-- The result 1 of the kernel. -/
def fin7 : S24x6x4x256.Idx → EReal := fun y => outA (B0 m c) (B2 m c) (B3 m c) (B4 m c) (B5 m c) (y 0).val (y 2).val (y 1).val (y 3).val

/-- After the run the array of window 7 holds it. -/
theorem arr7 : (dats m 0 c).arrAt 7 (cfgs 0).N = fin7 m c := by
  refine (dats m 0 c).arrAt_eq_of_covers 7 _ (by decide +kernel) fun t hf y => ?_
  blk_simp
  rw [after0_7]
  show (outsAt0 m c t).2 y = fin7 m c ((win0_7.blk t).view.emb y)
  unfold outsAt0
  dsimp only
  rw [out7_at]
  have h0 : (y 0).val < 2 := (y 0).isLt
  have h1 : (y 1).val < 6 := (y 1).isLt
  have h2 : (y 2).val < 4 := (y 2).isLt
  have h3 : (y 3).val < 256 := (y 3).isLt
  rw [resA_eq _ _ _ _ _ _ (B0 m c) (B1 m c) (B2 m c) (B3 m c) (B4 m c) (B5 m c) (grid0.coords t 0).val (rd0 m c t) (rd1 m c t) (rdg m c t) (rd3 m c t) (rd4 m c t) (rd5 m c t) (y 0).val (y 2).val (y 1).val (y 3).val _ h0 h2 h1 h3 rfl]
  have q0 : ((win0_7.blk t).view.emb y (0 : Fin 4)).val = 2 * (grid0.coords t 0).val + (y 0).val := by
    show ((win0_7.rect t).emb y (0 : Fin 4)).val = _
    rw [Pipeline.Window.rect_emb_val win0_7 t y (0 : Fin 4), (idx t).2.2.2.2.2.2.2]
    simp [Nat.mul_comm]
  have q1 : ((win0_7.blk t).view.emb y (1 : Fin 4)).val = (y 1).val := by
    show ((win0_7.rect t).emb y (1 : Fin 4)).val = _
    rw [Pipeline.Window.rect_emb_val win0_7 t y (1 : Fin 4), (idx t).2.2.2.2.2.2.2]
    simp [Nat.mul_comm]
  have q2 : ((win0_7.blk t).view.emb y (2 : Fin 4)).val = (y 2).val := by
    show ((win0_7.rect t).emb y (2 : Fin 4)).val = _
    rw [Pipeline.Window.rect_emb_val win0_7 t y (2 : Fin 4), (idx t).2.2.2.2.2.2.2]
    simp [Nat.mul_comm]
  have q3 : ((win0_7.blk t).view.emb y (3 : Fin 4)).val = (y 3).val := by
    show ((win0_7.rect t).emb y (3 : Fin 4)).val = _
    rw [Pipeline.Window.rect_emb_val win0_7 t y (3 : Fin 4), (idx t).2.2.2.2.2.2.2]
    simp [Nat.mul_comm]
  show _ = outA (B0 m c) (B2 m c) (B3 m c) (B4 m c) (B5 m c) ((win0_7.blk t).view.emb y (0 : Fin 4)).val ((win0_7.blk t).view.emb y (2 : Fin 4)).val ((win0_7.blk t).view.emb y (1 : Fin 4)).val ((win0_7.blk t).view.emb y (3 : Fin 4)).val
  rw [q0, q1, q2, q3]

/-- The run: the two results hold every point's gradients, and the arguments are unchanged. -/
theorem run : θ_run defs (onTc (τ := τ) (main (F := Ideal))) ⟨m, fun _ => 0, ρ⟩ (fun r => ∀ c : Dev nD,
      r.2.mem ((c.tc : Thread nD τ).loc main_v6_0) = fin6 m c
      ∧ r.2.mem ((c.tc : Thread nD τ).loc main_v6_1) = fin7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  run_from run_main m ρ & unchanged m ρ
  · exact arr6 m c
  · exact arr7 m c

end Cert.KernelIdeal.Hand

end
-- ==== Proof.RefArgs.lean ====
/-
  The reference's arguments, and its scaled gradient, codes, scales and levels, read at an index.
-/
module

public import proofs.«01_k».proof.Proof.RefStagesB
public import proofs.«01_k».proof.Proof.Spec

@[expose] public section

set_option maxRecDepth 16384

noncomputable section

namespace Cert.ReferenceIdeal.Stage

open Cert.ReferenceIdeal Cert.ReferenceIdeal.Gen Idealize.ShloMosaic Idealize.ShloMosaic.TcCoe Idealize.ShloMosaic.StableHlo Cert.Decode

variable (x0 : (⟨S3x256x8x4x6x2, .f32⟩ : BufTy).Contents (Elt Ideal)) (x1 : (⟨S3x256x8x4x6, .f32⟩ : BufTy).Contents (Elt Ideal)) (x2 : (⟨S3x256, .f32⟩ : BufTy).Contents (Elt Ideal)) (x3 : (⟨S24x48x256, .bf16⟩ : BufTy).Contents (Elt Ideal)) (x4 : (⟨S7077888, .i32⟩ : BufTy).Contents (Elt Ideal)) (x5 : (⟨S589824, .i32⟩ : BufTy).Contents (Elt Ideal))

/-- The scaled gradient: an element of `g` times its query's scale. -/
theorem v5_at (n : Fin 24) (d : Fin 48) (q : Fin 256) :
    val_main_v5 (F := Ideal) x2 x3 (ix3 n d q) = tG x3 n d q * tGS x2 n q := by
  rw [val_main_v5_apply, val_main_v0_apply, val_main_v4_apply, val_main_v3_apply, val_main_v2_apply, val_main_v1_apply]
  refine congrArg₂ (fun a b : EReal => a * b) (congrArg x3 ?_) (congrArg x2 ?_)
  · exact (funext fun a => match a with
    | ⟨0,_⟩ => Fin.ext (by have hn : n.val < 24 := n.isLt; have hd : d.val < 48 := d.isLt; have hq : q.val < 256 := q.isLt; show n.val = n.val % 24; omega)
    | ⟨1,_⟩ => Fin.ext (by have hn : n.val < 24 := n.isLt; have hd : d.val < 48 := d.isLt; have hq : q.val < 256 := q.isLt; show d.val = d.val % 48; omega)
    | ⟨2,_⟩ => Fin.ext (by have hn : n.val < 24 := n.isLt; have hd : d.val < 48 := d.isLt; have hq : q.val < 256 := q.isLt; show q.val = q.val % 256; omega))
  · exact (funext fun a => match a with
    | ⟨0,_⟩ => Fin.ext (by have hn : n.val < 24 := n.isLt; have hq : q.val < 256 := q.isLt; show (n.val * 256 + q.val) / 2048 = n.val / 8 % 3; omega)
    | ⟨1,_⟩ => Fin.ext (by have hn : n.val < 24 := n.isLt; have hq : q.val < 256 := q.isLt; show (n.val * 256 + q.val) % 256 = q.val % 256; omega))

/-- Byte `j` of a code word as the reference takes it. -/
def rbyte (w : BitVec 32) (j : ℕ) : BitVec 32 := IntOp.andi (IntOp.shrsi .host w (IntOp.muli 8#32 (BitVec.ofNat 32 j))) 255#32

/-- The size of the number in a byte as the reference decodes it. -/
def rmag (b : BitVec 32) : EReal :=
  Scalar.select (IntOp.cmpi .eq (IntOp.andi (IntOp.shrsi .host b 3#32) 15#32) 0#32)
    (FloatOps.mulf (F := Ideal) (φ := .f32) (FloatOps.sitofp (F := Ideal) .f32 (IntOp.andi b 7#32)) (FloatOps.ofBits (F := Ideal) .f32 0x3B000000#32))
    (FloatOps.mulf (F := Ideal) (φ := .f32) (FloatOps.sitofp (F := Ideal) .f32 (IntOp.addi 8#32 (IntOp.andi b 7#32)))
      (FloatOps.ofBits (F := Ideal) .f32 (IntOp.shli .host (IntOp.addi (IntOp.andi (IntOp.shrsi .host b 3#32) 15#32) 117#32) 23#32)))

/-- The number in a byte as the reference decodes it. -/
def rdec (b : BitVec 32) : EReal :=
  Scalar.select (IntOp.cmpi .eq (IntOp.shrsi .host b 7#32) 1#32) (FloatOps.hostNegf (F := Ideal) (φ := .f32) (rmag b)) (rmag b)

/-- The bytes, taken from the words. -/
theorem v16_at (n : Fin 24) (k : Fin 12) (j : Fin 4) (r : Fin 24576) :
    val_main_v16 (F := Ideal) x4 (ix4 n k j r) = rbyte (x4 (ix1 (Fin.ofNat 7077888 ((n.val * 12 + k.val) * 24576 + r.val)))) j.val := by
  rw [val_main_v16_apply, val_main_v14_apply, val_main_v12_apply, val_main_v6_apply, val_main_v13_apply, val_main_v11_apply, val_main_v10_apply,
    val_main_v9_apply, val_main_v8_apply, val_main_c_apply, val_main_v7_apply, val_main_v15_apply, val_main_c_0_apply]
  refine congrArg (fun w : BitVec 32 => rbyte w j.val) (congrArg x4 ?_)
  exact (funext fun a => match a with
    | ⟨0,_⟩ => Fin.ext (by have hn : n.val < 24 := n.isLt; have hk : k.val < 12 := k.isLt; have hr : r.val < 24576 := r.isLt; show ((n.val * 12 + k.val) * 1 + 0) * 24576 + r.val = ((n.val * 12 + k.val) * 24576 + r.val) % 7077888; omega))

/-- The numbers, decoded from the bytes. -/
theorem v43_eq (i : S24x12x4x24576.Idx) : val_main_v43 (F := Ideal) x4 i = rdec (val_main_v16 (F := Ideal) x4 i) := by
  simp only [val_main_v43_apply, val_main_v42_apply, val_main_v41_apply, val_main_v40_apply, val_main_c_9_apply, val_main_v39_apply, val_main_v38_apply,
    val_main_v37_apply, val_main_v36_apply, val_main_v35_apply, val_main_c_8_apply, val_main_v34_apply, val_main_v33_apply, val_main_cst_apply,
    val_main_v32_apply, val_main_v31_apply, val_main_v30_apply, val_main_c_7_apply, val_main_v29_apply, val_main_v28_apply, val_main_v27_apply,
    val_main_c_6_apply, val_main_v26_apply, val_main_v25_apply, val_main_c_5_apply, val_main_v24_apply, val_main_v23_apply, val_main_c_4_apply,
    val_main_v22_apply, val_main_v21_apply, val_main_c_3_apply, val_main_v20_apply, val_main_v19_apply, val_main_c_2_apply, val_main_v18_apply,
    val_main_v17_apply, val_main_c_1_apply]
  rfl

/-- The numbers laid out by head, element, corner, half, point and lane. -/
theorem v44_at (n : Fin 24) (d : Fin 48) (C : Fin 16) (h : Fin 2) (p : Fin 6) (e : Fin 128) :
    val_main_v44 (F := Ideal) x4 (mkS24x48x16x2x6x128 n d C h p e)
      = val_main_v43 (F := Ideal) x4 (ix4 n (Fin.ofNat 12 (d.val / 4)) (Fin.ofNat 4 d.val) (Fin.ofNat 24576 (((C.val * 2 + h.val) * 6 + p.val) * 128 + e.val))) := by
  unfold val_main_v44
  generalize val_main_v43 (F := Ideal) x4 = y
  exact shapeCast_apply y shapeCasts_S24x12x4x24576_S24x48x16x2x6x128 _ _
    (by rewrite [Shape.rowMajor_val_four, Shape.rowMajor_val_six]; have hn : n.val < 24 := n.isLt; have hd : d.val < 48 := d.isLt; have hC : C.val < 16 := C.isLt; have hh : h.val < 2 := h.isLt; have hp : p.val < 6 := p.isLt; have he : e.val < 128 := e.isLt
        show ((n.val * 12 + d.val / 4 % 12) * 4 + d.val % 4) * 24576 + (((C.val * 2 + h.val) * 6 + p.val) * 128 + e.val) % 24576
          = ((((n.val * 48 + d.val) * 16 + C.val) * 2 + h.val) * 6 + p.val) * 128 + e.val
        omega)

/-- The numbers laid out by head, level, corner, point, query and element. -/
theorem v46_at (n : Fin 24) (l c : Fin 4) (p : Fin 6) (q : Fin 256) (d : Fin 48) :
    val_main_v46 (F := Ideal) x4 (mkS24x4x4x6x256x48 n l c p q d) = rdec (rbyte (tW x4 n (d.val / 4) (rowOf l c p q) (q.val % 128)) (d.val % 4)) := by
  have e1 : val_main_v46 (F := Ideal) x4 (mkS24x4x4x6x256x48 n l c p q d)
      = val_main_v45 (F := Ideal) x4 (ix6 n (Fin.ofNat 16 (4 * l.val + c.val)) p (Fin.ofNat 2 (q.val / 128)) (Fin.ofNat 128 q.val) d) := by
    unfold val_main_v46
    generalize val_main_v45 (F := Ideal) x4 = y
    exact shapeCast_apply y shapeCasts_S24x16x6x2x128x48_S24x4x4x6x256x48 _ _
      (by rewrite [Shape.rowMajor_val_six, Shape.rowMajor_val_six]; have hn : n.val < 24 := n.isLt; have hl : l.val < 4 := l.isLt; have hc : c.val < 4 := c.isLt; have hp : p.val < 6 := p.isLt; have hq : q.val < 256 := q.isLt; have hd : d.val < 48 := d.isLt
          show ((((n.val * 16 + (4 * l.val + c.val) % 16) * 6 + p.val) * 2 + q.val / 128 % 2) * 128 + q.val % 128) * 48 + d.val
            = ((((n.val * 4 + l.val) * 4 + c.val) * 6 + p.val) * 256 + q.val) * 48 + d.val
          omega)
  rw [e1, val_main_v45_apply]
  refine (v44_at x4 n d (Fin.ofNat 16 (4 * l.val + c.val)) (Fin.ofNat 2 (q.val / 128)) p (Fin.ofNat 128 q.val)).trans ?_
  rw [v43_eq, v16_at]
  refine congrArg rdec (congrArg₂ rbyte (congrArg x4 ?_) rfl)
  exact (funext fun a => match a with
    | ⟨0,_⟩ => Fin.ext (by
      have hn : n.val < 24 := n.isLt; have hl : l.val < 4 := l.isLt; have hc : c.val < 4 := c.isLt; have hp : p.val < 6 := p.isLt; have hq : q.val < 256 := q.isLt; have hd : d.val < 48 := d.isLt
      show ((n.val * 12 + d.val / 4 % 12) * 24576 + (((((4 * l.val + c.val) % 16) * 2 + q.val / 128 % 2) * 6 + p.val) * 128 + q.val % 128) % 24576) % 7077888
        = (((n.val * 12 + d.val / 4) * 192 + (l.val * 48 + 12 * c.val + (q.val / 128 * 6 + p.val))) * 128 + q.val % 128) % 7077888
      rw [show d.val / 4 % 12 = d.val / 4 from by omega, show (4 * l.val + c.val) % 16 = 4 * l.val + c.val from by omega, show q.val / 128 % 2 = q.val / 128 from by omega,
        Nat.mod_eq_of_lt (b := 24576) (by omega)]
      exact congrArg (· % 7077888) (by omega)))

/-- The scales laid out by head, level, corner, point and query. -/
theorem v50_at (n : Fin 24) (l c : Fin 4) (p : Fin 6) (q : Fin 256) :
    val_main_v50 (F := Ideal) x5 (ix5 n l c p q) = Ideal.ofBits .f32 (tS x5 n (rowOf l c p q) (q.val % 128)) := by
  rw [val_main_v50_apply, val_main_v49_apply, val_main_v48_apply, val_main_v47_apply]
  refine congrArg (Ideal.ofBits .f32) (congrArg x5 ?_)
  exact (funext fun a => match a with
    | ⟨0,_⟩ => Fin.ext (by
      have hn : n.val < 24 := n.isLt; have hl : l.val < 4 := l.isLt; have hc : c.val < 4 := c.isLt; have hp : p.val < 6 := p.isLt; have hq : q.val < 256 := q.isLt
      show (((((((((n.val * 4 + l.val) * 4 + c.val) * 6 + p.val) * 256 + q.val) / 24576) * 16 + ((((n.val * 4 + l.val) * 4 + c.val) * 6 + p.val) * 256 + q.val) / 1536 % 16) * 2
          + ((((n.val * 4 + l.val) * 4 + c.val) * 6 + p.val) * 256 + q.val) / 128 % 2) * 6 + ((((n.val * 4 + l.val) * 4 + c.val) * 6 + p.val) * 256 + q.val) / 256 % 6) * 128
          + ((((n.val * 4 + l.val) * 4 + c.val) * 6 + p.val) * 256 + q.val) % 128)
        = ((n.val * 192 + (l.val * 48 + 12 * c.val + (q.val / 128 * 6 + p.val))) * 128 + q.val % 128) % 589824
      rw [show ((((n.val * 4 + l.val) * 4 + c.val) * 6 + p.val) * 256 + q.val) / 24576 = n.val from by omega, show ((((n.val * 4 + l.val) * 4 + c.val) * 6 + p.val) * 256 + q.val) / 1536 % 16 = 4 * l.val + c.val from by omega, show ((((n.val * 4 + l.val) * 4 + c.val) * 6 + p.val) * 256 + q.val) / 128 % 2 = q.val / 128 from by omega,
        show ((((n.val * 4 + l.val) * 4 + c.val) * 6 + p.val) * 256 + q.val) / 256 % 6 = p.val from by omega, show ((((n.val * 4 + l.val) * 4 + c.val) * 6 + p.val) * 256 + q.val) % 128 = q.val % 128 from by omega, Nat.mod_eq_of_lt (b := 589824) (by omega)]
      omega))

/-- The locations laid out by head, axis, level, point and query. -/
theorem v52_at (n : Fin 24) (x : Fin 2) (l : Fin 4) (p : Fin 6) (q : Fin 256) :
    val_main_v52 (F := Ideal) x0 (ix5 n x l p q) = tX x0 n (l.val * 6 + p.val) x q := by
  have e1 : val_main_v52 (F := Ideal) x0 (ix5 n x l p q)
      = val_main_v51 (F := Ideal) x0 (ix6 (Fin.ofNat 3 (n.val / 8)) (Fin.ofNat 8 n.val) x l p q) := by
    unfold val_main_v52
    generalize val_main_v51 (F := Ideal) x0 = y
    exact shapeCast_apply y shapeCasts_S3x8x2x4x6x256_S24x2x4x6x256 _ _
      (by rewrite [Shape.rowMajor_val_six, Shape.rowMajor_val_five]; have hn : n.val < 24 := n.isLt; have hx : x.val < 2 := x.isLt; have hl : l.val < 4 := l.isLt; have hp : p.val < 6 := p.isLt; have hq : q.val < 256 := q.isLt
          show ((((n.val / 8 % 3 * 8 + n.val % 8) * 2 + x.val) * 4 + l.val) * 6 + p.val) * 256 + q.val
            = (((n.val * 2 + x.val) * 4 + l.val) * 6 + p.val) * 256 + q.val
          omega)
  rw [e1, val_main_v51_apply]
  refine congrArg x0 ?_
  exact (funext fun a => match a with
    | ⟨0,_⟩ => Fin.ext (by have hn : n.val < 24 := n.isLt; have hx : x.val < 2 := x.isLt; have hl : l.val < 4 := l.isLt; have hp : p.val < 6 := p.isLt; have hq : q.val < 256 := q.isLt; show n.val / 8 % 3 = n.val / 8 % 3; omega)
    | ⟨1,_⟩ => Fin.ext (by have hn : n.val < 24 := n.isLt; have hx : x.val < 2 := x.isLt; have hl : l.val < 4 := l.isLt; have hp : p.val < 6 := p.isLt; have hq : q.val < 256 := q.isLt; show q.val = q.val % 256; omega)
    | ⟨2,_⟩ => Fin.ext (by have hn : n.val < 24 := n.isLt; have hx : x.val < 2 := x.isLt; have hl : l.val < 4 := l.isLt; have hp : p.val < 6 := p.isLt; have hq : q.val < 256 := q.isLt; show n.val % 8 = n.val % 8 % 8; omega)
    | ⟨3,_⟩ => Fin.ext (by have hn : n.val < 24 := n.isLt; have hx : x.val < 2 := x.isLt; have hl : l.val < 4 := l.isLt; have hp : p.val < 6 := p.isLt; have hq : q.val < 256 := q.isLt; show l.val = (l.val * 6 + p.val) / 6 % 4; omega)
    | ⟨4,_⟩ => Fin.ext (by have hn : n.val < 24 := n.isLt; have hx : x.val < 2 := x.isLt; have hl : l.val < 4 := l.isLt; have hp : p.val < 6 := p.isLt; have hq : q.val < 256 := q.isLt; show p.val = (l.val * 6 + p.val) % 6 % 6; omega)
    | ⟨5,_⟩ => Fin.ext (by have hn : n.val < 24 := n.isLt; have hx : x.val < 2 := x.isLt; have hl : l.val < 4 := l.isLt; have hp : p.val < 6 := p.isLt; have hq : q.val < 256 := q.isLt; show x.val = x.val % 2; omega))

/-- The weights laid out by head, level, point and query. -/
theorem v54_at (n : Fin 24) (l : Fin 4) (p : Fin 6) (q : Fin 256) :
    val_main_v54 (F := Ideal) x1 (ix4 n l p q) = tA x1 n l p q := by
  rw [val_main_v54_apply, val_main_v53_apply]
  refine congrArg x1 ?_
  exact (funext fun a => match a with
    | ⟨0,_⟩ => Fin.ext (by have hn : n.val < 24 := n.isLt; have hl : l.val < 4 := l.isLt; have hp : p.val < 6 := p.isLt; have hq : q.val < 256 := q.isLt; show (((n.val * 4 + l.val) * 6 + p.val) * 256 + q.val) / 49152 = n.val / 8 % 3; omega)
    | ⟨1,_⟩ => Fin.ext (by have hn : n.val < 24 := n.isLt; have hl : l.val < 4 := l.isLt; have hp : p.val < 6 := p.isLt; have hq : q.val < 256 := q.isLt; show (((n.val * 4 + l.val) * 6 + p.val) * 256 + q.val) % 256 = q.val % 256; omega)
    | ⟨2,_⟩ => Fin.ext (by have hn : n.val < 24 := n.isLt; have hl : l.val < 4 := l.isLt; have hp : p.val < 6 := p.isLt; have hq : q.val < 256 := q.isLt; show (((n.val * 4 + l.val) * 6 + p.val) * 256 + q.val) / 6144 % 8 = n.val % 8 % 8; omega)
    | ⟨3,_⟩ => Fin.ext (by have hn : n.val < 24 := n.isLt; have hl : l.val < 4 := l.isLt; have hp : p.val < 6 := p.isLt; have hq : q.val < 256 := q.isLt; show (((n.val * 4 + l.val) * 6 + p.val) * 256 + q.val) / 1536 % 4 = l.val % 4; omega)
    | ⟨4,_⟩ => Fin.ext (by have hn : n.val < 24 := n.isLt; have hl : l.val < 4 := l.isLt; have hp : p.val < 6 := p.isLt; have hq : q.val < 256 := q.isLt; show (((n.val * 4 + l.val) * 6 + p.val) * 256 + q.val) / 256 % 6 = p.val % 6; omega))

end Cert.ReferenceIdeal.Stage

end
-- ==== Proof.RefPoint.lean ====
/-
  The reference's pixels, weights, corners and masks, read at an index.
-/
module

public import proofs.«01_k».proof.Proof.RefArgs

@[expose] public section

set_option maxRecDepth 16384

noncomputable section

namespace Cert.ReferenceIdeal.Stage

open Cert.ReferenceIdeal Cert.ReferenceIdeal.Gen Idealize.ShloMosaic Idealize.ShloMosaic.TcCoe Idealize.ShloMosaic.StableHlo Cert.Decode

variable (x0 : (⟨S3x256x8x4x6x2, .f32⟩ : BufTy).Contents (Elt Ideal)) (x4 : (⟨S7077888, .i32⟩ : BufTy).Contents (Elt Ideal)) (x5 : (⟨S589824, .i32⟩ : BufTy).Contents (Elt Ideal))

/-- The width of level `l` as the reference computes it. -/
def rW (l : ℕ) : BitVec 32 := IntOp.shrsi .host 320#32 (BitVec.ofNat 32 l)

/-- The height of level `l` as the reference computes it. -/
def rH (l : ℕ) : BitVec 32 := IntOp.shrsi .host 200#32 (BitVec.ofNat 32 l)

/-- The widths are those of the kernel. -/
theorem rW_kw (l : Fin 4) : FloatOps.sitofp (F := Ideal) .f32 (rW l.val) = kw l.val := by
  match l with
  | ⟨0, _⟩ => show (((rW 0).toInt : ℝ) : EReal) = _; rw [show (rW 0).toInt = 320 from by decide]; simp [kw, Ideal.ofBits, Ideal.ieee, -EReal.coe_mul]; norm_num
  | ⟨1, _⟩ => show (((rW 1).toInt : ℝ) : EReal) = _; rw [show (rW 1).toInt = 160 from by decide]; simp [kw, Ideal.ofBits, Ideal.ieee, -EReal.coe_mul]; norm_num
  | ⟨2, _⟩ => show (((rW 2).toInt : ℝ) : EReal) = _; rw [show (rW 2).toInt = 80 from by decide]; simp [kw, Ideal.ofBits, Ideal.ieee, -EReal.coe_mul]; norm_num
  | ⟨3, _⟩ => show (((rW 3).toInt : ℝ) : EReal) = _; rw [show (rW 3).toInt = 40 from by decide]; simp [kw, Ideal.ofBits, Ideal.ieee, -EReal.coe_mul]; norm_num

/-- The heights are those of the kernel. -/
theorem rH_kh (l : Fin 4) : FloatOps.sitofp (F := Ideal) .f32 (rH l.val) = kh l.val := by
  match l with
  | ⟨0, _⟩ => show (((rH 0).toInt : ℝ) : EReal) = _; rw [show (rH 0).toInt = 200 from by decide]; simp [kh, Ideal.ofBits, Ideal.ieee, -EReal.coe_mul]; norm_num
  | ⟨1, _⟩ => show (((rH 1).toInt : ℝ) : EReal) = _; rw [show (rH 1).toInt = 100 from by decide]; simp [kh, Ideal.ofBits, Ideal.ieee, -EReal.coe_mul]; norm_num
  | ⟨2, _⟩ => show (((rH 2).toInt : ℝ) : EReal) = _; rw [show (rH 2).toInt = 50 from by decide]; simp [kh, Ideal.ofBits, Ideal.ieee, -EReal.coe_mul]; norm_num
  | ⟨3, _⟩ => show (((rH 3).toInt : ℝ) : EReal) = _; rw [show (rH 3).toInt = 25 from by decide]; simp [kh, Ideal.ofBits, Ideal.ieee, -EReal.coe_mul]; norm_num

/-- The shifted widths. -/
theorem v58_at (i : S4x1x1.Idx) : val_main_v58 (F := Ideal) i = rW (i 0).val := by
  rw [val_main_v58_apply, val_main_v57_apply, val_main_c_10_apply, val_main_v56_apply, val_main_v55_apply]; rfl

/-- The shifted heights. -/
theorem v60_at (i : S4x1x1.Idx) : val_main_v60 (F := Ideal) i = rH (i 0).val := by
  rw [val_main_v60_apply, val_main_v59_apply, val_main_c_11_apply, val_main_v56_apply, val_main_v55_apply]; rfl

/-- The widths as numbers. -/
theorem v61_at (i : S4x1x1.Idx) : val_main_v61 (F := Ideal) i = kw (i 0).val := by
  rw [val_main_v61_apply, v58_at]; exact rW_kw (i 0)

/-- The heights as numbers. -/
theorem v62_at (i : S4x1x1.Idx) : val_main_v62 (F := Ideal) i = kh (i 0).val := by
  rw [val_main_v62_apply, v60_at]; exact rH_kh (i 0)

/-- The sizes of the levels, spread over points and queries. -/
theorem v66_at (n : Fin 24) (l : Fin 4) (p : Fin 6) (q : Fin 256) : val_main_v66 (F := Ideal) (ix4 n l p q) = kw l.val := by
  rw [val_main_v66_apply, val_main_v65_apply, v61_at]; rfl

/-- The sizes of the levels, spread over points and queries. -/
theorem v73_at (n : Fin 24) (l : Fin 4) (p : Fin 6) (q : Fin 256) : val_main_v73 (F := Ideal) (ix4 n l p q) = kh l.val := by
  rw [val_main_v73_apply, val_main_v72_apply, v62_at]; rfl

/-- The sizes of the levels, spread over points and queries. -/
theorem v171_at (n : Fin 24) (l : Fin 4) (p : Fin 6) (q : Fin 256) : val_main_v171 (F := Ideal) (ix4 n l p q) = kw l.val := by
  rw [val_main_v171_apply, val_main_v170_apply, v61_at]; rfl

/-- The sizes of the levels, spread over points and queries. -/
theorem v177_at (n : Fin 24) (l : Fin 4) (p : Fin 6) (q : Fin 256) : val_main_v177 (F := Ideal) (ix4 n l p q) = kh l.val := by
  rw [val_main_v177_apply, val_main_v176_apply, v62_at]; rfl

/-- The pixel coordinate on axis 0. -/
theorem v69_at (n : Fin 24) (l : Fin 4) (p : Fin 6) (q : Fin 256) : val_main_v69 (F := Ideal) x0 (ix4 n l p q) = kp (tX x0 n (l.val * 6 + p.val) 0 q) (kw l.val) := by
  rw [val_main_v69_apply, val_main_v67_apply, val_main_v68_apply, val_main_cst_12_apply, v66_at, val_main_v64_apply, val_main_v63_apply]
  have e : val_main_v52 (F := Ideal) x0 (idx_main_v63 (idx_main_v64 (ix4 n l p q))) = tX x0 n (l.val * 6 + p.val) 0 q := by
    refine Eq.trans (congrArg (val_main_v52 (F := Ideal) x0) ?_) (v52_at x0 n 0 l p q)
    exact (funext fun a => match a with
      | ⟨0,_⟩ => Fin.ext (by have hn : n.val < 24 := n.isLt; have hl : l.val < 4 := l.isLt; have hp : p.val < 6 := p.isLt; have hq : q.val < 256 := q.isLt; show (((n.val * 4 + l.val) * 6 + p.val) * 256 + q.val) / 6144 = n.val; omega)
      | ⟨1,_⟩ => rfl
      | ⟨2,_⟩ => Fin.ext (by have hn : n.val < 24 := n.isLt; have hl : l.val < 4 := l.isLt; have hp : p.val < 6 := p.isLt; have hq : q.val < 256 := q.isLt; show (((n.val * 4 + l.val) * 6 + p.val) * 256 + q.val) / 1536 % 4 = l.val; omega)
      | ⟨3,_⟩ => Fin.ext (by have hn : n.val < 24 := n.isLt; have hl : l.val < 4 := l.isLt; have hp : p.val < 6 := p.isLt; have hq : q.val < 256 := q.isLt; show (((n.val * 4 + l.val) * 6 + p.val) * 256 + q.val) / 256 % 6 = p.val; omega)
      | ⟨4,_⟩ => Fin.ext (by have hn : n.val < 24 := n.isLt; have hl : l.val < 4 := l.isLt; have hp : p.val < 6 := p.isLt; have hq : q.val < 256 := q.isLt; show (((n.val * 4 + l.val) * 6 + p.val) * 256 + q.val) % 256 = q.val; omega))
  rw [e]; rfl

/-- The pixel below it. -/
theorem v77_at (n : Fin 24) (l : Fin 4) (p : Fin 6) (q : Fin 256) : val_main_v77 (F := Ideal) x0 (ix4 n l p q) = kf (tX x0 n (l.val * 6 + p.val) 0 q) (kw l.val) := by
  rw [val_main_v77_apply, v69_at]; rfl

/-- How far it lies above that pixel. -/
theorem v79_at (n : Fin 24) (l : Fin 4) (p : Fin 6) (q : Fin 256) : val_main_v79 (F := Ideal) x0 (ix4 n l p q) = kl (tX x0 n (l.val * 6 + p.val) 0 q) (kw l.val) := by
  rw [val_main_v79_apply, v69_at, v77_at]; rfl

/-- One minus that. -/
theorem v82_at (n : Fin 24) (l : Fin 4) (p : Fin 6) (q : Fin 256) : val_main_v82 (F := Ideal) x0 (ix4 n l p q) = kc (tX x0 n (l.val * 6 + p.val) 0 q) (kw l.val) := by
  rw [val_main_v82_apply, v79_at, val_main_v81_apply, val_main_cst_14_apply]; rfl

/-- That pixel as a 32-bit integer. -/
theorem v85_at (n : Fin 24) (l : Fin 4) (p : Fin 6) (q : Fin 256) : val_main_v85 (F := Ideal) x0 (ix4 n l p q) = Ideal.fptosi 32 (kf (tX x0 n (l.val * 6 + p.val) 0 q) (kw l.val)) := by
  rw [val_main_v85_apply, v77_at]; rfl

/-- The pixel coordinate on axis 1. -/
theorem v76_at (n : Fin 24) (l : Fin 4) (p : Fin 6) (q : Fin 256) : val_main_v76 (F := Ideal) x0 (ix4 n l p q) = kp (tX x0 n (l.val * 6 + p.val) 1 q) (kh l.val) := by
  rw [val_main_v76_apply, val_main_v74_apply, val_main_v75_apply, val_main_cst_13_apply, v73_at, val_main_v71_apply, val_main_v70_apply]
  have e : val_main_v52 (F := Ideal) x0 (idx_main_v70 (idx_main_v71 (ix4 n l p q))) = tX x0 n (l.val * 6 + p.val) 1 q := by
    refine Eq.trans (congrArg (val_main_v52 (F := Ideal) x0) ?_) (v52_at x0 n 1 l p q)
    exact (funext fun a => match a with
      | ⟨0,_⟩ => Fin.ext (by have hn : n.val < 24 := n.isLt; have hl : l.val < 4 := l.isLt; have hp : p.val < 6 := p.isLt; have hq : q.val < 256 := q.isLt; show (((n.val * 4 + l.val) * 6 + p.val) * 256 + q.val) / 6144 = n.val; omega)
      | ⟨1,_⟩ => rfl
      | ⟨2,_⟩ => Fin.ext (by have hn : n.val < 24 := n.isLt; have hl : l.val < 4 := l.isLt; have hp : p.val < 6 := p.isLt; have hq : q.val < 256 := q.isLt; show (((n.val * 4 + l.val) * 6 + p.val) * 256 + q.val) / 1536 % 4 = l.val; omega)
      | ⟨3,_⟩ => Fin.ext (by have hn : n.val < 24 := n.isLt; have hl : l.val < 4 := l.isLt; have hp : p.val < 6 := p.isLt; have hq : q.val < 256 := q.isLt; show (((n.val * 4 + l.val) * 6 + p.val) * 256 + q.val) / 256 % 6 = p.val; omega)
      | ⟨4,_⟩ => Fin.ext (by have hn : n.val < 24 := n.isLt; have hl : l.val < 4 := l.isLt; have hp : p.val < 6 := p.isLt; have hq : q.val < 256 := q.isLt; show (((n.val * 4 + l.val) * 6 + p.val) * 256 + q.val) % 256 = q.val; omega))
  rw [e]; rfl

/-- The pixel below it. -/
theorem v78_at (n : Fin 24) (l : Fin 4) (p : Fin 6) (q : Fin 256) : val_main_v78 (F := Ideal) x0 (ix4 n l p q) = kf (tX x0 n (l.val * 6 + p.val) 1 q) (kh l.val) := by
  rw [val_main_v78_apply, v76_at]; rfl

/-- How far it lies above that pixel. -/
theorem v80_at (n : Fin 24) (l : Fin 4) (p : Fin 6) (q : Fin 256) : val_main_v80 (F := Ideal) x0 (ix4 n l p q) = kl (tX x0 n (l.val * 6 + p.val) 1 q) (kh l.val) := by
  rw [val_main_v80_apply, v76_at, v78_at]; rfl

/-- One minus that. -/
theorem v84_at (n : Fin 24) (l : Fin 4) (p : Fin 6) (q : Fin 256) : val_main_v84 (F := Ideal) x0 (ix4 n l p q) = kc (tX x0 n (l.val * 6 + p.val) 1 q) (kh l.val) := by
  rw [val_main_v84_apply, v80_at, val_main_v83_apply, val_main_cst_15_apply]; rfl

/-- That pixel as a 32-bit integer. -/
theorem v86_at (n : Fin 24) (l : Fin 4) (p : Fin 6) (q : Fin 256) : val_main_v86 (F := Ideal) x0 (ix4 n l p q) = Ideal.fptosi 32 (kf (tX x0 n (l.val * 6 + p.val) 1 q) (kh l.val)) := by
  rw [val_main_v86_apply, v78_at]; rfl

/-- The pixel of a corner from the pixel below: the next one if `b` is one. -/
def rcor (b : ℕ) (t : BitVec 32) : BitVec 32 := if b = 0 then t else IntOp.addi t 1#32

/-- The weight of a corner. -/
def rwt (x y w h : EReal) (c : ℕ) : EReal :=
  if c = 0 then kc y h * kc x w else if c = 1 then kc y h * kl x w else if c = 2 then kl y h * kc x w else kl y h * kl x w

/-- A corner's pixel on axis 0. -/
theorem v95_at (n : Fin 24) (l : Fin 4) (c : Fin 4) (p : Fin 6) (q : Fin 256) :
    val_main_v95 (F := Ideal) x0 (ix5 n l c p q) = rcor (c.val % 2) (Ideal.fptosi 32 (kf (tX x0 n (l.val * 6 + p.val) 0 q) (kw l.val))) := by
  match c with
  | ⟨0, _⟩ =>
    refine (concatenate_apply_piece (t := S24x4x4x6x256) (2 : Fin 5) _ _ (ix5 n l 0 p q) 0 (by show 0 < 4; omega) S24x4x1x6x256 (val_main_v91 (F := Ideal) x0) rfl rfl 0 rfl
      (ix5 n l 0 p q) (fun b => match b with | ⟨0,_⟩ => fun _ => rfl | ⟨1,_⟩ => fun _ => rfl | ⟨2,_⟩ => fun h => absurd rfl h | ⟨3,_⟩ => fun _ => rfl | ⟨4,_⟩ => fun _ => rfl) rfl).trans ?_
    rw [val_main_v91_apply]
    refine Eq.trans (congrArg (val_main_v85 (F := Ideal) x0) (show _ = ix4 n l p q from (funext fun a => match a with | ⟨0,_⟩ => rfl | ⟨1,_⟩ => rfl | ⟨2,_⟩ => rfl | ⟨3,_⟩ => rfl))) ?_
    rw [v85_at]; show _ = rcor (0 % 2) _; rfl
  | ⟨1, _⟩ =>
    refine (concatenate_apply_piece (t := S24x4x4x6x256) (2 : Fin 5) _ _ (ix5 n l 1 p q) 1 (by show 1 < 4; omega) S24x4x1x6x256 (val_main_v92 (F := Ideal) x0) rfl rfl 1 rfl
      (ix5 n l 0 p q) (fun b => match b with | ⟨0,_⟩ => fun _ => rfl | ⟨1,_⟩ => fun _ => rfl | ⟨2,_⟩ => fun h => absurd rfl h | ⟨3,_⟩ => fun _ => rfl | ⟨4,_⟩ => fun _ => rfl) rfl).trans ?_
    rw [val_main_v92_apply]
    refine Eq.trans (congrArg (val_main_v88 (F := Ideal) x0) (show _ = ix4 n l p q from (funext fun a => match a with | ⟨0,_⟩ => rfl | ⟨1,_⟩ => rfl | ⟨2,_⟩ => rfl | ⟨3,_⟩ => rfl))) ?_
    rw [val_main_v88_apply, v85_at, val_main_v87_apply, val_main_c_16_apply]; show _ = rcor (1 % 2) _; rfl
  | ⟨2, _⟩ =>
    refine (concatenate_apply_piece (t := S24x4x4x6x256) (2 : Fin 5) _ _ (ix5 n l 2 p q) 2 (by show 2 < 4; omega) S24x4x1x6x256 (val_main_v93 (F := Ideal) x0) rfl rfl 2 rfl
      (ix5 n l 0 p q) (fun b => match b with | ⟨0,_⟩ => fun _ => rfl | ⟨1,_⟩ => fun _ => rfl | ⟨2,_⟩ => fun h => absurd rfl h | ⟨3,_⟩ => fun _ => rfl | ⟨4,_⟩ => fun _ => rfl) rfl).trans ?_
    rw [val_main_v93_apply]
    refine Eq.trans (congrArg (val_main_v85 (F := Ideal) x0) (show _ = ix4 n l p q from (funext fun a => match a with | ⟨0,_⟩ => rfl | ⟨1,_⟩ => rfl | ⟨2,_⟩ => rfl | ⟨3,_⟩ => rfl))) ?_
    rw [v85_at]; show _ = rcor (2 % 2) _; rfl
  | ⟨3, _⟩ =>
    refine (concatenate_apply_piece (t := S24x4x4x6x256) (2 : Fin 5) _ _ (ix5 n l 3 p q) 3 (by show 3 < 4; omega) S24x4x1x6x256 (val_main_v94 (F := Ideal) x0) rfl rfl 3 rfl
      (ix5 n l 0 p q) (fun b => match b with | ⟨0,_⟩ => fun _ => rfl | ⟨1,_⟩ => fun _ => rfl | ⟨2,_⟩ => fun h => absurd rfl h | ⟨3,_⟩ => fun _ => rfl | ⟨4,_⟩ => fun _ => rfl) rfl).trans ?_
    rw [val_main_v94_apply]
    refine Eq.trans (congrArg (val_main_v90 (F := Ideal) x0) (show _ = ix4 n l p q from (funext fun a => match a with | ⟨0,_⟩ => rfl | ⟨1,_⟩ => rfl | ⟨2,_⟩ => rfl | ⟨3,_⟩ => rfl))) ?_
    rw [val_main_v90_apply, v85_at, val_main_v89_apply, val_main_c_17_apply]; show _ = rcor (3 % 2) _; rfl

/-- A corner's pixel on axis 1. -/
theorem v104_at (n : Fin 24) (l : Fin 4) (c : Fin 4) (p : Fin 6) (q : Fin 256) :
    val_main_v104 (F := Ideal) x0 (ix5 n l c p q) = rcor (c.val / 2) (Ideal.fptosi 32 (kf (tX x0 n (l.val * 6 + p.val) 1 q) (kh l.val))) := by
  match c with
  | ⟨0, _⟩ =>
    refine (concatenate_apply_piece (t := S24x4x4x6x256) (2 : Fin 5) _ _ (ix5 n l 0 p q) 0 (by show 0 < 4; omega) S24x4x1x6x256 (val_main_v100 (F := Ideal) x0) rfl rfl 0 rfl
      (ix5 n l 0 p q) (fun b => match b with | ⟨0,_⟩ => fun _ => rfl | ⟨1,_⟩ => fun _ => rfl | ⟨2,_⟩ => fun h => absurd rfl h | ⟨3,_⟩ => fun _ => rfl | ⟨4,_⟩ => fun _ => rfl) rfl).trans ?_
    rw [val_main_v100_apply]
    refine Eq.trans (congrArg (val_main_v86 (F := Ideal) x0) (show _ = ix4 n l p q from (funext fun a => match a with | ⟨0,_⟩ => rfl | ⟨1,_⟩ => rfl | ⟨2,_⟩ => rfl | ⟨3,_⟩ => rfl))) ?_
    rw [v86_at]; show _ = rcor (0 / 2) _; rfl
  | ⟨1, _⟩ =>
    refine (concatenate_apply_piece (t := S24x4x4x6x256) (2 : Fin 5) _ _ (ix5 n l 1 p q) 1 (by show 1 < 4; omega) S24x4x1x6x256 (val_main_v101 (F := Ideal) x0) rfl rfl 1 rfl
      (ix5 n l 0 p q) (fun b => match b with | ⟨0,_⟩ => fun _ => rfl | ⟨1,_⟩ => fun _ => rfl | ⟨2,_⟩ => fun h => absurd rfl h | ⟨3,_⟩ => fun _ => rfl | ⟨4,_⟩ => fun _ => rfl) rfl).trans ?_
    rw [val_main_v101_apply]
    refine Eq.trans (congrArg (val_main_v86 (F := Ideal) x0) (show _ = ix4 n l p q from (funext fun a => match a with | ⟨0,_⟩ => rfl | ⟨1,_⟩ => rfl | ⟨2,_⟩ => rfl | ⟨3,_⟩ => rfl))) ?_
    rw [v86_at]; show _ = rcor (1 / 2) _; rfl
  | ⟨2, _⟩ =>
    refine (concatenate_apply_piece (t := S24x4x4x6x256) (2 : Fin 5) _ _ (ix5 n l 2 p q) 2 (by show 2 < 4; omega) S24x4x1x6x256 (val_main_v102 (F := Ideal) x0) rfl rfl 2 rfl
      (ix5 n l 0 p q) (fun b => match b with | ⟨0,_⟩ => fun _ => rfl | ⟨1,_⟩ => fun _ => rfl | ⟨2,_⟩ => fun h => absurd rfl h | ⟨3,_⟩ => fun _ => rfl | ⟨4,_⟩ => fun _ => rfl) rfl).trans ?_
    rw [val_main_v102_apply]
    refine Eq.trans (congrArg (val_main_v97 (F := Ideal) x0) (show _ = ix4 n l p q from (funext fun a => match a with | ⟨0,_⟩ => rfl | ⟨1,_⟩ => rfl | ⟨2,_⟩ => rfl | ⟨3,_⟩ => rfl))) ?_
    rw [val_main_v97_apply, v86_at, val_main_v96_apply, val_main_c_18_apply]; show _ = rcor (2 / 2) _; rfl
  | ⟨3, _⟩ =>
    refine (concatenate_apply_piece (t := S24x4x4x6x256) (2 : Fin 5) _ _ (ix5 n l 3 p q) 3 (by show 3 < 4; omega) S24x4x1x6x256 (val_main_v103 (F := Ideal) x0) rfl rfl 3 rfl
      (ix5 n l 0 p q) (fun b => match b with | ⟨0,_⟩ => fun _ => rfl | ⟨1,_⟩ => fun _ => rfl | ⟨2,_⟩ => fun h => absurd rfl h | ⟨3,_⟩ => fun _ => rfl | ⟨4,_⟩ => fun _ => rfl) rfl).trans ?_
    rw [val_main_v103_apply]
    refine Eq.trans (congrArg (val_main_v99 (F := Ideal) x0) (show _ = ix4 n l p q from (funext fun a => match a with | ⟨0,_⟩ => rfl | ⟨1,_⟩ => rfl | ⟨2,_⟩ => rfl | ⟨3,_⟩ => rfl))) ?_
    rw [val_main_v99_apply, v86_at, val_main_v98_apply, val_main_c_19_apply]; show _ = rcor (3 / 2) _; rfl

/-- A corner's weight. -/
theorem v113_at (n : Fin 24) (l : Fin 4) (c : Fin 4) (p : Fin 6) (q : Fin 256) :
    val_main_v113 (F := Ideal) x0 (ix5 n l c p q) = rwt (tX x0 n (l.val * 6 + p.val) 0 q) (tX x0 n (l.val * 6 + p.val) 1 q) (kw l.val) (kh l.val) c.val := by
  match c with
  | ⟨0, _⟩ =>
    refine (concatenate_apply_piece (t := S24x4x4x6x256) (2 : Fin 5) _ _ (ix5 n l 0 p q) 0 (by show 0 < 4; omega) S24x4x1x6x256 (val_main_v109 (F := Ideal) x0) rfl rfl 0 rfl
      (ix5 n l 0 p q) (fun b => match b with | ⟨0,_⟩ => fun _ => rfl | ⟨1,_⟩ => fun _ => rfl | ⟨2,_⟩ => fun h => absurd rfl h | ⟨3,_⟩ => fun _ => rfl | ⟨4,_⟩ => fun _ => rfl) rfl).trans ?_
    rw [val_main_v109_apply]
    refine Eq.trans (congrArg (val_main_v105 (F := Ideal) x0) (show _ = ix4 n l p q from (funext fun a => match a with | ⟨0,_⟩ => rfl | ⟨1,_⟩ => rfl | ⟨2,_⟩ => rfl | ⟨3,_⟩ => rfl))) ?_
    rw [val_main_v105_apply, v84_at, v82_at]; rfl
  | ⟨1, _⟩ =>
    refine (concatenate_apply_piece (t := S24x4x4x6x256) (2 : Fin 5) _ _ (ix5 n l 1 p q) 1 (by show 1 < 4; omega) S24x4x1x6x256 (val_main_v110 (F := Ideal) x0) rfl rfl 1 rfl
      (ix5 n l 0 p q) (fun b => match b with | ⟨0,_⟩ => fun _ => rfl | ⟨1,_⟩ => fun _ => rfl | ⟨2,_⟩ => fun h => absurd rfl h | ⟨3,_⟩ => fun _ => rfl | ⟨4,_⟩ => fun _ => rfl) rfl).trans ?_
    rw [val_main_v110_apply]
    refine Eq.trans (congrArg (val_main_v106 (F := Ideal) x0) (show _ = ix4 n l p q from (funext fun a => match a with | ⟨0,_⟩ => rfl | ⟨1,_⟩ => rfl | ⟨2,_⟩ => rfl | ⟨3,_⟩ => rfl))) ?_
    rw [val_main_v106_apply, v84_at, v79_at]; rfl
  | ⟨2, _⟩ =>
    refine (concatenate_apply_piece (t := S24x4x4x6x256) (2 : Fin 5) _ _ (ix5 n l 2 p q) 2 (by show 2 < 4; omega) S24x4x1x6x256 (val_main_v111 (F := Ideal) x0) rfl rfl 2 rfl
      (ix5 n l 0 p q) (fun b => match b with | ⟨0,_⟩ => fun _ => rfl | ⟨1,_⟩ => fun _ => rfl | ⟨2,_⟩ => fun h => absurd rfl h | ⟨3,_⟩ => fun _ => rfl | ⟨4,_⟩ => fun _ => rfl) rfl).trans ?_
    rw [val_main_v111_apply]
    refine Eq.trans (congrArg (val_main_v107 (F := Ideal) x0) (show _ = ix4 n l p q from (funext fun a => match a with | ⟨0,_⟩ => rfl | ⟨1,_⟩ => rfl | ⟨2,_⟩ => rfl | ⟨3,_⟩ => rfl))) ?_
    rw [val_main_v107_apply, v80_at, v82_at]; rfl
  | ⟨3, _⟩ =>
    refine (concatenate_apply_piece (t := S24x4x4x6x256) (2 : Fin 5) _ _ (ix5 n l 3 p q) 3 (by show 3 < 4; omega) S24x4x1x6x256 (val_main_v112 (F := Ideal) x0) rfl rfl 3 rfl
      (ix5 n l 0 p q) (fun b => match b with | ⟨0,_⟩ => fun _ => rfl | ⟨1,_⟩ => fun _ => rfl | ⟨2,_⟩ => fun h => absurd rfl h | ⟨3,_⟩ => fun _ => rfl | ⟨4,_⟩ => fun _ => rfl) rfl).trans ?_
    rw [val_main_v112_apply]
    refine Eq.trans (congrArg (val_main_v108 (F := Ideal) x0) (show _ = ix4 n l p q from (funext fun a => match a with | ⟨0,_⟩ => rfl | ⟨1,_⟩ => rfl | ⟨2,_⟩ => rfl | ⟨3,_⟩ => rfl))) ?_
    rw [val_main_v108_apply, v80_at, v79_at]; rfl

/-- Whether a corner lies on the level. -/
def rval (x y w h : EReal) (W H : BitVec 32) (c : ℕ) : BitVec 1 :=
  IntOp.andi (IntOp.andi (IntOp.andi (IntOp.cmpi .sge (rcor (c % 2) (Ideal.fptosi 32 (kf x w))) 0#32) (IntOp.cmpi .sle (rcor (c % 2) (Ideal.fptosi 32 (kf x w))) (IntOp.subi W 1#32)))
    (IntOp.cmpi .sge (rcor (c / 2) (Ideal.fptosi 32 (kf y h))) 0#32)) (IntOp.cmpi .sle (rcor (c / 2) (Ideal.fptosi 32 (kf y h))) (IntOp.subi H 1#32))

/-- The last pixel's column. -/
theorem v120_at (n : Fin 24) (l c : Fin 4) (p : Fin 6) (q : Fin 256) : val_main_v120 (F := Ideal) (ix5 n l c p q) = IntOp.subi (rW l.val) 1#32 := by
  rw [val_main_v120_apply, val_main_v119_apply, val_main_v118_apply, val_main_v117_apply, val_main_c_21_apply, val_main_v116_apply, v58_at]; rfl

/-- The last pixel's row. -/
theorem v130_at (n : Fin 24) (l c : Fin 4) (p : Fin 6) (q : Fin 256) : val_main_v130 (F := Ideal) (ix5 n l c p q) = IntOp.subi (rH l.val) 1#32 := by
  rw [val_main_v130_apply, val_main_v129_apply, val_main_v128_apply, val_main_v127_apply, val_main_c_23_apply, val_main_v126_apply, v60_at]; rfl

/-- The mask of a corner. -/
theorem v132_at (n : Fin 24) (l c : Fin 4) (p : Fin 6) (q : Fin 256) : val_main_v132 (F := Ideal) x0 (ix5 n l c p q)
    = rval (tX x0 n (l.val * 6 + p.val) 0 q) (tX x0 n (l.val * 6 + p.val) 1 q) (kw l.val) (kh l.val) (rW l.val) (rH l.val) c.val := by
  rw [val_main_v132_apply, val_main_v131_apply, val_main_v125_apply, val_main_v124_apply, val_main_v122_apply, val_main_v121_apply, val_main_v115_apply,
    v120_at, v130_at, v95_at, v104_at, val_main_v114_apply, val_main_c_20_apply, val_main_v123_apply, val_main_c_22_apply]
  rfl

/-- A corner's value of element `d`: its code times its scale, or zero off the level. -/
def rV (n l c p q d : ℕ) : EReal :=
  Scalar.select (rval (tX x0 n (l * 6 + p) 0 q) (tX x0 n (l * 6 + p) 1 q) (kw l) (kh l) (rW l) (rH l) c)
    (rdec (rbyte (tW x4 n (d / 4) (rowOf l c p q) (q % 128)) (d % 4)) * Ideal.ofBits .f32 (tS x5 n (rowOf l c p q) (q % 128)))
    (Ideal.ofBits .f32 0x00000000#32)

/-- The corners' values. -/
theorem v137_at (n : Fin 24) (l c : Fin 4) (p : Fin 6) (q : Fin 256) (d : Fin 48) :
    val_main_v137 (F := Ideal) x0 x4 x5 (mkS24x4x4x6x256x48 n l c p q d) = rV x0 x4 x5 n l c p q d := by
  rw [val_main_v137_apply, val_main_v136_apply, v46_at, val_main_call2_v2_apply, val_main_call2_v0_apply, val_main_cst_24_apply]
  have em : val_main_call2_v1 (F := Ideal) x0 (mkS24x4x4x6x256x48 n l c p q d)
      = rval (tX x0 n (l.val * 6 + p.val) 0 q) (tX x0 n (l.val * 6 + p.val) 1 q) (kw l.val) (kh l.val) (rW l.val) (rH l.val) c.val := by
    rw [val_main_call2_v1_apply, val_main_v133_apply]
    exact Eq.trans (congrArg (val_main_v132 (F := Ideal) x0) (show _ = ix5 n l c p q from (funext fun a => match a with | ⟨0,_⟩ => rfl | ⟨1,_⟩ => rfl | ⟨2,_⟩ => rfl | ⟨3,_⟩ => rfl | ⟨4,_⟩ => rfl))) (v132_at x0 n l c p q)
  have es : val_main_v135 (F := Ideal) x5 (mkS24x4x4x6x256x48 n l c p q d) = Ideal.ofBits .f32 (tS x5 n (rowOf l c p q) (q.val % 128)) := by
    rw [val_main_v135_apply, val_main_v134_apply]
    exact Eq.trans (congrArg (val_main_v50 (F := Ideal) x5) (show _ = ix5 n l c p q from (funext fun a => match a with | ⟨0,_⟩ => rfl | ⟨1,_⟩ => rfl | ⟨2,_⟩ => rfl | ⟨3,_⟩ => rfl | ⟨4,_⟩ => rfl))) (v50_at x5 n l c p q)
  rw [em, es]; rfl

/-- The values of corner 0. -/
theorem v139_at (n : Fin 24) (l : Fin 4) (p : Fin 6) (q : Fin 256) (d : Fin 48) : val_main_v139 (F := Ideal) x0 x4 x5 (ix5 n l p q d) = rV x0 x4 x5 n l 0 p q d := by
  have e1 : val_main_v139 (F := Ideal) x0 x4 x5 (ix5 n l p q d) = val_main_v138 (F := Ideal) x0 x4 x5 (ix6 n l 0 p q d) := by
    unfold val_main_v139
    generalize val_main_v138 (F := Ideal) x0 x4 x5 = y
    exact shapeCast_apply y shapeCasts_S24x4x1x6x256x48_S24x4x6x256x48 _ _
      (by rewrite [Shape.rowMajor_val_six, Shape.rowMajor_val_five]
          show ((((n.val * 4 + l.val) * 1 + 0) * 6 + p.val) * 256 + q.val) * 48 + d.val = (((n.val * 4 + l.val) * 6 + p.val) * 256 + q.val) * 48 + d.val
          omega)
  rw [e1, val_main_v138_apply]
  exact Eq.trans (congrArg (val_main_v137 (F := Ideal) x0 x4 x5) (show _ = mkS24x4x4x6x256x48 n l 0 p q d from (funext fun a => match a with | ⟨0,_⟩ => rfl | ⟨1,_⟩ => rfl | ⟨2,_⟩ => rfl | ⟨3,_⟩ => rfl | ⟨4,_⟩ => rfl | ⟨5,_⟩ => rfl))) (v137_at x0 x4 x5 n l 0 p q d)

/-- The values of corner 1. -/
theorem v141_at (n : Fin 24) (l : Fin 4) (p : Fin 6) (q : Fin 256) (d : Fin 48) : val_main_v141 (F := Ideal) x0 x4 x5 (ix5 n l p q d) = rV x0 x4 x5 n l 1 p q d := by
  have e1 : val_main_v141 (F := Ideal) x0 x4 x5 (ix5 n l p q d) = val_main_v140 (F := Ideal) x0 x4 x5 (ix6 n l 0 p q d) := by
    unfold val_main_v141
    generalize val_main_v140 (F := Ideal) x0 x4 x5 = y
    exact shapeCast_apply y shapeCasts_S24x4x1x6x256x48_S24x4x6x256x48 _ _
      (by rewrite [Shape.rowMajor_val_six, Shape.rowMajor_val_five]
          show ((((n.val * 4 + l.val) * 1 + 0) * 6 + p.val) * 256 + q.val) * 48 + d.val = (((n.val * 4 + l.val) * 6 + p.val) * 256 + q.val) * 48 + d.val
          omega)
  rw [e1, val_main_v140_apply]
  exact Eq.trans (congrArg (val_main_v137 (F := Ideal) x0 x4 x5) (show _ = mkS24x4x4x6x256x48 n l 1 p q d from (funext fun a => match a with | ⟨0,_⟩ => rfl | ⟨1,_⟩ => rfl | ⟨2,_⟩ => rfl | ⟨3,_⟩ => rfl | ⟨4,_⟩ => rfl | ⟨5,_⟩ => rfl))) (v137_at x0 x4 x5 n l 1 p q d)

/-- The values of corner 2. -/
theorem v143_at (n : Fin 24) (l : Fin 4) (p : Fin 6) (q : Fin 256) (d : Fin 48) : val_main_v143 (F := Ideal) x0 x4 x5 (ix5 n l p q d) = rV x0 x4 x5 n l 2 p q d := by
  have e1 : val_main_v143 (F := Ideal) x0 x4 x5 (ix5 n l p q d) = val_main_v142 (F := Ideal) x0 x4 x5 (ix6 n l 0 p q d) := by
    unfold val_main_v143
    generalize val_main_v142 (F := Ideal) x0 x4 x5 = y
    exact shapeCast_apply y shapeCasts_S24x4x1x6x256x48_S24x4x6x256x48 _ _
      (by rewrite [Shape.rowMajor_val_six, Shape.rowMajor_val_five]
          show ((((n.val * 4 + l.val) * 1 + 0) * 6 + p.val) * 256 + q.val) * 48 + d.val = (((n.val * 4 + l.val) * 6 + p.val) * 256 + q.val) * 48 + d.val
          omega)
  rw [e1, val_main_v142_apply]
  exact Eq.trans (congrArg (val_main_v137 (F := Ideal) x0 x4 x5) (show _ = mkS24x4x4x6x256x48 n l 2 p q d from (funext fun a => match a with | ⟨0,_⟩ => rfl | ⟨1,_⟩ => rfl | ⟨2,_⟩ => rfl | ⟨3,_⟩ => rfl | ⟨4,_⟩ => rfl | ⟨5,_⟩ => rfl))) (v137_at x0 x4 x5 n l 2 p q d)

/-- The values of corner 3. -/
theorem v145_at (n : Fin 24) (l : Fin 4) (p : Fin 6) (q : Fin 256) (d : Fin 48) : val_main_v145 (F := Ideal) x0 x4 x5 (ix5 n l p q d) = rV x0 x4 x5 n l 3 p q d := by
  have e1 : val_main_v145 (F := Ideal) x0 x4 x5 (ix5 n l p q d) = val_main_v144 (F := Ideal) x0 x4 x5 (ix6 n l 0 p q d) := by
    unfold val_main_v145
    generalize val_main_v144 (F := Ideal) x0 x4 x5 = y
    exact shapeCast_apply y shapeCasts_S24x4x1x6x256x48_S24x4x6x256x48 _ _
      (by rewrite [Shape.rowMajor_val_six, Shape.rowMajor_val_five]
          show ((((n.val * 4 + l.val) * 1 + 0) * 6 + p.val) * 256 + q.val) * 48 + d.val = (((n.val * 4 + l.val) * 6 + p.val) * 256 + q.val) * 48 + d.val
          omega)
  rw [e1, val_main_v144_apply]
  exact Eq.trans (congrArg (val_main_v137 (F := Ideal) x0 x4 x5) (show _ = mkS24x4x4x6x256x48 n l 3 p q d from (funext fun a => match a with | ⟨0,_⟩ => rfl | ⟨1,_⟩ => rfl | ⟨2,_⟩ => rfl | ⟨3,_⟩ => rfl | ⟨4,_⟩ => rfl | ⟨5,_⟩ => rfl))) (v137_at x0 x4 x5 n l 3 p q d)

end Cert.ReferenceIdeal.Stage

end
-- ==== Proof.RefValue.lean ====
/-
  The reference's results, read at an index.
-/
module

public import proofs.«01_k».proof.Proof.RefPoint

@[expose] public section

set_option maxRecDepth 16384

noncomputable section

namespace Cert.ReferenceIdeal.Stage

open Cert.ReferenceIdeal Cert.ReferenceIdeal.Gen Idealize.ShloMosaic Idealize.ShloMosaic.TcCoe Idealize.ShloMosaic.StableHlo Cert.Decode

variable (x0 : (⟨S3x256x8x4x6x2, .f32⟩ : BufTy).Contents (Elt Ideal)) (x1 : (⟨S3x256x8x4x6, .f32⟩ : BufTy).Contents (Elt Ideal)) (x2 : (⟨S3x256, .f32⟩ : BufTy).Contents (Elt Ideal)) (x3 : (⟨S24x48x256, .bf16⟩ : BufTy).Contents (Elt Ideal)) (x4 : (⟨S7077888, .i32⟩ : BufTy).Contents (Elt Ideal)) (x5 : (⟨S589824, .i32⟩ : BufTy).Contents (Elt Ideal))

/-- The interpolated value of element `d`. -/
def rS (n l p q d : ℕ) : EReal :=
  Ideal.ofBits .f32 0x00000000#32 + ∑ c : Fin 4, rwt (tX x0 n (l * 6 + p) 0 q) (tX x0 n (l * 6 + p) 1 q) (kw l) (kh l) c * rV x0 x4 x5 n l c p q d

/-- Its slope along the first axis. -/
def rDX (n l p q d : ℕ) : EReal :=
  kc (tX x0 n (l * 6 + p) 1 q) (kh l) * (rV x0 x4 x5 n l 1 p q d - rV x0 x4 x5 n l 0 p q d) + kl (tX x0 n (l * 6 + p) 1 q) (kh l) * (rV x0 x4 x5 n l 3 p q d - rV x0 x4 x5 n l 2 p q d)

/-- Its slope along the second axis. -/
def rDY (n l p q d : ℕ) : EReal :=
  kc (tX x0 n (l * 6 + p) 0 q) (kw l) * (rV x0 x4 x5 n l 2 p q d - rV x0 x4 x5 n l 0 p q d) + kl (tX x0 n (l * 6 + p) 0 q) (kw l) * (rV x0 x4 x5 n l 3 p q d - rV x0 x4 x5 n l 1 p q d)

/-- The scaled gradient against a row of values. -/
def rSum (n q : ℕ) (f : ℕ → EReal) : EReal := ∑ d : Fin 48, f d * (tG x3 n d q * tGS x2 n q)

/-- The interpolated values. -/
theorem v149_at (n : Fin 24) (l : Fin 4) (p : Fin 6) (q : Fin 256) (d : Fin 48) : val_main_v149 (F := Ideal) x0 x4 x5 (ix5 n l p q d) = rS x0 x4 x5 n l p q d := by
  rw [val_main_v149_apply, val_main_cst_25_apply]
  refine congrArg (Ideal.ofBits .f32 0x00000000#32 + ·) (Finset.sum_congr rfl fun c _ => ?_)
  refine Eq.trans (congrArg (val_main_v148 (F := Ideal) x0 x4 x5) (show _ = mkS24x4x4x6x256x48 n l c p q d from (funext fun a => match a with | ⟨0,_⟩ => rfl | ⟨1,_⟩ => rfl | ⟨2,_⟩ => rfl | ⟨3,_⟩ => rfl | ⟨4,_⟩ => rfl | ⟨5,_⟩ => rfl))) ?_
  rw [val_main_v148_apply, v137_at, val_main_v147_apply, val_main_v146_apply]
  refine congrArg (fun w : EReal => w * rV x0 x4 x5 n l c p q d) ?_
  exact Eq.trans (congrArg (val_main_v113 (F := Ideal) x0) (show _ = ix5 n l c p q from (funext fun a => match a with | ⟨0,_⟩ => rfl | ⟨1,_⟩ => rfl | ⟨2,_⟩ => rfl | ⟨3,_⟩ => rfl | ⟨4,_⟩ => rfl))) (v113_at x0 n l c p q)

/-- The slopes along the first axis. -/
theorem v158_at (n : Fin 24) (l : Fin 4) (p : Fin 6) (q : Fin 256) (d : Fin 48) : val_main_v158 (F := Ideal) x0 x4 x5 (ix5 n l p q d) = rDX x0 x4 x5 n l p q d := by
  have e1 : val_main_v152 (F := Ideal) x0 (ix5 n l p q d) = kc (tX x0 n (l.val * 6 + p.val) 1 q) (kh l.val) := by
    rw [val_main_v152_apply, val_main_v150_apply]
    exact Eq.trans (congrArg (val_main_v84 (F := Ideal) x0) (show _ = ix4 n l p q from (funext fun a => match a with | ⟨0,_⟩ => rfl | ⟨1,_⟩ => rfl | ⟨2,_⟩ => rfl | ⟨3,_⟩ => rfl))) (v84_at x0 n l p q)
  have e2 : val_main_v156 (F := Ideal) x0 (ix5 n l p q d) = kl (tX x0 n (l.val * 6 + p.val) 1 q) (kh l.val) := by
    rw [val_main_v156_apply, val_main_v154_apply]
    exact Eq.trans (congrArg (val_main_v80 (F := Ideal) x0) (show _ = ix4 n l p q from (funext fun a => match a with | ⟨0,_⟩ => rfl | ⟨1,_⟩ => rfl | ⟨2,_⟩ => rfl | ⟨3,_⟩ => rfl))) (v80_at x0 n l p q)
  rw [val_main_v158_apply, val_main_v153_apply, val_main_v157_apply, e1, e2, val_main_v151_apply, val_main_v155_apply, v145_at, v143_at, v141_at, v139_at]
  rfl

/-- The slopes along the second axis. -/
theorem v167_at (n : Fin 24) (l : Fin 4) (p : Fin 6) (q : Fin 256) (d : Fin 48) : val_main_v167 (F := Ideal) x0 x4 x5 (ix5 n l p q d) = rDY x0 x4 x5 n l p q d := by
  have e1 : val_main_v161 (F := Ideal) x0 (ix5 n l p q d) = kc (tX x0 n (l.val * 6 + p.val) 0 q) (kw l.val) := by
    rw [val_main_v161_apply, val_main_v159_apply]
    exact Eq.trans (congrArg (val_main_v82 (F := Ideal) x0) (show _ = ix4 n l p q from (funext fun a => match a with | ⟨0,_⟩ => rfl | ⟨1,_⟩ => rfl | ⟨2,_⟩ => rfl | ⟨3,_⟩ => rfl))) (v82_at x0 n l p q)
  have e2 : val_main_v165 (F := Ideal) x0 (ix5 n l p q d) = kl (tX x0 n (l.val * 6 + p.val) 0 q) (kw l.val) := by
    rw [val_main_v165_apply, val_main_v163_apply]
    exact Eq.trans (congrArg (val_main_v79 (F := Ideal) x0) (show _ = ix4 n l p q from (funext fun a => match a with | ⟨0,_⟩ => rfl | ⟨1,_⟩ => rfl | ⟨2,_⟩ => rfl | ⟨3,_⟩ => rfl))) (v79_at x0 n l p q)
  rw [val_main_v167_apply, val_main_v162_apply, val_main_v166_apply, e1, e2, val_main_v160_apply, val_main_v164_apply, v145_at, v143_at, v141_at, v139_at]
  rfl

/-- The scaled gradient against the interpolated values. -/
theorem v169_at (n : Fin 24) (l : Fin 4) (p : Fin 6) (q : Fin 256) : val_main_v169 (F := Ideal) x0 x2 x3 x4 x5 (ix4 n l p q) = rSum x2 x3 n q (fun d => rS x0 x4 x5 n l p q d) := by
  rw [val_main_v169_apply, val_main_v168_apply]
  refine Finset.sum_congr rfl fun d _ => congrArg₂ (fun a b : EReal => a * b) ?_ ?_
  · exact Eq.trans (congrArg (val_main_v149 (F := Ideal) x0 x4 x5) (show _ = ix5 n l p q d from (funext fun a => match a with | ⟨0,_⟩ => rfl | ⟨1,_⟩ => rfl | ⟨2,_⟩ => rfl | ⟨3,_⟩ => rfl | ⟨4,_⟩ => rfl))) (v149_at x0 x4 x5 n l p q d)
  · exact Eq.trans (congrArg (val_main_v5 (F := Ideal) x2 x3) (show _ = ix3 n d q from (funext fun a => match a with | ⟨0,_⟩ => rfl | ⟨1,_⟩ => rfl | ⟨2,_⟩ => rfl))) (v5_at x2 x3 n d q)

/-- The scaled gradient against the slopes. -/
theorem v174_at (n : Fin 24) (l : Fin 4) (p : Fin 6) (q : Fin 256) : val_main_v174 (F := Ideal) x0 x2 x3 x4 x5 (ix4 n l p q) = rSum x2 x3 n q (fun d => rDX x0 x4 x5 n l p q d) := by
  rw [val_main_v174_apply, val_main_v173_apply]
  refine Finset.sum_congr rfl fun d _ => congrArg₂ (fun a b : EReal => a * b) ?_ ?_
  · exact Eq.trans (congrArg (val_main_v158 (F := Ideal) x0 x4 x5) (show _ = ix5 n l p q d from (funext fun a => match a with | ⟨0,_⟩ => rfl | ⟨1,_⟩ => rfl | ⟨2,_⟩ => rfl | ⟨3,_⟩ => rfl | ⟨4,_⟩ => rfl))) (v158_at x0 x4 x5 n l p q d)
  · exact Eq.trans (congrArg (val_main_v5 (F := Ideal) x2 x3) (show _ = ix3 n d q from (funext fun a => match a with | ⟨0,_⟩ => rfl | ⟨1,_⟩ => rfl | ⟨2,_⟩ => rfl))) (v5_at x2 x3 n d q)

/-- The scaled gradient against the slopes. -/
theorem v180_at (n : Fin 24) (l : Fin 4) (p : Fin 6) (q : Fin 256) : val_main_v180 (F := Ideal) x0 x2 x3 x4 x5 (ix4 n l p q) = rSum x2 x3 n q (fun d => rDY x0 x4 x5 n l p q d) := by
  rw [val_main_v180_apply, val_main_v179_apply]
  refine Finset.sum_congr rfl fun d _ => congrArg₂ (fun a b : EReal => a * b) ?_ ?_
  · exact Eq.trans (congrArg (val_main_v167 (F := Ideal) x0 x4 x5) (show _ = ix5 n l p q d from (funext fun a => match a with | ⟨0,_⟩ => rfl | ⟨1,_⟩ => rfl | ⟨2,_⟩ => rfl | ⟨3,_⟩ => rfl | ⟨4,_⟩ => rfl))) (v167_at x0 x4 x5 n l p q d)
  · exact Eq.trans (congrArg (val_main_v5 (F := Ideal) x2 x3) (show _ = ix3 n d q from (funext fun a => match a with | ⟨0,_⟩ => rfl | ⟨1,_⟩ => rfl | ⟨2,_⟩ => rfl))) (v5_at x2 x3 n d q)

/-- The gradient of a coordinate. -/
theorem v175_at (n : Fin 24) (l : Fin 4) (p : Fin 6) (q : Fin 256) : val_main_v175 (F := Ideal) x0 x1 x2 x3 x4 x5 (ix4 n l p q)
    = tA x1 n l p q * kw l.val * rSum x2 x3 n q (fun d => rDX x0 x4 x5 n l p q d) := by
  rw [val_main_v175_apply, val_main_v172_apply, v54_at, v171_at, v174_at]; rfl

/-- The gradient of a coordinate. -/
theorem v181_at (n : Fin 24) (l : Fin 4) (p : Fin 6) (q : Fin 256) : val_main_v181 (F := Ideal) x0 x1 x2 x3 x4 x5 (ix4 n l p q)
    = tA x1 n l p q * kh l.val * rSum x2 x3 n q (fun d => rDY x0 x4 x5 n l p q d) := by
  rw [val_main_v181_apply, val_main_v178_apply, v54_at, v177_at, v180_at]; rfl

/-- The reference's gradient of an attention weight. -/
theorem v186_at (n : Fin 24) (p : Fin 6) (l : Fin 4) (q : Fin 256) :
    val_main_v186 (F := Ideal) x0 x2 x3 x4 x5 (ix4 n p l q) = rSum x2 x3 n q (fun d => rS x0 x4 x5 n l p q d) := by
  rw [val_main_v186_apply]
  exact Eq.trans (congrArg (val_main_v169 (F := Ideal) x0 x2 x3 x4 x5) (show _ = ix4 n l p q from (funext fun a => match a with | ⟨0,_⟩ => rfl | ⟨1,_⟩ => rfl | ⟨2,_⟩ => rfl | ⟨3,_⟩ => rfl))) (v169_at x0 x2 x3 x4 x5 n l p q)

/-- The reference's gradient of a location. -/
theorem v184_at (n : Fin 24) (l : Fin 4) (p : Fin 6) (x : Fin 2) (q : Fin 256) :
    val_main_v184 (F := Ideal) x0 x1 x2 x3 x4 x5 (ix5 n l p x q)
      = if x.val = 0 then tA x1 n l p q * kw l.val * rSum x2 x3 n q (fun d => rDX x0 x4 x5 n l p q d)
        else tA x1 n l p q * kh l.val * rSum x2 x3 n q (fun d => rDY x0 x4 x5 n l p q d) := by
  match x with
  | ⟨0, _⟩ =>
    refine (concatenate_apply_piece (t := S24x4x6x2x256) (3 : Fin 5) _ _ (ix5 n l p 0 q) 0 (by show 0 < 2; omega) S24x4x6x1x256 (val_main_v182 (F := Ideal) x0 x1 x2 x3 x4 x5) rfl rfl 0 rfl
      (ix5 n l p 0 q) (fun b => match b with | ⟨0,_⟩ => fun _ => rfl | ⟨1,_⟩ => fun _ => rfl | ⟨2,_⟩ => fun _ => rfl | ⟨3,_⟩ => fun h => absurd rfl h | ⟨4,_⟩ => fun _ => rfl) rfl).trans ?_
    rw [val_main_v182_apply]
    exact Eq.trans (congrArg (val_main_v175 (F := Ideal) x0 x1 x2 x3 x4 x5) (show _ = ix4 n l p q from (funext fun a => match a with | ⟨0,_⟩ => rfl | ⟨1,_⟩ => rfl | ⟨2,_⟩ => rfl | ⟨3,_⟩ => rfl))) (v175_at x0 x1 x2 x3 x4 x5 n l p q)
  | ⟨1, _⟩ =>
    refine (concatenate_apply_piece (t := S24x4x6x2x256) (3 : Fin 5) _ _ (ix5 n l p 1 q) 1 (by show 1 < 2; omega) S24x4x6x1x256 (val_main_v183 (F := Ideal) x0 x1 x2 x3 x4 x5) rfl rfl 1 rfl
      (ix5 n l p 0 q) (fun b => match b with | ⟨0,_⟩ => fun _ => rfl | ⟨1,_⟩ => fun _ => rfl | ⟨2,_⟩ => fun _ => rfl | ⟨3,_⟩ => fun h => absurd rfl h | ⟨4,_⟩ => fun _ => rfl) rfl).trans ?_
    rw [val_main_v183_apply]
    exact Eq.trans (congrArg (val_main_v181 (F := Ideal) x0 x1 x2 x3 x4 x5) (show _ = ix4 n l p q from (funext fun a => match a with | ⟨0,_⟩ => rfl | ⟨1,_⟩ => rfl | ⟨2,_⟩ => rfl | ⟨3,_⟩ => rfl))) (v181_at x0 x1 x2 x3 x4 x5 n l p q)

/-- The reference's gradients of the locations, as it returns them. -/
theorem v185_at (n : Fin 24) (r : Fin 24) (x : Fin 2) (q : Fin 256) :
    val_main_v185 (F := Ideal) x0 x1 x2 x3 x4 x5 (ix4 n r x q)
      = if x.val = 0 then tA x1 n (r.val / 6) (r.val % 6) q * kw (r.val / 6) * rSum x2 x3 n q (fun d => rDX x0 x4 x5 n (r.val / 6) (r.val % 6) q d)
        else tA x1 n (r.val / 6) (r.val % 6) q * kh (r.val / 6) * rSum x2 x3 n q (fun d => rDY x0 x4 x5 n (r.val / 6) (r.val % 6) q d) := by
  rw [val_main_v185_apply]
  have hl : r.val / 6 < 4 := by have := r.isLt; omega
  have hp : r.val % 6 < 6 := by omega
  refine Eq.trans (congrArg (val_main_v184 (F := Ideal) x0 x1 x2 x3 x4 x5) ?_) (v184_at x0 x1 x2 x3 x4 x5 n ⟨r.val / 6, hl⟩ ⟨r.val % 6, hp⟩ x q)
  exact (funext fun a => match a with
    | ⟨0,_⟩ => Fin.ext (by have hn : n.val < 24 := n.isLt; have hr : r.val < 24 := r.isLt; have hx : x.val < 2 := x.isLt; have hq : q.val < 256 := q.isLt; show (((n.val * 24 + r.val) * 2 + x.val) * 256 + q.val) / 12288 = n.val; omega)
    | ⟨1,_⟩ => Fin.ext (by have hn : n.val < 24 := n.isLt; have hr : r.val < 24 := r.isLt; have hx : x.val < 2 := x.isLt; have hq : q.val < 256 := q.isLt; show (((n.val * 24 + r.val) * 2 + x.val) * 256 + q.val) / 3072 % 4 = r.val / 6; omega)
    | ⟨2,_⟩ => Fin.ext (by have hn : n.val < 24 := n.isLt; have hr : r.val < 24 := r.isLt; have hx : x.val < 2 := x.isLt; have hq : q.val < 256 := q.isLt; show (((n.val * 24 + r.val) * 2 + x.val) * 256 + q.val) / 512 % 6 = r.val % 6; omega)
    | ⟨3,_⟩ => Fin.ext (by have hn : n.val < 24 := n.isLt; have hr : r.val < 24 := r.isLt; have hx : x.val < 2 := x.isLt; have hq : q.val < 256 := q.isLt; show (((n.val * 24 + r.val) * 2 + x.val) * 256 + q.val) / 256 % 2 = x.val; omega)
    | ⟨4,_⟩ => Fin.ext (by have hn : n.val < 24 := n.isLt; have hr : r.val < 24 := r.isLt; have hx : x.val < 2 := x.isLt; have hq : q.val < 256 := q.isLt; show (((n.val * 24 + r.val) * 2 + x.val) * 256 + q.val) % 256 = q.val; omega))

end Cert.ReferenceIdeal.Stage

end
-- ==== Proof.Codes.lean ====
/-
  The reference's decoding of a byte gives the fp8 number the byte stands for.
-/
module

public import proofs.«01_k».proof.Proof.RefArgs

@[expose] public section

set_option maxRecDepth 16384

noncomputable section

namespace Cert.ReferenceIdeal.Stage

open Idealize.ShloMosaic Cert.Decode

/-- The exponent field of a byte. -/
theorem byte_exp : ∀ b : BitVec 8, IntOp.andi (IntOp.shrsi .host (b.setWidth 32) 3#32) 15#32 = BitVec.ofNat 32 (b.extractLsb' 3 4).toNat := by decide +kernel

/-- The fraction field of a byte. -/
theorem byte_frac : ∀ b : BitVec 8, (IntOp.andi (b.setWidth 32) 7#32).toInt = ((b.extractLsb' 0 3).toNat : Int)
    ∧ (IntOp.addi 8#32 (IntOp.andi (b.setWidth 32) 7#32)).toInt = ((8 + (b.extractLsb' 0 3).toNat : Nat) : Int) := by decide +kernel

/-- The sign of a byte. -/
theorem byte_sign : ∀ b : BitVec 8, IntOp.cmpi .eq (IntOp.shrsi .host (b.setWidth 32) 7#32) 1#32 = BitVec.ofBool (b.extractLsb' 7 1 == 1#1) := by decide +kernel

/-- The fields of the power of two built from an exponent. -/
theorem power_fields : ∀ e : BitVec 4, (IntOp.shli .host (IntOp.addi (BitVec.ofNat 32 e.toNat) 117#32) 23#32).extractLsb' 31 1 = 0#1
    ∧ ((IntOp.shli .host (IntOp.addi (BitVec.ofNat 32 e.toNat) 117#32) 23#32).extractLsb' 23 8).toNat = e.toNat + 117
    ∧ ((IntOp.shli .host (IntOp.addi (BitVec.ofNat 32 e.toNat) 117#32) 23#32).extractLsb' 0 23).toNat = 0
    ∧ IntOp.cmpi .eq (BitVec.ofNat 32 e.toNat) 0#32 = BitVec.ofBool (decide (e.toNat = 0)) := by decide +kernel

/-- The power of two built from an exponent. -/
theorem power_eq (e : BitVec 4) : Ideal.ofBits .f32 (IntOp.shli .host (IntOp.addi (BitVec.ofNat 32 e.toNat) 117#32) 23#32) = (((2 : ℝ) ^ ((e.toNat : Int) - 10) : ℝ) : EReal) := by
  obtain ⟨h1, h2, h3, -⟩ := power_fields e
  have he : e.toNat < 16 := e.isLt
  generalize IntOp.shli .host (IntOp.addi (BitVec.ofNat 32 e.toNat) 117#32) 23#32 = B at h1 h2 h3 ⊢
  generalize e.toNat = k at he h2 ⊢
  show Ideal.ieee 8 23 B = _
  unfold Ideal.ieee
  simp only [show (8 + 23 : ℕ) = 31 from rfl, h1, h2, h3]
  rw [if_neg (by omega), if_neg (by omega)]
  congr 1
  have : (2 : ℝ) ^ ((k : Int) - 10) = 2 ^ (23 : ℤ) * 2 ^ (((k + 117 : ℕ) : Int) - (2 ^ (8 - 1) - 1) - (23 : ℕ)) := by
    rw [← zpow_add₀ (by norm_num)]; congr 1; push_cast; ring
  rw [this]
  norm_num

/-- The size of the number in a byte. -/
theorem rmag_eq (b : BitVec 8) : rmag (b.setWidth 32) = (((if (b.extractLsb' 3 4).toNat = 0 then ((b.extractLsb' 0 3).toNat : ℝ) * (2 : ℝ) ^ (-9 : Int)
    else ((8 + (b.extractLsb' 0 3).toNat : Nat) : ℝ) * (2 : ℝ) ^ (((b.extractLsb' 3 4).toNat : Int) - 10)) : ℝ) : EReal) := by
  unfold rmag
  rw [byte_exp, (power_fields _).2.2.2]
  have e1 : FloatOps.sitofp (F := Ideal) .f32 (IntOp.andi (b.setWidth 32) 7#32) = (((b.extractLsb' 0 3).toNat : ℝ) : EReal) := by
    show (((IntOp.andi (b.setWidth 32) 7#32).toInt : ℝ) : EReal) = _
    rw [(byte_frac b).1]; norm_cast
  have e2 : FloatOps.sitofp (F := Ideal) .f32 (IntOp.addi 8#32 (IntOp.andi (b.setWidth 32) 7#32)) = (((8 + (b.extractLsb' 0 3).toNat : Nat) : ℝ) : EReal) := by
    show (((IntOp.addi 8#32 (IntOp.andi (b.setWidth 32) 7#32)).toInt : ℝ) : EReal) = _
    rw [(byte_frac b).2]; norm_cast
  have e3 : FloatOps.ofBits (F := Ideal) .f32 0x3B000000#32 = (((2 : ℝ) ^ (-9 : Int) : ℝ) : EReal) := by
    show Ideal.ieee 8 23 (0x3B000000#32) = _
    simp [Ideal.ieee, -EReal.coe_mul]; norm_num
  have e4 : FloatOps.ofBits (F := Ideal) .f32 (IntOp.shli .host (IntOp.addi (BitVec.ofNat 32 (b.extractLsb' 3 4).toNat) 117#32) 23#32) = (((2 : ℝ) ^ (((b.extractLsb' 3 4).toNat : Int) - 10) : ℝ) : EReal) :=
    power_eq _
  rw [e1, e2, e3, e4]
  by_cases h : (b.extractLsb' 3 4).toNat = 0
  · rw [if_pos h, decide_eq_true h]; exact (EReal.coe_mul _ _).symm
  · rw [if_neg h, decide_eq_false h]; exact (EReal.coe_mul _ _).symm

/-- The number in a byte that is not the pattern of a NaN. -/
theorem rdec_eq (b : BitVec 8) (h : ¬ ((b.extractLsb' 3 4).toNat = 15 ∧ (b.extractLsb' 0 3).toNat = 7)) :
    rdec (b.setWidth 32) = Ideal.ofBits .fp8e4m3 b ∧ ∃ r : ℝ, Ideal.ofBits .fp8e4m3 b = (r : EReal) := by
  unfold rdec
  rw [byte_sign, rmag_eq]
  show _ = Ideal.e4m3fn b ∧ ∃ r : ℝ, Ideal.e4m3fn b = (r : EReal)
  unfold Ideal.e4m3fn
  dsimp only
  rw [if_neg h]
  refine ⟨?_, by split_ifs <;> exact ⟨_, rfl⟩⟩
  cases hs : (b.extractLsb' 7 1 == 1#1) <;> by_cases he : (b.extractLsb' 3 4).toNat = 0
  · rw [if_pos he, if_pos he]; show ((_ : ℝ) : EReal) = _; congr 1; simp
  · rw [if_neg he, if_neg he]; show ((_ : ℝ) : EReal) = _; congr 1; simp
  · rw [if_pos he, if_pos he]; show -((_ : ℝ) : EReal) = _; rw [← EReal.coe_neg]; congr 1; simp
  · rw [if_neg he, if_neg he]; show -((_ : ℝ) : EReal) = _; rw [← EReal.coe_neg]; congr 1; simp; ring

/-- A byte of a word, as the reference takes it, is that byte. -/
theorem rbyte_eq (w : BitVec 32) (j : ℕ) (hj : j < 4) : rbyte w j = (w.extractLsb' (8 * j) 8).setWidth 32 := by
  have hm : (IntOp.muli 8#32 (BitVec.ofNat 32 j)).toNat = 8 * j := by
    have : j = 0 ∨ j = 1 ∨ j = 2 ∨ j = 3 := by omega
    rcases this with rfl | rfl | rfl | rfl <;> decide
  unfold rbyte IntOp.shrsi
  rw [if_pos (by rw [hm]; omega)]
  have h255 : (255#32) = (BitVec.allOnes 8).setWidth 32 := by decide
  rw [h255]
  apply BitVec.eq_of_getLsbD_eq
  intro i hi
  simp only [IntOp.andi, BitVec.getLsbD_and, BitVec.sshiftRight', BitVec.getLsbD_sshiftRight, hm, BitVec.getLsbD_setWidth, BitVec.getLsbD_allOnes, BitVec.getLsbD_extractLsb']
  by_cases h8 : i < 8
  · have h32 : 8 * j + i < 32 := by omega
    simp [h8, hi, h32]
  · simp [h8]

/-- The precondition's test of a byte says that it is not the pattern of a NaN. -/
theorem byte_nan (w : BitVec 32) (j : ℕ) (hj : j < 4) (h : IntOp.andi (IntOp.shrsi .host w (IntOp.muli 8#32 (BitVec.ofNat 32 j))) 127#32 ≠ 127#32) :
    ¬ (((w.extractLsb' (8 * j) 8).extractLsb' 3 4).toNat = 15 ∧ ((w.extractLsb' (8 * j) 8).extractLsb' 0 3).toNat = 7) := by
  intro hn
  apply h
  have e : IntOp.andi (IntOp.shrsi .host w (IntOp.muli 8#32 (BitVec.ofNat 32 j))) 127#32 = IntOp.andi (rbyte w j) 127#32 := by
    unfold rbyte IntOp.andi
    rw [BitVec.and_assoc]; rfl
  rw [e, rbyte_eq w j hj]
  revert hn
  generalize w.extractLsb' (8 * j) 8 = b
  revert b
  decide +kernel

/-- The reference and the kernel read the same real number from a byte. -/
theorem code_eq (w : BitVec 32) (j : ℕ) (hj : j < 4) (h : IntOp.andi (IntOp.shrsi .host w (IntOp.muli 8#32 (BitVec.ofNat 32 j))) 127#32 ≠ 127#32) :
    rdec (rbyte w j) = code w j ∧ ∃ r : ℝ, code w j = (r : EReal) := by
  rw [rbyte_eq w j hj]
  exact rdec_eq _ (byte_nan w j hj h)

end Cert.ReferenceIdeal.Stage

end
-- ==== Proof.Masks.lean ====
/-
  The reference's masks, computed on 32-bit integers, are the kernel's, computed on numbers.
-/
module

public import proofs.«01_k».proof.Proof.RefPoint

@[expose] public section

set_option maxRecDepth 16384

noncomputable section

namespace Cert.ReferenceIdeal.Stage

open Idealize.ShloMosaic Cert.Decode

/-- Two comparisons conjoined, at one bit. -/
theorem and_bits (a b a' b' : Bool) (h : (a = true ∧ b = true) ↔ (a' = true ∧ b' = true)) : BitVec.ofBool a &&& BitVec.ofBool b = BitVec.ofBool a' &&& BitVec.ofBool b' := by
  revert h; revert a b a' b'; decide

/-- The floor of a number is an integer, or an infinity. -/
theorem floor_cases (p : EReal) : Ideal.liftRound Int.floor p = ⊥ ∨ Ideal.liftRound Int.floor p = ⊤ ∨ ∃ r : ℝ, p = (r : EReal) ∧ Ideal.liftRound Int.floor p = (((⌊r⌋ : ℤ) : ℝ) : EReal) := by
  induction p with
  | bot => exact Or.inl rfl
  | top => exact Or.inr (Or.inl rfl)
  | coe r => exact Or.inr (Or.inr ⟨r, rfl, rfl⟩)

/-- An integer converted to 32 bits is clamped. -/
theorem fptosi_int (z : ℤ) : (Ideal.fptosi 32 (((z : ℤ) : ℝ) : EReal)).toInt = max (-2147483648) (min 2147483647 z) := by
  have e : Ideal.toIntClamped (-(2 ^ (32 - 1) : Nat)) ((2 ^ (32 - 1) : Nat) - 1) (((z : ℤ) : ℝ) : EReal) = max (-2147483648) (min 2147483647 z) := by
    show max _ (min _ (if (0 : ℝ) ≤ (z : ℝ) then ⌊(z : ℝ)⌋ else ⌈(z : ℝ)⌉)) = _
    rw [Int.floor_intCast, Int.ceil_intCast, ite_self]
    norm_num
  unfold Ideal.fptosi
  rw [e, BitVec.toInt_ofInt_eq_self (by decide) (by omega) (by omega)]

/-- The test of the pixel below, on integers and on numbers. -/
theorem mask0 (x w : EReal) (W : BitVec 32) (hw : w = ((W.toInt : ℝ) : EReal)) (h1 : 1 ≤ W.toInt) (h2 : W.toInt ≤ 1000) :
    IntOp.andi (IntOp.cmpi .sge (rcor 0 (Ideal.fptosi 32 (kf x w))) 0#32) (IntOp.cmpi .sle (rcor 0 (Ideal.fptosi 32 (kf x w))) (IntOp.subi W 1#32)) = kv0 x w := by
  have hS : (IntOp.subi W 1#32).toInt = W.toInt - 1 := by
    show (W - 1#32).toInt = _
    rw [BitVec.toInt_sub, show (1#32).toInt = 1 from by decide]
    exact Int.bmod_eq_of_le (by omega) (by omega)
  have hone : Ideal.ofBits .f32 0x3F800000#32 = ((1 : ℝ) : EReal) := by simp [Ideal.ofBits, Ideal.ieee, -EReal.coe_mul]; norm_num
  have hzero : Ideal.ofBits .f32 0x00000000#32 = ((0 : ℝ) : EReal) := by simp [Ideal.ofBits, Ideal.ieee]
  show BitVec.ofBool ((0#32).sle _) &&& BitVec.ofBool (BitVec.sle _ _) = BitVec.ofBool (decide _) &&& BitVec.ofBool (decide _)
  apply and_bits
  simp only [BitVec.sle, decide_eq_true_eq, hS]
  show ((0#32).toInt ≤ (Ideal.fptosi 32 (kf x w)).toInt ∧ (Ideal.fptosi 32 (kf x w)).toInt ≤ W.toInt - 1) ↔ _
  rw [show (0#32).toInt = 0 from by decide, hone, hzero, hw, ← EReal.coe_sub]
  have hf := floor_cases (kp x w)
  rw [hw] at hf
  unfold kf
  rcases hf with h | h | ⟨r, hr, h⟩
  · rw [h, show (Ideal.fptosi 32 ⊥).toInt = -2147483648 from by show (BitVec.ofInt 32 (-2147483648)).toInt = _; decide]
    exact ⟨fun hh => absurd hh.1 (by omega), fun hh => absurd (le_bot_iff.mp hh.1) (EReal.coe_ne_bot _)⟩
  · rw [h, show (Ideal.fptosi 32 ⊤).toInt = 2147483647 from by show (BitVec.ofInt 32 (2147483647)).toInt = _; decide]
    exact ⟨fun hh => absurd hh (by omega), fun hh => absurd (top_le_iff.mp hh.2) (EReal.coe_ne_top _)⟩
  · rw [h, fptosi_int, EReal.coe_le_coe_iff, EReal.coe_le_coe_iff]
    generalize ⌊r⌋ = z
    have e1 : ((0 : ℝ) ≤ (z : ℝ)) ↔ 0 ≤ z := by norm_cast
    have e2 : ((z : ℝ) ≤ (W.toInt : ℝ) - 1) ↔ z ≤ W.toInt - 1 := by
      rw [show ((W.toInt : ℝ) - 1) = ((W.toInt - 1 : ℤ) : ℝ) from by push_cast; ring]; norm_cast
    rw [e1, e2]
    omega

/-- The test of the pixel after it, on integers and on numbers. -/
theorem mask1 (x w : EReal) (W : BitVec 32) (hw : w = ((W.toInt : ℝ) : EReal)) (h1 : 1 ≤ W.toInt) (h2 : W.toInt ≤ 1000) :
    IntOp.andi (IntOp.cmpi .sge (rcor 1 (Ideal.fptosi 32 (kf x w))) 0#32) (IntOp.cmpi .sle (rcor 1 (Ideal.fptosi 32 (kf x w))) (IntOp.subi W 1#32)) = kv1 x w := by
  have hS : (IntOp.subi W 1#32).toInt = W.toInt - 1 := by
    show (W - 1#32).toInt = _
    rw [BitVec.toInt_sub, show (1#32).toInt = 1 from by decide]
    exact Int.bmod_eq_of_le (by omega) (by omega)
  have hone : Ideal.ofBits .f32 0xBF800000#32 = ((-1 : ℝ) : EReal) := by simp [Ideal.ofBits, Ideal.ieee, -EReal.coe_mul]; norm_num
  have htwo : Ideal.ofBits .f32 0x40000000#32 = ((2 : ℝ) : EReal) := by simp [Ideal.ofBits, Ideal.ieee, -EReal.coe_mul]; norm_num
  show BitVec.ofBool ((0#32).sle _) &&& BitVec.ofBool (BitVec.sle _ _) = BitVec.ofBool (decide _) &&& BitVec.ofBool (decide _)
  apply and_bits
  simp only [BitVec.sle, decide_eq_true_eq, hS]
  show ((0#32).toInt ≤ (Ideal.fptosi 32 (kf x w) + 1#32).toInt ∧ (Ideal.fptosi 32 (kf x w) + 1#32).toInt ≤ W.toInt - 1) ↔ _
  rw [show (0#32).toInt = 0 from by decide, hone, htwo, hw, ← EReal.coe_sub]
  have hf := floor_cases (kp x w)
  rw [hw] at hf
  unfold kf
  rcases hf with h | h | ⟨r, hr, h⟩
  · rw [h, show (Ideal.fptosi 32 ⊥ + 1#32).toInt = -2147483647 from by show (BitVec.ofInt 32 (-2147483648) + 1#32).toInt = _; decide]
    exact ⟨fun hh => absurd hh.1 (by omega), fun hh => absurd (le_bot_iff.mp hh.1) (EReal.coe_ne_bot _)⟩
  · rw [h, show (Ideal.fptosi 32 ⊤ + 1#32).toInt = -2147483648 from by show (BitVec.ofInt 32 (2147483647) + 1#32).toInt = _; decide]
    exact ⟨fun hh => absurd hh (by omega), fun hh => absurd (top_le_iff.mp hh.2) (EReal.coe_ne_top _)⟩
  · rw [h, BitVec.toInt_add, fptosi_int, EReal.coe_le_coe_iff, EReal.coe_le_coe_iff, show (1#32).toInt = 1 from by decide]
    generalize ⌊r⌋ = z
    have e1 : ((-1 : ℝ) ≤ (z : ℝ)) ↔ -1 ≤ z := by norm_cast
    have e2 : ((z : ℝ) ≤ (W.toInt : ℝ) - 2) ↔ z ≤ W.toInt - 2 := by
      rw [show ((W.toInt : ℝ) - 2) = ((W.toInt - 2 : ℤ) : ℝ) from by push_cast; ring]; norm_cast
    rw [e1, e2]
    by_cases hz : z ≤ 2147483646
    · rw [Int.bmod_eq_of_le (by omega) (by omega)]; omega
    · have : max (-2147483648) (min 2147483647 z) = 2147483647 := by omega
      rw [this, show ((2147483647 : ℤ) + 1).bmod (2 ^ 32) = -2147483648 from by decide]
      omega

/-- The four masks. -/
theorem rval_eq (x y w h : EReal) (W H : BitVec 32) (hw : w = ((W.toInt : ℝ) : EReal)) (hh : h = ((H.toInt : ℝ) : EReal))
    (w1 : 1 ≤ W.toInt) (w2 : W.toInt ≤ 1000) (h1 : 1 ≤ H.toInt) (h2 : H.toInt ≤ 1000) :
    rval x y w h W H 0 = kv0 x w &&& kv0 y h ∧ rval x y w h W H 1 = kv1 x w &&& kv0 y h
      ∧ rval x y w h W H 2 = kv0 x w &&& kv1 y h ∧ rval x y w h W H 3 = kv1 x w &&& kv1 y h := by
  have assoc4 : ∀ a b c d : BitVec 1, IntOp.andi (IntOp.andi (IntOp.andi a b) c) d = IntOp.andi a b &&& IntOp.andi c d := by decide
  unfold rval
  simp only [assoc4]
  norm_num only
  rw [mask0 x w W hw w1 w2, mask0 y h H hh h1 h2, mask1 x w W hw w1 w2, mask1 y h H hh h1 h2]
  exact ⟨rfl, rfl, rfl, rfl⟩

/-- The level's sizes are whole numbers from 25 to 320. -/
theorem sizes (l : Fin 4) : (kw l.val = (((rW l.val).toInt : ℝ) : EReal) ∧ 1 ≤ (rW l.val).toInt ∧ (rW l.val).toInt ≤ 1000)
    ∧ (kh l.val = (((rH l.val).toInt : ℝ) : EReal) ∧ 1 ≤ (rH l.val).toInt ∧ (rH l.val).toInt ≤ 1000) := by
  refine ⟨⟨(rW_kw l).symm, ?_⟩, ⟨(rH_kh l).symm, ?_⟩⟩
  · revert l; decide
  · revert l; decide

/-- If a test on one axis holds then the coordinate is a real number, and so are its two weights. -/
theorem axis_real (x w : EReal) (h : kv0 x w = 1#1 ∨ kv1 x w = 1#1) (hw : ∃ r : ℝ, w = (r : EReal)) : ∃ a b : ℝ, kl x w = (a : EReal) ∧ kc x w = (b : EReal) := by
  have hone : Ideal.ofBits .f32 0x3F800000#32 = ((1 : ℝ) : EReal) := by simp [Ideal.ofBits, Ideal.ieee, -EReal.coe_mul]; norm_num
  obtain ⟨W, rfl⟩ := hw
  rcases floor_cases (kp x W) with hf | hf | ⟨r, hr, hf⟩
  · exfalso
    unfold kv0 kv1 kf at h
    rw [hf] at h
    have z0 : Ideal.ofBits .f32 0x00000000#32 = ((0 : ℝ) : EReal) := by simp [Ideal.ofBits, Ideal.ieee]
    have z1 : Ideal.ofBits .f32 0xBF800000#32 = ((-1 : ℝ) : EReal) := by simp [Ideal.ofBits, Ideal.ieee, -EReal.coe_mul]; norm_num
    rw [z0, z1] at h
    have c0 : Ideal.cmp .oge ⊥ ((0 : ℝ) : EReal) = 0#1 := by simp [Ideal.cmp]
    have c1 : Ideal.cmp .oge ⊥ ((-1 : ℝ) : EReal) = 0#1 := by show BitVec.ofBool (decide _) = _; rw [decide_eq_false (by rw [le_bot_iff]; exact EReal.coe_ne_bot _)]; rfl
    rw [c0, c1] at h
    simp at h
  · exfalso
    unfold kv0 kv1 kf at h
    rw [hf] at h
    have z0 : Ideal.ofBits .f32 0x40000000#32 = ((2 : ℝ) : EReal) := by simp [Ideal.ofBits, Ideal.ieee, -EReal.coe_mul]; norm_num
    rw [hone, z0, ← EReal.coe_sub, ← EReal.coe_sub] at h
    have c : ∀ t : ℝ, Ideal.cmp .ole ⊤ (t : EReal) = 0#1 := fun t => by
      show BitVec.ofBool (decide _) = _; rw [decide_eq_false (by rw [top_le_iff]; exact EReal.coe_ne_top _)]; rfl
    rw [c, c] at h
    simp at h
  · refine ⟨r - (⌊r⌋ : ℤ), 1 - (r - (⌊r⌋ : ℤ)), ?_, ?_⟩
    · unfold kl kf; rw [hf, hr, ← EReal.coe_sub]
    · unfold kc kl kf; rw [hf, hr, hone, ← EReal.coe_sub, ← EReal.coe_sub]

end Cert.ReferenceIdeal.Stage

end
-- ==== Proof.Sums.lean ====
/-
  Sums of real numbers among the extended ones: the kernel's order of summing against the reference's.
-/
module

public import Idealize.ShloMosaic.PureOps.Ideal

@[expose] public section

set_option maxRecDepth 16384

noncomputable section

namespace Cert.Decode

open Idealize.ShloMosaic

/-- A sum of real numbers, read among the extended ones. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 48 elements, taken word by word and byte by byte. -/
theorem sum_bytes (f : ℕ → ℝ) : (∑ k : Fin 12, f (4 * k.val + 0)) + (∑ k : Fin 12, f (4 * k.val + 1)) + (∑ k : Fin 12, f (4 * k.val + 2)) + (∑ k : Fin 12, f (4 * k.val + 3))
    = ∑ d : Fin 48, f d.val := by
  rw [Fin.sum_univ_eq_sum_range (fun k => f (4 * k + 0)) 12, Fin.sum_univ_eq_sum_range (fun k => f (4 * k + 1)) 12, Fin.sum_univ_eq_sum_range (fun k => f (4 * k + 2)) 12,
    Fin.sum_univ_eq_sum_range (fun k => f (4 * k + 3)) 12, Fin.sum_univ_eq_sum_range f 48]
  simp only [Finset.sum_range_succ, Finset.sum_range_zero]
  norm_num only
  ring

/-- The interpolation: summing over elements first, or over corners first. -/
theorem interp_eq (V : ℕ → ℕ → ℝ) (G : ℕ → ℝ) (gs : ℝ) (K : ℕ → ℝ) (hK : ∀ c, K c = ∑ d : Fin 48, V c d.val * (G d.val * gs)) (w : ℕ → EReal)
    (h : (∃ w' : ℕ → ℝ, ∀ c, w c = (w' c : EReal)) ∨ ∀ c d, V c d = 0) :
    w 0 * (K 0 : EReal) + w 1 * (K 1 : EReal) + w 2 * (K 2 : EReal) + w 3 * (K 3 : EReal)
      = ∑ d : Fin 48, ((0 : EReal) + ∑ c : Fin 4, w c.val * (V c.val d.val : EReal)) * ((G d.val : EReal) * (gs : EReal)) := by
  rcases h with ⟨w', hw⟩ | hV
  · have e : ∀ d : Fin 48, ((0 : EReal) + ∑ c : Fin 4, w c.val * (V c.val d.val : EReal)) * ((G d.val : EReal) * (gs : EReal))
        = (((w' 0 * V 0 d.val + w' 1 * V 1 d.val + w' 2 * V 2 d.val + w' 3 * V 3 d.val) * (G d.val * gs) : ℝ) : EReal) := by
      intro d
      rw [zero_add, Fin.sum_univ_four]
      simp only [hw, EReal.coe_mul, EReal.coe_add]
      rfl
    rw [Finset.sum_congr rfl fun d _ => e d, ← coe_sum]
    simp only [hw, ← EReal.coe_mul, ← EReal.coe_add]
    congr 1
    simp only [hK, Finset.mul_sum, ← Finset.sum_add_distrib]
    exact Finset.sum_congr rfl fun d _ => by ring
  · have hK0 : ∀ c, K c = 0 := fun c => by rw [hK]; exact Finset.sum_eq_zero fun d _ => by rw [hV, zero_mul]
    simp [hK0, hV]

/-- A slope: summing over elements first, or over corners first. -/
theorem slope_eq (V : ℕ → ℕ → ℝ) (G : ℕ → ℝ) (gs : ℝ) (K : ℕ → ℝ) (hK : ∀ c, K c = ∑ d : Fin 48, V c d.val * (G d.val * gs)) (a b : EReal) (i j k l : ℕ)
    (h : (∃ a' b' : ℝ, a = (a' : EReal) ∧ b = (b' : EReal)) ∨ ∀ c d, V c d = 0) :
    a * ((K i : EReal) - (K j : EReal)) + b * ((K k : EReal) - (K l : EReal))
      = ∑ d : Fin 48, (a * ((V i d.val : EReal) - (V j d.val : EReal)) + b * ((V k d.val : EReal) - (V l d.val : EReal))) * ((G d.val : EReal) * (gs : EReal)) := by
  rcases h with ⟨a', b', rfl, rfl⟩ | hV
  · have e : ∀ d : Fin 48, ((a' : EReal) * ((V i d.val : EReal) - (V j d.val : EReal)) + (b' : EReal) * ((V k d.val : EReal) - (V l d.val : EReal))) * ((G d.val : EReal) * (gs : EReal))
        = (((a' * (V i d.val - V j d.val) + b' * (V k d.val - V l d.val)) * (G d.val * gs) : ℝ) : EReal) := by
      intro d
      simp only [EReal.coe_mul, EReal.coe_add, EReal.coe_sub]
    rw [Finset.sum_congr rfl fun d _ => e d, ← coe_sum]
    simp only [← EReal.coe_sub, ← EReal.coe_mul, ← EReal.coe_add]
    congr 1
    simp only [hK, ← Finset.sum_sub_distrib, Finset.mul_sum, ← Finset.sum_add_distrib]
    exact Finset.sum_congr rfl fun d _ => by ring
  · have hK0 : ∀ c, K c = 0 := fun c => by rw [hK]; exact Finset.sum_eq_zero fun d _ => by rw [hV, zero_mul]
    simp [hK0, hV]

end Cert.Decode

end
-- ==== Proof.Points.lean ====
/-
  One sampled point's results: the kernel's are the reference's.
-/
module

public import proofs.«01_k».proof.Proof.RefValue
public import proofs.«01_k».proof.Proof.Codes
public import proofs.«01_k».proof.Proof.Masks
public import proofs.«01_k».proof.Proof.Sums

@[expose] public section

set_option maxRecDepth 16384

noncomputable section

namespace Cert.ReferenceIdeal.Stage

open Cert.ReferenceIdeal Cert.ReferenceIdeal.Gen Idealize.ShloMosaic Cert.Decode

variable (x0 : (⟨S3x256x8x4x6x2, .f32⟩ : BufTy).Contents (Elt Ideal)) (x1 : (⟨S3x256x8x4x6, .f32⟩ : BufTy).Contents (Elt Ideal)) (x2 : (⟨S3x256, .f32⟩ : BufTy).Contents (Elt Ideal)) (x3 : (⟨S24x48x256, .bf16⟩ : BufTy).Contents (Elt Ideal)) (x4 : (⟨S7077888, .i32⟩ : BufTy).Contents (Elt Ideal)) (x5 : (⟨S589824, .i32⟩ : BufTy).Contents (Elt Ideal))

/-- What the precondition says of the arguments: scales and gradients are real numbers, and no byte is the pattern of a NaN. -/
structure Fine : Prop where
  gs : ∀ i, ∃ r : ℝ, x2 i = (r : EReal)
  g : ∀ i, ∃ r : ℝ, x3 i = (r : EReal)
  words : ∀ i, ∀ j : ℕ, j < 4 → IntOp.andi (IntOp.shrsi .host (x4 i) (IntOp.muli 8#32 (BitVec.ofNat 32 j))) 127#32 ≠ 127#32
  sc : ∀ i, ∃ r : ℝ, Ideal.ofBits .f32 (x5 i) = (r : EReal)

/-- A corner's dot product over real numbers. -/
theorem dot_real (n l c p q : ℕ) (C G : ℕ → ℝ) (s : ℝ) (hC : ∀ d, code (tW x4 n (d / 4) (rowOf l c p q) (q % 128)) (d % 4) = (C d : EReal))
    (hG : ∀ d, tG x3 n d q = (G d : EReal)) (hs : Ideal.ofBits .f32 (tS x5 n (rowOf l c p q) (q % 128)) = (s : EReal)) :
    dotT x3 x4 x5 n l c p q = (((∑ d : Fin 48, C d.val * G d.val) * s : ℝ) : EReal) := by
  have h : ∀ k j : ℕ, j < 4 → code (tW x4 n k (rowOf l c p q) (q % 128)) j = (C (4 * k + j) : EReal) := fun k j hj => by
    have := hC (4 * k + j)
    rwa [show (4 * k + j) / 4 = k from by omega, show (4 * k + j) % 4 = j from by omega] at this
  have e : ∀ j : ℕ, j < 4 → (∑ k : Fin 12, code (tW x4 n k.val (rowOf l c p q) (q % 128)) j * tG x3 n (4 * k.val + j) q)
      = ((∑ k : Fin 12, C (4 * k.val + j) * G (4 * k.val + j) : ℝ) : EReal) := fun j hj => by
    rw [coe_sum]
    exact Finset.sum_congr rfl fun k _ => by rw [h k.val j hj, hG, EReal.coe_mul]
  unfold dotT
  rw [e 0 (by omega), e 1 (by omega), e 2 (by omega), e 3 (by omega), hs, ← EReal.coe_add, ← EReal.coe_add, ← EReal.coe_add, ← EReal.coe_mul,
    sum_bytes (fun d => C d * G d)]

/-- One point over real numbers: the corners' values, the gradient, its scale and the corners' dot products; and either the point's weights are real
    numbers or every corner lies off the level. -/
theorem point_real (hf : Fine x2 x3 x4 x5) (n : ℕ) (l : Fin 4) (p q : ℕ) : ∃ (V : ℕ → ℕ → ℝ) (G : ℕ → ℝ) (gs : ℝ) (K : ℕ → ℝ),
    (∀ d, tG x3 n d q = (G d : EReal)) ∧ tGS x2 n q = (gs : EReal)
    ∧ (∀ c : Fin 4, ∀ d, rV x0 x4 x5 n l.val c.val p q d = (V c.val d : EReal))
    ∧ (k00 (tX x0 n (l.val * 6 + p) 0 q) (tX x0 n (l.val * 6 + p) 1 q) (kw l.val) (kh l.val) (tGS x2 n q) (dotT x3 x4 x5 n l.val 0 p q) = (K 0 : EReal) ∧ k01 (tX x0 n (l.val * 6 + p) 0 q) (tX x0 n (l.val * 6 + p) 1 q) (kw l.val) (kh l.val) (tGS x2 n q) (dotT x3 x4 x5 n l.val 1 p q) = (K 1 : EReal)
      ∧ k10 (tX x0 n (l.val * 6 + p) 0 q) (tX x0 n (l.val * 6 + p) 1 q) (kw l.val) (kh l.val) (tGS x2 n q) (dotT x3 x4 x5 n l.val 2 p q) = (K 2 : EReal) ∧ k11 (tX x0 n (l.val * 6 + p) 0 q) (tX x0 n (l.val * 6 + p) 1 q) (kw l.val) (kh l.val) (tGS x2 n q) (dotT x3 x4 x5 n l.val 3 p q) = (K 3 : EReal))
    ∧ (∀ c, K c = ∑ d : Fin 48, V c d.val * (G d.val * gs))
    ∧ ((∃ a b a' b' : ℝ, kl (tX x0 n (l.val * 6 + p) 0 q) (kw l.val) = (a : EReal) ∧ kc (tX x0 n (l.val * 6 + p) 0 q) (kw l.val) = (b : EReal) ∧ kl (tX x0 n (l.val * 6 + p) 1 q) (kh l.val) = (a' : EReal) ∧ kc (tX x0 n (l.val * 6 + p) 1 q) (kh l.val) = (b' : EReal))
      ∨ ∀ c d, V c d = 0) := by
  have hC0 : ∀ c d : ℕ, ∃ r : ℝ, code (tW x4 n (d / 4) (rowOf l.val c p q) (q % 128)) (d % 4) = (r : EReal) := fun c d =>
    (code_eq _ (d % 4) (by omega) (hf.words _ _ (by omega))).2
  have hS0 : ∀ c : ℕ, ∃ r : ℝ, Ideal.ofBits .f32 (tS x5 n (rowOf l.val c p q) (q % 128)) = (r : EReal) := fun c => hf.sc _
  have hG0 : ∀ d : ℕ, ∃ r : ℝ, tG x3 n d q = (r : EReal) := fun d => hf.g _
  choose C hC using hC0
  choose S hS using hS0
  choose G hG using hG0
  obtain ⟨gs, hgs⟩ : ∃ r : ℝ, tGS x2 n q = (r : EReal) := hf.gs _
  obtain ⟨⟨sw, sw1, sw2⟩, sh, sh1, sh2⟩ := sizes l
  obtain ⟨m0, m1, m2, m3⟩ := rval_eq (tX x0 n (l.val * 6 + p) 0 q) (tX x0 n (l.val * 6 + p) 1 q) (kw l.val) (kh l.val) (rW l.val) (rH l.val) sw sh sw1 sw2 sh1 sh2
  let M : ℕ → BitVec 1 := fun c =>
    if c = 0 then kv0 (tX x0 n (l.val * 6 + p) 0 q) (kw l.val) &&& kv0 (tX x0 n (l.val * 6 + p) 1 q) (kh l.val) else if c = 1 then kv1 (tX x0 n (l.val * 6 + p) 0 q) (kw l.val) &&& kv0 (tX x0 n (l.val * 6 + p) 1 q) (kh l.val)
    else if c = 2 then kv0 (tX x0 n (l.val * 6 + p) 0 q) (kw l.val) &&& kv1 (tX x0 n (l.val * 6 + p) 1 q) (kh l.val) else kv1 (tX x0 n (l.val * 6 + p) 0 q) (kw l.val) &&& kv1 (tX x0 n (l.val * 6 + p) 1 q) (kh l.val)
  have hM : ∀ c : Fin 4, rval (tX x0 n (l.val * 6 + p) 0 q) (tX x0 n (l.val * 6 + p) 1 q) (kw l.val) (kh l.val) (rW l.val) (rH l.val) c.val = M c.val := fun c => match c with
    | ⟨0, _⟩ => m0 | ⟨1, _⟩ => m1 | ⟨2, _⟩ => m2 | ⟨3, _⟩ => m3
  have zero : Ideal.ofBits .f32 0x00000000#32 = ((0 : ℝ) : EReal) := by simp [Ideal.ofBits, Ideal.ieee]
  have hkd : ∀ c : ℕ, kd (M c) (dotT x3 x4 x5 n l.val c p q) (tGS x2 n q) = ((if M c = 1#1 then (∑ d : Fin 48, C c d.val * G d.val) * S c * gs else 0 : ℝ) : EReal) := fun c => by
    unfold kd
    rw [dot_real x3 x4 x5 n l.val c p q (C c) G (S c) (hC c) hG (hS c), hgs, zero, ← EReal.coe_mul]
    split_ifs <;> rfl
  refine ⟨fun c d => if M c = 1#1 then C c d * S c else 0, G, gs, fun c => if M c = 1#1 then (∑ d : Fin 48, C c d.val * G d.val) * S c * gs else 0, hG, hgs, ?_,
    ⟨hkd 0, hkd 1, hkd 2, hkd 3⟩, ?_, ?_⟩
  · intro c d
    unfold rV
    rw [hM c, show rdec (rbyte (tW x4 n (d / 4) (rowOf l.val c.val p q) (q % 128)) (d % 4)) = code (tW x4 n (d / 4) (rowOf l.val c.val p q) (q % 128)) (d % 4) from (code_eq _ (d % 4) (by omega) (hf.words _ _ (by omega))).1, hC, hS, zero, ← EReal.coe_mul]
    show (if M c.val = 1#1 then _ else _) = ((if M c.val = 1#1 then C c.val d * S c.val else 0 : ℝ) : EReal)
    split_ifs <;> rfl
  · intro c
    dsimp only
    by_cases h : M c = 1#1
    · simp only [if_pos h, Finset.sum_mul]
      exact Finset.sum_congr rfl fun d _ => by ring
    · simp only [if_neg h, zero_mul, Finset.sum_const_zero]
  · by_cases hx : kv0 (tX x0 n (l.val * 6 + p) 0 q) (kw l.val) = 1#1 ∨ kv1 (tX x0 n (l.val * 6 + p) 0 q) (kw l.val) = 1#1
    · by_cases hy : kv0 (tX x0 n (l.val * 6 + p) 1 q) (kh l.val) = 1#1 ∨ kv1 (tX x0 n (l.val * 6 + p) 1 q) (kh l.val) = 1#1
      · obtain ⟨a, b, ha, hb⟩ := axis_real _ _ hx ⟨_, sw⟩
        obtain ⟨a', b', ha', hb'⟩ := axis_real _ _ hy ⟨_, sh⟩
        exact Or.inl ⟨a, b, a', b', ha, hb, ha', hb'⟩
      · right
        intro c d
        have h : M c ≠ 1#1 := by
          revert hy; show _ → (if _ then _ else if _ then _ else if _ then _ else _) ≠ _
          generalize kv0 (tX x0 n (l.val * 6 + p) 0 q) (kw l.val) = a; generalize kv1 (tX x0 n (l.val * 6 + p) 0 q) (kw l.val) = b; generalize kv0 (tX x0 n (l.val * 6 + p) 1 q) (kh l.val) = a'; generalize kv1 (tX x0 n (l.val * 6 + p) 1 q) (kh l.val) = b'
          intro hy; split_ifs <;> (revert hy; revert a b a' b'; decide)
        exact if_neg h
    · right
      intro c d
      have h : M c ≠ 1#1 := by
        revert hx; show _ → (if _ then _ else if _ then _ else if _ then _ else _) ≠ _
        generalize kv0 (tX x0 n (l.val * 6 + p) 0 q) (kw l.val) = a; generalize kv1 (tX x0 n (l.val * 6 + p) 0 q) (kw l.val) = b; generalize kv0 (tX x0 n (l.val * 6 + p) 1 q) (kh l.val) = a'; generalize kv1 (tX x0 n (l.val * 6 + p) 1 q) (kh l.val) = b'
        intro hx; split_ifs <;> (revert hx; revert a b a' b'; decide)
      exact if_neg h

/-- The gradient of an attention weight. -/
theorem outA_eq (hf : Fine x2 x3 x4 x5) (n : ℕ) (l : Fin 4) (p q : ℕ) :
    outA x0 x2 x3 x4 x5 n l.val p q = rSum x2 x3 n q (fun d => rS x0 x4 x5 n l.val p q d) := by
  obtain ⟨V, G, gs, K, hG, hgs, hV, ⟨h0, h1, h2, h3⟩, hK, hr⟩ := point_real x0 x2 x3 x4 x5 hf n l p q
  unfold outA kda rSum rS
  rw [h0, h1, h2, h3]
  have zero : Ideal.ofBits .f32 0x00000000#32 = (0 : EReal) := by simp [Ideal.ofBits, Ideal.ieee]
  simp only [hG, hgs, hV, zero]
  refine interp_eq V G gs K hK (rwt (tX x0 n (l.val * 6 + p) 0 q) (tX x0 n (l.val * 6 + p) 1 q) (kw l.val) (kh l.val)) ?_
  rcases hr with ⟨a, b, a', b', ha, hb, ha', hb'⟩ | h
  · refine Or.inl ⟨fun c => if c = 0 then b' * b else if c = 1 then b' * a else if c = 2 then a' * b else a' * a, fun c => ?_⟩
    unfold rwt
    rw [ha, hb, ha', hb']
    dsimp only
    split_ifs <;> exact (EReal.coe_mul _ _).symm
  · exact Or.inr h

/-- The gradient of a location. -/
theorem outL_eq (hf : Fine x2 x3 x4 x5) (ax n : ℕ) (l : Fin 4) (p q : ℕ) :
    outL x0 x1 x2 x3 x4 x5 ax n l.val p q
      = if ax = 0 then tA x1 n l.val p q * kw l.val * rSum x2 x3 n q (fun d => rDX x0 x4 x5 n l.val p q d)
        else tA x1 n l.val p q * kh l.val * rSum x2 x3 n q (fun d => rDY x0 x4 x5 n l.val p q d) := by
  obtain ⟨V, G, gs, K, hG, hgs, hV, ⟨h0, h1, h2, h3⟩, hK, hr⟩ := point_real x0 x2 x3 x4 x5 hf n l p q
  have v0 : ∀ d, rV x0 x4 x5 n l.val 0 p q d = (V 0 d : EReal) := fun d => hV 0 d
  have v1 : ∀ d, rV x0 x4 x5 n l.val 1 p q d = (V 1 d : EReal) := fun d => hV 1 d
  have v2 : ∀ d, rV x0 x4 x5 n l.val 2 p q d = (V 2 d : EReal) := fun d => hV 2 d
  have v3 : ∀ d, rV x0 x4 x5 n l.val 3 p q d = (V 3 d : EReal) := fun d => hV 3 d
  unfold outL kdx kdy rSum rDX rDY
  rw [h0, h1, h2, h3]
  by_cases hax : ax = 0
  · rw [if_pos hax, if_pos hax]
    congr 1
    simp only [hG, hgs]
    refine (slope_eq V G gs K hK _ _ 1 0 3 2 ?_).trans (Finset.sum_congr rfl fun d _ => ?_)
    · rcases hr with ⟨a, b, a', b', ha, hb, ha', hb'⟩ | h
      · exact Or.inl ⟨b', a', hb', ha'⟩
      · exact Or.inr h
    · rw [← v0 d.val, ← v1 d.val, ← v2 d.val, ← v3 d.val]
  · rw [if_neg hax, if_neg hax]
    congr 1
    simp only [hG, hgs]
    refine (slope_eq V G gs K hK _ _ 2 0 3 1 ?_).trans (Finset.sum_congr rfl fun d _ => ?_)
    · rcases hr with ⟨a, b, a', b', ha, hb, ha', hb'⟩ | h
      · exact Or.inl ⟨b, a, hb, ha⟩
      · exact Or.inr h
    · rw [← v0 d.val, ← v1 d.val, ← v2 d.val, ← v3 d.val]

end Cert.ReferenceIdeal.Stage

end
-- ==== Proof.Finite.lean ====
/-
  What the precondition says of each element of the arguments.
-/
module

public import proofs.«01_k».proof.Pre_finite
public import proofs.«01_k».proof.Proof.Points

@[expose] public section

set_option maxRecDepth 16384

noncomputable section

namespace Cert.ReferenceIdeal.Stage

open Cert.ReferenceIdeal Cert.ReferenceIdeal.Gen Idealize.ShloMosaic Cert.Decode

variable (x0 : (⟨S3x256x8x4x6x2, .f32⟩ : BufTy).Contents (Elt Ideal)) (x1 : (⟨S3x256x8x4x6, .f32⟩ : BufTy).Contents (Elt Ideal)) (x2 : (⟨S3x256, .f32⟩ : BufTy).Contents (Elt Ideal)) (x3 : (⟨S24x48x256, .bf16⟩ : BufTy).Contents (Elt Ideal)) (x4 : (⟨S7077888, .i32⟩ : BufTy).Contents (Elt Ideal)) (x5 : (⟨S589824, .i32⟩ : BufTy).Contents (Elt Ideal))

/-- A number whose absolute value is below infinity is real. -/
theorem real_of_lt {x t : EReal} (ht : t = ⊤) (h : BitVec.ofBool (decide (max x (-x) < t)) = 1#1) : ∃ r : ℝ, x = (r : EReal) := by
  have h' : max x (-x) < ⊤ := by
    by_contra hn
    rw [ht, decide_eq_false hn] at h
    exact absurd h (by decide)
  rw [max_lt_iff] at h'
  induction x with
  | bot => exact absurd h'.2 (by simp)
  | top => exact absurd h'.1 (by simp)
  | coe r => exact ⟨r, rfl⟩

/-- A comparison for being different that says yes. -/
theorem ne_of_cmpi {a b : BitVec 32} (h : IntOp.cmpi .ne a b = 1#1) : a ≠ b := by
  rintro rfl
  have e : IntOp.cmpi .ne a a = 0#1 := by simp [IntOp.cmpi]
  rw [e] at h
  exact absurd h (by decide)

/-- The words repeated for their four bytes, read at one of them. -/
theorem word_at [Cert.Pre_finite.Facts] (x : IVec Cert.Pre_finite.S7077888 32) (i : Cert.Pre_finite.S7077888.Idx) (j : Fin 4) :
    broadcastInDim Cert.Pre_finite.S7077888x4 ![0, 1] Cert.Pre_finite.Facts.bcast_S7077888x1_S7077888x4_0_1
      (shapeCast Cert.Pre_finite.S7077888x1 x Cert.Pre_finite.Facts.shapeCasts_S7077888_S7077888x1) (ix2 (i 0 : Fin 7077888) j) = x i := by
  refine (broadcastInDim_apply (s := Cert.Pre_finite.S7077888x1) (t := Cert.Pre_finite.S7077888x4) ![0, 1] _ _ (ix2 (i 0 : Fin 7077888) j) (ix2 (i 0 : Fin 7077888) (0 : Fin 1))
    (fun a => match a with | ⟨0, _⟩ => (if_neg (show ¬ (7077888 : ℕ) = 1 by decide)).symm | ⟨1, _⟩ => (if_pos (show (1 : ℕ) = 1 from rfl)).symm)).trans ?_
  refine shapeCast_apply x _ _ i ?_
  rw [Shape.rowMajor_val_one, Shape.rowMajor_val_two]
  show (i 0).val = (i 0).val * 1 + 0
  omega

/-- The precondition, element by element. -/
theorem fine_of [Cert.Pre_finite.Facts] (h : (Cert.Pre_finite.fn (F := Ideal) x0 x1 x2 x3 x4 x5).1 = (fun _ => 1#1)
    ∧ (Cert.Pre_finite.fn (F := Ideal) x0 x1 x2 x3 x4 x5).2.1 = (fun _ => 1#1)
    ∧ (Cert.Pre_finite.fn (F := Ideal) x0 x1 x2 x3 x4 x5).2.2.1 = (fun _ => 1#1)
    ∧ (Cert.Pre_finite.fn (F := Ideal) x0 x1 x2 x3 x4 x5).2.2.2 = (fun _ => 1#1)) : Fine x2 x3 x4 x5 := by
  obtain ⟨h1, h2, h3, h4⟩ := h
  have t32 : Ideal.ofBits .f32 0x7F800000#32 = (⊤ : EReal) := by simp [Ideal.ofBits, Ideal.ieee]
  have t16 : Ideal.ofBits .bf16 0x7F80#16 = (⊤ : EReal) := by simp [Ideal.ofBits, Ideal.ieee]
  refine ⟨fun i => real_of_lt t32 (congrFun h1 i), fun i => real_of_lt t16 (congrFun h2 i), fun i j hj => ?_, fun i => real_of_lt t32 (congrFun h3 i)⟩
  have e := congrFun h4 (ix2 (i 0 : Fin 7077888) (⟨j, hj⟩ : Fin 4))
  have k := ne_of_cmpi e
  rw [← word_at x4 i ⟨j, hj⟩]
  exact k

/-- The gradients of the locations, as whole arrays. -/
theorem loc_eq (hf : Fine x2 x3 x4 x5) : val_main_v185 (F := Ideal) x0 x1 x2 x3 x4 x5
    = fun y : S24x24x2x256.Idx => (outL x0 x1 x2 x3 x4 x5 (y 2).val (y 0).val ((y 1).val / 6) ((y 1).val % 6) (y 3).val : EReal) := by
  funext y
  have hr : (y 1).val < 24 := (y 1).isLt
  have e : y = ix4 (y 0 : Fin 24) (y 1 : Fin 24) (y 2 : Fin 2) (y 3 : Fin 256) := funext fun a => match a with | ⟨0, _⟩ => rfl | ⟨1, _⟩ => rfl | ⟨2, _⟩ => rfl | ⟨3, _⟩ => rfl
  rw [e]
  exact (v185_at x0 x1 x2 x3 x4 x5 (y 0) (y 1) (y 2) (y 3)).trans
    (outL_eq x0 x1 x2 x3 x4 x5 hf (y 2).val (y 0).val ⟨(y 1).val / 6, by omega⟩ ((y 1).val % 6) (y 3).val).symm

/-- The gradients of the attention weights, as a whole array. -/
theorem attn_eq (hf : Fine x2 x3 x4 x5) : val_main_v186 (F := Ideal) x0 x2 x3 x4 x5
    = fun y : S24x6x4x256.Idx => (outA x0 x2 x3 x4 x5 (y 0).val (y 2).val (y 1).val (y 3).val : EReal) := by
  funext y
  have e : y = ix4 (y 0 : Fin 24) (y 1 : Fin 6) (y 2 : Fin 4) (y 3 : Fin 256) := funext fun a => match a with | ⟨0, _⟩ => rfl | ⟨1, _⟩ => rfl | ⟨2, _⟩ => rfl | ⟨3, _⟩ => rfl
  rw [e]
  exact (v186_at x0 x2 x3 x4 x5 (y 0) (y 1) (y 2) (y 3)).trans
    (outA_eq x0 x2 x3 x4 x5 hf (y 0).val (y 2) (y 1).val (y 3).val).symm

end Cert.ReferenceIdeal.Stage

end
-- ==== Proof.lean ====
/-
  The proof of `Cert.Claim`: the runs and frames of the three programs, and the value claim.
-/
module

public import proofs.«01_k».proof.Defs
public import proofs.«01_k».proof.Proof.Gen.Pre_finite
public import proofs.«01_k».proof.Proof.KernelFrame
public import proofs.«01_k».proof.Proof.KernelIdealFrame
public import proofs.«01_k».proof.Proof.RefFrame
public import proofs.«01_k».proof.Proof.ValueFinal
public import proofs.«01_k».proof.Proof.Finite

@[expose] public section

noncomputable section

namespace Cert.Proof

open Idealize.ShloMosaic Idealize.SL.Sem

/-- The kernel and the reference leave the same two results, wherever the precondition holds. -/
theorem same : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => Cert.KernelIdeal.Hand.fin6 m c, fun c => Cert.KernelIdeal.Hand.fin7 m c, Cert.KernelIdeal.Hand.run m g,
    (θ_run _ _ _).mono (fun r h c => ?_) (Cert.ReferenceIdeal.Stage.run (F := Ideal) m' g')⟩
  obtain ⟨e0, e1, e2, e3, e4, e5⟩ := hargs c
  have hf := Cert.ReferenceIdeal.Stage.fine_of _ _ _ _ _ _ (hpre c)
  refine ⟨?_, ?_, (h c Cert.ReferenceIdeal.main_arg0).trans (Cert.ReferenceIdeal.Stage.keeps m' c Cert.ReferenceIdeal.main_arg0 (by decide +kernel)),
    (h c Cert.ReferenceIdeal.main_arg1).trans (Cert.ReferenceIdeal.Stage.keeps m' c Cert.ReferenceIdeal.main_arg1 (by decide +kernel)),
    (h c Cert.ReferenceIdeal.main_arg2).trans (Cert.ReferenceIdeal.Stage.keeps m' c Cert.ReferenceIdeal.main_arg2 (by decide +kernel)),
    (h c Cert.ReferenceIdeal.main_arg3).trans (Cert.ReferenceIdeal.Stage.keeps m' c Cert.ReferenceIdeal.main_arg3 (by decide +kernel)),
    (h c Cert.ReferenceIdeal.main_arg4).trans (Cert.ReferenceIdeal.Stage.keeps m' c Cert.ReferenceIdeal.main_arg4 (by decide +kernel)),
    (h c Cert.ReferenceIdeal.main_arg5).trans (Cert.ReferenceIdeal.Stage.keeps m' c Cert.ReferenceIdeal.main_arg5 (by decide +kernel))⟩
  · refine ((h c Cert.ReferenceIdeal.main_v185).trans (Cert.ReferenceIdeal.Stage.at_main_v185 _)).trans ?_
    show Cert.ReferenceIdeal.Stage.val_main_v185 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) = _
    rw [e0, e1, e2, e3, e4, e5]
    exact Cert.ReferenceIdeal.Stage.loc_eq _ _ _ _ _ _ hf
  · refine ((h c Cert.ReferenceIdeal.main_v186).trans (Cert.ReferenceIdeal.Stage.at_main_v186 _)).trans ?_
    show Cert.ReferenceIdeal.Stage.val_main_v186 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) = _
    rw [e0, e2, e3, e4, e5]
    exact Cert.ReferenceIdeal.Stage.attn_eq _ _ _ _ _ hf

/-- Everything the certificate claims. -/
theorem claim : Cert.Claim :=
  ⟨Cert.Kernel.Gen.facts, Cert.KernelIdeal.Gen.facts, Cert.ReferenceIdeal.Gen.facts, Cert.Pre_finite.Gen.facts,
    fun m ρ _ => Cert.Kernel.Hand.frame m ρ, fun m ρ _ => Cert.KernelIdeal.Hand.frame m ρ, fun m ρ _ => Cert.KernelIdeal.Hand.frame m ρ,
    fun m ρ _ => Cert.ReferenceIdeal.Stage.frame m ρ, fun m ρ _ => Cert.ReferenceIdeal.Stage.frame m ρ, trivial, same⟩

end Cert.Proof

end
